-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_temperature_nonzero [hPre_temperature_nonzero : Cert.Pre_temperature_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_temperature_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_temperature_nonzero [hPre_temperature_nonzero : Cert.Pre_temperature_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_temperature_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_temperature_nonzero [hKernelIdeal : Cert.KernelIdeal.Facts] [hPre_temperature_nonzero : Cert.Pre_temperature_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_temperature_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_temperature_nonzero [hReferenceIdeal : Cert.ReferenceIdeal.Facts] [hPre_temperature_nonzero : Cert.Pre_temperature_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_temperature_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.sign_bit.Statement Cert.KernelIdeal.S512x1 .f32

def algebraic_KernelIdeal_ReferenceIdeal_pre_temperature_nonzero [hKernelIdeal : Cert.KernelIdeal.Facts] [hReferenceIdeal : Cert.ReferenceIdeal.Facts] [hPre_temperature_nonzero : Cert.Pre_temperature_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_temperature_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_temperature_nonzero : Cert.Pre_temperature_nonzero.Facts),
    quiescent_Kernel (hKernel := hKernel)
    ∧ quiescent_KernelIdeal (hKernelIdeal := hKernelIdeal)
    ∧ quiescent_KernelIdeal_pre_temperature_nonzero (hKernelIdeal := hKernelIdeal) (hPre_temperature_nonzero := hPre_temperature_nonzero)
    ∧ quiescent_ReferenceIdeal (hReferenceIdeal := hReferenceIdeal)
    ∧ quiescent_ReferenceIdeal_pre_temperature_nonzero (hReferenceIdeal := hReferenceIdeal) (hPre_temperature_nonzero := hPre_temperature_nonzero)
    ∧ preserves_Kernel_KernelIdeal
    ∧ algebraic_KernelIdeal_ReferenceIdeal_pre_temperature_nonzero (hKernelIdeal := hKernelIdeal) (hReferenceIdeal := hReferenceIdeal) (hPre_temperature_nonzero := hPre_temperature_nonzero)
-- ==== Pre_temperature_nonzero.lean ====
abbrev S16x64x512 : Shape := ⟨3, ![16, 64, 512]⟩
abbrev S16x64x96 : Shape := ⟨3, ![16, 64, 96]⟩
abbrev S1 : Shape := ⟨1, ![1]⟩
abbrev S8x512 : Shape := ⟨2, ![8, 512]⟩
abbrev S64x8 : Shape := ⟨2, ![64, 8]⟩
abbrev S8 : Shape := ⟨1, ![8]⟩
abbrev S8x6664 : Shape := ⟨2, ![8, 6664]⟩
abbrev S8x833 : Shape := ⟨2, ![8, 833]⟩
abbrev S49x147 : Shape := ⟨2, ![49, 147]⟩
abbrev S49 : Shape := ⟨1, ![49]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S16x64x512 .f32) (main_arg1 : FVec F S16x64x96 .f32) (main_arg2 : FVec F S1 .f32) (main_arg3 : FVec F S8x512 .f32) (main_arg4 : FVec F S64x8 .f32) (main_arg5 : FVec F S8 .f32) (main_arg6 : FVec F S8x6664 .f32) (main_arg7 : FVec F S8x833 .f32) (main_arg8 : FVec F S49x147 .f32) (main_arg9 : FVec F S49x147 .f32) (main_arg10 : FVec F S49 .f32) (main_arg11 : FVec F S49 .f32) : IVec S1 1 :=
  let main_cst : FVec F S_ .f32 := constant S_ .f32 0x00000000#32
  let main_v0 : FVec F S1 .f32 := broadcastInDim S1 ![] bcast_S_S1 main_cst
  let main_v1 : IVec S1 1 := cmpf .une main_arg2 main_v0
  main_v1
-- ==== Kernel.lean ====
abbrev S16x64x512 : Shape := ⟨3, ![16, 64, 512]⟩
abbrev S16x64x96 : Shape := ⟨3, ![16, 64, 96]⟩
abbrev S1 : Shape := ⟨1, ![1]⟩
abbrev S8x512 : Shape := ⟨2, ![8, 512]⟩
abbrev S64x8 : Shape := ⟨2, ![64, 8]⟩
abbrev S8 : Shape := ⟨1, ![8]⟩
abbrev S8x6664 : Shape := ⟨2, ![8, 6664]⟩
abbrev S8x833 : Shape := ⟨2, ![8, 833]⟩
abbrev S49x147 : Shape := ⟨2, ![49, 147]⟩
abbrev S49 : Shape := ⟨1, ![49]⟩
abbrev S_ : Shape := ⟨0, ![]⟩
abbrev S512x256 : Shape := ⟨2, ![512, 256]⟩
abbrev S256x512 : Shape := ⟨2, ![256, 512]⟩
abbrev S96x49 : Shape := ⟨2, ![96, 49]⟩
abbrev S49x96 : Shape := ⟨2, ![49, 96]⟩
abbrev S96x98 : Shape := ⟨2, ![96, 98]⟩
abbrev S64x833 : Shape := ⟨2, ![64, 833]⟩
abbrev S147x49 : Shape := ⟨2, ![147, 49]⟩
abbrev S147x98 : Shape := ⟨2, ![147, 98]⟩
abbrev S294x98 : Shape := ⟨2, ![294, 98]⟩
abbrev S98 : Shape := ⟨1, ![98]⟩
abbrev S1x98 : Shape := ⟨2, ![1, 98]⟩
abbrev S1x1 : Shape := ⟨2, ![1, 1]⟩
abbrev S1x8 : Shape := ⟨2, ![1, 8]⟩
abbrev S512x8 : Shape := ⟨2, ![512, 8]⟩
abbrev S1x64x512 : Shape := ⟨3, ![1, 64, 512]⟩
abbrev S1x64x96 : Shape := ⟨3, ![1, 64, 96]⟩
abbrev S64x512 : Shape := ⟨2, ![64, 512]⟩
abbrev S64x96 : Shape := ⟨2, ![64, 96]⟩
abbrev S64 : Shape := ⟨1, ![64]⟩
abbrev S64x1 : Shape := ⟨2, ![64, 1]⟩
abbrev S1x512 : Shape := ⟨2, ![1, 512]⟩
abbrev S64x256 : Shape := ⟨2, ![64, 256]⟩
abbrev S16x256 : Shape := ⟨2, ![16, 256]⟩
abbrev S16x1 : Shape := ⟨2, ![16, 1]⟩
abbrev S16x1x256 : Shape := ⟨3, ![16, 1, 256]⟩
abbrev S1x64x256 : Shape := ⟨3, ![1, 64, 256]⟩
abbrev S16x64x256 : Shape := ⟨3, ![16, 64, 256]⟩
abbrev S1024x256 : Shape := ⟨2, ![1024, 256]⟩
abbrev S16x1x1 : Shape := ⟨3, ![16, 1, 1]⟩
abbrev S1x64x1 : Shape := ⟨3, ![1, 64, 1]⟩
abbrev S16x64x1 : Shape := ⟨3, ![16, 64, 1]⟩
abbrev S1024x1 : Shape := ⟨2, ![1024, 1]⟩
abbrev S48x256 : Shape := ⟨2, ![48, 256]⟩
abbrev S48x1 : Shape := ⟨2, ![48, 1]⟩
abbrev S1x48x256 : Shape := ⟨3, ![1, 48, 256]⟩
abbrev S16x48x256 : Shape := ⟨3, ![16, 48, 256]⟩
abbrev S768x256 : Shape := ⟨2, ![768, 256]⟩
abbrev S1x48x1 : Shape := ⟨3, ![1, 48, 1]⟩
abbrev S16x48x1 : Shape := ⟨3, ![16, 48, 1]⟩
abbrev S768x1 : Shape := ⟨2, ![768, 1]⟩
abbrev S32x256 : Shape := ⟨2, ![32, 256]⟩
abbrev S32x1 : Shape := ⟨2, ![32, 1]⟩
abbrev S1x32x256 : Shape := ⟨3, ![1, 32, 256]⟩
abbrev S16x32x256 : Shape := ⟨3, ![16, 32, 256]⟩
abbrev S1x32x1 : Shape := ⟨3, ![1, 32, 1]⟩
abbrev S16x32x1 : Shape := ⟨3, ![16, 32, 1]⟩
abbrev S512x1 : Shape := ⟨2, ![512, 1]⟩
abbrev S1x16x256 : Shape := ⟨3, ![1, 16, 256]⟩
abbrev S16x16x256 : Shape := ⟨3, ![16, 16, 256]⟩
abbrev S256x256 : Shape := ⟨2, ![256, 256]⟩
abbrev S1x16x1 : Shape := ⟨3, ![1, 16, 1]⟩
abbrev S16x16x1 : Shape := ⟨3, ![16, 16, 1]⟩
abbrev S256x1 : Shape := ⟨2, ![256, 1]⟩
abbrev S2560x256 : Shape := ⟨2, ![2560, 256]⟩
abbrev S2560x1 : Shape := ⟨2, ![2560, 1]⟩
abbrev S2560x512 : Shape := ⟨2, ![2560, 512]⟩
abbrev S1024x512 : Shape := ⟨2, ![1024, 512]⟩
abbrev S768x512 : Shape := ⟨2, ![768, 512]⟩
abbrev S16x48x512 : Shape := ⟨3, ![16, 48, 512]⟩
abbrev S512x512 : Shape := ⟨2, ![512, 512]⟩
abbrev S16x32x512 : Shape := ⟨3, ![16, 32, 512]⟩
abbrev S16x16x512 : Shape := ⟨3, ![16, 16, 512]⟩
abbrev S16x64x510 : Shape := ⟨3, ![16, 64, 510]⟩
abbrev S16x64 : Shape := ⟨2, ![16, 64]⟩
abbrev S16x48x510 : Shape := ⟨3, ![16, 48, 510]⟩
abbrev S16x48 : Shape := ⟨2, ![16, 48]⟩
abbrev S16x32x510 : Shape := ⟨3, ![16, 32, 510]⟩
abbrev S16x32 : Shape := ⟨2, ![16, 32]⟩
abbrev S16x16x510 : Shape := ⟨3, ![16, 16, 510]⟩
abbrev S16x16 : Shape := ⟨2, ![16, 16]⟩
abbrev S16x16x509 : Shape := ⟨3, ![16, 16, 509]⟩
abbrev S64x64 : Shape := ⟨2, ![64, 64]⟩
abbrev S64x608 : Shape := ⟨2, ![64, 608]⟩
abbrev S512x64 : Shape := ⟨2, ![512, 64]⟩
abbrev S512x608 : Shape := ⟨2, ![512, 608]⟩
abbrev S512x96 : Shape := ⟨2, ![512, 96]⟩
abbrev S64x9 : Shape := ⟨2, ![64, 9]⟩
abbrev S64x8x1 : Shape := ⟨3, ![64, 8, 1]⟩
abbrev S64x1x8 : Shape := ⟨3, ![64, 1, 8]⟩
abbrev S64x8x8 : Shape := ⟨3, ![64, 8, 8]⟩
abbrev S64x98 : Shape := ⟨2, ![64, 98]⟩
abbrev S64x49 : Shape := ⟨2, ![64, 49]⟩
abbrev S512x98 : Shape := ⟨2, ![512, 98]⟩
abbrev S64x147 : Shape := ⟨2, ![64, 147]⟩
abbrev S64x294 : Shape := ⟨2, ![64, 294]⟩

abbrev nBuf : Space → Nat
  | .hbm => 132
  | .vmem => 21
  | .smem => 0
  | _ => 0

abbrev hbmTy0_0 (i : Nat) : BufTy := match i % 128 with
  | 0 => ⟨S16x64x512, .f32⟩
  | 1 => ⟨S16x64x96, .f32⟩
  | 2 => ⟨S1, .f32⟩
  | 3 => ⟨S8x512, .f32⟩
  | 4 => ⟨S64x8, .f32⟩
  | 5 => ⟨S8, .f32⟩
  | 6 => ⟨S8x6664, .f32⟩
  | 7 => ⟨S8x833, .f32⟩
  | 8 => ⟨S49x147, .f32⟩
  | 9 => ⟨S49x147, .f32⟩
  | 10 => ⟨S49, .f32⟩
  | 11 => ⟨S49, .f32⟩
  | 12 => ⟨S_, .f32⟩
  | 13 => ⟨S_, .f32⟩
  | 14 => ⟨S_, .f32⟩
  | 15 => ⟨S_, .f32⟩
  | 16 => ⟨S512x256, .i32⟩
  | 17 => ⟨S512x256, .i32⟩
  | 18 => ⟨S512x256, .i32⟩
  | 19 => ⟨S_, .i32⟩
  | 20 => ⟨S512x256, .i32⟩
  | 21 => ⟨S512x256, .i32⟩
  | 22 => ⟨S512x256, .f32⟩
  | 23 => ⟨S512x256, .f32⟩
  | 24 => ⟨S512x256, .f32⟩
  | 25 => ⟨S_, .f32⟩
  | 26 => ⟨S512x256, .f32⟩
  | 27 => ⟨S512x256, .f32⟩
  | 28 => ⟨S512x256, .f32⟩
  | 29 => ⟨S512x256, .f32⟩
  | 30 => ⟨S512x256, .f32⟩
  | 31 => ⟨S256x512, .i32⟩
  | 32 => ⟨S_, .i32⟩
  | 33 => ⟨S256x512, .i32⟩
  | 34 => ⟨S256x512, .i1⟩
  | 35 => ⟨S_, .f32⟩
  | 36 => ⟨S_, .f32⟩
  | 37 => ⟨S256x512, .f32⟩
  | 38 => ⟨S256x512, .f32⟩
  | 39 => ⟨S256x512, .f32⟩
  | 40 => ⟨S256x512, .i32⟩
  | 41 => ⟨S256x512, .i32⟩
  | 42 => ⟨S256x512, .i32⟩
  | 43 => ⟨S_, .i32⟩
  | 44 => ⟨S256x512, .i32⟩
  | 45 => ⟨S256x512, .i32⟩
  | 46 => ⟨S256x512, .f32⟩
  | 47 => ⟨S256x512, .f32⟩
  | 48 => ⟨S256x512, .f32⟩
  | 49 => ⟨S_, .f32⟩
  | 50 => ⟨S256x512, .f32⟩
  | 51 => ⟨S256x512, .f32⟩
  | 52 => ⟨S256x512, .f32⟩
  | 53 => ⟨S256x512, .f32⟩
  | 54 => ⟨S256x512, .f32⟩
  | 55 => ⟨S_, .f32⟩
  | 56 => ⟨S256x512, .f32⟩
  | 57 => ⟨S256x512, .f32⟩
  | 58 => ⟨S256x512, .f32⟩
  | 59 => ⟨S256x512, .f32⟩
  | 60 => ⟨S256x512, .f32⟩
  | 61 => ⟨S256x512, .f32⟩
  | 62 => ⟨S_, .f32⟩
  | 63 => ⟨S256x512, .f32⟩
  | 64 => ⟨S256x512, .f32⟩
  | 65 => ⟨S96x49, .i32⟩
  | 66 => ⟨S96x49, .i32⟩
  | 67 => ⟨S96x49, .i32⟩
  | 68 => ⟨S_, .i32⟩
  | 69 => ⟨S96x49, .i32⟩
  | 70 => ⟨S96x49, .i32⟩
  | 71 => ⟨S96x49, .f32⟩
  | 72 => ⟨S96x49, .f32⟩
  | 73 => ⟨S96x49, .f32⟩
  | 74 => ⟨S_, .f32⟩
  | 75 => ⟨S96x49, .f32⟩
  | 76 => ⟨S96x49, .f32⟩
  | 77 => ⟨S96x49, .f32⟩
  | 78 => ⟨S96x49, .f32⟩
  | 79 => ⟨S96x49, .f32⟩
  | 80 => ⟨S49x96, .i32⟩
  | 81 => ⟨S_, .i32⟩
  | 82 => ⟨S49x96, .i32⟩
  | 83 => ⟨S49x96, .i1⟩
  | 84 => ⟨S_, .i32⟩
  | 85 => ⟨S49x96, .i32⟩
  | 86 => ⟨S49x96, .i1⟩
  | 87 => ⟨S49x96, .i1⟩
  | 88 => ⟨S_, .f32⟩
  | 89 => ⟨S_, .f32⟩
  | 90 => ⟨S49x96, .f32⟩
  | 91 => ⟨S49x96, .f32⟩
  | 92 => ⟨S49x96, .f32⟩
  | 93 => ⟨S49x96, .i32⟩
  | 94 => ⟨S49x96, .i32⟩
  | 95 => ⟨S49x96, .i32⟩
  | 96 => ⟨S_, .i32⟩
  | 97 => ⟨S49x96, .i32⟩
  | 98 => ⟨S49x96, .i32⟩
  | 99 => ⟨S49x96, .f32⟩
  | 100 => ⟨S49x96, .f32⟩
  | 101 => ⟨S49x96, .f32⟩
  | 102 => ⟨S_, .f32⟩
  | 103 => ⟨S49x96, .f32⟩
  | 104 => ⟨S49x96, .f32⟩
  | 105 => ⟨S49x96, .f32⟩
  | 106 => ⟨S49x96, .f32⟩
  | 107 => ⟨S49x96, .f32⟩
  | 108 => ⟨S_, .f32⟩
  | 109 => ⟨S49x96, .f32⟩
  | 110 => ⟨S49x96, .f32⟩
  | 111 => ⟨S49x96, .f32⟩
  | 112 => ⟨S49x96, .f32⟩
  | 113 => ⟨S49x96, .f32⟩
  | 114 => ⟨S49x96, .f32⟩
  | 115 => ⟨S_, .f32⟩
  | 116 => ⟨S49x96, .f32⟩
  | 117 => ⟨S49x96, .f32⟩
  | 118 => ⟨S96x98, .f32⟩
  | 119 => ⟨S64x833, .f32⟩
  | 120 => ⟨S147x49, .f32⟩
  | 121 => ⟨S147x49, .f32⟩
  | 122 => ⟨S147x98, .f32⟩
  | 123 => ⟨S147x49, .f32⟩
  | 124 => ⟨S147x98, .f32⟩
  | 125 => ⟨S294x98, .f32⟩
  | 126 => ⟨S98, .f32⟩
  | 127 => ⟨S1x98, .f32⟩
  | _ => ⟨S16x64x512, .f32⟩

abbrev hbmTy0_1 (i : Nat) : BufTy := match i % 128 with
  | 0 => ⟨S1x1, .f32⟩
  | 1 => ⟨S1x8, .f32⟩
  | 2 => ⟨S512x8, .f32⟩
  | 3 => ⟨S16x64x96, .f32⟩
  | _ => ⟨S16x64x512, .f32⟩

abbrev hbmTy (i : Nat) : BufTy := match i / 128 with
  | 0 => hbmTy0_0 i
  | 1 => hbmTy0_1 i
  | _ => ⟨S16x64x512, .f32⟩

abbrev bufTy : (tb : Table) → Fin (tcTables nBuf tb) → BufTy
  | .hbm, ⟨i, _⟩ => hbmTy i
  | .local _ .vmem, ⟨0, _⟩ => ⟨S1x64x512, .f32⟩
  | .local _ .vmem, ⟨1, _⟩ => ⟨S1x64x512, .f32⟩
  | .local _ .vmem, ⟨2, _⟩ => ⟨S1x64x96, .f32⟩
  | .local _ .vmem, ⟨3, _⟩ => ⟨S1x64x96, .f32⟩
  | .local _ .vmem, ⟨4, _⟩ => ⟨S1x1, .f32⟩
  | .local _ .vmem, ⟨5, _⟩ => ⟨S512x8, .f32⟩
  | .local _ .vmem, ⟨6, _⟩ => ⟨S64x8, .f32⟩
  | .local _ .vmem, ⟨7, _⟩ => ⟨S1x8, .f32⟩
  | .local _ .vmem, ⟨8, _⟩ => ⟨S64x833, .f32⟩
  | .local _ .vmem, ⟨9, _⟩ => ⟨S8x833, .f32⟩
  | .local _ .vmem, ⟨10, _⟩ => ⟨S294x98, .f32⟩
  | .local _ .vmem, ⟨11, _⟩ => ⟨S1x98, .f32⟩
  | .local _ .vmem, ⟨12, _⟩ => ⟨S512x256, .f32⟩
  | .local _ .vmem, ⟨13, _⟩ => ⟨S512x256, .f32⟩
  | .local _ .vmem, ⟨14, _⟩ => ⟨S256x512, .f32⟩
  | .local _ .vmem, ⟨15, _⟩ => ⟨S256x512, .f32⟩
  | .local _ .vmem, ⟨16, _⟩ => ⟨S96x98, .f32⟩
  | .local _ .vmem, ⟨17, _⟩ => ⟨S49x96, .f32⟩
  | .local _ .vmem, ⟨18, _⟩ => ⟨S49x96, .f32⟩
  | .local _ .vmem, ⟨19, _⟩ => ⟨S1x64x96, .f32⟩
  | .local _ .vmem, ⟨20, _⟩ => ⟨S1x64x96, .f32⟩
  | _, _ => ⟨S16x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_13 : Ref sig .tc := ⟨.hbm, 88, rfl⟩
abbrev main_cst_14 : Ref sig .tc := ⟨.hbm, 89, rfl⟩
abbrev main_call1_v0 : Ref sig .tc := ⟨.hbm, 90, rfl⟩
abbrev main_call1_v1 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_15 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_16 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_17 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_18 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20

abbrev nD : Nat := 1
abbrev τ : Topo := Topo.v7x

variable {F : FTy → Type} [BitOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x833 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x833 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S294x98 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x98 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S96x98 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S49x96 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S49x96 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x64x96 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F]
-- ==== ReferenceIdeal.lean ====
abbrev S16x64x512 : Shape := ⟨3, ![16, 64, 512]⟩
abbrev S16x64x96 : Shape := ⟨3, ![16, 64, 96]⟩
abbrev S1 : Shape := ⟨1, ![1]⟩
abbrev S8x512 : Shape := ⟨2, ![8, 512]⟩
abbrev S64x8 : Shape := ⟨2, ![64, 8]⟩
abbrev S8 : Shape := ⟨1, ![8]⟩
abbrev S8x6664 : Shape := ⟨2, ![8, 6664]⟩
abbrev S8x833 : Shape := ⟨2, ![8, 833]⟩
abbrev S49x147 : Shape := ⟨2, ![49, 147]⟩
abbrev S49 : Shape := ⟨1, ![49]⟩
abbrev S_ : Shape := ⟨0, ![]⟩
abbrev S16x64 : Shape := ⟨2, ![16, 64]⟩
abbrev S16x64x1 : Shape := ⟨3, ![16, 64, 1]⟩
abbrev S512x257 : Shape := ⟨2, ![512, 257]⟩
abbrev S16x64x257 : Shape := ⟨3, ![16, 64, 257]⟩
abbrev S16x64x1x257 : Shape := ⟨4, ![16, 64, 1, 257]⟩
abbrev S16x1x64x257 : Shape := ⟨4, ![16, 1, 64, 257]⟩
abbrev S16x64x64x257 : Shape := ⟨4, ![16, 64, 64, 257]⟩
abbrev S257x512 : Shape := ⟨2, ![257, 512]⟩
abbrev S16x64x64x512 : Shape := ⟨4, ![16, 64, 64, 512]⟩
abbrev S16x64x64x510 : Shape := ⟨4, ![16, 64, 64, 510]⟩
abbrev S16x64x64x1 : Shape := ⟨4, ![16, 64, 64, 1]⟩
abbrev S16x64x64 : Shape := ⟨3, ![16, 64, 64]⟩
abbrev S16x64x8 : Shape := ⟨3, ![16, 64, 8]⟩
abbrev S16x64x64x1x1 : Shape := ⟨5, ![16, 64, 64, 1, 1]⟩
abbrev S16x64x8x1 : Shape := ⟨4, ![16, 64, 8, 1]⟩
abbrev S16x64x608 : Shape := ⟨3, ![16, 64, 608]⟩
abbrev S16x512x1 : Shape := ⟨3, ![16, 512, 1]⟩
abbrev S16x512x608 : Shape := ⟨3, ![16, 512, 608]⟩
abbrev S1x1x96 : Shape := ⟨3, ![1, 1, 96]⟩
abbrev S16x512x96 : Shape := ⟨3, ![16, 512, 96]⟩
abbrev S16x512x96x1 : Shape := ⟨4, ![16, 512, 96, 1]⟩
abbrev S16x64x8x96 : Shape := ⟨4, ![16, 64, 8, 96]⟩
abbrev S16x64x9 : Shape := ⟨3, ![16, 64, 9]⟩
abbrev S1x1x1 : Shape := ⟨3, ![1, 1, 1]⟩
abbrev S1x8 : Shape := ⟨2, ![1, 8]⟩
abbrev S512x8 : Shape := ⟨2, ![512, 8]⟩
abbrev S1x64x8 : Shape := ⟨3, ![1, 64, 8]⟩
abbrev S16x64x6664 : Shape := ⟨3, ![16, 64, 6664]⟩
abbrev S16x64x8x833 : Shape := ⟨4, ![16, 64, 8, 833]⟩
abbrev S16x64x833 : Shape := ⟨3, ![16, 64, 833]⟩
abbrev S16x64x17x49 : Shape := ⟨4, ![16, 64, 17, 49]⟩
abbrev S16x64x8x49 : Shape := ⟨4, ![16, 64, 8, 49]⟩
abbrev S16x64x1x49 : Shape := ⟨4, ![16, 64, 1, 49]⟩
abbrev S16x64x49 : Shape := ⟨3, ![16, 64, 49]⟩
abbrev S96x49 : Shape := ⟨2, ![96, 49]⟩
abbrev S16x64x147 : Shape := ⟨3, ![16, 64, 147]⟩
abbrev S147x49 : Shape := ⟨2, ![147, 49]⟩
abbrev S1x1x49 : Shape := ⟨3, ![1, 1, 49]⟩
abbrev S49x96 : Shape := ⟨2, ![49, 96]⟩

abbrev nBuf : Space → Nat
  | .hbm => 393
  | .vmem => 0
  | .smem => 0
  | _ => 0

abbrev hbmTy0_0 (i : Nat) : BufTy := match i % 128 with
  | 0 => ⟨S16x64x512, .f32⟩
  | 1 => ⟨S16x64x96, .f32⟩
  | 2 => ⟨S1, .f32⟩
  | 3 => ⟨S8x512, .f32⟩
  | 4 => ⟨S64x8, .f32⟩
  | 5 => ⟨S8, .f32⟩
  | 6 => ⟨S8x6664, .f32⟩
  | 7 => ⟨S8x833, .f32⟩
  | 8 => ⟨S49x147, .f32⟩
  | 9 => ⟨S49x147, .f32⟩
  | 10 => ⟨S49, .f32⟩
  | 11 => ⟨S49, .f32⟩
  | 12 => ⟨S_, .f32⟩
  | 13 => ⟨S16x64, .f32⟩
  | 14 => ⟨S16x64x1, .f32⟩
  | 15 => ⟨S_, .f32⟩
  | 16 => ⟨S16x64x1, .f32⟩
  | 17 => ⟨S16x64x1, .f32⟩
  | 18 => ⟨S16x64x512, .f32⟩
  | 19 => ⟨S16x64x512, .f32⟩
  | 20 => ⟨S16x64x512, .f32⟩
  | 21 => ⟨S_, .f32⟩
  | 22 => ⟨S16x64, .f32⟩
  | 23 => ⟨S16x64x1, .f32⟩
  | 24 => ⟨S_, .f32⟩
  | 25 => ⟨S16x64x1, .f32⟩
  | 26 => ⟨S16x64x1, .f32⟩
  | 27 => ⟨S_, .f32⟩
  | 28 => ⟨S16x64x1, .f32⟩
  | 29 => ⟨S16x64x1, .f32⟩
  | 30 => ⟨S16x64x1, .f32⟩
  | 31 => ⟨S16x64x512, .f32⟩
  | 32 => ⟨S16x64x512, .f32⟩
  | 33 => ⟨S16x64x96, .f32⟩
  | 34 => ⟨S16x64x96, .f32⟩
  | 35 => ⟨S16x64x96, .f32⟩
  | 36 => ⟨S16x64x96, .f32⟩
  | 37 => ⟨S512x257, .i32⟩
  | 38 => ⟨S512x257, .i32⟩
  | 39 => ⟨S512x257, .i32⟩
  | 40 => ⟨S_, .i32⟩
  | 41 => ⟨S512x257, .i32⟩
  | 42 => ⟨S512x257, .i32⟩
  | 43 => ⟨S_, .f32⟩
  | 44 => ⟨S_, .f32⟩
  | 45 => ⟨S_, .f32⟩
  | 46 => ⟨S_, .f32⟩
  | 47 => ⟨S512x257, .f32⟩
  | 48 => ⟨S512x257, .f32⟩
  | 49 => ⟨S512x257, .f32⟩
  | 50 => ⟨S_, .f32⟩
  | 51 => ⟨S512x257, .f32⟩
  | 52 => ⟨S512x257, .f32⟩
  | 53 => ⟨S512x257, .f32⟩
  | 54 => ⟨S512x257, .f32⟩
  | 55 => ⟨S512x257, .f32⟩
  | 56 => ⟨S16x64x257, .f32⟩
  | 57 => ⟨S16x64x257, .f32⟩
  | 58 => ⟨S16x64x1x257, .f32⟩
  | 59 => ⟨S16x64x1x257, .f32⟩
  | 60 => ⟨S16x1x64x257, .f32⟩
  | 61 => ⟨S16x1x64x257, .f32⟩
  | 62 => ⟨S16x64x64x257, .f32⟩
  | 63 => ⟨S16x64x64x257, .f32⟩
  | 64 => ⟨S16x64x64x257, .f32⟩
  | 65 => ⟨S16x64x64x257, .f32⟩
  | 66 => ⟨S16x64x64x257, .f32⟩
  | 67 => ⟨S16x64x64x257, .f32⟩
  | 68 => ⟨S16x64x64x257, .f32⟩
  | 69 => ⟨S16x64x64x257, .f32⟩
  | 70 => ⟨S16x64x64x257, .f32⟩
  | 71 => ⟨S16x64x64x257, .f32⟩
  | 72 => ⟨S16x64x64x257, .f32⟩
  | 73 => ⟨S16x64x64x257, .f32⟩
  | 74 => ⟨S16x64x64x257, .f32⟩
  | 75 => ⟨S16x64x64x257, .f32⟩
  | 76 => ⟨S257x512, .i32⟩
  | 77 => ⟨S257x512, .i32⟩
  | 78 => ⟨S257x512, .i32⟩
  | 79 => ⟨S_, .i32⟩
  | 80 => ⟨S257x512, .i32⟩
  | 81 => ⟨S257x512, .i32⟩
  | 82 => ⟨S_, .f32⟩
  | 83 => ⟨S_, .f32⟩
  | 84 => ⟨S_, .f32⟩
  | 85 => ⟨S_, .f32⟩
  | 86 => ⟨S257x512, .f32⟩
  | 87 => ⟨S257x512, .f32⟩
  | 88 => ⟨S257x512, .f32⟩
  | 89 => ⟨S_, .f32⟩
  | 90 => ⟨S257x512, .f32⟩
  | 91 => ⟨S257x512, .f32⟩
  | 92 => ⟨S_, .i32⟩
  | 93 => ⟨S257x512, .i32⟩
  | 94 => ⟨S257x512, .i1⟩
  | 95 => ⟨S_, .i32⟩
  | 96 => ⟨S257x512, .i32⟩
  | 97 => ⟨S257x512, .i1⟩
  | 98 => ⟨S257x512, .i1⟩
  | 99 => ⟨S_, .f32⟩
  | 100 => ⟨S_, .f32⟩
  | 101 => ⟨S257x512, .f32⟩
  | 102 => ⟨S257x512, .f32⟩
  | 103 => ⟨S257x512, .f32⟩
  | 104 => ⟨S257x512, .f32⟩
  | 105 => ⟨S257x512, .f32⟩
  | 106 => ⟨S257x512, .f32⟩
  | 107 => ⟨S_, .f32⟩
  | 108 => ⟨S257x512, .f32⟩
  | 109 => ⟨S257x512, .f32⟩
  | 110 => ⟨S16x64x64x512, .f32⟩
  | 111 => ⟨S257x512, .f32⟩
  | 112 => ⟨S257x512, .f32⟩
  | 113 => ⟨S257x512, .f32⟩
  | 114 => ⟨S257x512, .f32⟩
  | 115 => ⟨S_, .f32⟩
  | 116 => ⟨S257x512, .f32⟩
  | 117 => ⟨S257x512, .f32⟩
  | 118 => ⟨S16x64x64x512, .f32⟩
  | 119 => ⟨S16x64x64x512, .f32⟩
  | 120 => ⟨S16x64x64x512, .f32⟩
  | 121 => ⟨S16x64x64x510, .f32⟩
  | 122 => ⟨S16x64x64x510, .f32⟩
  | 123 => ⟨S16x64x64x510, .i1⟩
  | 124 => ⟨S16x64x64x510, .f32⟩
  | 125 => ⟨S16x64x64x510, .f32⟩
  | 126 => ⟨S16x64x64x510, .i1⟩
  | 127 => ⟨S16x64x64x510, .i1⟩
  | _ => ⟨S16x64x512, .f32⟩

abbrev hbmTy0_1 (i : Nat) : BufTy := match i % 128 with
  | 0 => ⟨S16x64x64x510, .f32⟩
  | 1 => ⟨S_, .f32⟩
  | 2 => ⟨S_, .f32⟩
  | 3 => ⟨S16x64x64x510, .f32⟩
  | 4 => ⟨S16x64x64x510, .f32⟩
  | 5 => ⟨S_, .f32⟩
  | 6 => ⟨S16x64x64x510, .f32⟩
  | 7 => ⟨S16x64x64x510, .f32⟩
  | 8 => ⟨S16x64x64x510, .f32⟩
  | 9 => ⟨S16x64x64x1, .f32⟩
  | 10 => ⟨S16x64x64x1, .i32⟩
  | 11 => ⟨S16x64x64, .f32⟩
  | 12 => ⟨S16x64x64, .i32⟩
  | 13 => ⟨S16x64x8, .f32⟩
  | 14 => ⟨S16x64x8, .i32⟩
  | 15 => ⟨S16x64x64x1, .i32⟩
  | 16 => ⟨S_, .i32⟩
  | 17 => ⟨S16x64x64x1, .i32⟩
  | 18 => ⟨S16x64x64x1, .i1⟩
  | 19 => ⟨S_, .i32⟩
  | 20 => ⟨S16x64x64x1, .i32⟩
  | 21 => ⟨S16x64x64x1, .i32⟩
  | 22 => ⟨S16x64x64x1, .i32⟩
  | 23 => ⟨S16x64x64x1x1, .i32⟩
  | 24 => ⟨S16x64x64x1, .f32⟩
  | 25 => ⟨S16x64x64, .f32⟩
  | 26 => ⟨S_, .i32⟩
  | 27 => ⟨S16x64x8, .i32⟩
  | 28 => ⟨S16x64x8, .i1⟩
  | 29 => ⟨S_, .i32⟩
  | 30 => ⟨S16x64x8, .i32⟩
  | 31 => ⟨S16x64x8, .i32⟩
  | 32 => ⟨S16x64x8, .i32⟩
  | 33 => ⟨S16x64x8x1, .i32⟩
  | 34 => ⟨S16x64x8, .f32⟩
  | 35 => ⟨S_, .i32⟩
  | 36 => ⟨S16x64x8, .i32⟩
  | 37 => ⟨S16x64x8, .i1⟩
  | 38 => ⟨S_, .i32⟩
  | 39 => ⟨S16x64x8, .i32⟩
  | 40 => ⟨S16x64x8, .i32⟩
  | 41 => ⟨S16x64x8, .i32⟩
  | 42 => ⟨S16x64x8x1, .i32⟩
  | 43 => ⟨S16x64x8, .i32⟩
  | 44 => ⟨S_, .i32⟩
  | 45 => ⟨S16x64x8, .i32⟩
  | 46 => ⟨S16x64x8, .i32⟩
  | 47 => ⟨S16x64x608, .f32⟩
  | 48 => ⟨S16x512x1, .i32⟩
  | 49 => ⟨S_, .i32⟩
  | 50 => ⟨S16x512x1, .i32⟩
  | 51 => ⟨S16x512x1, .i1⟩
  | 52 => ⟨S_, .i32⟩
  | 53 => ⟨S16x512x1, .i32⟩
  | 54 => ⟨S16x512x1, .i32⟩
  | 55 => ⟨S16x512x1, .i32⟩
  | 56 => ⟨S16x512x608, .f32⟩
  | 57 => ⟨S1x1x96, .i32⟩
  | 58 => ⟨S_, .i32⟩
  | 59 => ⟨S1x1x96, .i32⟩
  | 60 => ⟨S1x1x96, .i32⟩
  | 61 => ⟨S16x512x1, .i32⟩
  | 62 => ⟨S16x512x96, .i32⟩
  | 63 => ⟨S16x512x96, .i32⟩
  | 64 => ⟨S16x512x96, .i32⟩
  | 65 => ⟨S_, .i32⟩
  | 66 => ⟨S16x512x96, .i32⟩
  | 67 => ⟨S16x512x96, .i1⟩
  | 68 => ⟨S_, .i32⟩
  | 69 => ⟨S16x512x96, .i32⟩
  | 70 => ⟨S16x512x96, .i32⟩
  | 71 => ⟨S16x512x96, .i32⟩
  | 72 => ⟨S16x512x96x1, .i32⟩
  | 73 => ⟨S16x512x96, .f32⟩
  | 74 => ⟨S16x64x8x96, .f32⟩
  | 75 => ⟨S16x64x8, .f32⟩
  | 76 => ⟨S16x64x8x1, .f32⟩
  | 77 => ⟨S16x64x8x96, .f32⟩
  | 78 => ⟨S16x64x8x96, .f32⟩
  | 79 => ⟨S_, .f32⟩
  | 80 => ⟨S16x64x1, .f32⟩
  | 81 => ⟨S16x64x8, .f32⟩
  | 82 => ⟨S16x64x9, .f32⟩
  | 83 => ⟨S1x1x1, .f32⟩
  | 84 => ⟨S16x64x9, .f32⟩
  | 85 => ⟨S16x64x9, .f32⟩
  | 86 => ⟨S_, .f32⟩
  | 87 => ⟨S16x64, .f32⟩
  | 88 => ⟨S_, .f32⟩
  | 89 => ⟨S16x64, .f32⟩
  | 90 => ⟨S16x64, .f32⟩
  | 91 => ⟨S16x64x1, .f32⟩
  | 92 => ⟨S16x64x9, .f32⟩
  | 93 => ⟨S16x64x9, .f32⟩
  | 94 => ⟨S16x64x9, .f32⟩
  | 95 => ⟨S_, .f32⟩
  | 96 => ⟨S16x64, .f32⟩
  | 97 => ⟨S16x64x1, .f32⟩
  | 98 => ⟨S16x64x9, .f32⟩
  | 99 => ⟨S16x64x9, .f32⟩
  | 100 => ⟨S16x64x8, .f32⟩
  | 101 => ⟨S1x8, .f32⟩
  | 102 => ⟨S64x8, .f32⟩
  | 103 => ⟨S64x8, .f32⟩
  | 104 => ⟨S512x8, .f32⟩
  | 105 => ⟨S16x64x8, .f32⟩
  | 106 => ⟨S1x64x8, .f32⟩
  | 107 => ⟨S16x64x8, .f32⟩
  | 108 => ⟨S16x64x8, .f32⟩
  | 109 => ⟨S_, .f32⟩
  | 110 => ⟨S16x64, .f32⟩
  | 111 => ⟨S_, .f32⟩
  | 112 => ⟨S16x64, .f32⟩
  | 113 => ⟨S16x64, .f32⟩
  | 114 => ⟨S16x64x1, .f32⟩
  | 115 => ⟨S16x64x8, .f32⟩
  | 116 => ⟨S16x64x8, .f32⟩
  | 117 => ⟨S16x64x8, .f32⟩
  | 118 => ⟨S_, .f32⟩
  | 119 => ⟨S16x64, .f32⟩
  | 120 => ⟨S16x64x1, .f32⟩
  | 121 => ⟨S16x64x8, .f32⟩
  | 122 => ⟨S16x64x8, .f32⟩
  | 123 => ⟨S16x64x6664, .f32⟩
  | 124 => ⟨S16x64x8x833, .f32⟩
  | 125 => ⟨S16x64x833, .f32⟩
  | 126 => ⟨S16x64x8x1, .f32⟩
  | 127 => ⟨S16x64x8x833, .f32⟩
  | _ => ⟨S16x64x512, .f32⟩

abbrev hbmTy0_2 (i : Nat) : BufTy := match i % 128 with
  | 0 => ⟨S16x64x8x833, .f32⟩
  | 1 => ⟨S_, .f32⟩
  | 2 => ⟨S16x64x833, .f32⟩
  | 3 => ⟨S16x64x833, .f32⟩
  | 4 => ⟨S16x64x17x49, .f32⟩
  | 5 => ⟨S16x64x8x49, .f32⟩
  | 6 => ⟨S16x64x8x49, .f32⟩
  | 7 => ⟨S16x64x1x49, .f32⟩
  | 8 => ⟨S16x64x49, .f32⟩
  | 9 => ⟨S96x49, .i32⟩
  | 10 => ⟨S96x49, .i32⟩
  | 11 => ⟨S96x49, .i32⟩
  | 12 => ⟨S_, .i32⟩
  | 13 => ⟨S96x49, .i32⟩
  | 14 => ⟨S96x49, .i32⟩
  | 15 => ⟨S_, .f32⟩
  | 16 => ⟨S_, .f32⟩
  | 17 => ⟨S_, .f32⟩
  | 18 => ⟨S_, .f32⟩
  | 19 => ⟨S96x49, .f32⟩
  | 20 => ⟨S96x49, .f32⟩
  | 21 => ⟨S96x49, .f32⟩
  | 22 => ⟨S_, .f32⟩
  | 23 => ⟨S96x49, .f32⟩
  | 24 => ⟨S96x49, .f32⟩
  | 25 => ⟨S96x49, .f32⟩
  | 26 => ⟨S96x49, .f32⟩
  | 27 => ⟨S96x49, .f32⟩
  | 28 => ⟨S16x64x49, .f32⟩
  | 29 => ⟨S16x64x49, .f32⟩
  | 30 => ⟨S96x49, .i32⟩
  | 31 => ⟨S96x49, .i32⟩
  | 32 => ⟨S96x49, .i32⟩
  | 33 => ⟨S_, .i32⟩
  | 34 => ⟨S96x49, .i32⟩
  | 35 => ⟨S96x49, .i32⟩
  | 36 => ⟨S_, .f32⟩
  | 37 => ⟨S_, .f32⟩
  | 38 => ⟨S_, .f32⟩
  | 39 => ⟨S_, .f32⟩
  | 40 => ⟨S96x49, .f32⟩
  | 41 => ⟨S96x49, .f32⟩
  | 42 => ⟨S96x49, .f32⟩
  | 43 => ⟨S_, .f32⟩
  | 44 => ⟨S96x49, .f32⟩
  | 45 => ⟨S96x49, .f32⟩
  | 46 => ⟨S96x49, .f32⟩
  | 47 => ⟨S96x49, .f32⟩
  | 48 => ⟨S96x49, .f32⟩
  | 49 => ⟨S16x64x8x49, .f32⟩
  | 50 => ⟨S16x64x8x49, .f32⟩
  | 51 => ⟨S16x64x8x49, .f32⟩
  | 52 => ⟨S16x64x8x49, .f32⟩
  | 53 => ⟨S16x64x1x49, .f32⟩
  | 54 => ⟨S16x64x8x49, .f32⟩
  | 55 => ⟨S16x64x8x49, .f32⟩
  | 56 => ⟨S16x64x8x49, .f32⟩
  | 57 => ⟨S16x64x1x49, .f32⟩
  | 58 => ⟨S16x64x8x49, .f32⟩
  | 59 => ⟨S16x64x8x49, .f32⟩
  | 60 => ⟨S16x64x8x49, .f32⟩
  | 61 => ⟨S_, .f32⟩
  | 62 => ⟨S16x64x49, .f32⟩
  | 63 => ⟨S_, .f32⟩
  | 64 => ⟨S16x64x49, .f32⟩
  | 65 => ⟨S16x64x49, .f32⟩
  | 66 => ⟨S16x64x147, .f32⟩
  | 67 => ⟨S_, .f32⟩
  | 68 => ⟨S16x64x49, .f32⟩
  | 69 => ⟨S_, .f32⟩
  | 70 => ⟨S16x64x49, .f32⟩
  | 71 => ⟨S16x64x49, .f32⟩
  | 72 => ⟨S16x64x147, .f32⟩
  | 73 => ⟨S147x49, .f32⟩
  | 74 => ⟨S147x49, .f32⟩
  | 75 => ⟨S16x64x49, .f32⟩
  | 76 => ⟨S147x49, .f32⟩
  | 77 => ⟨S16x64x49, .f32⟩
  | 78 => ⟨S16x64x49, .f32⟩
  | 79 => ⟨S1x1x49, .f32⟩
  | 80 => ⟨S16x64x49, .f32⟩
  | 81 => ⟨S16x64x49, .f32⟩
  | 82 => ⟨S16x64x49, .f32⟩
  | 83 => ⟨S16x64x49, .f32⟩
  | 84 => ⟨S16x64x49, .f32⟩
  | 85 => ⟨S1x1x49, .f32⟩
  | 86 => ⟨S16x64x49, .f32⟩
  | 87 => ⟨S16x64x49, .f32⟩
  | 88 => ⟨S49x96, .i32⟩
  | 89 => ⟨S49x96, .i32⟩
  | 90 => ⟨S49x96, .i32⟩
  | 91 => ⟨S_, .i32⟩
  | 92 => ⟨S49x96, .i32⟩
  | 93 => ⟨S49x96, .i32⟩
  | 94 => ⟨S_, .f32⟩
  | 95 => ⟨S_, .f32⟩
  | 96 => ⟨S_, .f32⟩
  | 97 => ⟨S_, .f32⟩
  | 98 => ⟨S49x96, .f32⟩
  | 99 => ⟨S49x96, .f32⟩
  | 100 => ⟨S49x96, .f32⟩
  | 101 => ⟨S_, .f32⟩
  | 102 => ⟨S49x96, .f32⟩
  | 103 => ⟨S49x96, .f32⟩
  | 104 => ⟨S_, .i32⟩
  | 105 => ⟨S49x96, .i32⟩
  | 106 => ⟨S49x96, .i1⟩
  | 107 => ⟨S_, .i32⟩
  | 108 => ⟨S49x96, .i32⟩
  | 109 => ⟨S49x96, .i1⟩
  | 110 => ⟨S49x96, .i1⟩
  | 111 => ⟨S_, .f32⟩
  | 112 => ⟨S_, .f32⟩
  | 113 => ⟨S49x96, .f32⟩
  | 114 => ⟨S49x96, .f32⟩
  | 115 => ⟨S49x96, .f32⟩
  | 116 => ⟨S49x96, .f32⟩
  | 117 => ⟨S49x96, .f32⟩
  | 118 => ⟨S49x96, .f32⟩
  | 119 => ⟨S_, .f32⟩
  | 120 => ⟨S49x96, .f32⟩
  | 121 => ⟨S49x96, .f32⟩
  | 122 => ⟨S16x64x96, .f32⟩
  | 123 => ⟨S49x96, .f32⟩
  | 124 => ⟨S49x96, .f32⟩
  | 125 => ⟨S49x96, .f32⟩
  | 126 => ⟨S49x96, .f32⟩
  | 127 => ⟨S_, .f32⟩
  | _ => ⟨S16x64x512, .f32⟩

abbrev hbmTy0_3 (i : Nat) : BufTy := match i % 128 with
  | 0 => ⟨S49x96, .f32⟩
  | 1 => ⟨S49x96, .f32⟩
  | 2 => ⟨S16x64x96, .f32⟩
  | 3 => ⟨S16x64x96, .f32⟩
  | 4 => ⟨S16x64x96, .f32⟩
  | 5 => ⟨S16x64x96, .f32⟩
  | 6 => ⟨S16x64x96, .f32⟩
  | 7 => ⟨S16x64x96, .f32⟩
  | 8 => ⟨S16x64x96, .f32⟩
  | _ => ⟨S16x64x512, .f32⟩

abbrev hbmTy (i : Nat) : BufTy := match i / 128 with
  | 0 => hbmTy0_0 i
  | 1 => hbmTy0_1 i
  | 2 => hbmTy0_2 i
  | 3 => hbmTy0_3 i
  | _ => ⟨S16x64x512, .f32⟩

abbrev bufTy : (tb : Table) → Fin (tcTables nBuf tb) → BufTy
  | .hbm, ⟨i, _⟩ => hbmTy i
  | _, _ => ⟨S16x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_7 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_10 : Ref sig .tc := ⟨.hbm, 89, rfl⟩
abbrev main_v65 : Ref sig .tc := ⟨.hbm, 90, rfl⟩
abbrev main_v66 : Ref sig .tc := ⟨.hbm, 91, rfl⟩
abbrev main_c_11 : Ref sig .tc := ⟨.hbm, 92, rfl⟩
abbrev main_v67 : Ref sig .tc := ⟨.hbm, 93, rfl⟩
abbrev main_v68 : Ref sig .tc := ⟨.hbm, 94, rfl⟩
abbrev main_c_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_cst_14 : Ref sig .tc := ⟨.hbm, 100, rfl⟩
abbrev main_call0_v0 : Ref sig .tc := ⟨.hbm, 101, rfl⟩
abbrev main_call0_v1 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_16 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_17 : Ref sig .tc := ⟨.hbm, 129, rfl⟩
abbrev main_call1_v0 : Ref sig .tc := ⟨.hbm, 130, rfl⟩
abbrev main_call1_v1 : Ref sig .tc := ⟨.hbm, 131, rfl⟩
abbrev main_v96 : Ref sig .tc := ⟨.hbm, 132, rfl⟩
abbrev main_cst_18 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_values : Ref sig .tc := ⟨.hbm, 137, rfl⟩
abbrev main_indices : Ref sig .tc := ⟨.hbm, 138, rfl⟩
abbrev main_v100 : Ref sig .tc := ⟨.hbm, 139, rfl⟩
abbrev main_v101 : Ref sig .tc := ⟨.hbm, 140, rfl⟩
abbrev main_values_19 : Ref sig .tc := ⟨.hbm, 141, rfl⟩
abbrev main_indices_20 : Ref sig .tc := ⟨.hbm, 142, rfl⟩
abbrev main_v102 : Ref sig .tc := ⟨.hbm, 143, rfl⟩
abbrev main_call2_c : Ref sig .tc := ⟨.hbm, 144, rfl⟩
abbrev main_call2_v0 : Ref sig .tc := ⟨.hbm, 145, rfl⟩
abbrev main_call2_v1 : Ref sig .tc := ⟨.hbm, 146, rfl⟩
abbrev main_call2_c_0 : Ref sig .tc := ⟨.hbm, 147, rfl⟩
abbrev main_call2_v2 : Ref sig .tc := ⟨.hbm, 148, rfl⟩
abbrev main_call2_v3 : Ref sig .tc := ⟨.hbm, 149, rfl⟩
abbrev main_call2_v4 : Ref sig .tc := ⟨.hbm, 150, rfl⟩
abbrev main_call2_v5 : Ref sig .tc := ⟨.hbm, 151, rfl⟩
abbrev main_v103 : Ref sig .tc := ⟨.hbm, 152, rfl⟩
abbrev main_v104 : Ref sig .tc := ⟨.hbm, 153, rfl⟩
abbrev main_call3_c : Ref sig .tc := ⟨.hbm, 154, rfl⟩
abbrev main_call3_v0 : Ref sig .tc := ⟨.hbm, 155, rfl⟩
abbrev main_call3_v1 : Ref sig .tc := ⟨.hbm, 156, rfl⟩
abbrev main_call3_c_0 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_call3_v5 : Ref sig .tc := ⟨.hbm, 161, rfl⟩
abbrev main_v105 : Ref sig .tc := ⟨.hbm, 162, rfl⟩
abbrev main_call4_c : Ref sig .tc := ⟨.hbm, 163, rfl⟩
abbrev main_call4_v0 : Ref sig .tc := ⟨.hbm, 164, rfl⟩
abbrev main_call4_v1 : Ref sig .tc := ⟨.hbm, 165, rfl⟩
abbrev main_call4_c_0 : Ref sig .tc := ⟨.hbm, 166, rfl⟩
abbrev main_call4_v2 : Ref sig .tc := ⟨.hbm, 167, rfl⟩
abbrev main_call4_v3 : Ref sig .tc := ⟨.hbm, 168, rfl⟩
abbrev main_call4_v4 : Ref sig .tc := ⟨.hbm, 169, rfl⟩
abbrev main_call4_v5 : Ref sig .tc := ⟨.hbm, 170, rfl⟩
abbrev main_v106 : Ref sig .tc := ⟨.hbm, 171, rfl⟩
abbrev main_c_21 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_call5_c : Ref sig .tc := ⟨.hbm, 177, rfl⟩
abbrev main_call5_v0 : Ref sig .tc := ⟨.hbm, 178, rfl⟩
abbrev main_call5_v1 : Ref sig .tc := ⟨.hbm, 179, rfl⟩
abbrev main_call5_c_0 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_v111 : Ref sig .tc := ⟨.hbm, 184, rfl⟩
abbrev main_v112 : Ref sig .tc := ⟨.hbm, 185, rfl⟩
abbrev main_c_22 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_call6_c : Ref sig .tc := ⟨.hbm, 193, rfl⟩
abbrev main_call6_v0 : Ref sig .tc := ⟨.hbm, 194, rfl⟩
abbrev main_call6_v1 : Ref sig .tc := ⟨.hbm, 195, rfl⟩
abbrev main_call6_c_0 : Ref sig .tc := ⟨.hbm, 196, rfl⟩
abbrev main_call6_v2 : Ref sig .tc := ⟨.hbm, 197, rfl⟩
abbrev main_call6_v3 : Ref sig .tc := ⟨.hbm, 198, rfl⟩
abbrev main_call6_v4 : Ref sig .tc := ⟨.hbm, 199, rfl⟩
abbrev main_call6_v5 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_cst_23 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_cst_24 : Ref sig .tc := ⟨.hbm, 214, rfl⟩
abbrev main_v131 : Ref sig .tc := ⟨.hbm, 215, rfl⟩
abbrev main_cst_25 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_cst_26 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_cst_27 : Ref sig .tc := ⟨.hbm, 237, rfl⟩
abbrev main_v151 : Ref sig .tc := ⟨.hbm, 238, rfl⟩
abbrev main_cst_28 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_cst_29 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_cst_30 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_c_31 : Ref sig .tc := ⟨.hbm, 268, rfl⟩
abbrev main_v178 : Ref sig .tc := ⟨.hbm, 269, rfl⟩
abbrev main_v179 : Ref sig .tc := ⟨.hbm, 270, rfl⟩
abbrev main_cst_32 : Ref sig .tc := ⟨.hbm, 271, rfl⟩
abbrev main_v180 : Ref sig .tc := ⟨.hbm, 272, rfl⟩
abbrev main_cst_33 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩
abbrev main_v184 : Ref sig .tc := ⟨.hbm, 277, rfl⟩
abbrev main_cst_34 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_c_35 : Ref sig .tc := ⟨.hbm, 289, rfl⟩
abbrev main_v195 : Ref sig .tc := ⟨.hbm, 290, rfl⟩
abbrev main_v196 : Ref sig .tc := ⟨.hbm, 291, rfl⟩
abbrev main_cst_36 : Ref sig .tc := ⟨.hbm, 292, rfl⟩
abbrev main_v197 : Ref sig .tc := ⟨.hbm, 293, rfl⟩
abbrev main_cst_37 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_cst_38 : Ref sig .tc := ⟨.hbm, 299, rfl⟩
abbrev main_v202 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩
abbrev main_v210 : Ref sig .tc := ⟨.hbm, 308, rfl⟩
abbrev main_v211 : Ref sig .tc := ⟨.hbm, 309, rfl⟩
abbrev main_v212 : Ref sig .tc := ⟨.hbm, 310, rfl⟩
abbrev main_v213 : Ref sig .tc := ⟨.hbm, 311, rfl⟩
abbrev main_v214 : Ref sig .tc := ⟨.hbm, 312, rfl⟩
abbrev main_v215 : Ref sig .tc := ⟨.hbm, 313, rfl⟩
abbrev main_v216 : Ref sig .tc := ⟨.hbm, 314, rfl⟩
abbrev main_v217 : Ref sig .tc := ⟨.hbm, 315, rfl⟩
abbrev main_v218 : Ref sig .tc := ⟨.hbm, 316, rfl⟩
abbrev main_cst_39 : Ref sig .tc := ⟨.hbm, 317, rfl⟩
abbrev main_v219 : Ref sig .tc := ⟨.hbm, 318, rfl⟩
abbrev main_cst_40 : Ref sig .tc := ⟨.hbm, 319, rfl⟩
abbrev main_v220 : Ref sig .tc := ⟨.hbm, 320, rfl⟩
abbrev main_v221 : Ref sig .tc := ⟨.hbm, 321, rfl⟩
abbrev main_v222 : Ref sig .tc := ⟨.hbm, 322, rfl⟩
abbrev main_cst_41 : Ref sig .tc := ⟨.hbm, 323, rfl⟩
abbrev main_v223 : Ref sig .tc := ⟨.hbm, 324, rfl⟩
abbrev main_cst_42 : Ref sig .tc := ⟨.hbm, 325, rfl⟩
abbrev main_v224 : Ref sig .tc := ⟨.hbm, 326, rfl⟩
abbrev main_v225 : Ref sig .tc := ⟨.hbm, 327, rfl⟩
abbrev main_v226 : Ref sig .tc := ⟨.hbm, 328, rfl⟩
abbrev main_v227 : Ref sig .tc := ⟨.hbm, 329, rfl⟩
abbrev main_v228 : Ref sig .tc := ⟨.hbm, 330, rfl⟩
abbrev main_v229 : Ref sig .tc := ⟨.hbm, 331, rfl⟩
abbrev main_v230 : Ref sig .tc := ⟨.hbm, 332, rfl⟩
abbrev main_v231 : Ref sig .tc := ⟨.hbm, 333, rfl⟩
abbrev main_v232 : Ref sig .tc := ⟨.hbm, 334, rfl⟩
abbrev main_v233 : Ref sig .tc := ⟨.hbm, 335, rfl⟩
abbrev main_v234 : Ref sig .tc := ⟨.hbm, 336, rfl⟩
abbrev main_v235 : Ref sig .tc := ⟨.hbm, 337, rfl⟩
abbrev main_v236 : Ref sig .tc := ⟨.hbm, 338, rfl⟩
abbrev main_v237 : Ref sig .tc := ⟨.hbm, 339, rfl⟩
abbrev main_v238 : Ref sig .tc := ⟨.hbm, 340, rfl⟩
abbrev main_v239 : Ref sig .tc := ⟨.hbm, 341, rfl⟩
abbrev main_v240 : Ref sig .tc := ⟨.hbm, 342, rfl⟩
abbrev main_v241 : Ref sig .tc := ⟨.hbm, 343, rfl⟩
abbrev main_v242 : Ref sig .tc := ⟨.hbm, 344, rfl⟩
abbrev main_v243 : Ref sig .tc := ⟨.hbm, 345, rfl⟩
abbrev main_v244 : Ref sig .tc := ⟨.hbm, 346, rfl⟩
abbrev main_c_43 : Ref sig .tc := ⟨.hbm, 347, rfl⟩
abbrev main_v245 : Ref sig .tc := ⟨.hbm, 348, rfl⟩
abbrev main_v246 : Ref sig .tc := ⟨.hbm, 349, rfl⟩
abbrev main_cst_44 : Ref sig .tc := ⟨.hbm, 350, rfl⟩
abbrev main_v247 : Ref sig .tc := ⟨.hbm, 351, rfl⟩
abbrev main_cst_45 : Ref sig .tc := ⟨.hbm, 352, rfl⟩
abbrev main_v248 : Ref sig .tc := ⟨.hbm, 353, rfl⟩
abbrev main_v249 : Ref sig .tc := ⟨.hbm, 354, rfl⟩
abbrev main_v250 : Ref sig .tc := ⟨.hbm, 355, rfl⟩
abbrev main_v251 : Ref sig .tc := ⟨.hbm, 356, rfl⟩
abbrev main_cst_46 : Ref sig .tc := ⟨.hbm, 357, rfl⟩
abbrev main_v252 : Ref sig .tc := ⟨.hbm, 358, rfl⟩
abbrev main_v253 : Ref sig .tc := ⟨.hbm, 359, rfl⟩
abbrev main_c_47 : Ref sig .tc := ⟨.hbm, 360, rfl⟩
abbrev main_v254 : Ref sig .tc := ⟨.hbm, 361, rfl⟩
abbrev main_v255 : Ref sig .tc := ⟨.hbm, 362, rfl⟩
abbrev main_c_48 : Ref sig .tc := ⟨.hbm, 363, rfl⟩
abbrev main_v256 : Ref sig .tc := ⟨.hbm, 364, rfl⟩
abbrev main_v257 : Ref sig .tc := ⟨.hbm, 365, rfl⟩
abbrev main_v258 : Ref sig .tc := ⟨.hbm, 366, rfl⟩
abbrev main_cst_49 : Ref sig .tc := ⟨.hbm, 367, rfl⟩
abbrev main_cst_50 : Ref sig .tc := ⟨.hbm, 368, rfl⟩
abbrev main_call7_v0 : Ref sig .tc := ⟨.hbm, 369, rfl⟩
abbrev main_call7_v1 : Ref sig .tc := ⟨.hbm, 370, rfl⟩
abbrev main_v259 : Ref sig .tc := ⟨.hbm, 371, rfl⟩
abbrev main_v260 : Ref sig .tc := ⟨.hbm, 372, rfl⟩
abbrev main_v261 : Ref sig .tc := ⟨.hbm, 373, rfl⟩
abbrev main_v262 : Ref sig .tc := ⟨.hbm, 374, rfl⟩
abbrev main_cst_51 : Ref sig .tc := ⟨.hbm, 375, rfl⟩
abbrev main_v263 : Ref sig .tc := ⟨.hbm, 376, rfl⟩
abbrev main_v264 : Ref sig .tc := ⟨.hbm, 377, rfl⟩
abbrev main_v265 : Ref sig .tc := ⟨.hbm, 378, rfl⟩
abbrev main_v266 : Ref sig .tc := ⟨.hbm, 379, rfl⟩
abbrev main_v267 : Ref sig .tc := ⟨.hbm, 380, rfl⟩
abbrev main_v268 : Ref sig .tc := ⟨.hbm, 381, rfl⟩
abbrev main_v269 : Ref sig .tc := ⟨.hbm, 382, rfl⟩
abbrev main_cst_52 : Ref sig .tc := ⟨.hbm, 383, rfl⟩
abbrev main_v270 : Ref sig .tc := ⟨.hbm, 384, rfl⟩
abbrev main_v271 : Ref sig .tc := ⟨.hbm, 385, rfl⟩
abbrev main_v272 : Ref sig .tc := ⟨.hbm, 386, rfl⟩
abbrev main_v273 : Ref sig .tc := ⟨.hbm, 387, rfl⟩
abbrev main_v274 : Ref sig .tc := ⟨.hbm, 388, rfl⟩
abbrev main_v275 : Ref sig .tc := ⟨.hbm, 389, rfl⟩
abbrev main_v276 : Ref sig .tc := ⟨.hbm, 390, rfl⟩
abbrev main_v277 : Ref sig .tc := ⟨.hbm, 391, rfl⟩
abbrev main_v278 : Ref sig .tc := ⟨.hbm, 392, rfl⟩

abbrev nD : Nat := 1
abbrev τ : Topo := Topo.v7x

variable {F : FTy → Type} [FloatOps F]
-- ==== Proof.Select.lean ====
/- The selection arithmetic of the certificate, on plain functions over `Fin n`: the first index of a maximum, the
   folds that compute it through integer codes, a stable sort's first entries as repeated maxima, and the peak of a
   correlation row seen forwards and backwards. -/
module

public import Idealize.ShloMosaic.PureOps.Ideal
public import Idealize.ShloMosaic.Lib.Pointwise
public import Idealize.ShloMosaic.Lib.SortFacts

@[expose] public section
noncomputable section
namespace Cert.Proof
open Idealize.ShloMosaic

/-! ### The first index of a maximum -/

/-- `i` is the first index at which `f` takes its maximum. -/
def IsFirst {n : Nat} (f : Fin n → EReal) (i : Fin n) : Prop := (∀ j, f j ≤ f i) ∧ ∀ j, j < i → f j < f i

theorem exists_first {n : Nat} [NeZero n] (f : Fin n → EReal) : ∃ i, IsFirst f i := by
  classical
  obtain ⟨m, hm⟩ := Finite.exists_max f
  let S : Finset (Fin n) := Finset.univ.filter fun i => ∀ j, f j ≤ f i
  have hS : S.Nonempty := ⟨m, by simp [S, hm]⟩
  have hi := Finset.min'_mem S hS
  have hi' : ∀ j, f j ≤ f (S.min' hS) := by simpa [S] using hi
  refine ⟨S.min' hS, hi', fun j hj => ?_⟩
  by_contra hc
  have hle : f (S.min' hS) ≤ f j := not_lt.1 hc
  have : j ∈ S := by simp only [S, Finset.mem_filter, Finset.mem_univ, true_and]; exact fun k => (hi' k).trans hle
  exact absurd (Finset.min'_le S j this) (not_le.2 hj)

/-- The first index of the maximum of `f`. -/
def amax {n : Nat} [NeZero n] (f : Fin n → EReal) : Fin n := Classical.choose (exists_first f)

theorem amax_spec {n : Nat} [NeZero n] (f : Fin n → EReal) : IsFirst f (amax f) := Classical.choose_spec (exists_first f)

theorem amax_unique {n : Nat} [NeZero n] {f : Fin n → EReal} {i : Fin n} (h : IsFirst f i) : amax f = i := by
  have s := amax_spec f
  rcases lt_trichotomy (amax f) i with hlt | he | hgt
  · exact absurd (h.2 _ hlt) (not_lt.2 (s.1 i))
  · exact he
  · exact absurd (s.2 _ hgt) (not_lt.2 (h.1 _))

theorem le_amax {n : Nat} [NeZero n] (f : Fin n → EReal) (j : Fin n) : f j ≤ f (amax f) := (amax_spec f).1 j

/-- Two functions that order their indices alike have the same first maximum. -/
theorem amax_congr_le {n : Nat} [NeZero n] {f g : Fin n → EReal} (h : ∀ i j, f i ≤ f j ↔ g i ≤ g j) : amax f = amax g :=
  amax_unique ⟨fun j => (h _ _).2 (le_amax g j), fun j hj => not_le.1 fun hc => absurd ((h _ _).1 hc) (not_le.2 ((amax_spec g).2 j hj))⟩

/-! ### Folds -/

theorem ofBits_negInf : Ideal.ofBits .f32 0xFF800000#32 = ⊥ := by simp [Ideal.ofBits, Ideal.ieee]

/-- A maximum fold from minus infinity is the value at the first maximum. -/
theorem fold_max_amax {n : Nat} [NeZero n] (f : Fin n → EReal) :
    Finset.fold max (Ideal.ofBits .f32 0xFF800000#32) f Finset.univ = f (amax f) := by
  rw [ofBits_negInf]
  apply le_antisymm
  · exact Finset.fold_max_le _ |>.2 ⟨bot_le, fun x _ => le_amax f x⟩
  · exact Finset.le_fold_max _ |>.2 (Or.inr ⟨amax f, Finset.mem_univ _, le_rfl⟩)

theorem minsi_toInt (x y : BitVec 32) : (IntOp.minsi x y).toInt = min x.toInt y.toInt := by
  unfold IntOp.minsi; rw [BitVec.slt_eq_decide]
  by_cases h : x.toInt < y.toInt
  · simp [h, min_eq_left h.le]
  · simp [h, min_eq_right (not_lt.1 h)]

theorem maxsi_toInt (x y : BitVec 32) : (IntOp.maxsi x y).toInt = max x.toInt y.toInt := by
  unfold IntOp.maxsi; rw [BitVec.slt_eq_decide]
  by_cases h : y.toInt < x.toInt
  · simp [h, max_eq_left h.le]
  · simp [h, max_eq_right (not_lt.1 h)]

/-- A signed minimum fold from the greatest word is the least entry. -/
theorem fold_minsi_eq {n : Nat} (c : Fin n → BitVec 32) (i : Fin n) (h : ∀ j, (c i).toInt ≤ (c j).toInt) :
    Finset.fold IntOp.minsi (2147483647#32) c Finset.univ = c i := by
  apply BitVec.eq_of_toInt_eq
  apply le_antisymm
  · have := (Finset.fold_op_rel_iff_or (op := IntOp.minsi) (r := fun (x y : BitVec 32) => y.toInt ≤ x.toInt) (f := c) (b := 2147483647#32)
      (s := Finset.univ) (c := c i) (by intro x y z; rw [minsi_toInt]; exact min_le_iff)).2 (Or.inr ⟨i, Finset.mem_univ _, le_rfl⟩)
    exact this
  · have := (Finset.fold_op_rel_iff_and (op := IntOp.minsi) (r := fun (x y : BitVec 32) => x.toInt ≤ y.toInt) (f := c) (b := 2147483647#32)
      (s := Finset.univ) (c := c i) (by intro x y z; rw [minsi_toInt]; exact le_min_iff)).2
      ⟨by have := BitVec.toInt_lt (x := c i); simp at this ⊢; omega, fun x _ => h x⟩
    exact this

/-- A signed maximum fold from the least word is the greatest entry. -/
theorem fold_maxsi_eq {n : Nat} (c : Fin n → BitVec 32) (i : Fin n) (h : ∀ j, (c j).toInt ≤ (c i).toInt) :
    Finset.fold IntOp.maxsi (2147483648#32) c Finset.univ = c i := by
  apply BitVec.eq_of_toInt_eq
  apply le_antisymm
  · have := (Finset.fold_op_rel_iff_and (op := IntOp.maxsi) (r := fun (x y : BitVec 32) => y.toInt ≤ x.toInt) (f := c) (b := 2147483648#32)
      (s := Finset.univ) (c := c i) (by intro x y z; rw [maxsi_toInt]; exact max_le_iff)).2
      ⟨by have := BitVec.le_toInt (x := c i); simp at this ⊢; omega, fun x _ => h x⟩
    exact this
  · have := (Finset.fold_op_rel_iff_or (op := IntOp.maxsi) (r := fun (x y : BitVec 32) => x.toInt ≤ y.toInt) (f := c) (b := 2147483648#32)
      (s := Finset.univ) (c := c i) (by intro x y z; rw [maxsi_toInt]; exact le_max_iff)).2 (Or.inr ⟨i, Finset.mem_univ _, le_rfl⟩)
    exact this

theorem toInt_ofNat_small {n : Nat} (h : n < 2 ^ 31) : (BitVec.ofNat 32 n).toInt = n := by
  rw [BitVec.toInt_eq_toNat_cond]
  have h1 : n % 4294967296 = n := by omega
  simp only [BitVec.toNat_ofNat, Nat.reducePow, h1]
  split <;> omega

/-- The word of a lag and a sign: twice the lag plus the sign bit. -/
theorem code_eq (l : Nat) (d : Bool) :
    IntOp.addi (IntOp.muli (BitVec.ofNat 32 l) 2#32) (BitVec.setWidth 32 (BitVec.ofBool d)) = BitVec.ofNat 32 (2 * l + d.toNat) := by
  unfold IntOp.addi IntOp.muli
  apply BitVec.eq_of_toNat_eq
  cases d <;> simp <;> omega

/-- The least code among the entries that reach the maximum is the code of the first maximum. -/
theorem fold_code_first (f : Fin 510 → EReal) (d : Fin 510 → Bool) :
    Finset.fold IntOp.minsi (2147483647#32)
      (fun x => if f (amax f) ≤ f x then BitVec.ofNat 32 (2 * x.val + (d x).toNat) else 1020#32) Finset.univ
      = BitVec.ofNat 32 (2 * (amax f).val + (d (amax f)).toNat) := by
  have hb : ∀ b : Bool, b.toNat ≤ 1 := by decide
  have key := fold_minsi_eq (fun x => if f (amax f) ≤ f x then BitVec.ofNat 32 (2 * x.val + (d x).toNat) else 1020#32) (amax f) ?_
  · rw [key]; simp
  · intro j
    have h1 := (amax f).isLt
    have h2 := hb (d (amax f))
    have h3 := j.isLt
    have h4 := hb (d j)
    simp only [le_refl, if_true]
    split
    · rename_i hj
      rw [toInt_ofNat_small (by omega), toInt_ofNat_small (by omega)]
      rcases lt_trichotomy j (amax f) with hlt | he | hgt
      · exact absurd ((amax_spec f).2 j hlt) (not_lt.2 hj)
      · rw [he]
      · have : (amax f).val < j.val := hgt
        omega
    · rw [toInt_ofNat_small (by omega)]
      have : (1020#32).toInt = 1020 := by decide
      omega

/-- The greatest code among the entries of `f` that reach the maximum, `f` being `g` in reverse order: the first
    maximum of `g`, reversed. -/
theorem fold_code_last (f g : Fin 510 → EReal) (d : Fin 510 → Bool) (hfg : ∀ l, f l = g l.rev) :
    f (amax f) = g (amax g) ∧
    Finset.fold IntOp.maxsi (2147483648#32)
      (fun x => if f (amax f) ≤ f x then BitVec.ofNat 32 (2 * x.val + (d x).toNat) else 4294967295#32) Finset.univ
      = BitVec.ofNat 32 (2 * (509 - (amax g).val) + (d (amax g).rev).toNat) := by
  have hb : ∀ b : Bool, b.toNat ≤ 1 := by decide
  have hm : f (amax f) = g (amax g) := by
    apply le_antisymm
    · rw [hfg]; exact le_amax g _
    · have := le_amax f (amax g).rev; rwa [hfg, Fin.rev_rev] at this
  refine ⟨hm, ?_⟩
  have hv : ((amax g).rev).val = 509 - (amax g).val := by rw [Fin.val_rev]; omega
  have key := fold_maxsi_eq (fun x => if f (amax f) ≤ f x then BitVec.ofNat 32 (2 * x.val + (d x).toNat) else 4294967295#32) (amax g).rev ?_
  · rw [key, hm, hfg, Fin.rev_rev, if_pos le_rfl, hv]
  · intro j
    have h1 := (amax g).isLt
    have h2 := hb (d (amax g).rev)
    have h3 := j.isLt
    have h4 := hb (d j)
    simp only [hm, hfg (amax g).rev, Fin.rev_rev, le_refl, if_true, hv]
    split
    · rename_i hj
      rw [toInt_ofNat_small (by omega), toInt_ofNat_small (by omega)]
      rw [hfg] at hj
      rcases lt_trichotomy j.rev (amax g) with hlt | he | hgt
      · exact absurd ((amax_spec g).2 _ hlt) (not_lt.2 hj)
      · have : j = (amax g).rev := by rw [← he, Fin.rev_rev]
        rw [this, hv]
      · have : (amax g).val < (j.rev).val := hgt
        rw [Fin.val_rev] at this
        omega
    · rw [show (4294967295#32).toInt = -1 by decide, toInt_ofNat_small (by omega)]
      omega

/-- The least index word among the entries that reach the maximum is the first maximum's. -/
theorem fold_index_first (f : Fin 64 → EReal) :
    Finset.fold IntOp.minsi (2147483647#32)
      (fun x => if f (amax f) ≤ f x then BitVec.ofNat 32 x.val else 64#32) Finset.univ = BitVec.ofNat 32 (amax f).val := by
  have key := fold_minsi_eq (fun x : Fin 64 => if f (amax f) ≤ f x then BitVec.ofNat 32 x.val else 64#32) (amax f) ?_
  · rw [key]; simp
  · intro j
    have h1 := (amax f).isLt
    have h3 := j.isLt
    simp only [le_refl, if_true]
    split
    · rename_i hj
      rw [toInt_ofNat_small (by omega), toInt_ofNat_small (by omega)]
      rcases lt_trichotomy j (amax f) with hlt | he | hgt
      · exact absurd ((amax_spec f).2 j hlt) (not_lt.2 hj)
      · rw [he]
      · have : (amax f).val < j.val := hgt
        omega
    · rw [toInt_ofNat_small (by omega)]
      have : (64#32).toInt = 64 := by decide
      omega

/-! ### Repeated maxima and a stable sort -/

/-- `f` after `k` rounds, each of which overwrites the first maximum by `-1`. -/
def cur (f : Fin 64 → EReal) : Nat → Fin 64 → EReal
  | 0 => f
  | k + 1 => fun j => if j = amax (cur f k) then Ideal.ofBits .f32 0xBF800000#32 else cur f k j

/-- The leader of round `k`. -/
def lead (f : Fin 64 → EReal) (k : Nat) : Fin 64 := amax (cur f k)

theorem ofBits_negOne : Ideal.ofBits .f32 0xBF800000#32 = ((-1 : ℝ) : EReal) := by
  simp [Ideal.ofBits, Ideal.ieee, -EReal.coe_mul]; norm_num

theorem negOne_lt {x : EReal} (h : 0 ≤ x) : Ideal.ofBits .f32 0xBF800000#32 < x := by
  rw [ofBits_negOne]
  exact lt_of_lt_of_le (by rw [← EReal.coe_zero]; exact EReal.coe_lt_coe_iff.2 (by norm_num)) h

/-- "Greater, or equal and earlier". -/
def Before (f : Fin 64 → EReal) (a b : Fin 64) : Prop := f b < f a ∨ (f a = f b ∧ a < b)

theorem pairwise_insert (f : Fin 64 → EReal) (R : Fin 64 → Fin 64 → Bool) (hR : ∀ a b, R a b = true ↔ f b < f a) (a : Fin 64) (l : List (Fin 64))
    (ha : ∀ b ∈ l, a < b) (hl : l.Pairwise (Before f)) : (insertBefore R a l).Pairwise (Before f) := by
  induction l with
  | nil => exact List.pairwise_singleton _ _
  | cons b l ih =>
    unfold insertBefore
    rw [List.pairwise_cons] at hl
    split
    · rename_i h
      refine List.pairwise_cons.2 ⟨fun x hx => ?_, ih (fun c hc => ha c (List.mem_cons_of_mem _ hc)) hl.2⟩
      rcases List.mem_cons.1 ((perm_insertBefore R a l).mem_iff.1 hx) with rfl | hx
      · exact Or.inl ((hR _ _).1 h)
      · exact hl.1 x hx
    · rename_i h
      have hba : f b ≤ f a := not_lt.1 fun hc => h ((hR _ _).2 hc)
      refine List.pairwise_cons.2 ⟨fun x hx => ?_, List.pairwise_cons.2 hl⟩
      have hxa := ha x hx
      have hxb : f x ≤ f b := by
        rcases List.mem_cons.1 hx with rfl | hx
        · exact le_rfl
        · rcases hl.1 x hx with h | h
          · exact h.le
          · exact h.1.ge
      rcases (hxb.trans hba).lt_or_eq with h | h
      · exact Or.inl h
      · exact Or.inr ⟨h.symm, hxa⟩

theorem pairwise_stable (f : Fin 64 → EReal) (R : Fin 64 → Fin 64 → Bool) (hR : ∀ a b, R a b = true ↔ f b < f a) (l : List (Fin 64))
    (h : l.Pairwise (· < ·)) : (stableSort R l).Pairwise (Before f) := by
  induction l with
  | nil => exact List.Pairwise.nil
  | cons a l ih =>
    rw [List.pairwise_cons] at h
    unfold stableSort
    exact pairwise_insert f R hR a _ (fun b hb => h.1 b ((perm_stableSort R l).mem_iff.1 hb)) (ih h.2)

theorem sorted_before (f : Fin 64 → EReal) (R : Fin 64 → Fin 64 → Bool) (hR : ∀ a b, R a b = true ↔ f b < f a) (i j : Fin 64) (hij : i < j) :
    Before f (sortedFrom R i) (sortedFrom R j) := by
  have hp : ∀ a b : Fin (sortPositions 64 R).length, a < b → Before f ((sortPositions 64 R).get a) ((sortPositions 64 R).get b) :=
    List.pairwise_iff_get.mp (pairwise_stable f R hR (List.finRange 64) (List.pairwise_lt_finRange 64))
  unfold sortedFrom
  exact hp _ _ (by simp only [Fin.lt_def, Fin.val_cast]; exact hij)

/-- After `k` rounds a position not yet taken keeps its value and a taken one is `-1`. -/
theorem cur_eq (f : Fin 64 → EReal) (k : Nat) (j : Fin 64) :
    ((∀ m < k, lead f m ≠ j) → cur f k j = f j) ∧ ((∃ m < k, lead f m = j) → cur f k j = Ideal.ofBits .f32 0xBF800000#32) := by
  induction k with
  | zero => exact ⟨fun _ => rfl, fun ⟨m, hm, _⟩ => absurd hm (Nat.not_lt_zero m)⟩
  | succ k ih =>
    refine ⟨fun h => ?_, fun h => ?_⟩
    · have h1 : j ≠ amax (cur f k) := fun e => h k (Nat.lt_succ_self k) e.symm
      simp only [cur, if_neg h1]
      exact ih.1 fun m hm => h m (Nat.lt_succ_of_lt hm)
    · by_cases h1 : j = amax (cur f k)
      · simp only [cur, if_pos h1]
      · simp only [cur, if_neg h1]
        obtain ⟨m, hm, e⟩ := h
        refine ih.2 ⟨m, ?_, e⟩
        rcases Nat.lt_succ_iff_lt_or_eq.1 hm with h | h
        · exact h
        · subst h; exact absurd e.symm h1

/-- The `k`-th entry of the stable sort of a nonnegative `f`, greatest first, is the leader of round `k`. -/
theorem sortedFrom_eq_lead (f : Fin 64 → EReal) (hf : ∀ j, 0 ≤ f j) (R : Fin 64 → Fin 64 → Bool) (hR : ∀ a b, R a b = true ↔ f b < f a)
    (k : Nat) (hk : k < 64) : sortedFrom R ⟨k, hk⟩ = lead f k := by
  induction k using Nat.strong_induction_on with
  | _ k ih =>
    have hne : ∀ m, (hm : m < k) → lead f m ≠ sortedFrom R ⟨k, hk⟩ := by
      intro m hm e
      rw [← ih m hm (hm.trans hk)] at e
      have := sortedFrom_injective R e
      simp only [Fin.mk.injEq] at this
      omega
    symm
    apply amax_unique
    have hP : cur f k (sortedFrom R ⟨k, hk⟩) = f (sortedFrom R ⟨k, hk⟩) := (cur_eq f k _).1 hne
    have main : ∀ j, j ≠ sortedFrom R ⟨k, hk⟩ → cur f k j < f (sortedFrom R ⟨k, hk⟩) ∨ (cur f k j = f (sortedFrom R ⟨k, hk⟩) ∧ sortedFrom R ⟨k, hk⟩ < j) := by
      intro j hj
      by_cases hm : ∃ m < k, lead f m = j
      · rw [(cur_eq f k j).2 hm]; exact Or.inl (negOne_lt (hf _))
      · have hm' : ∀ m < k, lead f m ≠ j := fun m h e => hm ⟨m, h, e⟩
        rw [(cur_eq f k j).1 hm']
        obtain ⟨p, rfl⟩ := sortedFrom_surjective R j
        have hp : k < p.val := by
          rcases lt_trichotomy p.val k with h | h | h
          · exact absurd (ih p.val h p.isLt).symm (hm' p.val h)
          · exact absurd (congrArg (sortedFrom R) (Fin.ext h)) hj
          · exact h
        rcases sorted_before f R hR ⟨k, hk⟩ p hp with h | ⟨h, h'⟩
        · exact Or.inl h
        · exact Or.inr ⟨h.symm, h'⟩
    refine ⟨fun j => ?_, fun j hj => ?_⟩
    · rw [hP]
      by_cases h : j = sortedFrom R ⟨k, hk⟩
      · rw [h, hP]
      · rcases main j h with h | ⟨h, _⟩
        · exact h.le
        · exact h.le
    · rw [hP]
      rcases main j hj.ne with h | ⟨_, h⟩
      · exact h
      · exact absurd h (not_lt.2 hj.le)

/-- Functions that order their indices alike have the same leaders in the stable sort. -/
theorem lead_congr (f g : Fin 64 → EReal) (hf : ∀ j, 0 ≤ f j) (hg : ∀ j, 0 ≤ g j) (h : ∀ i j, f i < f j ↔ g i < g j) (k : Nat) (hk : k < 64) :
    lead f k = lead g k := by
  rw [← sortedFrom_eq_lead f hf (fun a b => decide (f b < f a)) (by simp) k hk,
    ← sortedFrom_eq_lead g hg (fun a b => decide (f b < f a)) (by simp [h]) k hk]

/-! ### The peak of a correlation row -/

/-- The magnitude. -/
def ab (x : EReal) : EReal := max x (-x)

theorem ab_nonneg (x : EReal) : 0 ≤ ab x := by
  unfold ab
  rcases le_total 0 x with h | h
  · exact le_max_of_le_left h
  · exact le_max_of_le_right (by rwa [EReal.neg_nonneg])

/-- "The magnitude at the middle is no less than at either side". -/
def Pk (a b c : EReal) : Prop := ab a ≤ ab b ∧ ab c ≤ ab b

/-- The row's magnitudes at its local peaks, zero elsewhere: entry `l` looks at lag `l + 1`. -/
def cam (g : Fin 512 → EReal) (l : Fin 510) : EReal :=
  open Classical in
  if Pk (g ⟨l.val, by omega⟩) (g ⟨1 + l.val, by omega⟩) (g ⟨2 + l.val, by omega⟩) then ab (g ⟨1 + l.val, by omega⟩) else 0

theorem cam_nonneg (g : Fin 512 → EReal) (l : Fin 510) : 0 ≤ cam g l := by
  unfold cam; split
  · exact ab_nonneg _
  · exact le_rfl

/-- The peak's position. -/
def pk (g : Fin 512 → EReal) : Fin 510 := amax (cam g)
/-- The peak's magnitude. -/
def pm (g : Fin 512 → EReal) : EReal := cam g (pk g)
/-- Whether the row is negative at lag `l + 1`. -/
def ngb (g : Fin 512 → EReal) (l : Fin 510) : Bool := decide (g ⟨1 + l.val, by omega⟩ < 0)
/-- The signed peak. -/
def ps (g : Fin 512 → EReal) : EReal := (if ngb g (pk g) then 0 - pm g else pm g) * Ideal.ofBits .f32 0x3B000000#32

/-! ### The same row read backwards -/

/-- The peaks of a row read backwards: entry `t` looks at lag `t + 2`, the last one wrapping round to lag `0`. -/
def camb (g : Fin 512 → EReal) (t : Fin 510) : EReal :=
  open Classical in
  if h : t.val < 509 then cam g ⟨1 + t.val, by omega⟩ else if Pk (g 510) (g 511) (g 0) then ab (g 511) else 0

theorem pk_swap (a b c : EReal) : Pk a b c ↔ Pk c b a := And.comm

/-- The backward peaks of a row are the forward peaks of the row whose lags are negated. -/
theorem camb_eq (g h : Fin 512 → EReal) (hg : ∀ t : Fin 512, g t = h ⟨(512 - t.val) % 512, Nat.mod_lt _ (by omega)⟩) (t : Fin 510) :
    camb g t = cam h t.rev := by
  have ht := t.isLt
  have hr : (t.rev).val = 510 - (t.val + 1) := Fin.val_rev t
  have key : ∀ (a b c a' b' c' : EReal), a = c' → b = b' → c = a' →
      (open Classical in if Pk a b c then ab b else 0) = (open Classical in if Pk a' b' c' then ab b' else 0) := by
    intro a b c a' b' c' h1 h2 h3
    rw [h1, h2, h3]
    by_cases h : Pk a' b' c'
    · rw [if_pos h, if_pos ((pk_swap _ _ _).1 h)]
    · rw [if_neg h, if_neg fun h' => h ((pk_swap _ _ _).1 h')]
  unfold camb cam
  split
  · refine key _ _ _ _ _ _ ?_ ?_ ?_ <;> rw [hg] <;> congr 1 <;> apply Fin.ext <;> (try simp only [hr]) <;> (try dsimp only) <;> omega
  · refine key _ _ _ _ _ _ ?_ ?_ ?_ <;> rw [hg] <;> congr 1 <;> apply Fin.ext <;> (try simp only [hr]) <;> (try simp) <;> omega

end Cert.Proof
-- ==== Proof.Rounds.lean ====
/- The eight rounds that pick each row's leading rows: in every round the first row of greatest remaining magnitude, its
   lag and its signed peak by one-hot sums, then its magnitude struck out. -/
module
public import proofs.«01_k».proof.Proof.Gen.KernelIdeal.Skeleton
public import proofs.«01_k».proof.Proof.Select
public import Idealize.ShloMosaic.PureOps.Ideal
public import Idealize.ShloMosaic.Lib.Pointwise
@[expose] public section
noncomputable section
namespace Cert.Proof
open Idealize.ShloMosaic Cert.KernelIdeal Cert.KernelIdeal.Gen
set_option maxRecDepth 20000

/-- Whether column `j` is the leader `l`, as the kernel's bit. -/
def hot (j l : Fin 64) : BitVec 1 := IntOp.cmpi CmpIPredicate.eq (BitVec.ofNat 32 j.val) (BitVec.ofNat 32 l.val)

theorem hot_select {α : Type} (j l : Fin 64) (a b : α) : Scalar.select (hot j l) a b = if j = l then a else b := by
  have h : (BitVec.ofNat 32 j.val == BitVec.ofNat 32 l.val) = decide (j = l) := by
    have hj := j.isLt
    have hl := l.isLt
    by_cases e : j = l
    · subst e; simp
    · have hn : BitVec.ofNat 32 j.val ≠ BitVec.ofNat 32 l.val := fun h => e (Fin.ext (by
        have := congrArg BitVec.toNat h
        simp only [BitVec.toNat_ofNat] at this; omega))
      rw [beq_eq_false_iff_ne.2 hn, decide_eq_false e]
  unfold Scalar.select hot IntOp.cmpi
  simp only [h]
  by_cases e : j = l <;> simp [e]

theorem sum_hot (l : Fin 64) (f : Fin 64 → EReal) : ∑ x, (if x = l then f x else 0) = f l := by simp

theorem fold_hot (l : Fin 64) (f : Fin 64 → BitVec 32) :
    Finset.fold IntOp.addi (0#32) (fun x => if x = l then f x else 0#32) Finset.univ = f l := by
  have h : ∀ s : Finset (Fin 64), l ∉ s → Finset.fold IntOp.addi (0#32) (fun x => if x = l then f x else 0#32) s = 0#32 := by
    intro s
    induction s using Finset.induction_on with
    | empty => intro _; rfl
    | insert a s ha ih =>
      intro hl
      rw [Finset.fold_insert ha, ih fun h => hl (Finset.mem_insert_of_mem h), if_neg fun (e : a = l) => hl (by rw [← e]; exact Finset.mem_insert_self a s)]
      rfl
  rw [← Finset.insert_erase (Finset.mem_univ l), Finset.fold_insert (Finset.notMem_erase l _), h _ (Finset.notMem_erase l _), if_pos rfl]
  unfold IntOp.addi
  exact BitVec.add_zero _

/-- The first leader. -/
theorem pay121_eq (v221 : FVec Ideal S16x64 .f32) (v332 : FVec Ideal S16x16 .f32) (v406 : FVec Ideal S16x64 .f32) (v501 : FVec Ideal S16x64 .f32) (v547 : FVec Ideal S16x16 .f32) (v593 : FVec Ideal S16x16 .f32) (v609 : FVec Ideal S16x16 .f32) (C : Fin 64 → Fin 64 → EReal)
    (h118 : ∀ i j : Fin 64, k0_pay118 (F := Ideal) v221 v332 v406 v501 v547 v593 v609 (ix2 i j) = C i j) (i : Fin 64) : k0_pay121 (F := Ideal) v221 v332 v406 v501 v547 v593 v609 (ix2 i 0) = BitVec.ofNat 32 (lead (C i) 0).val := by
  unfold k0_pay121
  generalize g0 : k0_pay118 (F := Ideal) v221 v332 v406 v501 v547 v593 v609 = A0
  pointwise
  subst g0
  simp only [h118, fold_max_amax]
  exact fold_index_first (C i)

/-- Whether a column is the first leader. -/
theorem pay122_eq (v221 : FVec Ideal S16x64 .f32) (v332 : FVec Ideal S16x16 .f32) (v406 : FVec Ideal S16x64 .f32) (v501 : FVec Ideal S16x64 .f32) (v547 : FVec Ideal S16x16 .f32) (v593 : FVec Ideal S16x16 .f32) (v609 : FVec Ideal S16x16 .f32) (C : Fin 64 → Fin 64 → EReal)
    (h118 : ∀ i j : Fin 64, k0_pay118 (F := Ideal) v221 v332 v406 v501 v547 v593 v609 (ix2 i j) = C i j) (i j : Fin 64) : k0_pay122 (F := Ideal) v221 v332 v406 v501 v547 v593 v609 (ix2 i j) = hot j (lead (C i) 0) := by
  unfold k0_pay122
  generalize g0 : k0_pay121 (F := Ideal) v221 v332 v406 v501 v547 v593 v609 = A0
  pointwise
  subst g0
  rw [pay121_eq v221 v332 v406 v501 v547 v593 v609 C h118]; rfl

/-- Its lag. -/
theorem pay123_eq (v221 : FVec Ideal S16x64 .f32) (v248 : IVec S16x64 32) (v332 : FVec Ideal S16x16 .f32) (v359 : IVec S16x16 32) (v406 : FVec Ideal S16x64 .f32) (v407 : IVec S16x64 32) (v501 : FVec Ideal S16x64 .f32) (v502 : IVec S16x64 32) (v547 : FVec Ideal S16x16 .f32) (v548 : IVec S16x16 32) (v593 : FVec Ideal S16x16 .f32) (v594 : IVec S16x16 32) (v609 : FVec Ideal S16x16 .f32) (v623 : IVec S16x16 32) (C : Fin 64 → Fin 64 → EReal) (S : Fin 64 → Fin 64 → BitVec 32)
    (h118 : ∀ i j : Fin 64, k0_pay118 (F := Ideal) v221 v332 v406 v501 v547 v593 v609 (ix2 i j) = C i j)
    (h119 : ∀ i j : Fin 64, k0_pay119 v248 v359 v407 v502 v548 v594 v623 (ix2 i j) = S i j) (i : Fin 64) : k0_pay123 (F := Ideal) v221 v248 v332 v359 v406 v407 v501 v502 v547 v548 v593 v594 v609 v623 (ix2 i 0) = S i (lead (C i) 0) := by
  unfold k0_pay123
  generalize g0 : k0_pay122 (F := Ideal) v221 v332 v406 v501 v547 v593 v609 = A0
  generalize g1 : k0_pay119 v248 v359 v407 v502 v548 v594 v623 = A1
  pointwise
  subst g0 g1
  simp only [pay122_eq v221 v332 v406 v501 v547 v593 v609 C h118, h119, hot_select]
  exact fold_hot _ _

/-- Its signed peak. -/
theorem pay124_eq (v221 : FVec Ideal S16x64 .f32) (v244 : FVec Ideal S16x64 .f32) (v332 : FVec Ideal S16x16 .f32) (v355 : FVec Ideal S16x16 .f32) (v406 : FVec Ideal S16x64 .f32) (v408 : FVec Ideal S16x64 .f32) (v501 : FVec Ideal S16x64 .f32) (v503 : FVec Ideal S16x64 .f32) (v547 : FVec Ideal S16x16 .f32) (v549 : FVec Ideal S16x16 .f32) (v593 : FVec Ideal S16x16 .f32) (v595 : FVec Ideal S16x16 .f32) (v609 : FVec Ideal S16x16 .f32) (v625 : IVec S16x16 32) (c0_i32_144 : BitVec 32) (C : Fin 64 → Fin 64 → EReal) (R : Fin 64 → Fin 64 → EReal)
    (h118 : ∀ i j : Fin 64, k0_pay118 (F := Ideal) v221 v332 v406 v501 v547 v593 v609 (ix2 i j) = C i j)
    (h120 : ∀ i j : Fin 64, k0_pay120 (F := Ideal) v244 v355 v408 v503 v549 v595 v609 v625 c0_i32_144 (ix2 i j) = R i j) (i : Fin 64) : k0_pay124 (F := Ideal) v221 v244 v332 v355 v406 v408 v501 v503 v547 v549 v593 v595 v609 v625 c0_i32_144 (ix2 i 0) = R i (lead (C i) 0) := by
  unfold k0_pay124
  generalize g0 : k0_pay122 (F := Ideal) v221 v332 v406 v501 v547 v593 v609 = A0
  generalize g1 : k0_pay120 (F := Ideal) v244 v355 v408 v503 v549 v595 v609 v625 c0_i32_144 = A1
  pointwise
  subst g0 g1
  simp only [pay122_eq v221 v332 v406 v501 v547 v593 v609 C h118, h120, hot_select]
  exact sum_hot _ _

/-- The magnitudes with the first leader's struck out. -/
theorem pay125_eq (v221 : FVec Ideal S16x64 .f32) (v332 : FVec Ideal S16x16 .f32) (v406 : FVec Ideal S16x64 .f32) (v501 : FVec Ideal S16x64 .f32) (v547 : FVec Ideal S16x16 .f32) (v593 : FVec Ideal S16x16 .f32) (v609 : FVec Ideal S16x16 .f32) (C : Fin 64 → Fin 64 → EReal)
    (h118 : ∀ i j : Fin 64, k0_pay118 (F := Ideal) v221 v332 v406 v501 v547 v593 v609 (ix2 i j) = C i j) (i j : Fin 64) : k0_pay125 (F := Ideal) v221 v332 v406 v501 v547 v593 v609 (ix2 i j) = cur (C i) 1 j := by
  unfold k0_pay125
  generalize g0 : k0_pay122 (F := Ideal) v221 v332 v406 v501 v547 v593 v609 = A0
  generalize g1 : k0_pay118 (F := Ideal) v221 v332 v406 v501 v547 v593 v609 = A1
  pointwise
  subst g0 g1
  rw [pay122_eq v221 v332 v406 v501 v547 v593 v609 C h118, h118, hot_select]; rfl

/-- The greatest of them. -/
theorem pay126_eq (v221 : FVec Ideal S16x64 .f32) (v332 : FVec Ideal S16x16 .f32) (v406 : FVec Ideal S16x64 .f32) (v501 : FVec Ideal S16x64 .f32) (v547 : FVec Ideal S16x16 .f32) (v593 : FVec Ideal S16x16 .f32) (v609 : FVec Ideal S16x16 .f32) (C : Fin 64 → Fin 64 → EReal)
    (h118 : ∀ i j : Fin 64, k0_pay118 (F := Ideal) v221 v332 v406 v501 v547 v593 v609 (ix2 i j) = C i j) (i j : Fin 64) : k0_pay126 (F := Ideal) v221 v332 v406 v501 v547 v593 v609 (ix2 i j) = cur (C i) 1 (lead (C i) 1) := by
  unfold k0_pay126
  generalize g0 : k0_pay125 (F := Ideal) v221 v332 v406 v501 v547 v593 v609 = A0
  pointwise
  subst g0
  simp only [pay125_eq v221 v332 v406 v501 v547 v593 v609 C h118, fold_max_amax]; rfl

/-- Leader 1. -/
theorem pay127_eq (v648 : IVec S64x64 32) (v668 : FVec Ideal S64x64 .f32) (v671 : FVec Ideal S64x64 .f32) (C : Fin 64 → Fin 64 → EReal)
    (h648 : ∀ i j : Fin 64, v648 (ix2 i j) = BitVec.ofNat 32 j.val)
    (h668 : ∀ i j : Fin 64, v668 (ix2 i j) = cur (C i) 1 j)
    (h671 : ∀ i j : Fin 64, v671 (ix2 i j) = cur (C i) 1 (lead (C i) 1)) (i : Fin 64) : k0_pay127 (F := Ideal) v648 v668 v671 (ix2 i 0) = BitVec.ofNat 32 (lead (C i) 1).val := by
  unfold k0_pay127
  pointwise
  simp only [h648, h668, h671]
  exact fold_index_first (cur (C i) 1)

/-- Whether a column is leader 1. -/
theorem pay128_eq (v648 : IVec S64x64 32) (v668 : FVec Ideal S64x64 .f32) (v671 : FVec Ideal S64x64 .f32) (C : Fin 64 → Fin 64 → EReal)
    (h648 : ∀ i j : Fin 64, v648 (ix2 i j) = BitVec.ofNat 32 j.val)
    (h668 : ∀ i j : Fin 64, v668 (ix2 i j) = cur (C i) 1 j)
    (h671 : ∀ i j : Fin 64, v671 (ix2 i j) = cur (C i) 1 (lead (C i) 1)) (i j : Fin 64) : k0_pay128 (F := Ideal) v648 v668 v671 (ix2 i j) = hot j (lead (C i) 1) := by
  unfold k0_pay128
  generalize g0 : k0_pay127 (F := Ideal) v648 v668 v671 = A0
  pointwise
  subst g0
  rw [pay127_eq v648 v668 v671 C h648 h668 h671, h648]; rfl

/-- The lag of leader 1. -/
theorem pay129_eq (v646 : IVec S64x64 32) (v648 : IVec S64x64 32) (v668 : FVec Ideal S64x64 .f32) (v671 : FVec Ideal S64x64 .f32) (C : Fin 64 → Fin 64 → EReal) (S : Fin 64 → Fin 64 → BitVec 32)
    (h646 : ∀ i j : Fin 64, v646 (ix2 i j) = S i j)
    (h648 : ∀ i j : Fin 64, v648 (ix2 i j) = BitVec.ofNat 32 j.val)
    (h668 : ∀ i j : Fin 64, v668 (ix2 i j) = cur (C i) 1 j)
    (h671 : ∀ i j : Fin 64, v671 (ix2 i j) = cur (C i) 1 (lead (C i) 1)) (i : Fin 64) : k0_pay129 (F := Ideal) v646 v648 v668 v671 (ix2 i 0) = S i (lead (C i) 1) := by
  unfold k0_pay129
  generalize g0 : k0_pay128 (F := Ideal) v648 v668 v671 = A0
  pointwise
  subst g0
  simp only [pay128_eq v648 v668 v671 C h648 h668 h671, h646, hot_select]
  exact fold_hot _ _

/-- The signed peak of leader 1. -/
theorem pay130_eq (v647 : FVec Ideal S64x64 .f32) (v648 : IVec S64x64 32) (v668 : FVec Ideal S64x64 .f32) (v671 : FVec Ideal S64x64 .f32) (C : Fin 64 → Fin 64 → EReal) (R : Fin 64 → Fin 64 → EReal)
    (h647 : ∀ i j : Fin 64, v647 (ix2 i j) = R i j)
    (h648 : ∀ i j : Fin 64, v648 (ix2 i j) = BitVec.ofNat 32 j.val)
    (h668 : ∀ i j : Fin 64, v668 (ix2 i j) = cur (C i) 1 j)
    (h671 : ∀ i j : Fin 64, v671 (ix2 i j) = cur (C i) 1 (lead (C i) 1)) (i : Fin 64) : k0_pay130 (F := Ideal) v647 v648 v668 v671 (ix2 i 0) = R i (lead (C i) 1) := by
  unfold k0_pay130
  generalize g0 : k0_pay128 (F := Ideal) v648 v668 v671 = A0
  pointwise
  subst g0
  simp only [pay128_eq v648 v668 v671 C h648 h668 h671, h647, hot_select]
  exact sum_hot _ _

/-- The magnitudes after 2 rounds. -/
theorem pay131_eq (v648 : IVec S64x64 32) (v668 : FVec Ideal S64x64 .f32) (v671 : FVec Ideal S64x64 .f32) (C : Fin 64 → Fin 64 → EReal)
    (h648 : ∀ i j : Fin 64, v648 (ix2 i j) = BitVec.ofNat 32 j.val)
    (h668 : ∀ i j : Fin 64, v668 (ix2 i j) = cur (C i) 1 j)
    (h671 : ∀ i j : Fin 64, v671 (ix2 i j) = cur (C i) 1 (lead (C i) 1)) (i j : Fin 64) : k0_pay131 (F := Ideal) v648 v668 v671 (ix2 i j) = cur (C i) 2 j := by
  unfold k0_pay131
  generalize g0 : k0_pay128 (F := Ideal) v648 v668 v671 = A0
  pointwise
  subst g0
  rw [pay128_eq v648 v668 v671 C h648 h668 h671, h668, hot_select]; rfl

/-- Leader 2. -/
theorem pay132_eq (v648 : IVec S64x64 32) (v668 : FVec Ideal S64x64 .f32) (v671 : FVec Ideal S64x64 .f32) (C : Fin 64 → Fin 64 → EReal)
    (h648 : ∀ i j : Fin 64, v648 (ix2 i j) = BitVec.ofNat 32 j.val)
    (h668 : ∀ i j : Fin 64, v668 (ix2 i j) = cur (C i) 1 j)
    (h671 : ∀ i j : Fin 64, v671 (ix2 i j) = cur (C i) 1 (lead (C i) 1)) (i : Fin 64) : k0_pay132 (F := Ideal) v648 v668 v671 (ix2 i 0) = BitVec.ofNat 32 (lead (C i) 2).val := by
  unfold k0_pay132
  generalize g0 : k0_pay131 (F := Ideal) v648 v668 v671 = A0
  pointwise
  subst g0
  simp only [pay131_eq v648 v668 v671 C h648 h668 h671, h648, fold_max_amax]
  exact fold_index_first (cur (C i) 2)

/-- Whether a column is leader 2. -/
theorem pay133_eq (v648 : IVec S64x64 32) (v668 : FVec Ideal S64x64 .f32) (v671 : FVec Ideal S64x64 .f32) (C : Fin 64 → Fin 64 → EReal)
    (h648 : ∀ i j : Fin 64, v648 (ix2 i j) = BitVec.ofNat 32 j.val)
    (h668 : ∀ i j : Fin 64, v668 (ix2 i j) = cur (C i) 1 j)
    (h671 : ∀ i j : Fin 64, v671 (ix2 i j) = cur (C i) 1 (lead (C i) 1)) (i j : Fin 64) : k0_pay133 (F := Ideal) v648 v668 v671 (ix2 i j) = hot j (lead (C i) 2) := by
  unfold k0_pay133
  generalize g0 : k0_pay132 (F := Ideal) v648 v668 v671 = A0
  pointwise
  subst g0
  rw [pay132_eq v648 v668 v671 C h648 h668 h671, h648]; rfl

/-- The lag of leader 2. -/
theorem pay134_eq (v646 : IVec S64x64 32) (v648 : IVec S64x64 32) (v668 : FVec Ideal S64x64 .f32) (v671 : FVec Ideal S64x64 .f32) (C : Fin 64 → Fin 64 → EReal) (S : Fin 64 → Fin 64 → BitVec 32)
    (h646 : ∀ i j : Fin 64, v646 (ix2 i j) = S i j)
    (h648 : ∀ i j : Fin 64, v648 (ix2 i j) = BitVec.ofNat 32 j.val)
    (h668 : ∀ i j : Fin 64, v668 (ix2 i j) = cur (C i) 1 j)
    (h671 : ∀ i j : Fin 64, v671 (ix2 i j) = cur (C i) 1 (lead (C i) 1)) (i : Fin 64) : k0_pay134 (F := Ideal) v646 v648 v668 v671 (ix2 i 0) = S i (lead (C i) 2) := by
  unfold k0_pay134
  generalize g0 : k0_pay133 (F := Ideal) v648 v668 v671 = A0
  pointwise
  subst g0
  simp only [pay133_eq v648 v668 v671 C h648 h668 h671, h646, hot_select]
  exact fold_hot _ _

/-- The signed peak of leader 2. -/
theorem pay135_eq (v647 : FVec Ideal S64x64 .f32) (v648 : IVec S64x64 32) (v668 : FVec Ideal S64x64 .f32) (v671 : FVec Ideal S64x64 .f32) (C : Fin 64 → Fin 64 → EReal) (R : Fin 64 → Fin 64 → EReal)
    (h647 : ∀ i j : Fin 64, v647 (ix2 i j) = R i j)
    (h648 : ∀ i j : Fin 64, v648 (ix2 i j) = BitVec.ofNat 32 j.val)
    (h668 : ∀ i j : Fin 64, v668 (ix2 i j) = cur (C i) 1 j)
    (h671 : ∀ i j : Fin 64, v671 (ix2 i j) = cur (C i) 1 (lead (C i) 1)) (i : Fin 64) : k0_pay135 (F := Ideal) v647 v648 v668 v671 (ix2 i 0) = R i (lead (C i) 2) := by
  unfold k0_pay135
  generalize g0 : k0_pay133 (F := Ideal) v648 v668 v671 = A0
  pointwise
  subst g0
  simp only [pay133_eq v648 v668 v671 C h648 h668 h671, h647, hot_select]
  exact sum_hot _ _

/-- The magnitudes after 3 rounds. -/
theorem pay136_eq (v648 : IVec S64x64 32) (v668 : FVec Ideal S64x64 .f32) (v671 : FVec Ideal S64x64 .f32) (C : Fin 64 → Fin 64 → EReal)
    (h648 : ∀ i j : Fin 64, v648 (ix2 i j) = BitVec.ofNat 32 j.val)
    (h668 : ∀ i j : Fin 64, v668 (ix2 i j) = cur (C i) 1 j)
    (h671 : ∀ i j : Fin 64, v671 (ix2 i j) = cur (C i) 1 (lead (C i) 1)) (i j : Fin 64) : k0_pay136 (F := Ideal) v648 v668 v671 (ix2 i j) = cur (C i) 3 j := by
  unfold k0_pay136
  generalize g0 : k0_pay133 (F := Ideal) v648 v668 v671 = A0
  generalize g1 : k0_pay131 (F := Ideal) v648 v668 v671 = A1
  pointwise
  subst g0 g1
  rw [pay133_eq v648 v668 v671 C h648 h668 h671, pay131_eq v648 v668 v671 C h648 h668 h671, hot_select]; rfl

/-- Candidates for leader 3. -/
theorem pay137_eq (v648 : IVec S64x64 32) (v668 : FVec Ideal S64x64 .f32) (v671 : FVec Ideal S64x64 .f32) (C : Fin 64 → Fin 64 → EReal)
    (h648 : ∀ i j : Fin 64, v648 (ix2 i j) = BitVec.ofNat 32 j.val)
    (h668 : ∀ i j : Fin 64, v668 (ix2 i j) = cur (C i) 1 j)
    (h671 : ∀ i j : Fin 64, v671 (ix2 i j) = cur (C i) 1 (lead (C i) 1)) (i j : Fin 64) : k0_pay137 (F := Ideal) v648 v668 v671 (ix2 i j) = if cur (C i) 3 (lead (C i) 3) ≤ cur (C i) 3 j then BitVec.ofNat 32 j.val else 64#32 := by
  unfold k0_pay137
  generalize g0 : k0_pay136 (F := Ideal) v648 v668 v671 = A0
  pointwise
  subst g0
  simp only [pay136_eq v648 v668 v671 C h648 h668 h671, h648, fold_max_amax]
  rfl

/-- Leader 3. -/
theorem pay138_eq (v714 : IVec S64x64 32) (C : Fin 64 → Fin 64 → EReal)
    (h714 : ∀ i j : Fin 64, v714 (ix2 i j) = if cur (C i) 3 (lead (C i) 3) ≤ cur (C i) 3 j then BitVec.ofNat 32 j.val else 64#32) (i : Fin 64) : k0_pay138 v714 (ix2 i 0) = BitVec.ofNat 32 (lead (C i) 3).val := by
  unfold k0_pay138
  pointwise
  simp only [h714]
  exact fold_index_first (cur (C i) 3)

/-- Whether a column is leader 3. -/
theorem pay139_eq (v648 : IVec S64x64 32) (v714 : IVec S64x64 32) (C : Fin 64 → Fin 64 → EReal)
    (h648 : ∀ i j : Fin 64, v648 (ix2 i j) = BitVec.ofNat 32 j.val)
    (h714 : ∀ i j : Fin 64, v714 (ix2 i j) = if cur (C i) 3 (lead (C i) 3) ≤ cur (C i) 3 j then BitVec.ofNat 32 j.val else 64#32) (i j : Fin 64) : k0_pay139 v648 v714 (ix2 i j) = hot j (lead (C i) 3) := by
  unfold k0_pay139
  generalize g0 : k0_pay138 v714 = A0
  pointwise
  subst g0
  rw [pay138_eq v714 C h714, h648]; rfl

/-- The lag of leader 3. -/
theorem pay140_eq (v646 : IVec S64x64 32) (v648 : IVec S64x64 32) (v714 : IVec S64x64 32) (C : Fin 64 → Fin 64 → EReal) (S : Fin 64 → Fin 64 → BitVec 32)
    (h646 : ∀ i j : Fin 64, v646 (ix2 i j) = S i j)
    (h648 : ∀ i j : Fin 64, v648 (ix2 i j) = BitVec.ofNat 32 j.val)
    (h714 : ∀ i j : Fin 64, v714 (ix2 i j) = if cur (C i) 3 (lead (C i) 3) ≤ cur (C i) 3 j then BitVec.ofNat 32 j.val else 64#32) (i : Fin 64) : k0_pay140 v646 v648 v714 (ix2 i 0) = S i (lead (C i) 3) := by
  unfold k0_pay140
  generalize g0 : k0_pay139 v648 v714 = A0
  pointwise
  subst g0
  simp only [pay139_eq v648 v714 C h648 h714, h646, hot_select]
  exact fold_hot _ _

/-- The signed peak of leader 3. -/
theorem pay141_eq (v647 : FVec Ideal S64x64 .f32) (v648 : IVec S64x64 32) (v714 : IVec S64x64 32) (C : Fin 64 → Fin 64 → EReal) (R : Fin 64 → Fin 64 → EReal)
    (h647 : ∀ i j : Fin 64, v647 (ix2 i j) = R i j)
    (h648 : ∀ i j : Fin 64, v648 (ix2 i j) = BitVec.ofNat 32 j.val)
    (h714 : ∀ i j : Fin 64, v714 (ix2 i j) = if cur (C i) 3 (lead (C i) 3) ≤ cur (C i) 3 j then BitVec.ofNat 32 j.val else 64#32) (i : Fin 64) : k0_pay141 (F := Ideal) v647 v648 v714 (ix2 i 0) = R i (lead (C i) 3) := by
  unfold k0_pay141
  generalize g0 : k0_pay139 v648 v714 = A0
  pointwise
  subst g0
  simp only [pay139_eq v648 v714 C h648 h714, h647, hot_select]
  exact sum_hot _ _

/-- The magnitudes after 4 rounds. -/
theorem pay142_eq (v648 : IVec S64x64 32) (v708 : FVec Ideal S64x64 .f32) (v714 : IVec S64x64 32) (C : Fin 64 → Fin 64 → EReal)
    (h648 : ∀ i j : Fin 64, v648 (ix2 i j) = BitVec.ofNat 32 j.val)
    (h708 : ∀ i j : Fin 64, v708 (ix2 i j) = cur (C i) 3 j)
    (h714 : ∀ i j : Fin 64, v714 (ix2 i j) = if cur (C i) 3 (lead (C i) 3) ≤ cur (C i) 3 j then BitVec.ofNat 32 j.val else 64#32) (i j : Fin 64) : k0_pay142 (F := Ideal) v648 v708 v714 (ix2 i j) = cur (C i) 4 j := by
  unfold k0_pay142
  generalize g0 : k0_pay139 v648 v714 = A0
  pointwise
  subst g0
  rw [pay139_eq v648 v714 C h648 h714, h708, hot_select]; rfl

/-- Leader 4. -/
theorem pay143_eq (v648 : IVec S64x64 32) (v708 : FVec Ideal S64x64 .f32) (v714 : IVec S64x64 32) (C : Fin 64 → Fin 64 → EReal)
    (h648 : ∀ i j : Fin 64, v648 (ix2 i j) = BitVec.ofNat 32 j.val)
    (h708 : ∀ i j : Fin 64, v708 (ix2 i j) = cur (C i) 3 j)
    (h714 : ∀ i j : Fin 64, v714 (ix2 i j) = if cur (C i) 3 (lead (C i) 3) ≤ cur (C i) 3 j then BitVec.ofNat 32 j.val else 64#32) (i : Fin 64) : k0_pay143 (F := Ideal) v648 v708 v714 (ix2 i 0) = BitVec.ofNat 32 (lead (C i) 4).val := by
  unfold k0_pay143
  generalize g0 : k0_pay142 (F := Ideal) v648 v708 v714 = A0
  pointwise
  subst g0
  simp only [pay142_eq v648 v708 v714 C h648 h708 h714, h648, fold_max_amax]
  exact fold_index_first (cur (C i) 4)

/-- Whether a column is leader 4. -/
theorem pay144_eq (v648 : IVec S64x64 32) (v708 : FVec Ideal S64x64 .f32) (v714 : IVec S64x64 32) (C : Fin 64 → Fin 64 → EReal)
    (h648 : ∀ i j : Fin 64, v648 (ix2 i j) = BitVec.ofNat 32 j.val)
    (h708 : ∀ i j : Fin 64, v708 (ix2 i j) = cur (C i) 3 j)
    (h714 : ∀ i j : Fin 64, v714 (ix2 i j) = if cur (C i) 3 (lead (C i) 3) ≤ cur (C i) 3 j then BitVec.ofNat 32 j.val else 64#32) (i j : Fin 64) : k0_pay144 (F := Ideal) v648 v708 v714 (ix2 i j) = hot j (lead (C i) 4) := by
  unfold k0_pay144
  generalize g0 : k0_pay143 (F := Ideal) v648 v708 v714 = A0
  pointwise
  subst g0
  rw [pay143_eq v648 v708 v714 C h648 h708 h714, h648]; rfl

/-- The lag of leader 4. -/
theorem pay145_eq (v646 : IVec S64x64 32) (v648 : IVec S64x64 32) (v708 : FVec Ideal S64x64 .f32) (v714 : IVec S64x64 32) (C : Fin 64 → Fin 64 → EReal) (S : Fin 64 → Fin 64 → BitVec 32)
    (h646 : ∀ i j : Fin 64, v646 (ix2 i j) = S i j)
    (h648 : ∀ i j : Fin 64, v648 (ix2 i j) = BitVec.ofNat 32 j.val)
    (h708 : ∀ i j : Fin 64, v708 (ix2 i j) = cur (C i) 3 j)
    (h714 : ∀ i j : Fin 64, v714 (ix2 i j) = if cur (C i) 3 (lead (C i) 3) ≤ cur (C i) 3 j then BitVec.ofNat 32 j.val else 64#32) (i : Fin 64) : k0_pay145 (F := Ideal) v646 v648 v708 v714 (ix2 i 0) = S i (lead (C i) 4) := by
  unfold k0_pay145
  generalize g0 : k0_pay144 (F := Ideal) v648 v708 v714 = A0
  pointwise
  subst g0
  simp only [pay144_eq v648 v708 v714 C h648 h708 h714, h646, hot_select]
  exact fold_hot _ _

/-- The signed peak of leader 4. -/
theorem pay146_eq (v647 : FVec Ideal S64x64 .f32) (v648 : IVec S64x64 32) (v708 : FVec Ideal S64x64 .f32) (v714 : IVec S64x64 32) (C : Fin 64 → Fin 64 → EReal) (R : Fin 64 → Fin 64 → EReal)
    (h647 : ∀ i j : Fin 64, v647 (ix2 i j) = R i j)
    (h648 : ∀ i j : Fin 64, v648 (ix2 i j) = BitVec.ofNat 32 j.val)
    (h708 : ∀ i j : Fin 64, v708 (ix2 i j) = cur (C i) 3 j)
    (h714 : ∀ i j : Fin 64, v714 (ix2 i j) = if cur (C i) 3 (lead (C i) 3) ≤ cur (C i) 3 j then BitVec.ofNat 32 j.val else 64#32) (i : Fin 64) : k0_pay146 (F := Ideal) v647 v648 v708 v714 (ix2 i 0) = R i (lead (C i) 4) := by
  unfold k0_pay146
  generalize g0 : k0_pay144 (F := Ideal) v648 v708 v714 = A0
  pointwise
  subst g0
  simp only [pay144_eq v648 v708 v714 C h648 h708 h714, h647, hot_select]
  exact sum_hot _ _

/-- The magnitudes after 5 rounds. -/
theorem pay147_eq (v648 : IVec S64x64 32) (v708 : FVec Ideal S64x64 .f32) (v714 : IVec S64x64 32) (C : Fin 64 → Fin 64 → EReal)
    (h648 : ∀ i j : Fin 64, v648 (ix2 i j) = BitVec.ofNat 32 j.val)
    (h708 : ∀ i j : Fin 64, v708 (ix2 i j) = cur (C i) 3 j)
    (h714 : ∀ i j : Fin 64, v714 (ix2 i j) = if cur (C i) 3 (lead (C i) 3) ≤ cur (C i) 3 j then BitVec.ofNat 32 j.val else 64#32) (i j : Fin 64) : k0_pay147 (F := Ideal) v648 v708 v714 (ix2 i j) = cur (C i) 5 j := by
  unfold k0_pay147
  generalize g0 : k0_pay144 (F := Ideal) v648 v708 v714 = A0
  generalize g1 : k0_pay142 (F := Ideal) v648 v708 v714 = A1
  pointwise
  subst g0 g1
  rw [pay144_eq v648 v708 v714 C h648 h708 h714, pay142_eq v648 v708 v714 C h648 h708 h714, hot_select]; rfl

/-- Leader 5. -/
theorem pay148_eq (v648 : IVec S64x64 32) (v708 : FVec Ideal S64x64 .f32) (v714 : IVec S64x64 32) (C : Fin 64 → Fin 64 → EReal)
    (h648 : ∀ i j : Fin 64, v648 (ix2 i j) = BitVec.ofNat 32 j.val)
    (h708 : ∀ i j : Fin 64, v708 (ix2 i j) = cur (C i) 3 j)
    (h714 : ∀ i j : Fin 64, v714 (ix2 i j) = if cur (C i) 3 (lead (C i) 3) ≤ cur (C i) 3 j then BitVec.ofNat 32 j.val else 64#32) (i : Fin 64) : k0_pay148 (F := Ideal) v648 v708 v714 (ix2 i 0) = BitVec.ofNat 32 (lead (C i) 5).val := by
  unfold k0_pay148
  generalize g0 : k0_pay147 (F := Ideal) v648 v708 v714 = A0
  pointwise
  subst g0
  simp only [pay147_eq v648 v708 v714 C h648 h708 h714, h648, fold_max_amax]
  exact fold_index_first (cur (C i) 5)

/-- Leader 5, over the columns. -/
theorem pay149_eq (v648 : IVec S64x64 32) (v708 : FVec Ideal S64x64 .f32) (v714 : IVec S64x64 32) (C : Fin 64 → Fin 64 → EReal)
    (h648 : ∀ i j : Fin 64, v648 (ix2 i j) = BitVec.ofNat 32 j.val)
    (h708 : ∀ i j : Fin 64, v708 (ix2 i j) = cur (C i) 3 j)
    (h714 : ∀ i j : Fin 64, v714 (ix2 i j) = if cur (C i) 3 (lead (C i) 3) ≤ cur (C i) 3 j then BitVec.ofNat 32 j.val else 64#32) (i j : Fin 64) : k0_pay149 (F := Ideal) v648 v708 v714 (ix2 i j) = BitVec.ofNat 32 (lead (C i) 5).val := by
  unfold k0_pay149
  generalize g0 : k0_pay148 (F := Ideal) v648 v708 v714 = A0
  pointwise
  subst g0
  rw [pay148_eq v648 v708 v714 C h648 h708 h714]

/-- Whether a column is leader 5. -/
theorem pay150_eq (v648 : IVec S64x64 32) (v757 : IVec S64x64 32) (C : Fin 64 → Fin 64 → EReal)
    (h648 : ∀ i j : Fin 64, v648 (ix2 i j) = BitVec.ofNat 32 j.val)
    (h757 : ∀ i j : Fin 64, v757 (ix2 i j) = BitVec.ofNat 32 (lead (C i) 5).val) (i j : Fin 64) : k0_pay150 v648 v757 (ix2 i j) = hot j (lead (C i) 5) := by
  unfold k0_pay150
  pointwise
  rw [h648, h757]; rfl

/-- The lag of leader 5. -/
theorem pay151_eq (v646 : IVec S64x64 32) (v648 : IVec S64x64 32) (v757 : IVec S64x64 32) (C : Fin 64 → Fin 64 → EReal) (S : Fin 64 → Fin 64 → BitVec 32)
    (h646 : ∀ i j : Fin 64, v646 (ix2 i j) = S i j)
    (h648 : ∀ i j : Fin 64, v648 (ix2 i j) = BitVec.ofNat 32 j.val)
    (h757 : ∀ i j : Fin 64, v757 (ix2 i j) = BitVec.ofNat 32 (lead (C i) 5).val) (i : Fin 64) : k0_pay151 v646 v648 v757 (ix2 i 0) = S i (lead (C i) 5) := by
  unfold k0_pay151
  generalize g0 : k0_pay150 v648 v757 = A0
  pointwise
  subst g0
  simp only [pay150_eq v648 v757 C h648 h757, h646, hot_select]
  exact fold_hot _ _

/-- The signed peak of leader 5. -/
theorem pay152_eq (v647 : FVec Ideal S64x64 .f32) (v648 : IVec S64x64 32) (v757 : IVec S64x64 32) (C : Fin 64 → Fin 64 → EReal) (R : Fin 64 → Fin 64 → EReal)
    (h647 : ∀ i j : Fin 64, v647 (ix2 i j) = R i j)
    (h648 : ∀ i j : Fin 64, v648 (ix2 i j) = BitVec.ofNat 32 j.val)
    (h757 : ∀ i j : Fin 64, v757 (ix2 i j) = BitVec.ofNat 32 (lead (C i) 5).val) (i : Fin 64) : k0_pay152 (F := Ideal) v647 v648 v757 (ix2 i 0) = R i (lead (C i) 5) := by
  unfold k0_pay152
  generalize g0 : k0_pay150 v648 v757 = A0
  pointwise
  subst g0
  simp only [pay150_eq v648 v757 C h648 h757, h647, hot_select]
  exact sum_hot _ _

/-- The magnitudes after 6 rounds. -/
theorem pay153_eq (v648 : IVec S64x64 32) (v748 : FVec Ideal S64x64 .f32) (v757 : IVec S64x64 32) (C : Fin 64 → Fin 64 → EReal)
    (h648 : ∀ i j : Fin 64, v648 (ix2 i j) = BitVec.ofNat 32 j.val)
    (h748 : ∀ i j : Fin 64, v748 (ix2 i j) = cur (C i) 5 j)
    (h757 : ∀ i j : Fin 64, v757 (ix2 i j) = BitVec.ofNat 32 (lead (C i) 5).val) (i j : Fin 64) : k0_pay153 (F := Ideal) v648 v748 v757 (ix2 i j) = cur (C i) 6 j := by
  unfold k0_pay153
  generalize g0 : k0_pay150 v648 v757 = A0
  pointwise
  subst g0
  rw [pay150_eq v648 v757 C h648 h757, h748, hot_select]; rfl

/-- Leader 6. -/
theorem pay154_eq (v648 : IVec S64x64 32) (v748 : FVec Ideal S64x64 .f32) (v757 : IVec S64x64 32) (C : Fin 64 → Fin 64 → EReal)
    (h648 : ∀ i j : Fin 64, v648 (ix2 i j) = BitVec.ofNat 32 j.val)
    (h748 : ∀ i j : Fin 64, v748 (ix2 i j) = cur (C i) 5 j)
    (h757 : ∀ i j : Fin 64, v757 (ix2 i j) = BitVec.ofNat 32 (lead (C i) 5).val) (i : Fin 64) : k0_pay154 (F := Ideal) v648 v748 v757 (ix2 i 0) = BitVec.ofNat 32 (lead (C i) 6).val := by
  unfold k0_pay154
  generalize g0 : k0_pay153 (F := Ideal) v648 v748 v757 = A0
  pointwise
  subst g0
  simp only [pay153_eq v648 v748 v757 C h648 h748 h757, h648, fold_max_amax]
  exact fold_index_first (cur (C i) 6)

/-- Whether a column is leader 6. -/
theorem pay155_eq (v648 : IVec S64x64 32) (v748 : FVec Ideal S64x64 .f32) (v757 : IVec S64x64 32) (C : Fin 64 → Fin 64 → EReal)
    (h648 : ∀ i j : Fin 64, v648 (ix2 i j) = BitVec.ofNat 32 j.val)
    (h748 : ∀ i j : Fin 64, v748 (ix2 i j) = cur (C i) 5 j)
    (h757 : ∀ i j : Fin 64, v757 (ix2 i j) = BitVec.ofNat 32 (lead (C i) 5).val) (i j : Fin 64) : k0_pay155 (F := Ideal) v648 v748 v757 (ix2 i j) = hot j (lead (C i) 6) := by
  unfold k0_pay155
  generalize g0 : k0_pay154 (F := Ideal) v648 v748 v757 = A0
  pointwise
  subst g0
  rw [pay154_eq v648 v748 v757 C h648 h748 h757, h648]; rfl

/-- The lag of leader 6. -/
theorem pay156_eq (v646 : IVec S64x64 32) (v648 : IVec S64x64 32) (v748 : FVec Ideal S64x64 .f32) (v757 : IVec S64x64 32) (C : Fin 64 → Fin 64 → EReal) (S : Fin 64 → Fin 64 → BitVec 32)
    (h646 : ∀ i j : Fin 64, v646 (ix2 i j) = S i j)
    (h648 : ∀ i j : Fin 64, v648 (ix2 i j) = BitVec.ofNat 32 j.val)
    (h748 : ∀ i j : Fin 64, v748 (ix2 i j) = cur (C i) 5 j)
    (h757 : ∀ i j : Fin 64, v757 (ix2 i j) = BitVec.ofNat 32 (lead (C i) 5).val) (i : Fin 64) : k0_pay156 (F := Ideal) v646 v648 v748 v757 (ix2 i 0) = S i (lead (C i) 6) := by
  unfold k0_pay156
  generalize g0 : k0_pay155 (F := Ideal) v648 v748 v757 = A0
  pointwise
  subst g0
  simp only [pay155_eq v648 v748 v757 C h648 h748 h757, h646, hot_select]
  exact fold_hot _ _

/-- The signed peak of leader 6. -/
theorem pay157_eq (v647 : FVec Ideal S64x64 .f32) (v648 : IVec S64x64 32) (v748 : FVec Ideal S64x64 .f32) (v757 : IVec S64x64 32) (C : Fin 64 → Fin 64 → EReal) (R : Fin 64 → Fin 64 → EReal)
    (h647 : ∀ i j : Fin 64, v647 (ix2 i j) = R i j)
    (h648 : ∀ i j : Fin 64, v648 (ix2 i j) = BitVec.ofNat 32 j.val)
    (h748 : ∀ i j : Fin 64, v748 (ix2 i j) = cur (C i) 5 j)
    (h757 : ∀ i j : Fin 64, v757 (ix2 i j) = BitVec.ofNat 32 (lead (C i) 5).val) (i : Fin 64) : k0_pay157 (F := Ideal) v647 v648 v748 v757 (ix2 i 0) = R i (lead (C i) 6) := by
  unfold k0_pay157
  generalize g0 : k0_pay155 (F := Ideal) v648 v748 v757 = A0
  pointwise
  subst g0
  simp only [pay155_eq v648 v748 v757 C h648 h748 h757, h647, hot_select]
  exact sum_hot _ _

/-- Leader 7. -/
theorem pay158_eq (v648 : IVec S64x64 32) (v748 : FVec Ideal S64x64 .f32) (v757 : IVec S64x64 32) (C : Fin 64 → Fin 64 → EReal)
    (h648 : ∀ i j : Fin 64, v648 (ix2 i j) = BitVec.ofNat 32 j.val)
    (h748 : ∀ i j : Fin 64, v748 (ix2 i j) = cur (C i) 5 j)
    (h757 : ∀ i j : Fin 64, v757 (ix2 i j) = BitVec.ofNat 32 (lead (C i) 5).val) (i : Fin 64) : k0_pay158 (F := Ideal) v648 v748 v757 (ix2 i 0) = BitVec.ofNat 32 (lead (C i) 7).val := by
  have hc : ∀ x : Fin 64, Scalar.select (k0_pay155 (F := Ideal) v648 v748 v757 (ix2 i x)) (Ideal.ofBits .f32 3212836864#32) (k0_pay153 (F := Ideal) v648 v748 v757 (ix2 i x)) = cur (C i) 7 x := by
    intro x
    rw [pay155_eq v648 v748 v757 C h648 h748 h757, pay153_eq v648 v748 v757 C h648 h748 h757, hot_select]; rfl
  unfold k0_pay158
  generalize g0 : k0_pay155 (F := Ideal) v648 v748 v757 = A0
  generalize g1 : k0_pay153 (F := Ideal) v648 v748 v757 = A1
  pointwise
  subst g0 g1
  simp only [h648, hc, fold_max_amax]
  exact fold_index_first (cur (C i) 7)

/-- Whether a column is leader 7. -/
theorem pay159_eq (v648 : IVec S64x64 32) (v748 : FVec Ideal S64x64 .f32) (v757 : IVec S64x64 32) (C : Fin 64 → Fin 64 → EReal)
    (h648 : ∀ i j : Fin 64, v648 (ix2 i j) = BitVec.ofNat 32 j.val)
    (h748 : ∀ i j : Fin 64, v748 (ix2 i j) = cur (C i) 5 j)
    (h757 : ∀ i j : Fin 64, v757 (ix2 i j) = BitVec.ofNat 32 (lead (C i) 5).val) (i j : Fin 64) : k0_pay159 (F := Ideal) v648 v748 v757 (ix2 i j) = hot j (lead (C i) 7) := by
  unfold k0_pay159
  generalize g0 : k0_pay158 (F := Ideal) v648 v748 v757 = A0
  pointwise
  subst g0
  rw [pay158_eq v648 v748 v757 C h648 h748 h757, h648]; rfl

/-- The lags with leader 7's alone kept. -/
theorem pay160_eq (v646 : IVec S64x64 32) (v648 : IVec S64x64 32) (v748 : FVec Ideal S64x64 .f32) (v757 : IVec S64x64 32) (C : Fin 64 → Fin 64 → EReal) (S : Fin 64 → Fin 64 → BitVec 32)
    (h646 : ∀ i j : Fin 64, v646 (ix2 i j) = S i j)
    (h648 : ∀ i j : Fin 64, v648 (ix2 i j) = BitVec.ofNat 32 j.val)
    (h748 : ∀ i j : Fin 64, v748 (ix2 i j) = cur (C i) 5 j)
    (h757 : ∀ i j : Fin 64, v757 (ix2 i j) = BitVec.ofNat 32 (lead (C i) 5).val) (i j : Fin 64) : k0_pay160 (F := Ideal) v646 v648 v748 v757 (ix2 i j) = if j = lead (C i) 7 then S i j else 0#32 := by
  unfold k0_pay160
  generalize g0 : k0_pay159 (F := Ideal) v648 v748 v757 = A0
  pointwise
  subst g0
  rw [pay159_eq v648 v748 v757 C h648 h748 h757, h646, hot_select]

/-- The signed peak of leader 7. -/
theorem pay161_eq (v647 : FVec Ideal S64x64 .f32) (v798 : IVec S64x64 1) (C : Fin 64 → Fin 64 → EReal) (R : Fin 64 → Fin 64 → EReal)
    (h647 : ∀ i j : Fin 64, v647 (ix2 i j) = R i j)
    (h798 : ∀ i j : Fin 64, v798 (ix2 i j) = hot j (lead (C i) 7)) (i : Fin 64) : k0_pay161 (F := Ideal) v647 v798 (ix2 i 0) = R i (lead (C i) 7) := by
  unfold k0_pay161
  pointwise
  simp only [h798, h647, hot_select]
  exact sum_hot _ _
end Cert.Proof
-- ==== Proof.Spec.lean ====
/- What one batch of the layer computes, as plain functions of its inputs over the extended reals, and the facts about
   those functions that the two programs' proofs share. -/
module

public import proofs.«01_k».proof.Proof.Select
public import Mathlib.Analysis.SpecialFunctions.Trigonometric.Basic

@[expose] public section
noncomputable section
namespace Cert.Proof
open Idealize.ShloMosaic

/-! ### Cosine and sine tables -/

/-- The cosine of `k` of `n` equal turns. -/
def ctR (n k : ℕ) : ℝ := Real.cos (2 * Real.pi * k / n)
/-- The sine of `k` of `n` equal turns. -/
def stR (n k : ℕ) : ℝ := Real.sin (2 * Real.pi * k / n)

theorem turn_mod (n k : ℕ) (hn : n ≠ 0) : 2 * Real.pi * (k : ℝ) / n = 2 * Real.pi * ((k % n : ℕ) : ℝ) / n + ((k / n : ℕ) : ℝ) * (2 * Real.pi) := by
  have h : (k : ℝ) = ((k % n : ℕ) : ℝ) + (n : ℝ) * ((k / n : ℕ) : ℝ) := by exact_mod_cast (Nat.mod_add_div k n).symm
  have hn' : (n : ℝ) ≠ 0 := by exact_mod_cast hn
  rw [h]; field_simp

theorem ctR_mod (n k : ℕ) (hn : n ≠ 0) : ctR n (k % n) = ctR n k := by
  unfold ctR; rw [turn_mod n k hn, Real.cos_add_nat_mul_two_pi]

theorem stR_mod (n k : ℕ) (hn : n ≠ 0) : stR n (k % n) = stR n k := by
  unfold stR; rw [turn_mod n k hn, Real.sin_add_nat_mul_two_pi]

theorem turn_neg (n k l : ℕ) (hn : n ≠ 0) (h : ∃ q, k + l = n * q) : ∃ q : ℕ, 2 * Real.pi * (k : ℝ) / n = (q : ℝ) * (2 * Real.pi) - 2 * Real.pi * (l : ℝ) / n := by
  obtain ⟨q, hq⟩ := h
  have hn' : (n : ℝ) ≠ 0 := by exact_mod_cast hn
  have hq' : (k : ℝ) + l = n * q := by exact_mod_cast hq
  refine ⟨q, ?_⟩
  have : (k : ℝ) = n * q - l := by linarith
  rw [this]; field_simp

theorem ctR_neg (n k l : ℕ) (hn : n ≠ 0) (h : ∃ q, k + l = n * q) : ctR n k = ctR n l := by
  obtain ⟨q, hq⟩ := turn_neg n k l hn h
  unfold ctR; rw [hq, Real.cos_nat_mul_two_pi_sub]

theorem stR_neg (n k l : ℕ) (hn : n ≠ 0) (h : ∃ q, k + l = n * q) : stR n k = - stR n l := by
  obtain ⟨q, hq⟩ := turn_neg n k l hn h
  unfold stR; rw [hq, Real.sin_nat_mul_two_pi_sub]

theorem ctR_half (t : ℕ) : ctR 512 (256 * t) = if t % 2 = 0 then 1 else -1 := by
  have h : 2 * Real.pi * ((256 * t : ℕ) : ℝ) / (512 : ℕ) = (t : ℝ) * Real.pi := by push_cast; ring
  unfold ctR; rw [h, Real.cos_nat_mul_pi]
  split
  · rename_i h; exact (Nat.even_iff.2 h).neg_one_pow
  · rename_i h; exact (Nat.odd_iff.2 (by omega)).neg_one_pow

theorem stR_half (t : ℕ) : stR 512 (256 * t) = 0 := by
  have h : 2 * Real.pi * ((256 * t : ℕ) : ℝ) / (512 : ℕ) = (t : ℝ) * Real.pi := by push_cast; ring
  unfold stR; rw [h, Real.sin_nat_mul_pi]

/-- The forward transform's real table: sample `s`, frequency `f`. -/
def fre (n s f : ℕ) : EReal := ((ctR n (s * f) : ℝ) : EReal)
/-- The forward transform's imaginary table. -/
def fim (n s f : ℕ) : EReal := ((-stR n (s * f) : ℝ) : EReal)
/-- How often a frequency counts in the inverse transform: the two ends once, the others twice. -/
def mult (n f : ℕ) : ℝ := if f = 0 ∨ f = n / 2 then 1 else 2
/-- The inverse transform's table for the real part: frequency `f`, sample `t`. -/
def gre (n f t : ℕ) : EReal := ((mult n f * ctR n (f * t) / n : ℝ) : EReal)
/-- The inverse transform's table for the imaginary part. -/
def gim (n f t : ℕ) : EReal := ((-mult n f * stR n (f * t) / n : ℝ) : EReal)

/-! ### Normalisation -/

/-- A row's mean. -/
def mu (X : Fin 64 → Fin 512 → EReal) (i : Fin 64) : EReal := Ideal.div (∑ t, X i t) (Ideal.ofBits .f32 1140850688#32)
/-- A row's deviation. -/
def sd (X : Fin 64 → Fin 512 → EReal) (i : Fin 64) : EReal :=
  Ideal.sqrt (Ideal.div (∑ t, (X i t - mu X i) * (X i t - mu X i)) (Ideal.ofBits .f32 1140850688#32) + Ideal.ofBits .f32 841731191#32)
/-- The normalised row. -/
def xn (X : Fin 64 → Fin 512 → EReal) (i : Fin 64) (t : Fin 512) : EReal := Ideal.div (X i t - mu X i) (sd X i)
/-- The normalised forecast. -/
def yn (X : Fin 64 → Fin 512 → EReal) (Y : Fin 64 → Fin 96 → EReal) (i : Fin 64) (h : Fin 96) : EReal := Ideal.div (Y i h - mu X i) (sd X i)

theorem lit_512 : Ideal.ofBits .f32 1140850688#32 = ((512 : ℝ) : EReal) := by
  simp [Ideal.ofBits, Ideal.ieee, -EReal.coe_mul]; norm_num

theorem lit_eps : ∃ e : ℝ, 0 < e ∧ Ideal.ofBits .f32 841731191#32 = (e : EReal) := by
  refine ⟨_, ?_, by simp [Ideal.ofBits, Ideal.ieee, -EReal.coe_mul]; rfl⟩
  norm_num

theorem coe_sum {n : Nat} (f : Fin n → ℝ) : ∑ i, ((f i : ℝ) : EReal) = ((∑ i, f i : ℝ) : EReal) := by
  induction n with
  | zero => simp
  | succ n ih => rw [Fin.sum_univ_succ, Fin.sum_univ_succ, ih, EReal.coe_add]

theorem sum_real {n : Nat} (f : Fin n → EReal) (h : ∀ i, ∃ r : ℝ, f i = r) : ∃ r : ℝ, ∑ i, f i = r := by
  choose g hg using h
  exact ⟨∑ i, g i, by simp only [hg]; exact coe_sum g⟩

theorem sum_top {n : Nat} (f : Fin n → EReal) (h0 : ∀ i, 0 ≤ f i) (i : Fin n) (hi : f i = ⊤) : ∑ i, f i = ⊤ :=
  top_le_iff.1 (hi ▸ Finset.single_le_sum (fun j _ => h0 j) (Finset.mem_univ i))

theorem mul_self_nonneg' (x : EReal) : 0 ≤ x * x := by
  rcases le_total 0 x with h | h
  · exact mul_nonneg h h
  · have : 0 ≤ -x := by rwa [EReal.neg_nonneg]
    have h2 := mul_nonneg this this
    rwa [neg_mul_neg] at h2

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem div_top (x : EReal) : Ideal.div x ⊤ = 0 := by
  unfold Ideal.div; rw [if_neg (by simp), EReal.inv_top, mul_zero]

/-- The deviation of a row is never zero. -/
theorem sd_cases (v : Fin 512 → EReal) : ((∀ t, ∃ r : ℝ, v t = r) ∧ ∃ s : ℝ, 0 < s ∧
      Ideal.sqrt (Ideal.div (∑ t, v t * v t) (Ideal.ofBits .f32 1140850688#32) + Ideal.ofBits .f32 841731191#32) = s) ∨
    Ideal.sqrt (Ideal.div (∑ t, v t * v t) (Ideal.ofBits .f32 1140850688#32) + Ideal.ofBits .f32 841731191#32) = ⊤ := by
  obtain ⟨e, he, hl⟩ := lit_eps
  by_cases h : ∀ t, ∃ r : ℝ, v t = r
  · refine Or.inl ⟨h, ?_⟩
    choose g hg using h
    simp only [hg, ← EReal.coe_mul, coe_sum, lit_512, hl]
    rw [div_real _ _ (by norm_num), ← EReal.coe_add]
    have hs : 0 ≤ ∑ i, g i * g i := Finset.sum_nonneg fun i _ => mul_self_nonneg _
    have hp : 0 < (∑ i, g i * g i) / 512 + e := by positivity
    refine ⟨Real.sqrt ((∑ i, g i * g i) / 512 + e), Real.sqrt_pos.2 hp, ?_⟩
    unfold Ideal.sqrt
    exact if_neg (not_lt.2 hp.le)
  · refine Or.inr ?_
    push Not at h
    obtain ⟨t, ht⟩ := h
    have hvt : v t * v t = ⊤ := by
      have hc : ∀ x : EReal, (∀ r : ℝ, x ≠ r) → x * x = ⊤ := by
        intro x hx
        induction x with
        | bot => rfl
        | top => rfl
        | coe r => exact absurd rfl (hx r)
      exact hc _ ht
    rw [sum_top (fun t => v t * v t) (fun i => mul_self_nonneg' _) t hvt, lit_512, hl]
    have : Ideal.div ⊤ ((512 : ℝ) : EReal) = ⊤ := by
      unfold Ideal.div
      rw [if_neg (by norm_num), ← EReal.coe_inv]
      exact EReal.top_mul_coe_of_pos (by norm_num)
    rw [this, EReal.top_add_coe]; rfl

theorem xn_real (X : Fin 64 → Fin 512 → EReal) (i : Fin 64) (t : Fin 512) : ∃ r : ℝ, xn X i t = r := by
  unfold xn sd
  rcases sd_cases (fun t => X i t - mu X i) with ⟨hv, s, hs, h⟩ | h
  · obtain ⟨r, hr⟩ := hv t
    rw [h, hr]
    exact ⟨r / s, div_real _ _ hs.ne'⟩
  · rw [h, div_top]
    exact ⟨0, rfl⟩

/-! ### Correlations -/

/-- A row's spectrum, real part. -/
def re (X : Fin 64 → Fin 512 → EReal) (i : Fin 64) (f : ℕ) : EReal := ∑ s : Fin 512, xn X i s * fre 512 s.val f
/-- A row's spectrum, imaginary part. -/
def im (X : Fin 64 → Fin 512 → EReal) (i : Fin 64) (f : ℕ) : EReal := ∑ s : Fin 512, xn X i s * fim 512 s.val f
/-- The circular cross-correlation of rows `i` and `j` at lag `t`. -/
def cc (X : Fin 64 → Fin 512 → EReal) (i j : Fin 64) (t : Fin 512) : EReal :=
  (∑ f : Fin 257, (re X i f.val * re X j f.val + im X i f.val * im X j f.val) * gre 512 f.val t.val)
    + ∑ f : Fin 257, (im X i f.val * re X j f.val - re X i f.val * im X j f.val) * gim 512 f.val t.val

theorem re_real (X : Fin 64 → Fin 512 → EReal) (i : Fin 64) (f : ℕ) : ∃ r : ℝ, re X i f = r :=
  sum_real _ fun s => by
    obtain ⟨r, h⟩ := xn_real X i s
    rw [h]; exact ⟨r * _, (EReal.coe_mul _ _).symm⟩

theorem im_real (X : Fin 64 → Fin 512 → EReal) (i : Fin 64) (f : ℕ) : ∃ r : ℝ, im X i f = r :=
  sum_real _ fun s => by
    obtain ⟨r, h⟩ := xn_real X i s
    rw [h]; exact ⟨r * _, (EReal.coe_mul _ _).symm⟩

theorem lag_neg (f t : ℕ) (ht : t < 512) : ∃ q, f * ((512 - t) % 512) + f * t = 512 * q := by
  rcases Nat.eq_zero_or_pos t with h | h
  · subst h; exact ⟨0, by simp⟩
  · refine ⟨f, ?_⟩
    rw [Nat.mod_eq_of_lt (by omega), ← Nat.mul_add, Nat.sub_add_cancel (by omega), Nat.mul_comm]

/-- Swapping the rows of a correlation negates its lags. -/
theorem cc_swap (X : Fin 64 → Fin 512 → EReal) (i j : Fin 64) (t : Fin 512) :
    cc X i j t = cc X j i ⟨(512 - t.val) % 512, Nat.mod_lt _ (by omega)⟩ := by
  unfold cc
  congr 1
  · refine Finset.sum_congr rfl fun f _ => ?_
    rw [mul_comm (re X i _), mul_comm (im X i _)]
    congr 1
    unfold gre
    rw [ctR_neg 512 (f.val * ((512 - t.val) % 512)) (f.val * t.val) (by norm_num) (lag_neg _ _ t.isLt)]
  · refine Finset.sum_congr rfl fun f _ => ?_
    obtain ⟨a, ha⟩ := re_real X i f.val
    obtain ⟨b, hb⟩ := im_real X i f.val
    obtain ⟨c, hc⟩ := re_real X j f.val
    obtain ⟨d, hd⟩ := im_real X j f.val
    unfold gim
    simp only
    rw [ha, hb, hc, hd, stR_neg 512 (f.val * ((512 - t.val) % 512)) (f.val * t.val) (by norm_num) (lag_neg _ _ t.isLt)]
    simp only [← EReal.coe_mul, ← EReal.coe_sub]
    congr 1; ring

/-- The correlation with the last frequency taken out of the sums. -/
theorem cc_split (X : Fin 64 → Fin 512 → EReal) (i j : Fin 64) (t : Fin 512) :
    cc X i j t = (∑ f : Fin 256, (re X i f.val * re X j f.val + im X i f.val * im X j f.val) * gre 512 f.val t.val)
      + (∑ f : Fin 256, (im X i f.val * re X j f.val - re X i f.val * im X j f.val) * gim 512 f.val t.val)
      + re X i 256 * re X j 256 * gre 512 256 t.val := by
  have him : ∀ i, im X i 256 = 0 := by
    intro i; unfold im
    refine Finset.sum_eq_zero fun s _ => ?_
    unfold fim; rw [Nat.mul_comm, stR_half, neg_zero, EReal.coe_zero, mul_zero]
  unfold cc
  rw [Fin.sum_univ_castSucc (n := 256), Fin.sum_univ_castSucc (n := 256)]
  simp only [Fin.val_castSucc, Fin.val_last, him]
  rw [mul_zero, add_zero, zero_mul, mul_zero, sub_zero, zero_mul, add_zero, add_right_comm]

/-- The last frequency's table alternates between `1/512` and `-1/512`. -/
theorem gre_half (t : ℕ) : gre 512 256 t = if t % 2 = 0 then Ideal.ofBits .f32 0x3B000000#32 else Ideal.ofBits .f32 0xBB000000#32 := by
  have h1 : Ideal.ofBits .f32 0x3B000000#32 = ((1 / 512 : ℝ) : EReal) := by simp [Ideal.ofBits, Ideal.ieee, -EReal.coe_mul]; norm_num
  have h2 : Ideal.ofBits .f32 0xBB000000#32 = ((-1 / 512 : ℝ) : EReal) := by simp [Ideal.ofBits, Ideal.ieee, -EReal.coe_mul]; norm_num
  unfold gre mult
  rw [ctR_half, h1, h2, if_pos (Or.inr (by norm_num))]
  by_cases h : t % 2 = 0
  · rw [if_pos h, if_pos h]; norm_num
  · rw [if_neg h, if_neg h]; norm_num

/-- The last frequency's spectrum is the row's alternating sum. -/
theorem re_half (X : Fin 64 → Fin 512 → EReal) (i : Fin 64) :
    re X i 256 = ∑ s : Fin 512, xn X i s * (if s.val % 2 = 0 then 1 else Ideal.ofBits .f32 0xBF800000#32) := by
  unfold re fre
  refine Finset.sum_congr rfl fun s _ => ?_
  rw [Nat.mul_comm, ctR_half, ofBits_negOne]
  split <;> norm_num

/-! ### Peaks, leaders and their rows -/

/-- The magnitude of the peak of rows `i` and `j`. -/
def cmx (X : Fin 64 → Fin 512 → EReal) (i j : Fin 64) : EReal := pm (cc X i j)
/-- The lag of the peak, from `1` to `510`. -/
def shf (X : Fin 64 → Fin 512 → EReal) (i j : Fin 64) : ℕ := (pk (cc X i j)).val + 1
/-- The signed peak over the length. -/
def rvl (X : Fin 64 → Fin 512 → EReal) (i j : Fin 64) : EReal := ps (cc X i j)
/-- The `k`-th leading row of row `i`. -/
def ldr (X : Fin 64 → Fin 512 → EReal) (i : Fin 64) (k : ℕ) : Fin 64 := lead (cmx X i) k
/-- Its signed peak. -/
def rk (X : Fin 64 → Fin 512 → EReal) (i : Fin 64) (k : ℕ) : EReal := rvl X i (ldr X i k)
/-- Its lag. -/
def sk (X : Fin 64 → Fin 512 → EReal) (i : Fin 64) (k : ℕ) : ℕ := shf X i (ldr X i k)

theorem sk_pos (X : Fin 64 → Fin 512 → EReal) (i : Fin 64) (k : ℕ) : 1 ≤ sk X i k ∧ sk X i k ≤ 510 := by
  unfold sk shf; have := (pk (cc X i (ldr X i k))).isLt; omega

/-- A normalised row followed by its normalised forecast. -/
def sq (X : Fin 64 → Fin 512 → EReal) (Y : Fin 64 → Fin 96 → EReal) (i : Fin 64) (t : ℕ) : EReal :=
  if h : t < 512 then xn X i ⟨t, h⟩ else if h2 : t - 512 < 96 then yn X Y i ⟨t - 512, h2⟩ else 0

/-- The sign. -/
def sgn (x : EReal) : EReal := if 0 < x then 1 else if x < 0 then Ideal.ofBits .f32 0xBF800000#32 else 0

/-- The window of the `k`-th leading row. -/
def win (X : Fin 64 → Fin 512 → EReal) (Y : Fin 64 → Fin 96 → EReal) (i : Fin 64) (k : ℕ) (h : Fin 96) : EReal :=
  sq X Y (ldr X i k) (512 + h.val - sk X i k) * sgn (rk X i k)

/-! ### Filters -/

/-- The softmax of `n` logits. -/
def smax {n : Nat} (z : Fin n → EReal) (i : Fin n) : EReal :=
  Ideal.div (Ideal.exp (z i - Finset.fold max ⊥ z Finset.univ)) (∑ j, Ideal.exp (z j - Finset.fold max ⊥ z Finset.univ))

/-- The coefficient logits: one, then the leaders' peaks, over the temperature. -/
def zc (X : Fin 64 → Fin 512 → EReal) (T : EReal) (i : Fin 64) (j : Fin 9) : EReal :=
  Ideal.div (if j.val = 0 then 1 else ab (rk X i (j.val - 1))) T
/-- The coefficients. -/
def cf (X : Fin 64 → Fin 512 → EReal) (T : EReal) (i : Fin 64) (k : Fin 8) : EReal := smax (zc X T i) k.succ

/-- The state logits. -/
def zp (X : Fin 64 → Fin 512 → EReal) (cw : Fin 8 → Fin 512 → EReal) (bs : Fin 64 → Fin 8 → EReal) (fb : Fin 8 → EReal) (i : Fin 64) (s : Fin 8) : EReal :=
  fb s + bs i s + ∑ t, X i t * cw s t

/-- The filter bank: a mixture over states and leaders, plus a mixture of biases. -/
def filt (p c : Fin 8 → EReal) (mw : Fin 8 → Fin 6664 → EReal) (mb : Fin 8 → Fin 833 → EReal) (o : Fin 833) : EReal :=
  (∑ k : Fin 8, c k * ∑ s : Fin 8, p s * mw s ⟨k.val * 833 + o.val, by omega⟩) + ∑ s : Fin 8, p s * mb s o

/-! ### Mixing -/

/-- A window's spectrum, real part. -/
def re96 (v : Fin 96 → EReal) (f : Fin 49) : EReal := ∑ h : Fin 96, v h * fre 96 h.val f.val
/-- A window's spectrum, imaginary part. -/
def im96 (v : Fin 96 → EReal) (f : Fin 49) : EReal := ∑ h : Fin 96, v h * fim 96 h.val f.val

/-- The three groups of mixed spectra in a row: filtered leaders, filtered differences, filtered forecast. -/
def mixv (s : Fin 8 → Fin 49 → EReal) (y : Fin 49 → EReal) (fl : Fin 833 → EReal) (o : Fin 147) : EReal :=
  if h : o.val < 49 then ∑ k : Fin 8, s k ⟨o.val, h⟩ * fl ⟨k.val * 49 + o.val, by omega⟩
  else if h2 : o.val < 98 then
    ∑ k : Fin 8, (s k ⟨o.val - 49, by omega⟩ * fl ⟨k.val * 49 + (o.val - 49), by omega⟩ - y ⟨o.val - 49, by omega⟩) * fl ⟨(8 + k.val) * 49 + (o.val - 49), by omega⟩
  else y ⟨o.val - 98, by omega⟩ * fl ⟨784 + (o.val - 98), by omega⟩

/-- The mixed spectrum, real part. -/
def outr (mr mi : Fin 147 → EReal) (wr wi : Fin 49 → Fin 147 → EReal) (br : Fin 49 → EReal) (f : Fin 49) : EReal :=
  (∑ o, mr o * wr f o) + (∑ o, mi o * -(wi f o)) + br f
/-- The mixed spectrum, imaginary part. -/
def outi (mr mi : Fin 147 → EReal) (wr wi : Fin 49 → Fin 147 → EReal) (bi : Fin 49 → EReal) (f : Fin 49) : EReal :=
  (∑ o, mr o * wi f o) + (∑ o, mi o * wr f o) + bi f

/-- The inverse transform of a spectrum. -/
def inv96 (a b : Fin 49 → EReal) (h : Fin 96) : EReal := (∑ f : Fin 49, a f * gre 96 f.val h.val) + ∑ f : Fin 49, b f * gim 96 f.val h.val

/-- The inputs of one batch. -/
structure Inp where
  X : Fin 64 → Fin 512 → EReal
  Y : Fin 64 → Fin 96 → EReal
  T : EReal
  cw : Fin 8 → Fin 512 → EReal
  bs : Fin 64 → Fin 8 → EReal
  fb : Fin 8 → EReal
  mw : Fin 8 → Fin 6664 → EReal
  mb : Fin 8 → Fin 833 → EReal
  wr : Fin 49 → Fin 147 → EReal
  wi : Fin 49 → Fin 147 → EReal
  br : Fin 49 → EReal
  bi : Fin 49 → EReal

/-- Row `i`'s filters. -/
def flt (p : Inp) (i : Fin 64) (o : Fin 833) : EReal := filt (smax (zp p.X p.cw p.bs p.fb i)) (cf p.X p.T i) p.mw p.mb o
/-- Row `i`'s mixed spectra, real part. -/
def mixr (p : Inp) (i : Fin 64) : Fin 147 → EReal := mixv (fun k => re96 (win p.X p.Y i k.val)) (re96 (yn p.X p.Y i)) (flt p i)
/-- Row `i`'s mixed spectra, imaginary part. -/
def mixi (p : Inp) (i : Fin 64) : Fin 147 → EReal := mixv (fun k => im96 (win p.X p.Y i k.val)) (im96 (yn p.X p.Y i)) (flt p i)

/-- What the layer returns for row `i` at step `h` of the horizon. -/
def result (p : Inp) (i : Fin 64) (h : Fin 96) : EReal :=
  (yn p.X p.Y i h + inv96 (outr (mixr p i) (mixi p i) p.wr p.wi p.br) (outi (mixr p i) (mixi p i) p.wr p.wi p.bi) h) * sd p.X i + mu p.X i

end Cert.Proof
-- ==== Proof.Words.lean ====
/- The kernel's search for each correlation row's peak: magnitudes at local peaks, the greatest of them, the word
   that packs its position with the sign there, and the signed peak and lag read from the word. -/
module
public import proofs.«01_k».proof.Proof.Gen.KernelIdeal.Skeleton
public import proofs.«01_k».proof.Proof.Spec
public import Idealize.ShloMosaic.PureOps.Ideal
public import Idealize.ShloMosaic.Lib.Pointwise
@[expose] public section
noncomputable section
namespace Cert.Proof
open Idealize.ShloMosaic Cert.KernelIdeal Cert.KernelIdeal.Gen
set_option maxRecDepth 20000

/-! ### Words -/

/-- The kernel's magnitude is the magnitude. -/
theorem absf_ab (x : EReal) : (FloatOps.absf (F := Ideal) (φ := .f32) x : EReal) = ab x := rfl

/-- The word that packs a peak's position with the sign there. -/
def cw (g : Fin 512 → EReal) : BitVec 32 := BitVec.ofNat 32 (2 * (pk g).val + (ngb g (pk g)).toNat)

/-- The same word when the row is read backwards. -/
def bw (g : Fin 512 → EReal) : BitVec 32 := BitVec.ofNat 32 (2 * (509 - (pk g).val) + (ngb g (pk g)).toNat)

/-- Selecting on both comparisons keeps the magnitude at a peak. -/
theorem select_cam (a b c : EReal) [Decidable (ab a ≤ ab b)] [Decidable (ab c ≤ ab b)] :
    Scalar.select (IntOp.andi (BitVec.ofBool (decide (ab a ≤ ab b))) (BitVec.ofBool (decide (ab c ≤ ab b)))) (ab b) (0 : EReal)
      = (open Classical in if Pk a b c then ab b else 0) := by
  unfold Scalar.select IntOp.andi Pk
  by_cases h1 : ab a ≤ ab b <;> by_cases h2 : ab c ≤ ab b <;> simp [h1, h2]

/-- The low bit of a packed word. -/
theorem code_bit {α : Type} (l : Nat) (d : Bool) (hl : l < 1000) (a b : α) :
    Scalar.select (IntOp.cmpi CmpIPredicate.ne (IntOp.andi (BitVec.ofNat 32 (2 * l + d.toNat)) 1#32) 0#32) a b = if d then a else b := by
  have h : (BitVec.ofNat 32 (2 * l + d.toNat) &&& 1#32) = BitVec.ofNat 32 d.toNat := by
    apply BitVec.eq_of_toNat_eq
    have hb : d.toNat ≤ 1 := by cases d <;> decide
    simp only [BitVec.toNat_and, BitVec.toNat_ofNat, Nat.mod_eq_of_lt (show 2 * l + d.toNat < 2 ^ 32 by omega), Nat.mod_eq_of_lt (show d.toNat < 2 ^ 32 by omega)]
    rw [show (1 % 2 ^ 32 : Nat) = 1 by norm_num, Nat.and_one_is_mod]; omega
  unfold Scalar.select IntOp.cmpi IntOp.andi
  rw [h]
  cases d <;> rfl

/-- The rest of a packed word. -/
theorem code_half (l : Nat) (d : Bool) (hl : l < 1000) :
    IntOp.shrsi ArithUnit.vector (BitVec.ofNat 32 (2 * l + d.toNat)) 1#32 = BitVec.ofNat 32 l := by
  have hb : d.toNat ≤ 1 := by cases d <;> decide
  unfold IntOp.shrsi
  rw [if_pos (by decide)]
  have hm : (BitVec.ofNat 32 (2 * l + d.toNat)).msb = false := by
    rw [BitVec.msb_eq_false_iff_two_mul_lt, BitVec.toNat_ofNat]; omega
  apply BitVec.eq_of_toNat_eq
  simp only [BitVec.sshiftRight', BitVec.sshiftRight_eq_of_msb_false hm, BitVec.toNat_ushiftRight, BitVec.toNat_ofNat, Nat.shiftRight_eq_div_pow]
  norm_num; omega

theorem cw_sign (g : Fin 512 → EReal) :
    Scalar.select (IntOp.cmpi CmpIPredicate.ne (IntOp.andi (cw g) 1#32) 0#32) (0 - pm g) (pm g) * Ideal.ofBits .f32 989855744#32 = ps g := by
  have := (pk g).isLt
  unfold cw ps; rw [code_bit _ _ (by omega)]

theorem bw_sign (g : Fin 512 → EReal) :
    Scalar.select (IntOp.cmpi CmpIPredicate.ne (IntOp.andi (bw g) 1#32) 0#32) (0 - pm g) (pm g) * Ideal.ofBits .f32 989855744#32 = ps g := by
  unfold bw ps; rw [code_bit _ _ (by omega)]

theorem cw_lag (g : Fin 512 → EReal) : IntOp.addi (IntOp.shrsi ArithUnit.vector (cw g) 1#32) 1#32 = BitVec.ofNat 32 ((pk g).val + 1) := by
  have := (pk g).isLt
  unfold cw IntOp.addi; rw [code_half _ _ (by omega), BitVec.ofNat_add]

theorem bw_lag (g : Fin 512 → EReal) :
    IntOp.subi 512#32 (IntOp.addi (IntOp.shrsi ArithUnit.vector (bw g) 1#32) 2#32) = BitVec.ofNat 32 ((pk g).val + 1) := by
  have := (pk g).isLt
  unfold bw IntOp.addi IntOp.subi; rw [code_half _ _ (by omega)]
  apply BitVec.eq_of_toNat_eq
  simp only [BitVec.toNat_sub, BitVec.toNat_add, BitVec.toNat_ofNat]; omega

/-- The least word among the lags that reach the greatest magnitude. -/
theorem fold_cw (g : Fin 512 → EReal) :
    Finset.fold IntOp.minsi (2147483647#32) (fun x : Fin 510 => if pm g ≤ cam g x then
      IntOp.addi (IntOp.muli (BitVec.ofNat 32 x.val) 2#32) (BitVec.setWidth 32 (BitVec.ofBool (ngb g x))) else 1020#32) Finset.univ = cw g := by
  simp only [code_eq]
  exact fold_code_first (cam g) (ngb g)

/-- Read backwards, the row has the greatest magnitude of the row with its lags negated, and the greatest word there. -/
theorem fold_bw (g h : Fin 512 → EReal) (hg : ∀ t : Fin 512, g t = h ⟨(512 - t.val) % 512, Nat.mod_lt _ (by omega)⟩) :
    Finset.fold max (Ideal.ofBits .f32 4286578688#32) (camb g) Finset.univ = pm h ∧
    Finset.fold IntOp.maxsi (2147483648#32) (fun x : Fin 510 => if pm h ≤ camb g x then
      IntOp.addi (IntOp.muli (BitVec.ofNat 32 x.val) 2#32) (BitVec.setWidth 32 (BitVec.ofBool (decide (g ⟨2 + x.val, by omega⟩ < 0)))) else 4294967295#32) Finset.univ = bw h := by
  have e := fold_code_last (camb g) (cam h) (fun x => ngb h x.rev) fun l => camb_eq g h hg l
  have hd : ∀ x : Fin 510, decide (g ⟨2 + x.val, by omega⟩ < 0) = ngb h x.rev := by
    intro x
    unfold ngb; rw [hg]
    congr 3
    apply Fin.ext
    have := x.isLt
    have hr : (x.rev).val = 510 - (x.val + 1) := Fin.val_rev x
    show (512 - (2 + x.val)) % 512 = 1 + x.rev.val
    omega
  refine ⟨(fold_max_amax _).trans e.1, ?_⟩
  have e2 := e.2
  rw [e.1] at e2
  simp only [hd, code_eq]
  refine e2.trans ?_
  simp only [Fin.rev_rev]; rfl

end Cert.Proof
-- ==== Proof.Rows.lean ====
/- The leaders' windows: the one-hot products that gather the leading rows, their signs, and the rolls that shift each
   row by its lag bit by bit. -/
module
public import proofs.«01_k».proof.Proof.Gen.KernelIdeal.Skeleton
public import proofs.«01_k».proof.Proof.Rounds
public import proofs.«01_k».proof.Proof.Words
public import proofs.«01_k».proof.Proof.Spec
public import Idealize.ShloMosaic.PureOps.Ideal
public import Idealize.ShloMosaic.Lib.Pointwise
@[expose] public section
noncomputable section
namespace Cert.Proof
open Idealize.ShloMosaic Cert.KernelIdeal Cert.KernelIdeal.Gen
set_option maxRecDepth 20000

/-- The row of a stacked row. -/
def rowi (q : Fin 512) : Fin 64 := ⟨q.val % 64, Nat.mod_lt _ (by omega)⟩

theorem row_leaf {α : Type} (f : Fin 64 → ℕ → α) (q : Fin 512) (k : ℕ) (i : Fin 64) (h : q.val = 64 * k + i.val) :
    f i k = f (rowi q) (q.val / 64) := by
  have hi := i.isLt
  have h1 : rowi q = i := Fin.ext (by show q.val % 64 = i.val; omega)
  have h2 : q.val / 64 = k := by omega
  rw [h1, h2]

/-! ### The shifts -/

theorem bit_word (s b : ℕ) (hs : s < 512) (hb : b < 9) {α : Type} (x y : α) :
    Scalar.select (IntOp.cmpi CmpIPredicate.ne (IntOp.andi (BitVec.ofNat 32 s) (BitVec.ofNat 32 (2 ^ b))) 0#32) x y = if s / 2 ^ b % 2 = 1 then x else y := by
  have hp : 2 ^ b < 2 ^ 32 := Nat.pow_lt_pow_right (by omega) (by omega)
  have hp0 : 0 < 2 ^ b := Nat.pos_of_ne_zero (by positivity)
  have h : (BitVec.ofNat 32 s &&& BitVec.ofNat 32 (2 ^ b) = 0#32) ↔ ¬ s / 2 ^ b % 2 = 1 := by
    rw [← BitVec.toNat_inj]
    simp only [BitVec.toNat_and, BitVec.toNat_ofNat, Nat.mod_eq_of_lt hp, Nat.mod_eq_of_lt (show s < 2 ^ 32 by omega)]
    have hd : (s / 2 ^ b % 2 = 1) ↔ s.testBit b = true := by rw [Nat.testBit_eq_decide_div_mod_eq]; simp
    rw [hd]
    show s &&& 2 ^ b = 0 ↔ _
    constructor
    · intro h0 ht
      have h1 : (s &&& 2 ^ b).testBit b = true := by rw [Nat.testBit_and, ht, Nat.testBit_two_pow_self]; rfl
      rw [h0, Nat.zero_testBit] at h1
      exact absurd h1 (by decide)
    · intro ht
      apply Nat.eq_of_testBit_eq
      intro i
      rw [Nat.testBit_and, Nat.zero_testBit, Nat.testBit_two_pow]
      by_cases hi : b = i
      · subst hi; simp at ht; simp [ht]
      · simp [hi]
  unfold Scalar.select IntOp.cmpi IntOp.andi
  by_cases e : s / 2 ^ b % 2 = 1
  · have h1 : (BitVec.ofNat 32 s &&& BitVec.ofNat 32 (2 ^ b) != 0#32) = true := by
      rw [bne_iff_ne]; exact fun h2 => h.1 h2 e
    simp only [h1, if_pos e]; rfl
  · have h1 : (BitVec.ofNat 32 s &&& BitVec.ofNat 32 (2 ^ b) != 0#32) = false := by
      rw [bne_eq_false_iff_eq]; exact h.2 e
    simp only [h1, if_neg e]; rfl

/-- One conditional roll: the rows whose word has the bit are rolled by it. -/
def roll (a : IVec S512x1 32) (v : FVec Ideal S512x608 .f32) (m : BitVec 32) : FVec Ideal S512x608 .f32 :=
  select (broadcastTo S512x608 (shapeCast S512x1 (cmpi .ne (andi a (broadcast S512x1 m)) (broadcast S512x1 0#32)) shapeCasts_S512x1_S512x1) broadcasts_S512x1_S512x608)
    (dynamicRotate 1 m none v rotates_S512x608_d1) v

/-- Rolled by the bits below `b`, a row is rolled by its shift's remainder; one more roll takes the next bit. -/
theorem roll_eq (a : IVec S512x1 32) (v : FVec Ideal S512x608 .f32) (s : Fin 512 → ℕ) (B : Fin 512 → ℕ → EReal) (b : ℕ) (hb : b < 9)
    (hs : ∀ q, s q < 512) (ha : ∀ q, a (ix2 q 0) = BitVec.ofNat 32 (s q))
    (hv : ∀ (q : Fin 512) (t : Fin 608), v (ix2 q t) = B q ((t.val + 608 - s q % 2 ^ b) % 608)) (q : Fin 512) (t : Fin 608) :
    roll a v (BitVec.ofNat 32 (2 ^ b)) (ix2 q t) = B q ((t.val + 608 - s q % 2 ^ (b + 1)) % 608) := by
  have hp : 2 ^ b ≤ 2 ^ 8 := Nat.pow_le_pow_right (by omega) (by omega)
  have hm : (BitVec.ofNat 32 (2 ^ b)).toNat % 608 = 2 ^ b := by
    rw [BitVec.toNat_ofNat, Nat.mod_eq_of_lt (show 2 ^ b < 2 ^ 32 by omega), Nat.mod_eq_of_lt (show 2 ^ b < 608 by omega)]
  unfold roll
  pointwise
  rw [ha, bit_word _ _ (hs q) hb, hv, hv]
  dsimp only
  rw [show (BitVec.ofNat 32 (2 ^ b)).toNat % 608 = 2 ^ b from hm]
  have e : s q % 2 ^ (b + 1) = s q % 2 ^ b + 2 ^ b * (s q / 2 ^ b % 2) := by rw [pow_succ, Nat.mod_mul]
  have hl : s q % 2 ^ b < 2 ^ b := Nat.mod_lt _ (by positivity)
  have ht := t.isLt
  have hw2 : s q / 2 ^ b % 2 < 2 := Nat.mod_lt _ (by omega)
  generalize s q % 2 ^ b = u at *
  generalize s q / 2 ^ b % 2 = w at *
  generalize 2 ^ b = m at *
  split
  · rename_i h
    subst h
    rw [e]
    congr 1; omega
  · rename_i h
    have hw : w = 0 := by omega
    subst hw
    rw [e]
    congr 1

/-- The nine rolls. -/
theorem rolls_eq (v842 : IVec S512x1 32) (v855 : FVec Ideal S512x608 .f32) (s : Fin 512 → ℕ) (B : Fin 512 → ℕ → EReal)
    (hs : ∀ q, s q < 512) (ha : ∀ q, v842 (ix2 q 0) = BitVec.ofNat 32 (s q)) (hB : ∀ (q : Fin 512) (t : Fin 608), v855 (ix2 q t) = B q t.val)
    (q : Fin 512) (h : Fin 96) :
    k0_pay167 (F := Ideal) v842 (k0_pay164 (F := Ideal) v842 v855 1#32) (k0_pay165 (F := Ideal) v842 v855 1#32) (k0_pay166 v842) 0#32 (ix2 q h) = B q (512 + h.val - s q) := by
  have e : k0_pay167 (F := Ideal) v842 (k0_pay164 (F := Ideal) v842 v855 1#32) (k0_pay165 (F := Ideal) v842 v855 1#32) (k0_pay166 v842) 0#32
      = extractStridedSlice S512x96 ![0, 512] (roll v842 (roll v842 (roll v842 (roll v842 (roll v842 (roll v842 (roll v842 (roll v842 (roll v842 v855 1#32) 2#32) 4#32) 8#32) 16#32) 32#32) 64#32) 128#32) 256#32) slices_S512x608_o0_512_S512x96 := rfl
  have h0 : ∀ (q : Fin 512) (t : Fin 608), v855 (ix2 q t) = B q ((t.val + 608 - s q % 2 ^ 0) % 608) := by
    intro q t
    rw [hB]; congr 1; have := t.isLt; rw [pow_zero, Nat.mod_one]; omega
  have h1 := roll_eq v842 _ s B 0 (by omega) hs ha h0
  have h2 := roll_eq v842 _ s B 1 (by omega) hs ha h1
  have h3 := roll_eq v842 _ s B 2 (by omega) hs ha h2
  have h4 := roll_eq v842 _ s B 3 (by omega) hs ha h3
  have h5 := roll_eq v842 _ s B 4 (by omega) hs ha h4
  have h6 := roll_eq v842 _ s B 5 (by omega) hs ha h5
  have h7 := roll_eq v842 _ s B 6 (by omega) hs ha h6
  have h8 := roll_eq v842 _ s B 7 (by omega) hs ha h7
  have h9 := roll_eq v842 _ s B 8 (by omega) hs ha h8
  rw [e]
  generalize hG : roll v842 (roll v842 (roll v842 (roll v842 (roll v842 (roll v842 (roll v842 (roll v842 (roll v842 v855 1#32) 2#32) 4#32) 8#32) 16#32) 32#32) 64#32) 128#32) 256#32 = G
  have h9' : ∀ (q : Fin 512) (t : Fin 608), G (ix2 q t) = B q ((t.val + 608 - s q % 2 ^ (8 + 1)) % 608) := fun q t => (congrFun hG.symm (ix2 q t)).trans (h9 q t)
  pointwise
  rw [h9']
  congr 1
  have := hs q
  have hh := h.isLt
  rw [Nat.mod_eq_of_lt (show s q < 2 ^ (8 + 1) by omega)]
  first | omega | (dsimp only; omega)

/-! ### The stacked rows -/

/-- One where the column is the leader, zero elsewhere. -/
def onek (x l : Fin 64) : EReal := if x = l then 1 else 0

theorem hot_comm (x l : Fin 64) : IntOp.cmpi CmpIPredicate.eq (BitVec.ofNat 32 l.val) (BitVec.ofNat 32 x.val) = if x = l then 1#1 else 0#1 := by
  have h := hot_select x l (1#1) (0#1)
  rw [← h]
  have hc : IntOp.cmpi CmpIPredicate.eq (BitVec.ofNat 32 l.val) (BitVec.ofNat 32 x.val) = hot x l := by
    unfold hot IntOp.cmpi
    dsimp only
    rw [Bool.beq_comm]
  rw [hc]
  generalize hot x l = b
  revert b; decide

theorem hot_real (x l : Fin 64) (w z : BitVec 32) (hw : w = BitVec.ofNat 32 l.val) (hz : z = BitVec.ofNat 32 x.val) :
    (FloatOps.sitofp (F := Ideal) .f32 (BitVec.setWidth 32 (IntOp.cmpi CmpIPredicate.eq w z)) : EReal) = onek x l := by
  rw [hw, hz, hot_comm]
  unfold onek
  show (((BitVec.setWidth 32 (if x = l then 1#1 else 0#1)).toInt : ℝ) : EReal) = _
  by_cases h : x = l
  · rw [if_pos h, if_pos h]; norm_num
  · rw [if_neg h, if_neg h]; norm_num

theorem hot_leaf (L : Fin 64 → ℕ → Fin 64) (q : Fin 512) (k : ℕ) (i x : Fin 64) (w z : BitVec 32) (hw : w = BitVec.ofNat 32 (L i k).val)
    (hz : z = BitVec.ofNat 32 x.val) (h : q.val = 64 * k + i.val) :
    (FloatOps.sitofp (F := Ideal) .f32 (BitVec.setWidth 32 (IntOp.cmpi CmpIPredicate.eq w z)) : EReal) = onek x (L (rowi q) (q.val / 64)) := by
  rw [← row_leaf L q k i h]; exact hot_real x _ w z hw hz

theorem sum_onek (l : Fin 64) (f : Fin 64 → EReal) : ∑ x, onek x l * f x = f l := by
  unfold onek; simp

theorem sgn_eq (r : EReal) : (if 0 < ab r then (if r < 0 then Ideal.ofBits .f32 3212836864#32 else 1) else r) = sgn r := by
  unfold sgn
  rcases lt_trichotomy r 0 with h | h | h
  · have : 0 < ab r := lt_of_lt_of_le (by rwa [EReal.neg_pos]) (le_max_right r (-r))
    rw [if_pos this, if_pos h, if_neg (not_lt.2 h.le), if_pos h]
  · subst h
    simp [ab]
  · have : 0 < ab r := lt_of_lt_of_le h (le_max_left r (-r))
    rw [if_pos this, if_neg (not_lt.2 h.le), if_pos h]

/-- The stacked one-hot rows. -/
def onehots (v648 : IVec S64x64 32) (v656 v676 v696 v716 v736 v756 v776 v796 : IVec S64x1 32) : FVec Ideal S512x64 .f32 :=
  concatenate S512x64 0 [⟨S64x64, sitofp .f32 (extui 32 (cmpi .eq (broadcastTo S64x64 v656 broadcasts_S64x1_S64x64) v648) natLt_1_32)⟩, ⟨S64x64, sitofp .f32 (extui 32 (cmpi .eq (broadcastTo S64x64 v676 broadcasts_S64x1_S64x64) v648) natLt_1_32)⟩, ⟨S64x64, sitofp .f32 (extui 32 (cmpi .eq (broadcastTo S64x64 v696 broadcasts_S64x1_S64x64) v648) natLt_1_32)⟩, ⟨S64x64, sitofp .f32 (extui 32 (cmpi .eq (broadcastTo S64x64 v716 broadcasts_S64x1_S64x64) v648) natLt_1_32)⟩, ⟨S64x64, sitofp .f32 (extui 32 (cmpi .eq (broadcastTo S64x64 v736 broadcasts_S64x1_S64x64) v648) natLt_1_32)⟩, ⟨S64x64, sitofp .f32 (extui 32 (cmpi .eq (broadcastTo S64x64 v756 broadcasts_S64x1_S64x64) v648) natLt_1_32)⟩, ⟨S64x64, sitofp .f32 (extui 32 (cmpi .eq (broadcastTo S64x64 v776 broadcasts_S64x1_S64x64) v648) natLt_1_32)⟩, ⟨S64x64, sitofp .f32 (extui 32 (cmpi .eq (broadcastTo S64x64 v796 broadcasts_S64x1_S64x64) v648) natLt_1_32)⟩] concatenates_S64x64_S64x64_S64x64_S64x64_S64x64_S64x64_S64x64_S64x64_S512x64_d0

theorem onehots_eq (v648 : IVec S64x64 32) (v656 v676 v696 v716 v736 v756 v776 v796 : IVec S64x1 32) (L : Fin 64 → ℕ → Fin 64)
    (h648 : ∀ i j : Fin 64, v648 (ix2 i j) = BitVec.ofNat 32 j.val)
    (h656 : ∀ i : Fin 64, v656 (ix2 i 0) = BitVec.ofNat 32 (L i 0).val)
    (h676 : ∀ i : Fin 64, v676 (ix2 i 0) = BitVec.ofNat 32 (L i 1).val)
    (h696 : ∀ i : Fin 64, v696 (ix2 i 0) = BitVec.ofNat 32 (L i 2).val)
    (h716 : ∀ i : Fin 64, v716 (ix2 i 0) = BitVec.ofNat 32 (L i 3).val)
    (h736 : ∀ i : Fin 64, v736 (ix2 i 0) = BitVec.ofNat 32 (L i 4).val)
    (h756 : ∀ i : Fin 64, v756 (ix2 i 0) = BitVec.ofNat 32 (L i 5).val)
    (h776 : ∀ i : Fin 64, v776 (ix2 i 0) = BitVec.ofNat 32 (L i 6).val)
    (h796 : ∀ i : Fin 64, v796 (ix2 i 0) = BitVec.ofNat 32 (L i 7).val)
    (q : Fin 512) (x : Fin 64) : onehots v648 v656 v676 v696 v716 v736 v756 v776 v796 (ix2 q x) = onek x (L (rowi q) (q.val / 64)) := by
  unfold onehots
  have hq := q.isLt
  pointwise
  split
  · exact hot_leaf L q 0 _ x _ _ (h656 _) (h648 _ _) (by first | omega | (dsimp only; omega))
  split
  · exact hot_leaf L q 1 _ x _ _ (h676 _) (h648 _ _) (by first | omega | (dsimp only; omega))
  split
  · exact hot_leaf L q 2 _ x _ _ (h696 _) (h648 _ _) (by first | omega | (dsimp only; omega))
  split
  · exact hot_leaf L q 3 _ x _ _ (h716 _) (h648 _ _) (by first | omega | (dsimp only; omega))
  split
  · exact hot_leaf L q 4 _ x _ _ (h736 _) (h648 _ _) (by first | omega | (dsimp only; omega))
  split
  · exact hot_leaf L q 5 _ x _ _ (h756 _) (h648 _ _) (by first | omega | (dsimp only; omega))
  split
  · exact hot_leaf L q 6 _ x _ _ (h776 _) (h648 _ _) (by first | omega | (dsimp only; omega))
  · exact hot_leaf L q 7 _ x _ _ (h796 _) (h648 _ _) (by first | omega | (dsimp only; omega))

/-- The stacked signed peaks. -/
def peaks (v666 v686 v706 v726 v746 v766 v786 v806 : FVec Ideal S64x1 .f32) : FVec Ideal S512x1 .f32 :=
  concatenate S512x1 0 [⟨S64x1, v666⟩, ⟨S64x1, v686⟩, ⟨S64x1, v706⟩, ⟨S64x1, v726⟩, ⟨S64x1, v746⟩, ⟨S64x1, v766⟩, ⟨S64x1, v786⟩, ⟨S64x1, v806⟩] concatenates_S64x1_S64x1_S64x1_S64x1_S64x1_S64x1_S64x1_S64x1_S512x1_d0

theorem peaks_eq (v666 v686 v706 v726 v746 v766 v786 v806 : FVec Ideal S64x1 .f32) (r : Fin 64 → ℕ → EReal)
    (h666 : ∀ i : Fin 64, v666 (ix2 i 0) = r i 0)
    (h686 : ∀ i : Fin 64, v686 (ix2 i 0) = r i 1)
    (h706 : ∀ i : Fin 64, v706 (ix2 i 0) = r i 2)
    (h726 : ∀ i : Fin 64, v726 (ix2 i 0) = r i 3)
    (h746 : ∀ i : Fin 64, v746 (ix2 i 0) = r i 4)
    (h766 : ∀ i : Fin 64, v766 (ix2 i 0) = r i 5)
    (h786 : ∀ i : Fin 64, v786 (ix2 i 0) = r i 6)
    (h806 : ∀ i : Fin 64, v806 (ix2 i 0) = r i 7)
    (q : Fin 512) : peaks v666 v686 v706 v726 v746 v766 v786 v806 (ix2 q 0) = r (rowi q) (q.val / 64) := by
  unfold peaks
  have hq := q.isLt
  pointwise
  split
  · exact (h666 _).trans (row_leaf r q 0 _ (by first | omega | (dsimp only; omega)))
  split
  · exact (h686 _).trans (row_leaf r q 1 _ (by first | omega | (dsimp only; omega)))
  split
  · exact (h706 _).trans (row_leaf r q 2 _ (by first | omega | (dsimp only; omega)))
  split
  · exact (h726 _).trans (row_leaf r q 3 _ (by first | omega | (dsimp only; omega)))
  split
  · exact (h746 _).trans (row_leaf r q 4 _ (by first | omega | (dsimp only; omega)))
  split
  · exact (h766 _).trans (row_leaf r q 5 _ (by first | omega | (dsimp only; omega)))
  split
  · exact (h786 _).trans (row_leaf r q 6 _ (by first | omega | (dsimp only; omega)))
  · exact (h806 _).trans (row_leaf r q 7 _ (by first | omega | (dsimp only; omega)))

/-- The stacked lags. -/
theorem pay162_eq (v662 : IVec S64x1 32) (v682 : IVec S64x1 32) (v702 : IVec S64x1 32) (v722 : IVec S64x1 32) (v742 : IVec S64x1 32) (v762 : IVec S64x1 32) (v782 : IVec S64x1 32) (v800 : IVec S64x64 32) (s : Fin 64 → ℕ → ℕ)
    (h662 : ∀ i : Fin 64, v662 (ix2 i 0) = BitVec.ofNat 32 (s i 0))
    (h682 : ∀ i : Fin 64, v682 (ix2 i 0) = BitVec.ofNat 32 (s i 1))
    (h702 : ∀ i : Fin 64, v702 (ix2 i 0) = BitVec.ofNat 32 (s i 2))
    (h722 : ∀ i : Fin 64, v722 (ix2 i 0) = BitVec.ofNat 32 (s i 3))
    (h742 : ∀ i : Fin 64, v742 (ix2 i 0) = BitVec.ofNat 32 (s i 4))
    (h762 : ∀ i : Fin 64, v762 (ix2 i 0) = BitVec.ofNat 32 (s i 5))
    (h782 : ∀ i : Fin 64, v782 (ix2 i 0) = BitVec.ofNat 32 (s i 6))
    (h800 : ∀ i : Fin 64, Finset.fold IntOp.addi (0#32) (fun x : Fin 64 => v800 (ix2 i x)) Finset.univ = BitVec.ofNat 32 (s i 7))
    (q : Fin 512) : k0_pay162 v662 v682 v702 v722 v742 v762 v782 v800 (ix2 q 0) = BitVec.ofNat 32 (s (rowi q) (q.val / 64)) := by
  unfold k0_pay162
  have hq := q.isLt
  pointwise
  split
  · exact (h662 _).trans (row_leaf (fun i k => BitVec.ofNat 32 (s i k)) q 0 _ (by first | omega | (dsimp only; omega)))
  split
  · exact (h682 _).trans (row_leaf (fun i k => BitVec.ofNat 32 (s i k)) q 1 _ (by first | omega | (dsimp only; omega)))
  split
  · exact (h702 _).trans (row_leaf (fun i k => BitVec.ofNat 32 (s i k)) q 2 _ (by first | omega | (dsimp only; omega)))
  split
  · exact (h722 _).trans (row_leaf (fun i k => BitVec.ofNat 32 (s i k)) q 3 _ (by first | omega | (dsimp only; omega)))
  split
  · exact (h742 _).trans (row_leaf (fun i k => BitVec.ofNat 32 (s i k)) q 4 _ (by first | omega | (dsimp only; omega)))
  split
  · exact (h762 _).trans (row_leaf (fun i k => BitVec.ofNat 32 (s i k)) q 5 _ (by first | omega | (dsimp only; omega)))
  split
  · exact (h782 _).trans (row_leaf (fun i k => BitVec.ofNat 32 (s i k)) q 6 _ (by first | omega | (dsimp only; omega)))
  · exact (h800 _).trans (row_leaf (fun i k => BitVec.ofNat 32 (s i k)) q 7 _ (by first | omega | (dsimp only; omega)))

/-- The stacked leading rows times their signs. -/
theorem pay163_eq (v19 : FVec Ideal S64x512 .f32) (v23 : FVec Ideal S64x96 .f32) (v647 : FVec Ideal S64x64 .f32) (v648 : IVec S64x64 32) (v656 : IVec S64x1 32) (v666 : FVec Ideal S64x1 .f32) (v676 : IVec S64x1 32) (v686 : FVec Ideal S64x1 .f32) (v696 : IVec S64x1 32) (v706 : FVec Ideal S64x1 .f32) (v716 : IVec S64x1 32) (v726 : FVec Ideal S64x1 .f32) (v736 : IVec S64x1 32) (v746 : FVec Ideal S64x1 .f32) (v756 : IVec S64x1 32) (v766 : FVec Ideal S64x1 .f32) (v776 : IVec S64x1 32) (v786 : FVec Ideal S64x1 .f32) (v796 : IVec S64x1 32) (v798 : IVec S64x64 1) (L : Fin 64 → ℕ → Fin 64) (r : Fin 64 → ℕ → EReal) (A : Fin 64 → ℕ → EReal)
    (h19 : ∀ (i : Fin 64) (t : Fin 512), v19 (ix2 i t) = A i t.val) (h23 : ∀ (i : Fin 64) (t : Fin 96), v23 (ix2 i t) = A i (512 + t.val))
    (h648 : ∀ i j : Fin 64, v648 (ix2 i j) = BitVec.ofNat 32 j.val)
    (h656 : ∀ i : Fin 64, v656 (ix2 i 0) = BitVec.ofNat 32 (L i 0).val)
    (h676 : ∀ i : Fin 64, v676 (ix2 i 0) = BitVec.ofNat 32 (L i 1).val)
    (h696 : ∀ i : Fin 64, v696 (ix2 i 0) = BitVec.ofNat 32 (L i 2).val)
    (h716 : ∀ i : Fin 64, v716 (ix2 i 0) = BitVec.ofNat 32 (L i 3).val)
    (h736 : ∀ i : Fin 64, v736 (ix2 i 0) = BitVec.ofNat 32 (L i 4).val)
    (h756 : ∀ i : Fin 64, v756 (ix2 i 0) = BitVec.ofNat 32 (L i 5).val)
    (h776 : ∀ i : Fin 64, v776 (ix2 i 0) = BitVec.ofNat 32 (L i 6).val)
    (h796 : ∀ i : Fin 64, v796 (ix2 i 0) = BitVec.ofNat 32 (L i 7).val)
    (h666 : ∀ i : Fin 64, v666 (ix2 i 0) = r i 0)
    (h686 : ∀ i : Fin 64, v686 (ix2 i 0) = r i 1)
    (h706 : ∀ i : Fin 64, v706 (ix2 i 0) = r i 2)
    (h726 : ∀ i : Fin 64, v726 (ix2 i 0) = r i 3)
    (h746 : ∀ i : Fin 64, v746 (ix2 i 0) = r i 4)
    (h766 : ∀ i : Fin 64, v766 (ix2 i 0) = r i 5)
    (h786 : ∀ i : Fin 64, v786 (ix2 i 0) = r i 6)
    (h806 : ∀ i : Fin 64, k0_pay161 (F := Ideal) v647 v798 (ix2 i 0) = r i 7)
    (q : Fin 512) (t : Fin 608) : k0_pay163 (F := Ideal) v19 v23 v647 v648 v656 v666 v676 v686 v696 v706 v716 v726 v736 v746 v756 v766 v776 v786 v796 v798 (ix2 q t) = A (L (rowi q) (q.val / 64)) t.val * sgn (r (rowi q) (q.val / 64)) := by
  have e : k0_pay163 (F := Ideal) v19 v23 v647 v648 v656 v666 v676 v686 v696 v706 v716 v726 v736 v746 v756 v766 v776 v786 v796 v798 = mulf (matmul dot_S512x64_S64x608_S512x608_1_0_0_1_n_n (some .fp32) (onehots v648 v656 v676 v696 v716 v736 v756 v776 v796)
      (concatenate S64x608 1 [⟨S64x512, v19⟩, ⟨S64x96, v23⟩] concatenates_S64x512_S64x96_S64x608_d1) (constant S512x608 .f32 0x00000000#32))
      (broadcastTo S512x608 (select (cmpf .ogt (absf (peaks v666 v686 v706 v726 v746 v766 v786 (k0_pay161 (F := Ideal) v647 v798))) (broadcast S512x1 (Scalar.ofBits .f32 0x00000000#32)))
        (select (cmpf .olt (peaks v666 v686 v706 v726 v746 v766 v786 (k0_pay161 (F := Ideal) v647 v798)) (constant S512x1 .f32 0x00000000#32)) (constant S512x1 .f32 0xBF800000#32) (constant S512x1 .f32 0x3F800000#32))
        (peaks v666 v686 v706 v726 v746 v766 v786 (k0_pay161 (F := Ideal) v647 v798))) broadcasts_S512x1_S512x608) := rfl
  have h1 := onehots_eq v648 v656 v676 v696 v716 v736 v756 v776 v796 L h648 h656 h676 h696 h716 h736 h756 h776 h796
  have h2 := peaks_eq v666 v686 v706 v726 v746 v766 v786 (k0_pay161 (F := Ideal) v647 v798) r h666 h686 h706 h726 h746 h766 h786 h806
  rw [e]
  generalize onehots v648 v656 v676 v696 v716 v736 v756 v776 v796 = O at h1 ⊢
  generalize peaks v666 v686 v706 v726 v746 v766 v786 (k0_pay161 (F := Ideal) v647 v798) = P at h2 ⊢
  pointwise [dot_S512x64_S64x608_S512x608_1_0_0_1_n_n]
  have h3 : ∀ x : Fin 64, (if h : t.val < 512 then v19 (ix2 x ⟨t.val, h⟩) else v23 (ix2 x ⟨t.val - 512, by omega⟩)) = A x t.val := by
    intro x
    split
    · exact h19 _ _
    · rename_i h
      rw [h23]; congr 1; dsimp only; omega
  simp only [h1, h2, h3, absf_ab, sgn_eq]
  rw [sum_onek _ fun x => A x t.val]
end Cert.Proof
-- ==== Proof.Mixing.lean ====
/- The mixing: the windows' and the forecast's spectra through the filters, the complex mixing matrix, and the inverse
   transform. -/
module
public import proofs.«01_k».proof.Proof.Gen.KernelIdeal.Skeleton
public import proofs.«01_k».proof.Proof.Rows
public import Idealize.ShloMosaic.PureOps.Ideal
public import Idealize.ShloMosaic.Lib.Pointwise
@[expose] public section
noncomputable section
namespace Cert.Proof
open Idealize.ShloMosaic Cert.KernelIdeal Cert.KernelIdeal.Gen
set_option maxRecDepth 20000

/-- The horizon's spectra: real parts in the first 49 columns. -/
theorem pay172_eq (v23 : FVec Ideal S64x96 .f32) (v978 : Vec Ideal S96x98 .f32) (Y : Fin 64 → Fin 96 → EReal) (h23 : ∀ i h, v23 (ix2 i h) = Y i h)
    (h978 : ∀ (h : Fin 96) (f : Fin 49), v978 (ix2 h ⟨f.val, by omega⟩) = fre 96 h.val f.val) (i : Fin 64) (f : Fin 49) :
    k0_pay172 (F := Ideal) v23 v978 (ix2 i f) = re96 (Y i) f := by
  unfold k0_pay172 k0_pay171
  pointwise [dot_S64x96_S96x98_S64x98_1_0_0_1_n_n]
  exact Finset.sum_congr rfl fun x _ => congrArg₂ (· * ·) (h23 i x) (h978 x f)

theorem pay173_eq (v23 : FVec Ideal S64x96 .f32) (v978 : Vec Ideal S96x98 .f32) (Y : Fin 64 → Fin 96 → EReal) (h23 : ∀ i h, v23 (ix2 i h) = Y i h)
    (h978 : ∀ (h : Fin 96) (f : Fin 49), v978 (ix2 h ⟨49 + f.val, by omega⟩) = fim 96 h.val f.val) (i : Fin 64) (f : Fin 49) :
    k0_pay173 (F := Ideal) v23 v978 (ix2 i f) = im96 (Y i) f := by
  unfold k0_pay173 k0_pay171
  pointwise [dot_S64x96_S96x98_S64x98_1_0_0_1_n_n]
  exact Finset.sum_congr rfl fun x _ => congrArg₂ (· * ·) (h23 i x) (h978 x f)

/-- The windows' spectra. -/
theorem pay174_re (v928 : FVec Ideal S512x96 .f32) (v983 : Vec Ideal S96x98 .f32) (W : Fin 64 → ℕ → Fin 96 → EReal)
    (h928 : ∀ q h, v928 (ix2 q h) = W (rowi q) (q.val / 64) h)
    (h983 : ∀ (h : Fin 96) (f : Fin 49), v983 (ix2 h ⟨f.val, by omega⟩) = fre 96 h.val f.val) (q : Fin 512) (k : ℕ) (i : Fin 64) (f : Fin 49) (hq : q.val = 64 * k + i.val) :
    k0_pay174 (F := Ideal) v928 v983 (ix2 q ⟨f.val, by omega⟩) = re96 (W i k) f := by
  rw [row_leaf W q k i hq]
  unfold k0_pay174
  pointwise [dot_S512x96_S96x98_S512x98_1_0_0_1_n_n]
  exact Finset.sum_congr rfl fun x _ => congrArg₂ (· * ·) (h928 q x) (h983 x f)

theorem pay174_im (v928 : FVec Ideal S512x96 .f32) (v983 : Vec Ideal S96x98 .f32) (W : Fin 64 → ℕ → Fin 96 → EReal)
    (h928 : ∀ q h, v928 (ix2 q h) = W (rowi q) (q.val / 64) h)
    (h983 : ∀ (h : Fin 96) (f : Fin 49), v983 (ix2 h ⟨49 + f.val, by omega⟩) = fim 96 h.val f.val) (q : Fin 512) (k : ℕ) (i : Fin 64) (f : Fin 49) (hq : q.val = 64 * k + i.val) :
    k0_pay174 (F := Ideal) v928 v983 (ix2 q ⟨49 + f.val, by omega⟩) = im96 (W i k) f := by
  rw [row_leaf W q k i hq]
  unfold k0_pay174
  pointwise [dot_S512x96_S96x98_S512x98_1_0_0_1_n_n]
  exact Finset.sum_congr rfl fun x _ => congrArg₂ (· * ·) (h928 q x) (h983 x f)

theorem term1 (d s : EReal) (v977 : FVec Ideal S64x833 .f32) (i : Fin 64) (x y : Fin 833) (hd : d = s) (hx : x.val = y.val) :
    d * v977 (ix2 i x) = s * v977 (ix2 i y) := by rw [hd, Fin.ext hx]

theorem term2 (d s y : EReal) (v977 : FVec Ideal S64x833 .f32) (i : Fin 64) (x x' z z' : Fin 833) (hd : d = s) (hx : x.val = x'.val) (hz : z.val = z'.val) :
    (d * v977 (ix2 i x) - y) * v977 (ix2 i z) = (s * v977 (ix2 i x') - y) * v977 (ix2 i z') := by rw [hd, Fin.ext hx, Fin.ext hz]

theorem pay212_eq (v977 : FVec Ideal S64x833 .f32) (v928 : FVec Ideal S512x96 .f32) (v983 : Vec Ideal S96x98 .f32) (S : Fin 64 → ℕ → Fin 49 → EReal)
    (hD : ∀ (q : Fin 512) (k : ℕ) (i : Fin 64) (f : Fin 49), q.val = 64 * k + i.val → k0_pay174 (F := Ideal) v928 v983 (ix2 q ⟨f.val, by omega⟩) = S i k f) (i : Fin 64) (f : Fin 49) :
    k0_pay212 (F := Ideal) v977 (k0_pay174 (F := Ideal) v928 v983) (k0_pay194 (F := Ideal) v928 v977 v983) (ix2 i f) = ∑ k : Fin 8, S i k.val f * v977 (ix2 i ⟨k.val * 49 + f.val, by omega⟩) := by
  unfold k0_pay212 k0_pay194 k0_pay177 k0_pay181 k0_pay185 k0_pay192 k0_pay197 k0_pay201 k0_pay205 k0_pay210 k0_pay175 k0_pay179 k0_pay183 k0_pay190 k0_pay195 k0_pay199 k0_pay203 k0_pay208
  generalize k0_pay174 (F := Ideal) v928 v983 = D at hD ⊢
  pointwise
  rw [Fin.sum_univ_eight]
  exact (congrArg₂ HAdd.hAdd (congrArg₂ HAdd.hAdd (congrArg₂ HAdd.hAdd (congrArg₂ HAdd.hAdd (congrArg₂ HAdd.hAdd (congrArg₂ HAdd.hAdd (congrArg₂ HAdd.hAdd (term1 _ _ v977 i _ _ (hD _ 0 i f (by first | omega | (simp; done) | (dsimp only; omega) | (simp; omega))) (by first | omega | (simp; done) | (dsimp only; omega) | (simp; omega))) (term1 _ _ v977 i _ _ (hD _ 1 i f (by first | omega | (simp; done) | (dsimp only; omega) | (simp; omega))) (by first | omega | (simp; done) | (dsimp only; omega) | (simp; omega)))) (term1 _ _ v977 i _ _ (hD _ 2 i f (by first | omega | (simp; done) | (dsimp only; omega) | (simp; omega))) (by first | omega | (simp; done) | (dsimp only; omega) | (simp; omega)))) (term1 _ _ v977 i _ _ (hD _ 3 i f (by first | omega | (simp; done) | (dsimp only; omega) | (simp; omega))) (by first | omega | (simp; done) | (dsimp only; omega) | (simp; omega)))) (term1 _ _ v977 i _ _ (hD _ 4 i f (by first | omega | (simp; done) | (dsimp only; omega) | (simp; omega))) (by first | omega | (simp; done) | (dsimp only; omega) | (simp; omega)))) (term1 _ _ v977 i _ _ (hD _ 5 i f (by first | omega | (simp; done) | (dsimp only; omega) | (simp; omega))) (by first | omega | (simp; done) | (dsimp only; omega) | (simp; omega)))) (term1 _ _ v977 i _ _ (hD _ 6 i f (by first | omega | (simp; done) | (dsimp only; omega) | (simp; omega))) (by first | omega | (simp; done) | (dsimp only; omega) | (simp; omega)))) (term1 _ _ v977 i _ _ (hD _ 7 i f (by first | omega | (simp; done) | (dsimp only; omega) | (simp; omega))) (by first | omega | (simp; done) | (dsimp only; omega) | (simp; omega))))

theorem pay213_eq (v977 : FVec Ideal S64x833 .f32) (v928 : FVec Ideal S512x96 .f32) (v983 : Vec Ideal S96x98 .f32) (S : Fin 64 → ℕ → Fin 49 → EReal)
    (hD : ∀ (q : Fin 512) (k : ℕ) (i : Fin 64) (f : Fin 49), q.val = 64 * k + i.val → k0_pay174 (F := Ideal) v928 v983 (ix2 q ⟨49 + f.val, by omega⟩) = S i k f) (i : Fin 64) (f : Fin 49) :
    k0_pay213 (F := Ideal) v977 (k0_pay174 (F := Ideal) v928 v983) (k0_pay187 (F := Ideal) v928 v977 v983) (k0_pay193 (F := Ideal) v928 v977 v983) (ix2 i f) = ∑ k : Fin 8, S i k.val f * v977 (ix2 i ⟨k.val * 49 + f.val, by omega⟩) := by
  unfold k0_pay213 k0_pay187 k0_pay178 k0_pay182 k0_pay186 k0_pay193 k0_pay198 k0_pay202 k0_pay206 k0_pay211 k0_pay175 k0_pay179 k0_pay183 k0_pay190 k0_pay195 k0_pay199 k0_pay203 k0_pay208
  generalize k0_pay174 (F := Ideal) v928 v983 = D at hD ⊢
  pointwise
  rw [Fin.sum_univ_eight]
  exact (congrArg₂ HAdd.hAdd (congrArg₂ HAdd.hAdd (congrArg₂ HAdd.hAdd (congrArg₂ HAdd.hAdd (congrArg₂ HAdd.hAdd (congrArg₂ HAdd.hAdd (congrArg₂ HAdd.hAdd (term1 _ _ v977 i _ _ (hD _ 0 i f (by first | omega | (simp; done) | (dsimp only; omega) | (simp; omega))) (by first | omega | (simp; done) | (dsimp only; omega) | (simp; omega))) (term1 _ _ v977 i _ _ (hD _ 1 i f (by first | omega | (simp; done) | (dsimp only; omega) | (simp; omega))) (by first | omega | (simp; done) | (dsimp only; omega) | (simp; omega)))) (term1 _ _ v977 i _ _ (hD _ 2 i f (by first | omega | (simp; done) | (dsimp only; omega) | (simp; omega))) (by first | omega | (simp; done) | (dsimp only; omega) | (simp; omega)))) (term1 _ _ v977 i _ _ (hD _ 3 i f (by first | omega | (simp; done) | (dsimp only; omega) | (simp; omega))) (by first | omega | (simp; done) | (dsimp only; omega) | (simp; omega)))) (term1 _ _ v977 i _ _ (hD _ 4 i f (by first | omega | (simp; done) | (dsimp only; omega) | (simp; omega))) (by first | omega | (simp; done) | (dsimp only; omega) | (simp; omega)))) (term1 _ _ v977 i _ _ (hD _ 5 i f (by first | omega | (simp; done) | (dsimp only; omega) | (simp; omega))) (by first | omega | (simp; done) | (dsimp only; omega) | (simp; omega)))) (term1 _ _ v977 i _ _ (hD _ 6 i f (by first | omega | (simp; done) | (dsimp only; omega) | (simp; omega))) (by first | omega | (simp; done) | (dsimp only; omega) | (simp; omega)))) (term1 _ _ v977 i _ _ (hD _ 7 i f (by first | omega | (simp; done) | (dsimp only; omega) | (simp; omega))) (by first | omega | (simp; done) | (dsimp only; omega) | (simp; omega))))

theorem pay214_eq (v977 : FVec Ideal S64x833 .f32) (v928 : FVec Ideal S512x96 .f32) (v983 : Vec Ideal S96x98 .f32) (v98 : FVec Ideal S64x49 .f32) (S : Fin 64 → ℕ → Fin 49 → EReal)
    (hD : ∀ (q : Fin 512) (k : ℕ) (i : Fin 64) (f : Fin 49), q.val = 64 * k + i.val → k0_pay174 (F := Ideal) v928 v983 (ix2 q ⟨f.val, by omega⟩) = S i k f) (i : Fin 64) (f : Fin 49) :
    k0_pay214 (F := Ideal) v977 v98 (k0_pay174 (F := Ideal) v928 v983) (k0_pay188 (F := Ideal) v928 v977 v98 v983) (k0_pay191 (F := Ideal) v977) (k0_pay192 (F := Ideal) v928 v977 v983) (ix2 i f) = ∑ k : Fin 8, (S i k.val f * v977 (ix2 i ⟨k.val * 49 + f.val, by omega⟩) - v98 (ix2 i f)) * v977 (ix2 i ⟨(8 + k.val) * 49 + f.val, by omega⟩) := by
  unfold k0_pay214 k0_pay188 k0_pay177 k0_pay181 k0_pay185 k0_pay192 k0_pay197 k0_pay201 k0_pay205 k0_pay210 k0_pay175 k0_pay179 k0_pay183 k0_pay190 k0_pay195 k0_pay199 k0_pay203 k0_pay208 k0_pay176 k0_pay180 k0_pay184 k0_pay191 k0_pay196 k0_pay200 k0_pay204 k0_pay209
  generalize k0_pay174 (F := Ideal) v928 v983 = D at hD ⊢
  pointwise
  rw [Fin.sum_univ_eight]
  exact (congrArg₂ HAdd.hAdd (congrArg₂ HAdd.hAdd (congrArg₂ HAdd.hAdd (congrArg₂ HAdd.hAdd (congrArg₂ HAdd.hAdd (congrArg₂ HAdd.hAdd (congrArg₂ HAdd.hAdd (term2 _ _ _ v977 i _ _ _ _ (hD _ 0 i f (by first | omega | (simp; done) | (dsimp only; omega) | (simp; omega))) (by first | omega | (simp; done) | (dsimp only; omega) | (simp; omega)) (by first | omega | (simp; done) | (dsimp only; omega) | (simp; omega))) (term2 _ _ _ v977 i _ _ _ _ (hD _ 1 i f (by first | omega | (simp; done) | (dsimp only; omega) | (simp; omega))) (by first | omega | (simp; done) | (dsimp only; omega) | (simp; omega)) (by first | omega | (simp; done) | (dsimp only; omega) | (simp; omega)))) (term2 _ _ _ v977 i _ _ _ _ (hD _ 2 i f (by first | omega | (simp; done) | (dsimp only; omega) | (simp; omega))) (by first | omega | (simp; done) | (dsimp only; omega) | (simp; omega)) (by first | omega | (simp; done) | (dsimp only; omega) | (simp; omega)))) (term2 _ _ _ v977 i _ _ _ _ (hD _ 3 i f (by first | omega | (simp; done) | (dsimp only; omega) | (simp; omega))) (by first | omega | (simp; done) | (dsimp only; omega) | (simp; omega)) (by first | omega | (simp; done) | (dsimp only; omega) | (simp; omega)))) (term2 _ _ _ v977 i _ _ _ _ (hD _ 4 i f (by first | omega | (simp; done) | (dsimp only; omega) | (simp; omega))) (by first | omega | (simp; done) | (dsimp only; omega) | (simp; omega)) (by first | omega | (simp; done) | (dsimp only; omega) | (simp; omega)))) (term2 _ _ _ v977 i _ _ _ _ (hD _ 5 i f (by first | omega | (simp; done) | (dsimp only; omega) | (simp; omega))) (by first | omega | (simp; done) | (dsimp only; omega) | (simp; omega)) (by first | omega | (simp; done) | (dsimp only; omega) | (simp; omega)))) (term2 _ _ _ v977 i _ _ _ _ (hD _ 6 i f (by first | omega | (simp; done) | (dsimp only; omega) | (simp; omega))) (by first | omega | (simp; done) | (dsimp only; omega) | (simp; omega)) (by first | omega | (simp; done) | (dsimp only; omega) | (simp; omega)))) (term2 _ _ _ v977 i _ _ _ _ (hD _ 7 i f (by first | omega | (simp; done) | (dsimp only; omega) | (simp; omega))) (by first | omega | (simp; done) | (dsimp only; omega) | (simp; omega)) (by first | omega | (simp; done) | (dsimp only; omega) | (simp; omega))))

theorem pay207_eq (v977 : FVec Ideal S64x833 .f32) (v928 : FVec Ideal S512x96 .f32) (v983 : Vec Ideal S96x98 .f32) (v98 : FVec Ideal S64x49 .f32) (S : Fin 64 → ℕ → Fin 49 → EReal)
    (hD : ∀ (q : Fin 512) (k : ℕ) (i : Fin 64) (f : Fin 49), q.val = 64 * k + i.val → k0_pay174 (F := Ideal) v928 v983 (ix2 q ⟨49 + f.val, by omega⟩) = S i k f) (i : Fin 64) (f : Fin 49) :
    k0_pay207 (F := Ideal) v977 v98 (k0_pay174 (F := Ideal) v928 v983) (k0_pay189 (F := Ideal) v928 v977 v98 v983) (k0_pay191 (F := Ideal) v977) (k0_pay193 (F := Ideal) v928 v977 v983) (ix2 i f) + (k0_pay211 (F := Ideal) v977 (k0_pay174 (F := Ideal) v928 v983) (ix2 i f) - v98 (ix2 i f)) * k0_pay209 (F := Ideal) v977 (ix2 i f) = ∑ k : Fin 8, (S i k.val f * v977 (ix2 i ⟨k.val * 49 + f.val, by omega⟩) - v98 (ix2 i f)) * v977 (ix2 i ⟨(8 + k.val) * 49 + f.val, by omega⟩) := by
  unfold k0_pay207 k0_pay189 k0_pay178 k0_pay182 k0_pay186 k0_pay193 k0_pay198 k0_pay202 k0_pay206 k0_pay211 k0_pay175 k0_pay179 k0_pay183 k0_pay190 k0_pay195 k0_pay199 k0_pay203 k0_pay208 k0_pay176 k0_pay180 k0_pay184 k0_pay191 k0_pay196 k0_pay200 k0_pay204 k0_pay209
  generalize k0_pay174 (F := Ideal) v928 v983 = D at hD ⊢
  pointwise
  rw [Fin.sum_univ_eight]
  exact (congrArg₂ HAdd.hAdd (congrArg₂ HAdd.hAdd (congrArg₂ HAdd.hAdd (congrArg₂ HAdd.hAdd (congrArg₂ HAdd.hAdd (congrArg₂ HAdd.hAdd (congrArg₂ HAdd.hAdd (term2 _ _ _ v977 i _ _ _ _ (hD _ 0 i f (by first | omega | (simp; done) | (dsimp only; omega) | (simp; omega))) (by first | omega | (simp; done) | (dsimp only; omega) | (simp; omega)) (by first | omega | (simp; done) | (dsimp only; omega) | (simp; omega))) (term2 _ _ _ v977 i _ _ _ _ (hD _ 1 i f (by first | omega | (simp; done) | (dsimp only; omega) | (simp; omega))) (by first | omega | (simp; done) | (dsimp only; omega) | (simp; omega)) (by first | omega | (simp; done) | (dsimp only; omega) | (simp; omega)))) (term2 _ _ _ v977 i _ _ _ _ (hD _ 2 i f (by first | omega | (simp; done) | (dsimp only; omega) | (simp; omega))) (by first | omega | (simp; done) | (dsimp only; omega) | (simp; omega)) (by first | omega | (simp; done) | (dsimp only; omega) | (simp; omega)))) (term2 _ _ _ v977 i _ _ _ _ (hD _ 3 i f (by first | omega | (simp; done) | (dsimp only; omega) | (simp; omega))) (by first | omega | (simp; done) | (dsimp only; omega) | (simp; omega)) (by first | omega | (simp; done) | (dsimp only; omega) | (simp; omega)))) (term2 _ _ _ v977 i _ _ _ _ (hD _ 4 i f (by first | omega | (simp; done) | (dsimp only; omega) | (simp; omega))) (by first | omega | (simp; done) | (dsimp only; omega) | (simp; omega)) (by first | omega | (simp; done) | (dsimp only; omega) | (simp; omega)))) (term2 _ _ _ v977 i _ _ _ _ (hD _ 5 i f (by first | omega | (simp; done) | (dsimp only; omega) | (simp; omega))) (by first | omega | (simp; done) | (dsimp only; omega) | (simp; omega)) (by first | omega | (simp; done) | (dsimp only; omega) | (simp; omega)))) (term2 _ _ _ v977 i _ _ _ _ (hD _ 6 i f (by first | omega | (simp; done) | (dsimp only; omega) | (simp; omega))) (by first | omega | (simp; done) | (dsimp only; omega) | (simp; omega)) (by first | omega | (simp; done) | (dsimp only; omega) | (simp; omega)))) (term2 _ _ _ v977 i _ _ _ _ (hD _ 7 i f (by first | omega | (simp; done) | (dsimp only; omega) | (simp; omega))) (by first | omega | (simp; done) | (dsimp only; omega) | (simp; omega)) (by first | omega | (simp; done) | (dsimp only; omega) | (simp; omega))))

/-- Three groups side by side. -/
def mix3 (a b c : FVec Ideal S64x49 .f32) : FVec Ideal S64x147 .f32 :=
  concatenate S64x147 1 [⟨S64x49, a⟩, ⟨S64x49, b⟩, ⟨S64x49, c⟩] concatenates_S64x49_S64x49_S64x49_S64x147_d1

theorem mix3_eq (a b c : FVec Ideal S64x49 .f32) (S : Fin 64 → ℕ → Fin 49 → EReal) (Y : Fin 64 → Fin 49 → EReal) (FL : Fin 64 → Fin 833 → EReal)
    (ha : ∀ (i : Fin 64) (f : Fin 49), a (ix2 i f) = ∑ k : Fin 8, S i k.val f * FL i ⟨k.val * 49 + f.val, by omega⟩)
    (hb : ∀ (i : Fin 64) (f : Fin 49), b (ix2 i f) = ∑ k : Fin 8, (S i k.val f * FL i ⟨k.val * 49 + f.val, by omega⟩ - Y i f) * FL i ⟨(8 + k.val) * 49 + f.val, by omega⟩)
    (hc : ∀ (i : Fin 64) (f : Fin 49), c (ix2 i f) = Y i f * FL i ⟨784 + f.val, by omega⟩)
    (i : Fin 64) (o : Fin 147) : mix3 a b c (ix2 i o) = mixv (fun k => S i k.val) (Y i) (FL i) o := by
  unfold mix3
  pointwise
  split
  · rename_i h
    rw [ha]; unfold mixv; rw [dif_pos h]
  · rename_i h
    split
    · rename_i h2
      rw [hb]; unfold mixv; rw [dif_neg h, dif_pos (by omega)]
    · rename_i h2
      rw [hc]; unfold mixv; rw [dif_neg h, dif_neg (by omega)]
      have e : o.val - 49 - 49 = o.val - 98 := by omega
      simp only [e]

/-- The mixed spectra side by side: real parts, then imaginary parts. -/
def mixcat (a b : FVec Ideal S64x147 .f32) : FVec Ideal S64x294 .f32 :=
  concatenate S64x294 1 [⟨S64x147, a⟩, ⟨S64x147, b⟩] concatenates_S64x147_S64x147_S64x294_d1

theorem mixcat_left (a b : FVec Ideal S64x147 .f32) (i : Fin 64) (o : Fin 147) : mixcat a b (ix2 i ⟨o.val, by omega⟩) = a (ix2 i o) := by
  unfold mixcat
  pointwise

theorem mixcat_right (a b : FVec Ideal S64x147 .f32) (i : Fin 64) (o : Fin 147) : mixcat a b (ix2 i ⟨147 + o.val, by omega⟩) = b (ix2 i o) := by
  unfold mixcat
  pointwise

/-- The forecast plus the inverse transform of the mixed spectrum. -/
theorem pay215_eq (v23 : FVec Ideal S64x96 .f32) (v977 : FVec Ideal S64x833 .f32) (v981 : FVec Ideal S64x49 .f32) (v982 : FVec Ideal S64x49 .f32) (v1087 : FVec Ideal S64x49 .f32) (v1091 : FVec Ideal S64x49 .f32) (v1093 : FVec Ideal S64x49 .f32) (v1094 : FVec Ideal S64x49 .f32) (v1095 : FVec Ideal S64x49 .f32) (v1098 : FVec Ideal S64x49 .f32) (v1108 : Vec Ideal S294x98 .f32) (v1111 : Vec Ideal S1x98 .f32) (v1116 : Vec Ideal S49x96 .f32) (v1120 : Vec Ideal S49x96 .f32) (MR MI : Fin 64 → Fin 147 → EReal) (Y : Fin 64 → Fin 96 → EReal) (wr wi : Fin 49 → Fin 147 → EReal) (br bi : Fin 49 → EReal)
    (h23 : ∀ i h, v23 (ix2 i h) = Y i h)
    (hr : ∀ (i : Fin 64) (o : Fin 147), (mix3 v1094 v1098 (mulf v981 (extractStridedSlice S64x49 ![0, 784] v977 slices_S64x833_o0_784_S64x49))) (ix2 i o) = MR i o)
    (hi : ∀ (i : Fin 64) (o : Fin 147), (mix3 v1095 (addf v1087 (mulf (subf v1093 v982) v1091)) (mulf v982 (extractStridedSlice S64x49 ![0, 784] v977 slices_S64x833_o0_784_S64x49))) (ix2 i o) = MI i o)
    (m00 : ∀ (o : Fin 147) (f : Fin 49), v1108 (ix2 ⟨o.val, by omega⟩ ⟨f.val, by omega⟩) = wr f o)
    (m01 : ∀ (o : Fin 147) (f : Fin 49), v1108 (ix2 ⟨o.val, by omega⟩ ⟨49 + f.val, by omega⟩) = wi f o)
    (m10 : ∀ (o : Fin 147) (f : Fin 49), v1108 (ix2 ⟨147 + o.val, by omega⟩ ⟨f.val, by omega⟩) = -(wi f o))
    (m11 : ∀ (o : Fin 147) (f : Fin 49), v1108 (ix2 ⟨147 + o.val, by omega⟩ ⟨49 + f.val, by omega⟩) = wr f o)
    (b0 : ∀ f : Fin 49, v1111 (ix2 0 ⟨f.val, by omega⟩) = br f) (b1 : ∀ f : Fin 49, v1111 (ix2 0 ⟨49 + f.val, by omega⟩) = bi f)
    (h1116 : ∀ (f : Fin 49) (h : Fin 96), v1116 (ix2 f h) = gre 96 f.val h.val) (h1120 : ∀ (f : Fin 49) (h : Fin 96), v1120 (ix2 f h) = gim 96 f.val h.val)
    (i : Fin 64) (h : Fin 96) : k0_pay215 (F := Ideal) v23 v977 v981 v982 v1087 v1091 v1093 v1094 v1095 v1098 v1108 v1111 v1116 v1120 (ix2 i h) = Y i h + inv96 (outr (MR i) (MI i) wr wi br) (outi (MR i) (MI i) wr wi bi) h := by
  have e : k0_pay215 (F := Ideal) v23 v977 v981 v982 v1087 v1091 v1093 v1094 v1095 v1098 v1108 v1111 v1116 v1120 = addf v23 (addf
      (matmul dot_S64x49_S49x96_S64x96_1_0_0_1_n_n (some .fp32) (extractStridedSlice S64x49 ![0, 0] (addf (matmul dot_S64x294_S294x98_S64x98_1_0_0_1_n_n (some .fp32) (mixcat (mix3 v1094 v1098 (mulf v981 (extractStridedSlice S64x49 ![0, 784] v977 slices_S64x833_o0_784_S64x49))) (mix3 v1095 (addf v1087 (mulf (subf v1093 v982) v1091)) (mulf v982 (extractStridedSlice S64x49 ![0, 784] v977 slices_S64x833_o0_784_S64x49)))) (shapeCast S294x98 v1108 shapeCasts_S294x98_S294x98) (constant S64x98 .f32 0x00000000#32)) (broadcastTo S64x98 (shapeCast S1x98 v1111 shapeCasts_S1x98_S1x98) broadcasts_S1x98_S64x98)) slices_S64x98_o0_0_S64x49) (shapeCast S49x96 v1116 shapeCasts_S49x96_S49x96) (constant S64x96 .f32 0x00000000#32))
      (matmul dot_S64x49_S49x96_S64x96_1_0_0_1_n_n (some .fp32) (extractStridedSlice S64x49 ![0, 49] (addf (matmul dot_S64x294_S294x98_S64x98_1_0_0_1_n_n (some .fp32) (mixcat (mix3 v1094 v1098 (mulf v981 (extractStridedSlice S64x49 ![0, 784] v977 slices_S64x833_o0_784_S64x49))) (mix3 v1095 (addf v1087 (mulf (subf v1093 v982) v1091)) (mulf v982 (extractStridedSlice S64x49 ![0, 784] v977 slices_S64x833_o0_784_S64x49)))) (shapeCast S294x98 v1108 shapeCasts_S294x98_S294x98) (constant S64x98 .f32 0x00000000#32)) (broadcastTo S64x98 (shapeCast S1x98 v1111 shapeCasts_S1x98_S1x98) broadcasts_S1x98_S64x98)) slices_S64x98_o0_49_S64x49) (shapeCast S49x96 v1120 shapeCasts_S49x96_S49x96) (constant S64x96 .f32 0x00000000#32))) := rfl
  rw [e]
  have hr' : ∀ (i : Fin 64) (o : Fin 147), (mixcat (mix3 v1094 v1098 (mulf v981 (extractStridedSlice S64x49 ![0, 784] v977 slices_S64x833_o0_784_S64x49))) (mix3 v1095 (addf v1087 (mulf (subf v1093 v982) v1091)) (mulf v982 (extractStridedSlice S64x49 ![0, 784] v977 slices_S64x833_o0_784_S64x49)))) (ix2 i ⟨o.val, by omega⟩) = MR i o := fun i o => (mixcat_left _ _ i o).trans (hr i o)
  have hi' : ∀ (i : Fin 64) (o : Fin 147), (mixcat (mix3 v1094 v1098 (mulf v981 (extractStridedSlice S64x49 ![0, 784] v977 slices_S64x833_o0_784_S64x49))) (mix3 v1095 (addf v1087 (mulf (subf v1093 v982) v1091)) (mulf v982 (extractStridedSlice S64x49 ![0, 784] v977 slices_S64x833_o0_784_S64x49)))) (ix2 i ⟨147 + o.val, by omega⟩) = MI i o := fun i o => (mixcat_right _ _ i o).trans (hi i o)
  generalize (mixcat (mix3 v1094 v1098 (mulf v981 (extractStridedSlice S64x49 ![0, 784] v977 slices_S64x833_o0_784_S64x49))) (mix3 v1095 (addf v1087 (mulf (subf v1093 v982) v1091)) (mulf v982 (extractStridedSlice S64x49 ![0, 784] v977 slices_S64x833_o0_784_S64x49)))) = M at hr' hi' ⊢
  pointwise [dot_S64x294_S294x98_S64x98_1_0_0_1_n_n, dot_S64x49_S49x96_S64x96_1_0_0_1_n_n]
  have split : ∀ F : Fin 294 → EReal, ∑ x, F x = (∑ o : Fin 147, F ⟨o.val, by omega⟩) + ∑ o : Fin 147, F ⟨147 + o.val, by omega⟩ := fun F => Fin.sum_univ_add (a := 147) (b := 147) F
  simp only [split, hr', hi', m00, m01, m10, m11, b0, b1, h23, h1116, h1120]
  rfl

/-- Back on the row's own scale. -/
theorem pay1_eq (v7 v17 : FVec Ideal S64x1 .f32) (v1124 : FVec Ideal S64x96 .f32) (u : Fin 1) (i : Fin 64) (h : Fin 96) :
    k0_pay1 (F := Ideal) v7 v17 v1124 (ix3 u i h) = v1124 (ix2 i h) * v17 (ix2 i 0) + v7 (ix2 i 0) := by
  unfold k0_pay1
  pointwise
end Cert.Proof
-- ==== Proof.Tables2.lean ====
/- The transform tables as host arithmetic computes them: cosines and sines of the exact angles. -/
module
public import proofs.«01_k».proof.Proof.Mixing
public import Idealize.ShloMosaic.PureOps.Ideal
public import Idealize.ShloMosaic.Lib.Pointwise
@[expose] public section
noncomputable section
namespace Cert.Proof
open Idealize.ShloMosaic

/-! ### The tables -/

theorem lit_two : Ideal.ofBits .f32 1073741824#32 = ((2 : ℝ) : EReal) := by
  simp [Ideal.ofBits, Ideal.ieee, -EReal.coe_mul]; norm_num
theorem lit_neg1 : Ideal.ofBits .f32 3212836864#32 = ((-1 : ℝ) : EReal) := by
  simp [Ideal.ofBits, Ideal.ieee, -EReal.coe_mul]; norm_num
theorem lit_96 : Ideal.ofBits .f32 1119879168#32 = ((96 : ℝ) : EReal) := by
  simp [Ideal.ofBits, Ideal.ieee, -EReal.coe_mul]; norm_num
theorem lit_one : Ideal.ofBits .f32 1065353216#32 = ((1 : ℝ) : EReal) := by
  simp [Ideal.ofBits, Ideal.ieee, -EReal.coe_mul]; norm_num

/-- The remainder of a product of two small numbers, as words compute it. -/
theorem rem_mul (a b n : Nat) (hab : a * b < 2 ^ 31) (hn : 0 < n) (hn' : n < 2 ^ 31) :
    (IntOp.remsi .host (IntOp.muli (BitVec.ofNat 32 a) (BitVec.ofNat 32 b)) (BitVec.ofNat 32 n)).toInt = ((a * b % n : ℕ) : ℤ) := by
  have h0 : BitVec.ofNat 32 n ≠ 0#32 := fun h => by
    have := congrArg BitVec.toNat h
    simp only [BitVec.toNat_ofNat] at this
    omega
  have h1 : IntOp.muli (BitVec.ofNat 32 a) (BitVec.ofNat 32 b) = BitVec.ofNat 32 (a * b) := by
    simp [IntOp.muli, BitVec.ofNat_mul]
  have ht : ∀ k, k < 2 ^ 31 → (BitVec.ofNat 32 k).toInt = (k : ℤ) := fun k hk => by
    rw [BitVec.toInt_eq_toNat_of_lt (by simp only [BitVec.toNat_ofNat]; omega), BitVec.toNat_ofNat, Nat.mod_eq_of_lt (by omega)]
  rw [h1]
  have hc : ¬ IntOp.SDivCorner (BitVec.ofNat 32 (a * b)) (BitVec.ofNat 32 n) := fun h => by
    rcases h with h | ⟨_, h⟩
    · exact h0 h
    · have := congrArg BitVec.toInt h
      rw [ht _ hn'] at this
      simp at this
  unfold IntOp.remsi
  rw [if_neg hc]
  rw [BitVec.toInt_srem, ht _ hab, ht _ hn']
  rfl

theorem angle_eq (w : BitVec 32) (n k : Nat) (hn : n ≠ 0) (hw : w.toInt = ((k % n : ℕ) : ℤ)) (l : EReal) (hl : l = ((n : ℝ) : EReal)) :
    Ideal.div (Ideal.ofBits .f32 1073741824#32 * Ideal.acos (Ideal.ofBits .f32 3212836864#32) * FloatOps.sitofp (F := Ideal) .f32 w) l
      = ((2 * Real.pi * ((k % n : ℕ) : ℝ) / n : ℝ) : EReal) := by
  have hs : FloatOps.sitofp (F := Ideal) .f32 w = (((k % n : ℕ) : ℝ) : EReal) := by
    show ((w.toInt : ℝ) : EReal) = _
    rw [hw]; norm_cast
  have hn' : (n : ℝ) ≠ 0 := by exact_mod_cast hn
  rw [hs, lit_two, lit_neg1, Ideal.acos_coe, if_pos (by norm_num), Real.arccos_neg_one, hl, ← EReal.coe_mul, ← EReal.coe_mul]
  unfold Ideal.div
  rw [if_neg (by exact_mod_cast hn'), ← EReal.coe_inv, ← EReal.coe_mul, div_eq_mul_inv]

theorem tab_cos (w : BitVec 32) (n k : Nat) (hn : n ≠ 0) (hw : w.toInt = ((k % n : ℕ) : ℤ)) (l : EReal) (hl : l = ((n : ℝ) : EReal)) :
    Ideal.cos (Ideal.div (Ideal.ofBits .f32 1073741824#32 * Ideal.acos (Ideal.ofBits .f32 3212836864#32) * FloatOps.sitofp (F := Ideal) .f32 w) l)
      = ((ctR n k : ℝ) : EReal) := by
  rw [angle_eq w n k hn hw l hl, Ideal.cos_coe, ← ctR_mod n k hn]; rfl

theorem tab_sin (w : BitVec 32) (n k : Nat) (hn : n ≠ 0) (hw : w.toInt = ((k % n : ℕ) : ℤ)) (l : EReal) (hl : l = ((n : ℝ) : EReal)) :
    Ideal.sin (Ideal.div (Ideal.ofBits .f32 1073741824#32 * Ideal.acos (Ideal.ofBits .f32 3212836864#32) * FloatOps.sitofp (F := Ideal) .f32 w) l)
      = ((stR n k : ℝ) : EReal) := by
  rw [angle_eq w n k hn hw l hl, Ideal.sin_coe, ← stR_mod n k hn]; rfl

theorem sel_lit (p : Prop) [Decidable p] : (if p then 1 else Ideal.ofBits .f32 1073741824#32 : EReal) = ((if p then 1 else 2 : ℝ) : EReal) := by
  split
  · simp
  · exact lit_two

theorem ofNat_eq_iff (a e : Nat) (ha : a < 2 ^ 31) (he : e < 2 ^ 31) : BitVec.ofNat 32 a = BitVec.ofNat 32 e ↔ a = e := by
  constructor
  · intro h
    have := congrArg BitVec.toNat h
    simp only [BitVec.toNat_ofNat] at this
    omega
  · intro h; rw [h]

theorem cmpi_nat (a e : Nat) (ha : a < 2 ^ 31) (he : e < 2 ^ 31) : IntOp.cmpi .eq (BitVec.ofNat 32 a) (BitVec.ofNat 32 e) = BitVec.ofBool (decide (a = e)) := by
  by_cases h : a = e
  · subst h; simp [IntOp.cmpi]
  · have hne : BitVec.ofNat 32 a ≠ BitVec.ofNat 32 e := fun h' => h ((ofNat_eq_iff a e ha he).1 h')
    have : (BitVec.ofNat 32 a == BitVec.ofNat 32 e) = false := beq_eq_false_iff_ne.2 hne
    simp only [IntOp.cmpi, this, h, decide_false]

theorem sel_two (a e : Nat) (ha : a < 2 ^ 31) (he : e < 2 ^ 31) :
    Scalar.select (IntOp.ori (IntOp.cmpi .eq (BitVec.ofNat 32 a) 0#32) (IntOp.cmpi .eq (BitVec.ofNat 32 a) (BitVec.ofNat 32 e))) (1 : EReal) (Ideal.ofBits .f32 1073741824#32)
      = ((if a = 0 ∨ a = e then 1 else 2 : ℝ) : EReal) := by
  have hb : (a = 0 ∨ a = e) ↔ (decide (a = 0) || decide (a = e)) = true := by simp
  rw [← sel_lit, cmpi_nat a e ha he, cmpi_nat a 0 ha (by norm_num), if_congr hb rfl rfl]
  generalize Ideal.ofBits .f32 1073741824#32 = w
  generalize decide (a = 0) = b0
  generalize decide (a = e) = b1
  cases b0 <;> cases b1 <;> rfl

theorem sel_one (a : Nat) (ha : a < 2 ^ 31) :
    Scalar.select (IntOp.cmpi .eq (BitVec.ofNat 32 a) 0#32) (1 : EReal) (Ideal.ofBits .f32 1073741824#32)
      = ((if a = 0 then 1 else 2 : ℝ) : EReal) := by
  rw [← sel_lit, cmpi_nat a 0 ha (by norm_num)]
  generalize Ideal.ofBits .f32 1073741824#32 = w
  by_cases p0 : a = 0 <;> simp only [p0, decide_true, decide_false, if_true, if_false] <;> rfl

theorem div_nat (x : ℝ) (n : Nat) (hn : n ≠ 0) (l : EReal) (hl : l = ((n : ℝ) : EReal)) : Ideal.div ((x : ℝ) : EReal) l = ((x / n : ℝ) : EReal) := by
  have hn' : (n : ℝ) ≠ 0 := by exact_mod_cast hn
  rw [hl]; unfold Ideal.div
  rw [if_neg (by exact_mod_cast hn'), ← EReal.coe_inv, ← EReal.coe_mul, div_eq_mul_inv]

theorem b512 (a b : Nat) (ha : a < 512) (hb : b < 512) : (IntOp.remsi .host (IntOp.muli (BitVec.ofNat 32 a) (BitVec.ofNat 32 b)) 512#32).toInt = ((a * b % 512 : ℕ) : ℤ) :=
  rem_mul a b 512 (lt_of_le_of_lt (Nat.mul_le_mul ha.le hb.le) (by norm_num)) (by norm_num) (by norm_num)
theorem b96 (a b : Nat) (ha : a < 512) (hb : b < 512) : (IntOp.remsi .host (IntOp.muli (BitVec.ofNat 32 a) (BitVec.ofNat 32 b)) 96#32).toInt = ((a * b % 96 : ℕ) : ℤ) :=
  rem_mul a b 96 (lt_of_le_of_lt (Nat.mul_le_mul ha.le hb.le) (by norm_num)) (by norm_num) (by norm_num)
-- ==== Proof.RefA.lean ====
/- The reference's normalisation and its transform tables, read at an index. -/
module
public import proofs.«01_k».proof.Proof.Gen.ReferenceIdeal.Read
public import proofs.«01_k».proof.Proof.Mixing
public import proofs.«01_k».proof.Proof.Tables2
public import Idealize.ShloMosaic.PureOps.Ideal
public import Idealize.ShloMosaic.Lib.Pointwise
@[expose] public section
noncomputable section
namespace Cert.Proof
open Idealize.ShloMosaic Cert.ReferenceIdeal Cert.ReferenceIdeal.Gen Cert.ReferenceIdeal.Read

/-- A batch of an argument with three axes. -/
def sl3 {n a b : Nat} (x : (⟨3, ![n, a, b]⟩ : Shape).Idx → EReal) (B : Fin n) (i : Fin a) (t : Fin b) : EReal := x (ix3 B i t)

variable (x0 : (⟨S16x64x512, .f32⟩ : BufTy).Contents (Elt Ideal)) (x1 : (⟨S16x64x96, .f32⟩ : BufTy).Contents (Elt Ideal))

theorem r3 (B : Fin 16) (i : Fin 64) (u : Fin 1) : val_main_v3 (F := Ideal) x0 (ix3 B i u) = mu (sl3 x0 B) i := by
  unfold val_main_v3 val_main_v2 val_main_v1 val_main_v0 val_main_cst val_main_cst_0
  pointwise
  simp [mu, sl3]

theorem r13 (B : Fin 16) (i : Fin 64) (u : Fin 1) : val_main_v13 (F := Ideal) x0 (ix3 B i u) = sd (sl3 x0 B) i := by
  unfold val_main_v13 val_main_v12 val_main_v11 val_main_cst_3 val_main_v10 val_main_v9 val_main_cst_2 val_main_v8 val_main_v7 val_main_cst_1 val_main_v6 val_main_v5 val_main_v4
  pointwise
  simp [r3, sd, sl3]

theorem r15 (B : Fin 16) (i : Fin 64) (t : Fin 512) : val_main_v15 (F := Ideal) x0 (ix3 B i t) = xn (sl3 x0 B) i t := by
  unfold val_main_v15 val_main_v14 val_main_v5 val_main_v4
  pointwise
  simp [r3, r13, xn, sl3]

theorem r19 (B : Fin 16) (i : Fin 64) (h : Fin 96) : val_main_v19 (F := Ideal) x0 x1 (ix3 B i h) = yn (sl3 x0 B) (sl3 x1 B) i h := by
  unfold val_main_v19 val_main_v18 val_main_v17 val_main_v16
  pointwise
  simp [r3, r13, yn, sl3]

theorem qv32 (a : Fin 512) (b : Fin 257) : val_main_v32 (F := Ideal) (ix2 a b) = fre 512 a b := by
  unfold val_main_v32 val_main_v31 val_main_v30 val_main_cst_6 val_main_v29 val_main_v27 val_main_v24 val_main_v23 val_main_c val_main_v22 val_main_v21 val_main_v20 val_main_v28 val_main_v26 val_main_v25 val_main_cst_4 val_main_cst_5
  pointwise
  rw [tab_cos _ 512 (a.val * b.val) (by norm_num) (b512 _ _ (by omega) (by omega)) _ (by first | exact lit_512 | exact lit_96)]
  simp [fre]

theorem qv34 (a : Fin 512) (b : Fin 257) : val_main_v34 (F := Ideal) (ix2 a b) = fim 512 a b := by
  unfold val_main_v34 val_main_v33 val_main_v31 val_main_v30 val_main_cst_6 val_main_v29 val_main_v27 val_main_v24 val_main_v23 val_main_c val_main_v22 val_main_v21 val_main_v20 val_main_v28 val_main_v26 val_main_v25 val_main_cst_4 val_main_cst_5
  pointwise
  rw [tab_sin _ 512 (a.val * b.val) (by norm_num) (b512 _ _ (by omega) (by omega)) _ (by first | exact lit_512 | exact lit_96)]
  simp [fim]

theorem qv187 (a : Fin 96) (b : Fin 49) : val_main_v187 (F := Ideal) (ix2 a b) = fre 96 a b := by
  unfold val_main_v187 val_main_v186 val_main_v185 val_main_cst_34 val_main_v184 val_main_v182 val_main_v179 val_main_v178 val_main_c_31 val_main_v177 val_main_v176 val_main_v175 val_main_v183 val_main_v181 val_main_v180 val_main_cst_32 val_main_cst_33
  pointwise
  rw [tab_cos _ 96 (a.val * b.val) (by norm_num) (b96 _ _ (by omega) (by omega)) _ (by first | exact lit_512 | exact lit_96)]
  simp [fre]

theorem qv189 (a : Fin 96) (b : Fin 49) : val_main_v189 (F := Ideal) (ix2 a b) = fim 96 a b := by
  unfold val_main_v189 val_main_v188 val_main_v186 val_main_v185 val_main_cst_34 val_main_v184 val_main_v182 val_main_v179 val_main_v178 val_main_c_31 val_main_v177 val_main_v176 val_main_v175 val_main_v183 val_main_v181 val_main_v180 val_main_cst_32 val_main_cst_33
  pointwise
  rw [tab_sin _ 96 (a.val * b.val) (by norm_num) (b96 _ _ (by omega) (by omega)) _ (by first | exact lit_512 | exact lit_96)]
  simp [fim]

theorem qv204 (a : Fin 96) (b : Fin 49) : val_main_v204 (F := Ideal) (ix2 a b) = fre 96 a b := by
  unfold val_main_v204 val_main_v203 val_main_v202 val_main_cst_38 val_main_v201 val_main_v199 val_main_v196 val_main_v195 val_main_c_35 val_main_v194 val_main_v193 val_main_v192 val_main_v200 val_main_v198 val_main_v197 val_main_cst_36 val_main_cst_37
  pointwise
  rw [tab_cos _ 96 (a.val * b.val) (by norm_num) (b96 _ _ (by omega) (by omega)) _ (by first | exact lit_512 | exact lit_96)]
  simp [fre]

theorem qv206 (a : Fin 96) (b : Fin 49) : val_main_v206 (F := Ideal) (ix2 a b) = fim 96 a b := by
  unfold val_main_v206 val_main_v205 val_main_v203 val_main_v202 val_main_cst_38 val_main_v201 val_main_v199 val_main_v196 val_main_v195 val_main_c_35 val_main_v194 val_main_v193 val_main_v192 val_main_v200 val_main_v198 val_main_v197 val_main_cst_36 val_main_cst_37
  pointwise
  rw [tab_sin _ 96 (a.val * b.val) (by norm_num) (b96 _ _ (by omega) (by omega)) _ (by first | exact lit_512 | exact lit_96)]
  simp [fim]

theorem qv77 (a : Fin 257) (b : Fin 512) : val_main_v77 (F := Ideal) (ix2 a b) = gre 512 a b := by
  unfold val_main_v77 val_main_v76 val_main_cst_15 val_main_v75 val_main_v73 val_main_v66 val_main_v65 val_main_cst_10 val_main_v64 val_main_v62 val_main_v59 val_main_v58 val_main_c_7 val_main_v57 val_main_v56 val_main_v63 val_main_v61 val_main_v60 val_main_cst_8 val_main_cst_9 val_main_v74 val_main_v72 val_main_call0_v1 val_main_cst_14 val_main_call0_v0 val_main_cst_13 val_main_v71 val_main_v70 val_main_v69 val_main_c_12 val_main_v68 val_main_v67 val_main_c_11 val_main_v55
  simp only [id_eq]
  pointwise
  rw [tab_cos _ 512 (a.val * b.val) (by norm_num) (b512 _ _ (by omega) (by omega)) _ (by first | exact lit_512 | exact lit_96)]
  rw [sel_two _ 256 (by omega) (by norm_num), ← EReal.coe_mul, div_nat _ 512 (by norm_num) _ (by first | exact lit_512 | exact lit_96)]
  rfl

theorem qv84 (a : Fin 257) (b : Fin 512) : val_main_v84 (F := Ideal) (ix2 a b) = gim 512 a b := by
  unfold val_main_v84 val_main_v83 val_main_cst_16 val_main_v82 val_main_v80 val_main_v66 val_main_v65 val_main_cst_10 val_main_v64 val_main_v62 val_main_v59 val_main_v58 val_main_c_7 val_main_v57 val_main_v56 val_main_v63 val_main_v61 val_main_v60 val_main_cst_8 val_main_cst_9 val_main_v81 val_main_v79 val_main_v72 val_main_call0_v1 val_main_cst_14 val_main_call0_v0 val_main_cst_13 val_main_v71 val_main_v70 val_main_v69 val_main_c_12 val_main_v68 val_main_v67 val_main_c_11 val_main_v55
  simp only [id_eq]
  pointwise
  rw [tab_sin _ 512 (a.val * b.val) (by norm_num) (b512 _ _ (by omega) (by omega)) _ (by first | exact lit_512 | exact lit_96)]
  rw [sel_two _ 256 (by omega) (by norm_num), ← EReal.coe_neg, ← EReal.coe_mul, div_nat _ 512 (by norm_num) _ (by first | exact lit_512 | exact lit_96)]
  rfl

theorem qv264 (a : Fin 49) (b : Fin 96) : val_main_v264 (F := Ideal) (ix2 a b) = gre 96 a b := by
  unfold val_main_v264 val_main_v263 val_main_cst_51 val_main_v262 val_main_v260 val_main_v253 val_main_v252 val_main_cst_46 val_main_v251 val_main_v249 val_main_v246 val_main_v245 val_main_c_43 val_main_v244 val_main_v243 val_main_v250 val_main_v248 val_main_v247 val_main_cst_44 val_main_cst_45 val_main_v261 val_main_v259 val_main_call7_v1 val_main_cst_50 val_main_call7_v0 val_main_cst_49 val_main_v258 val_main_v257 val_main_v256 val_main_c_48 val_main_v255 val_main_v254 val_main_c_47 val_main_v242
  simp only [id_eq]
  pointwise
  rw [tab_cos _ 96 (a.val * b.val) (by norm_num) (b96 _ _ (by omega) (by omega)) _ (by first | exact lit_512 | exact lit_96)]
  rw [sel_two _ 48 (by omega) (by norm_num), ← EReal.coe_mul, div_nat _ 96 (by norm_num) _ (by first | exact lit_512 | exact lit_96)]
  rfl

theorem qv271 (a : Fin 49) (b : Fin 96) : val_main_v271 (F := Ideal) (ix2 a b) = gim 96 a b := by
  unfold val_main_v271 val_main_v270 val_main_cst_52 val_main_v269 val_main_v267 val_main_v253 val_main_v252 val_main_cst_46 val_main_v251 val_main_v249 val_main_v246 val_main_v245 val_main_c_43 val_main_v244 val_main_v243 val_main_v250 val_main_v248 val_main_v247 val_main_cst_44 val_main_cst_45 val_main_v268 val_main_v266 val_main_v259 val_main_call7_v1 val_main_cst_50 val_main_call7_v0 val_main_cst_49 val_main_v258 val_main_v257 val_main_v256 val_main_c_48 val_main_v255 val_main_v254 val_main_c_47 val_main_v242
  simp only [id_eq]
  pointwise
  rw [tab_sin _ 96 (a.val * b.val) (by norm_num) (b96 _ _ (by omega) (by omega)) _ (by first | exact lit_512 | exact lit_96)]
  rw [sel_two _ 48 (by omega) (by norm_num), ← EReal.coe_neg, ← EReal.coe_mul, div_nat _ 96 (by norm_num) _ (by first | exact lit_512 | exact lit_96)]
  rfl
-- ==== Proof.RefB.lean ====
/- The reference's spectra, cross-correlation and peaks, read at an index. -/
module
public import proofs.«01_k».proof.Proof.RefA
public import Idealize.ShloMosaic.PureOps.Ideal
public import Idealize.ShloMosaic.Lib.Pointwise
@[expose] public section
noncomputable section
namespace Cert.Proof
open Idealize.ShloMosaic Cert.ReferenceIdeal Cert.ReferenceIdeal.Gen Cert.ReferenceIdeal.Read

variable (x0 : (⟨S16x64x512, .f32⟩ : BufTy).Contents (Elt Ideal)) (x1 : (⟨S16x64x96, .f32⟩ : BufTy).Contents (Elt Ideal))

theorem rv35 (B : Fin 16) (i : Fin 64) (f : Fin 257) : val_main_v35 (F := Ideal) x0 (ix3 B i f) = re (sl3 x0 B) i f.val := by
  unfold val_main_v35
  pointwise [dot_S16x64x512_S512x257_S16x64x257_2_0_01_1_n_n]
  simp only [r15, qv32, re]

theorem rv36 (B : Fin 16) (i : Fin 64) (f : Fin 257) : val_main_v36 (F := Ideal) x0 (ix3 B i f) = im (sl3 x0 B) i f.val := by
  unfold val_main_v36
  pointwise [dot_S16x64x512_S512x257_S16x64x257_2_0_01_1_n_n]
  simp only [r15, qv34, im]

theorem r86 (B : Fin 16) (i j : Fin 64) (t : Fin 512) : val_main_v86 (F := Ideal) x0 (ix4 B i j t) = cc (sl3 x0 B) i j t := by
  unfold val_main_v86 val_main_v85 val_main_v54 val_main_v53 val_main_v52 val_main_v51 val_main_v50 val_main_v49 val_main_v48 val_main_v78 val_main_v47 val_main_v46 val_main_v45 val_main_v40 val_main_v44 val_main_v38 val_main_v43 val_main_v42 val_main_v39 val_main_v41 val_main_v37
  pointwise [dot_S16x64x64x257_S257x512_S16x64x64x512_3_0_012_1_n_n]
  simp only [rv35, rv36, qv77, qv84, cc]

/-- What the reference keeps of a correlation row at an inner lag: the entry over the length at a peak, zero elsewhere. -/
def kept (g : Fin 512 → EReal) (l : Fin 510) : EReal :=
  open Classical in
  Ideal.div (if Pk (g ⟨l.val, by omega⟩) (g ⟨1 + l.val, by omega⟩) (g ⟨2 + l.val, by omega⟩) then g ⟨1 + l.val, by omega⟩ else 0) (Ideal.ofBits .f32 1140850688#32)

theorem sel_and {α : Type} (p q : Prop) [Decidable p] [Decidable q] (a b : α) :
    Scalar.select (IntOp.andi (BitVec.ofBool (decide p)) (BitVec.ofBool (decide q))) a b = open Classical in if p ∧ q then a else b := by
  have hb : (p ∧ q) ↔ (decide p && decide q) = true := by simp
  rw [if_congr hb rfl rfl]
  generalize decide p = b0
  generalize decide q = b1
  cases b0 <;> cases b1 <;> rfl

theorem r98 (B : Fin 16) (i j : Fin 64) (l : Fin 510) : val_main_v98 (F := Ideal) x0 (ix4 B i j l) = kept (cc (sl3 x0 B) i j) l := by
  unfold val_main_v98 val_main_v97 val_main_cst_18 val_main_v96 val_main_call1_v1 val_main_call1_v0 val_main_cst_17 val_main_v95 val_main_v94 val_main_v93 val_main_v92 val_main_v91 val_main_v90 val_main_v89 val_main_v88 val_main_v87
  simp only [id_eq]
  pointwise
  simp only [r86]
  rw [sel_and]
  unfold kept
  congr 1
  classical
  exact if_congr Iff.rfl rfl (by first | rfl | exact Ideal.ofBits_zero)

theorem r99 (B : Fin 16) (i j : Fin 64) (l : Fin 510) : val_main_v99 (F := Ideal) x0 (ix4 B i j l) = ab (kept (cc (sl3 x0 B) i j) l) := by
  unfold val_main_v99
  pointwise
  simp only [r98]
  rfl

end Cert.Proof
-- ==== Proof.Leaders.lean ====
/- The first entry of a stable sort, and the reads of a top-k: positions and values of the greatest elements. -/
module
public import proofs.«01_k».proof.Proof.RefA
public import Idealize.ShloMosaic.PureOps.Ideal
public import Idealize.ShloMosaic.Lib.Pointwise
public import Idealize.ShloMosaic.Lib.SortFacts
@[expose] public section
noncomputable section
namespace Cert.Proof
open Idealize.ShloMosaic

/-- "Greater, or equal and earlier". -/
def BeforeN {n : Nat} (f : Fin n → EReal) (a b : Fin n) : Prop := f b < f a ∨ (f a = f b ∧ a < b)

theorem pairwise_insertN {n : Nat} (f : Fin n → EReal) (R : Fin n → Fin n → Bool) (hR : ∀ a b, R a b = true ↔ f b < f a) (a : Fin n) (l : List (Fin n))
    (ha : ∀ b ∈ l, a < b) (hl : l.Pairwise (BeforeN f)) : (insertBefore R a l).Pairwise (BeforeN f) := by
  induction l with
  | nil => exact List.pairwise_singleton _ _
  | cons b l ih =>
    unfold insertBefore
    rw [List.pairwise_cons] at hl
    split
    · rename_i h
      refine List.pairwise_cons.2 ⟨fun x hx => ?_, ih (fun c hc => ha c (List.mem_cons_of_mem _ hc)) hl.2⟩
      rcases List.mem_cons.1 ((perm_insertBefore R a l).mem_iff.1 hx) with rfl | hx
      · exact Or.inl ((hR _ _).1 h)
      · exact hl.1 x hx
    · rename_i h
      have hba : f b ≤ f a := not_lt.1 fun hc => h ((hR _ _).2 hc)
      refine List.pairwise_cons.2 ⟨fun x hx => ?_, List.pairwise_cons.2 hl⟩
      have hxa := ha x hx
      have hxb : f x ≤ f b := by
        rcases List.mem_cons.1 hx with rfl | hx
        · exact le_rfl
        · rcases hl.1 x hx with h | h
          · exact h.le
          · exact h.1.ge
      rcases (hxb.trans hba).lt_or_eq with h | h
      · exact Or.inl h
      · exact Or.inr ⟨h.symm, hxa⟩

theorem pairwise_stableN {n : Nat} (f : Fin n → EReal) (R : Fin n → Fin n → Bool) (hR : ∀ a b, R a b = true ↔ f b < f a) (l : List (Fin n))
    (h : l.Pairwise (· < ·)) : (stableSort R l).Pairwise (BeforeN f) := by
  induction l with
  | nil => exact List.Pairwise.nil
  | cons a l ih =>
    rw [List.pairwise_cons] at h
    unfold stableSort
    exact pairwise_insertN f R hR a _ (fun b hb => h.1 b ((perm_stableSort R l).mem_iff.1 hb)) (ih h.2)

theorem sorted_beforeN {n : Nat} (f : Fin n → EReal) (R : Fin n → Fin n → Bool) (hR : ∀ a b, R a b = true ↔ f b < f a) (i j : Fin n) (hij : i < j) :
    BeforeN f (sortedFrom R i) (sortedFrom R j) := by
  have hp : ∀ a b : Fin (sortPositions n R).length, a < b → BeforeN f ((sortPositions n R).get a) ((sortPositions n R).get b) :=
    List.pairwise_iff_get.mp (pairwise_stableN f R hR (List.finRange n) (List.pairwise_lt_finRange n))
  unfold sortedFrom
  exact hp _ _ (by simp only [Fin.lt_def, Fin.val_cast]; exact hij)
/-- The first entry of the stable sort, greatest first, is the first index of the maximum. -/
theorem sortedFrom_first {n : Nat} [NeZero n] (f : Fin n → EReal) (R : Fin n → Fin n → Bool) (hR : ∀ a b, R a b = true ↔ f b < f a)
    (h0 : 0 < n) : sortedFrom R ⟨0, h0⟩ = amax f := by
  have key : ∀ j, j ≠ sortedFrom R ⟨0, h0⟩ → f j < f (sortedFrom R ⟨0, h0⟩) ∨ (f j = f (sortedFrom R ⟨0, h0⟩) ∧ sortedFrom R ⟨0, h0⟩ < j) := by
    intro j hj
    obtain ⟨p, rfl⟩ := sortedFrom_surjective R j
    have hp : (⟨0, h0⟩ : Fin n) < p := by
      rw [Fin.lt_def]
      rcases Nat.eq_zero_or_pos p.val with h | h
      · exact absurd (congrArg (sortedFrom R) (Fin.ext h)) hj
      · exact h
    rcases sorted_beforeN f R hR ⟨0, h0⟩ p hp with h | ⟨h, h'⟩
    · exact Or.inl h
    · exact Or.inr ⟨h.symm, h'⟩
  symm
  apply amax_unique
  refine ⟨fun j => ?_, fun j hj => ?_⟩
  · by_cases h : j = sortedFrom R ⟨0, h0⟩
    · rw [h]
    · rcases key j h with h | ⟨h, _⟩
      · exact h.le
      · exact h.le
  · rcases key j hj.ne with h | ⟨_, h⟩
    · exact h
    · exact absurd h (not_lt.2 hj.le)

theorem gt_iff (x y : EReal) : (FloatOps.cmpfTotal (F := Ideal) (φ := .f32) .gt x y == 1#1) = true ↔ y < x := by
  show (Ideal.cmpTotal .gt x y == 1#1) = true ↔ y < x
  by_cases h : y < x <;> simp [Ideal.cmpTotal, Ideal.cmp, CmpDirection.ordered, h]

open Cert.ReferenceIdeal

theorem along4 {a b c d : Nat} (B : Fin a) (i : Fin b) (j : Fin c) (u k : Fin d) :
    Shape.Idx.along (s := ⟨4, ![a, b, c, d]⟩) (ix4 B i j u) 3 k = ix4 B i j k := by
  funext q
  fin_cases q <;> rfl

theorem along3 {a b c : Nat} (B : Fin a) (i : Fin b) (u k : Fin c) :
    Shape.Idx.along (s := ⟨3, ![a, b, c]⟩) (ix3 B i u) 2 k = ix3 B i k := by
  funext q
  fin_cases q <;> rfl

theorem sort4_first (x : S16x64x64x510.Idx → EReal) {β : Type} (y : S16x64x64x510.Idx → β) (B : Fin 16) (i j : Fin 64) :
    (Host.sort2 S16x64x64x510 3 (fun l r => FloatOps.cmpfTotal (F := Ideal) (φ := .f32) .gt l.1 r.1) x y).1 (ix4 B i j 0) = x (ix4 B i j (amax fun l => x (ix4 B i j l)))
    ∧ (Host.sort2 S16x64x64x510 3 (fun l r => FloatOps.cmpfTotal (F := Ideal) (φ := .f32) .gt l.1 r.1) x y).2 (ix4 B i j 0) = y (ix4 B i j (amax fun l => x (ix4 B i j l))) := by
  have e := sortedFrom_first (fun l => x (ix4 B i j l))
    (fun k k' => FloatOps.cmpfTotal (F := Ideal) (φ := .f32) .gt (x (ix4 B i j k)) (x (ix4 B i j k')) == 1#1) (fun a b => gt_iff _ _) (by norm_num)
  rw [← e]
  constructor
  · unfold Host.sort2
    rw [dif_pos (by decide)]
    exact congrArg (fun A : Fin 510 → S16x64x64x510.Idx => x (A (sortedFrom (fun k k' => FloatOps.cmpfTotal (F := Ideal) (φ := .f32) .gt (x (A k)) (x (A k')) == 1#1) ⟨0, by norm_num⟩)))
      (funext fun k => along4 B i j (0 : Fin 510) k)
  · unfold Host.sort2
    rw [dif_pos (by decide)]
    exact congrArg (fun A : Fin 510 → S16x64x64x510.Idx => y (A (sortedFrom (fun k k' => FloatOps.cmpfTotal (F := Ideal) (φ := .f32) .gt (x (A k)) (x (A k')) == 1#1) ⟨0, by norm_num⟩)))
      (funext fun k => along4 B i j (0 : Fin 510) k)

theorem sort3_lead (x : S16x64x64.Idx → EReal) {β : Type} (y : S16x64x64.Idx → β) (B : Fin 16) (i : Fin 64) (k : Fin 64) (hx : ∀ j, 0 ≤ x (ix3 B i j)) :
    (Host.sort2 S16x64x64 2 (fun l r => FloatOps.cmpfTotal (F := Ideal) (φ := .f32) .gt l.1 r.1) x y).2 (ix3 B i k) = y (ix3 B i (lead (fun j => x (ix3 B i j)) k.val)) := by
  have e := sortedFrom_eq_lead (fun l => x (ix3 B i l)) hx
    (fun k k' => FloatOps.cmpfTotal (F := Ideal) (φ := .f32) .gt (x (ix3 B i k)) (x (ix3 B i k')) == 1#1) (fun a b => gt_iff _ _) k.val k.isLt
  rw [← e]
  unfold Host.sort2
  rw [dif_pos (by decide)]
  exact congrArg (fun A : Fin 64 → S16x64x64.Idx => y (A (sortedFrom (fun k k' => FloatOps.cmpfTotal (F := Ideal) (φ := .f32) .gt (x (A k)) (x (A k')) == 1#1) k)))
    (funext fun q => along3 B i k q)

/-- The greatest of 510 and where it is. -/
theorem topk1 (x : S16x64x64x510.Idx → EReal) (hs) (B : Fin 16) (i j : Fin 64) (u : Fin 1) :
    (Host.topK S16x64x64x1 3 (FloatOps.cmpfTotal (F := Ideal) (φ := .f32) .gt) x hs).1 (ix4 B i j u) = x (ix4 B i j (amax fun l => x (ix4 B i j l)))
    ∧ (Host.topK S16x64x64x1 3 (FloatOps.cmpfTotal (F := Ideal) (φ := .f32) .gt) x hs).2 (ix4 B i j u) = BitVec.ofNat 32 (amax fun l => x (ix4 B i j l)).val := by
  have hu : u = 0 := Subsingleton.elim _ _
  subst hu
  have h0 : ∀ {γ : Type} (y : S16x64x64x510.Idx → γ), extractStridedSlice S16x64x64x1 (fun _ => 0) y hs (ix4 B i j 0) = y (ix4 B i j (0 : Fin 510)) := fun y =>
    congrArg y (by funext q; fin_cases q <;> exact Fin.ext (Nat.zero_add _))
  constructor
  · unfold Host.topK
    dsimp only
    rw [h0, (sort4_first x _ B i j).1]
  · unfold Host.topK
    dsimp only
    rw [h0, (sort4_first x _ B i j).2, dif_pos (by decide)]
    rfl

/-- The eight greatest of 64 nonnegative values and where they are. -/
theorem topk8 (x : S16x64x64.Idx → EReal) (hs) (B : Fin 16) (i : Fin 64) (k : Fin 8) (hx : ∀ j, 0 ≤ x (ix3 B i j)) :
    (Host.topK S16x64x8 2 (FloatOps.cmpfTotal (F := Ideal) (φ := .f32) .gt) x hs).2 (ix3 B i k) = BitVec.ofNat 32 (lead (fun j => x (ix3 B i j)) k.val).val := by
  have h0 : ∀ {γ : Type} (y : S16x64x64.Idx → γ), extractStridedSlice S16x64x8 (fun _ => 0) y hs (ix3 B i k) = y (ix3 B i (⟨k.val, by omega⟩ : Fin 64)) := fun y =>
    congrArg y (by funext q; fin_cases q <;> exact Fin.ext (Nat.zero_add _))
  unfold Host.topK
  dsimp only
  rw [h0, sort3_lead x _ B i _ hx, dif_pos (by decide)]
  rfl

end Cert.Proof
-- ==== Proof.Gathers.lean ====
/- The reference's gathers, read at an index. -/
module
public import proofs.«01_k».proof.Proof.RefA
public import Idealize.ShloMosaic.PureOps.Ideal
public import Idealize.ShloMosaic.Lib.Pointwise
@[expose] public section
noncomputable section
namespace Cert.Proof
open Idealize.ShloMosaic Cert.ReferenceIdeal Cert.ReferenceIdeal.Gen Cert.ReferenceIdeal.Read

theorem g510 {α : Type} (x : S16x64x64x510.Idx → α) (idx : IVec S16x64x64x1x1 32) (B : Fin 16) (i j : Fin 64) (u : Fin 1) (p : Fin 510) (hb : idx ((ix5 B i j u 0)) = BitVec.ofNat 32 p.val) :
    Host.gather gather_S16x64x64x510_S16x64x64x1x1_S16x64x64x1_n_3_012_012_3_4_1111 x idx ((ix4 B i j u)) = x (ix4 B i j p) := by
  unfold Host.gather
  refine congrArg x (funext fun a => Fin.ext ?_)
  have hp : min (BitVec.ofNat 32 p.val).toInt.toNat (510 - 1) = p.val := by
    rw [BitVec.toInt_eq_toNat_of_lt (by simp only [BitVec.toNat_ofNat]; omega), Int.toNat_natCast, BitVec.toNat_ofNat]
    omega
  fin_cases a
  · show gather_S16x64x64x510_S16x64x64x1x1_S16x64x64x1_n_3_012_012_3_4_1111.start (ix4 B i j u) idx 0 + gather_S16x64x64x510_S16x64x64x1x1_S16x64x64x1_n_3_012_012_3_4_1111.batchCoord (ix4 B i j u) 0 + gather_S16x64x64x510_S16x64x64x1x1_S16x64x64x1_n_3_012_012_3_4_1111.offCoord (ix4 B i j u) 0 = _
    rw [GatherDims.start_batching _ _ _ _ (by decide), GatherDims.offCoord_eq_zero _ _ _ (by decide), Nat.zero_add, Nat.add_zero]
    rfl
  · show gather_S16x64x64x510_S16x64x64x1x1_S16x64x64x1_n_3_012_012_3_4_1111.start (ix4 B i j u) idx 1 + gather_S16x64x64x510_S16x64x64x1x1_S16x64x64x1_n_3_012_012_3_4_1111.batchCoord (ix4 B i j u) 1 + gather_S16x64x64x510_S16x64x64x1x1_S16x64x64x1_n_3_012_012_3_4_1111.offCoord (ix4 B i j u) 1 = _
    rw [GatherDims.start_batching _ _ _ _ (by decide), GatherDims.offCoord_eq_zero _ _ _ (by decide), Nat.zero_add, Nat.add_zero]
    rfl
  · show gather_S16x64x64x510_S16x64x64x1x1_S16x64x64x1_n_3_012_012_3_4_1111.start (ix4 B i j u) idx 2 + gather_S16x64x64x510_S16x64x64x1x1_S16x64x64x1_n_3_012_012_3_4_1111.batchCoord (ix4 B i j u) 2 + gather_S16x64x64x510_S16x64x64x1x1_S16x64x64x1_n_3_012_012_3_4_1111.offCoord (ix4 B i j u) 2 = _
    rw [GatherDims.start_batching _ _ _ _ (by decide), GatherDims.offCoord_eq_zero _ _ _ (by decide), Nat.zero_add, Nat.add_zero]
    rfl
  · show gather_S16x64x64x510_S16x64x64x1x1_S16x64x64x1_n_3_012_012_3_4_1111.start (ix4 B i j u) idx 3 + gather_S16x64x64x510_S16x64x64x1x1_S16x64x64x1_n_3_012_012_3_4_1111.batchCoord (ix4 B i j u) 3 + gather_S16x64x64x510_S16x64x64x1x1_S16x64x64x1_n_3_012_012_3_4_1111.offCoord (ix4 B i j u) 3 = _
    rw [GatherDims.batchCoord_eq_zero _ _ _ (by decide), GatherDims.offCoord_eq_zero _ _ _ (by decide), Nat.add_zero]
    unfold GatherDims.start
    rw [dif_pos (by decide)]
    have hsi : gather_S16x64x64x510_S16x64x64x1x1_S16x64x64x1_n_3_012_012_3_4_1111.siIdx (ix4 B i j u) ⟨List.idxOf (3 : Fin 4) gather_S16x64x64x510_S16x64x64x1x1_S16x64x64x1_n_3_012_012_3_4_1111.startIndexMap, List.idxOf_lt_length_iff.2 (by decide)⟩ = (ix5 B i j u 0) := by
      funext b
      refine Fin.ext ?_
      fin_cases b <;> rfl
    rw [hsi, hb]
    exact hp

theorem g64 {α : Type} (x : S16x64x64.Idx → α) (idx : IVec S16x64x8x1 32) (B : Fin 16) (i : Fin 64) (k : Fin 8) (p : Fin 64) (hb : idx ((ix4 B i k 0)) = BitVec.ofNat 32 p.val) :
    Host.gather gather_S16x64x64_S16x64x8x1_S16x64x8_n_2_01_01_2_3_111 x idx ((ix3 B i k)) = x (ix3 B i p) := by
  unfold Host.gather
  refine congrArg x (funext fun a => Fin.ext ?_)
  have hp : min (BitVec.ofNat 32 p.val).toInt.toNat (64 - 1) = p.val := by
    rw [BitVec.toInt_eq_toNat_of_lt (by simp only [BitVec.toNat_ofNat]; omega), Int.toNat_natCast, BitVec.toNat_ofNat]
    omega
  fin_cases a
  · show gather_S16x64x64_S16x64x8x1_S16x64x8_n_2_01_01_2_3_111.start (ix3 B i k) idx 0 + gather_S16x64x64_S16x64x8x1_S16x64x8_n_2_01_01_2_3_111.batchCoord (ix3 B i k) 0 + gather_S16x64x64_S16x64x8x1_S16x64x8_n_2_01_01_2_3_111.offCoord (ix3 B i k) 0 = _
    rw [GatherDims.start_batching _ _ _ _ (by decide), GatherDims.offCoord_eq_zero _ _ _ (by decide), Nat.zero_add, Nat.add_zero]
    rfl
  · show gather_S16x64x64_S16x64x8x1_S16x64x8_n_2_01_01_2_3_111.start (ix3 B i k) idx 1 + gather_S16x64x64_S16x64x8x1_S16x64x8_n_2_01_01_2_3_111.batchCoord (ix3 B i k) 1 + gather_S16x64x64_S16x64x8x1_S16x64x8_n_2_01_01_2_3_111.offCoord (ix3 B i k) 1 = _
    rw [GatherDims.start_batching _ _ _ _ (by decide), GatherDims.offCoord_eq_zero _ _ _ (by decide), Nat.zero_add, Nat.add_zero]
    rfl
  · show gather_S16x64x64_S16x64x8x1_S16x64x8_n_2_01_01_2_3_111.start (ix3 B i k) idx 2 + gather_S16x64x64_S16x64x8x1_S16x64x8_n_2_01_01_2_3_111.batchCoord (ix3 B i k) 2 + gather_S16x64x64_S16x64x8x1_S16x64x8_n_2_01_01_2_3_111.offCoord (ix3 B i k) 2 = _
    rw [GatherDims.batchCoord_eq_zero _ _ _ (by decide), GatherDims.offCoord_eq_zero _ _ _ (by decide), Nat.add_zero]
    unfold GatherDims.start
    rw [dif_pos (by decide)]
    have hsi : gather_S16x64x64_S16x64x8x1_S16x64x8_n_2_01_01_2_3_111.siIdx (ix3 B i k) ⟨List.idxOf (2 : Fin 3) gather_S16x64x64_S16x64x8x1_S16x64x8_n_2_01_01_2_3_111.startIndexMap, List.idxOf_lt_length_iff.2 (by decide)⟩ = (ix4 B i k 0) := by
      funext b
      refine Fin.ext ?_
      fin_cases b <;> rfl
    rw [hsi, hb]
    exact hp

theorem g608r {α : Type} (x : S16x64x608.Idx → α) (idx : IVec S16x512x1 32) (B : Fin 16) (q : Fin 512) (t : Fin 608) (p : Fin 64) (hb : idx ((ix3 B q 0)) = BitVec.ofNat 32 p.val) :
    Host.gather gather_S16x64x608_S16x512x1_S16x512x608_2_1_0_0_1_2_11608 x idx ((ix3 B q t)) = x (ix3 B p t) := by
  unfold Host.gather
  refine congrArg x (funext fun a => Fin.ext ?_)
  have hp : min (BitVec.ofNat 32 p.val).toInt.toNat (64 - 1) = p.val := by
    rw [BitVec.toInt_eq_toNat_of_lt (by simp only [BitVec.toNat_ofNat]; omega), Int.toNat_natCast, BitVec.toNat_ofNat]
    omega
  fin_cases a
  · show gather_S16x64x608_S16x512x1_S16x512x608_2_1_0_0_1_2_11608.start (ix3 B q t) idx 0 + gather_S16x64x608_S16x512x1_S16x512x608_2_1_0_0_1_2_11608.batchCoord (ix3 B q t) 0 + gather_S16x64x608_S16x512x1_S16x512x608_2_1_0_0_1_2_11608.offCoord (ix3 B q t) 0 = _
    rw [GatherDims.start_batching _ _ _ _ (by decide), GatherDims.offCoord_eq_zero _ _ _ (by decide), Nat.zero_add, Nat.add_zero]
    rfl
  · show gather_S16x64x608_S16x512x1_S16x512x608_2_1_0_0_1_2_11608.start (ix3 B q t) idx 1 + gather_S16x64x608_S16x512x1_S16x512x608_2_1_0_0_1_2_11608.batchCoord (ix3 B q t) 1 + gather_S16x64x608_S16x512x1_S16x512x608_2_1_0_0_1_2_11608.offCoord (ix3 B q t) 1 = _
    rw [GatherDims.batchCoord_eq_zero _ _ _ (by decide), GatherDims.offCoord_eq_zero _ _ _ (by decide), Nat.add_zero]
    unfold GatherDims.start
    rw [dif_pos (by decide)]
    have hsi : gather_S16x64x608_S16x512x1_S16x512x608_2_1_0_0_1_2_11608.siIdx (ix3 B q t) ⟨List.idxOf (1 : Fin 3) gather_S16x64x608_S16x512x1_S16x512x608_2_1_0_0_1_2_11608.startIndexMap, List.idxOf_lt_length_iff.2 (by decide)⟩ = (ix3 B q 0) := by
      funext b
      refine Fin.ext ?_
      fin_cases b <;> rfl
    rw [hsi, hb]
    exact hp
  · show gather_S16x64x608_S16x512x1_S16x512x608_2_1_0_0_1_2_11608.start (ix3 B q t) idx 2 + gather_S16x64x608_S16x512x1_S16x512x608_2_1_0_0_1_2_11608.batchCoord (ix3 B q t) 2 + gather_S16x64x608_S16x512x1_S16x512x608_2_1_0_0_1_2_11608.offCoord (ix3 B q t) 2 = _
    rw [GatherDims.batchCoord_eq_zero _ _ _ (by decide), Nat.add_zero]
    unfold GatherDims.start
    rw [dif_neg (by decide), Nat.zero_add]
    rfl

theorem g608 {α : Type} (x : S16x512x608.Idx → α) (idx : IVec S16x512x96x1 32) (B : Fin 16) (q : Fin 512) (h : Fin 96) (p : Fin 608) (hb : idx ((ix4 B q h 0)) = BitVec.ofNat 32 p.val) :
    Host.gather gather_S16x512x608_S16x512x96x1_S16x512x96_n_2_01_01_2_3_111 x idx ((ix3 B q h)) = x (ix3 B q p) := by
  unfold Host.gather
  refine congrArg x (funext fun a => Fin.ext ?_)
  have hp : min (BitVec.ofNat 32 p.val).toInt.toNat (608 - 1) = p.val := by
    rw [BitVec.toInt_eq_toNat_of_lt (by simp only [BitVec.toNat_ofNat]; omega), Int.toNat_natCast, BitVec.toNat_ofNat]
    omega
  fin_cases a
  · show gather_S16x512x608_S16x512x96x1_S16x512x96_n_2_01_01_2_3_111.start (ix3 B q h) idx 0 + gather_S16x512x608_S16x512x96x1_S16x512x96_n_2_01_01_2_3_111.batchCoord (ix3 B q h) 0 + gather_S16x512x608_S16x512x96x1_S16x512x96_n_2_01_01_2_3_111.offCoord (ix3 B q h) 0 = _
    rw [GatherDims.start_batching _ _ _ _ (by decide), GatherDims.offCoord_eq_zero _ _ _ (by decide), Nat.zero_add, Nat.add_zero]
    rfl
  · show gather_S16x512x608_S16x512x96x1_S16x512x96_n_2_01_01_2_3_111.start (ix3 B q h) idx 1 + gather_S16x512x608_S16x512x96x1_S16x512x96_n_2_01_01_2_3_111.batchCoord (ix3 B q h) 1 + gather_S16x512x608_S16x512x96x1_S16x512x96_n_2_01_01_2_3_111.offCoord (ix3 B q h) 1 = _
    rw [GatherDims.start_batching _ _ _ _ (by decide), GatherDims.offCoord_eq_zero _ _ _ (by decide), Nat.zero_add, Nat.add_zero]
    rfl
  · show gather_S16x512x608_S16x512x96x1_S16x512x96_n_2_01_01_2_3_111.start (ix3 B q h) idx 2 + gather_S16x512x608_S16x512x96x1_S16x512x96_n_2_01_01_2_3_111.batchCoord (ix3 B q h) 2 + gather_S16x512x608_S16x512x96x1_S16x512x96_n_2_01_01_2_3_111.offCoord (ix3 B q h) 2 = _
    rw [GatherDims.batchCoord_eq_zero _ _ _ (by decide), GatherDims.offCoord_eq_zero _ _ _ (by decide), Nat.add_zero]
    unfold GatherDims.start
    rw [dif_pos (by decide)]
    have hsi : gather_S16x512x608_S16x512x96x1_S16x512x96_n_2_01_01_2_3_111.siIdx (ix3 B q h) ⟨List.idxOf (2 : Fin 3) gather_S16x512x608_S16x512x96x1_S16x512x96_n_2_01_01_2_3_111.startIndexMap, List.idxOf_lt_length_iff.2 (by decide)⟩ = (ix4 B q h 0) := by
      funext b
      refine Fin.ext ?_
      fin_cases b <;> rfl
    rw [hsi, hb]
    exact hp

end Cert.Proof
-- ==== Proof.RefC.lean ====
/- The reference's peaks, leaders, lags and windows. -/
module
public import proofs.«01_k».proof.Proof.RefB
public import proofs.«01_k».proof.Proof.Leaders
public import proofs.«01_k».proof.Proof.Gathers
public import Idealize.ShloMosaic.PureOps.Ideal
public import Idealize.ShloMosaic.Lib.Pointwise
@[expose] public section
noncomputable section
namespace Cert.Proof
open Idealize.ShloMosaic Cert.ReferenceIdeal Cert.ReferenceIdeal.Gen Cert.ReferenceIdeal.Read

variable (x0 : (⟨S16x64x512, .f32⟩ : BufTy).Contents (Elt Ideal)) (x1 : (⟨S16x64x96, .f32⟩ : BufTy).Contents (Elt Ideal))

/-! ### Peaks of a real row -/

theorem ab_real (r : ℝ) : ab ((r : ℝ) : EReal) = ((|r| : ℝ) : EReal) := by
  rw [ab, ← EReal.coe_neg, ← EReal.coe_strictMono.monotone.map_max]; rfl

theorem lit_inv512 : Ideal.ofBits .f32 0x3B000000#32 = ((1 / 512 : ℝ) : EReal) := by
  simp [Ideal.ofBits, Ideal.ieee, -EReal.coe_mul]; norm_num

theorem div512 (x : ℝ) : Ideal.div ((x : ℝ) : EReal) (Ideal.ofBits .f32 1140850688#32) = ((x / 512 : ℝ) : EReal) := by
  rw [div_nat x 512 (by norm_num) _ (by rw [lit_512]; norm_num)]; norm_num

theorem gre_real (n f t : ℕ) : ∃ r : ℝ, gre n f t = r := ⟨_, rfl⟩
theorem gim_real (n f t : ℕ) : ∃ r : ℝ, gim n f t = r := ⟨_, rfl⟩

theorem cc_real (X : Fin 64 → Fin 512 → EReal) (i j : Fin 64) (t : Fin 512) : ∃ r : ℝ, cc X i j t = r := by
  have h1 : ∃ r : ℝ, (∑ f : Fin 257, (re X i f.val * re X j f.val + im X i f.val * im X j f.val) * gre 512 f.val t.val) = r := by
    refine sum_real _ fun f => ?_
    obtain ⟨a, ha⟩ := re_real X i f.val
    obtain ⟨b, hb⟩ := re_real X j f.val
    obtain ⟨c, hc⟩ := im_real X i f.val
    obtain ⟨d, hd⟩ := im_real X j f.val
    obtain ⟨e, he⟩ := gre_real 512 f.val t.val
    exact ⟨(a * b + c * d) * e, by rw [ha, hb, hc, hd, he]; norm_cast⟩
  have h2 : ∃ r : ℝ, (∑ f : Fin 257, (im X i f.val * re X j f.val - re X i f.val * im X j f.val) * gim 512 f.val t.val) = r := by
    refine sum_real _ fun f => ?_
    obtain ⟨a, ha⟩ := re_real X i f.val
    obtain ⟨b, hb⟩ := re_real X j f.val
    obtain ⟨c, hc⟩ := im_real X i f.val
    obtain ⟨d, hd⟩ := im_real X j f.val
    obtain ⟨e, he⟩ := gim_real 512 f.val t.val
    exact ⟨(c * b - a * d) * e, by rw [ha, hb, hc, hd, he]; norm_cast⟩
  obtain ⟨a, ha⟩ := h1
  obtain ⟨b, hb⟩ := h2
  exact ⟨a + b, by unfold cc; rw [ha, hb]; norm_cast⟩

/-- At each inner lag of a real row: what the reference keeps, and the kernel's magnitude, as real numbers. -/
theorem kept_cases (g : Fin 512 → EReal) (hg : ∀ t, ∃ r : ℝ, g t = r) (l : Fin 510) :
    ∃ r : ℝ, kept g l = ((r / 512 : ℝ) : EReal) ∧ cam g l = ((|r| : ℝ) : EReal) ∧ ((0 < |r|) → g ⟨1 + l.val, by omega⟩ = r) := by
  obtain ⟨r, hr⟩ := hg ⟨1 + l.val, by omega⟩
  unfold kept cam
  by_cases hP : Pk (g ⟨l.val, by omega⟩) (g ⟨1 + l.val, by omega⟩) (g ⟨2 + l.val, by omega⟩)
  · refine ⟨r, ?_, ?_, fun _ => hr⟩
    · rw [if_pos hP, hr, div512]
    · rw [if_pos hP, hr, ab_real]
  · refine ⟨0, ?_, ?_, fun h => ?_⟩
    · rw [if_neg hP, ← EReal.coe_zero, div512]
    · rw [if_neg hP, abs_zero, EReal.coe_zero]
    · simp at h

theorem ab_kept (g : Fin 512 → EReal) (hg : ∀ t, ∃ r : ℝ, g t = r) (l : Fin 510) :
    ∃ r : ℝ, ab (kept g l) = ((r / 512 : ℝ) : EReal) ∧ cam g l = ((r : ℝ) : EReal) ∧ 0 ≤ r := by
  obtain ⟨r, h1, h2, _⟩ := kept_cases g hg l
  refine ⟨|r|, ?_, h2, abs_nonneg _⟩
  rw [h1, ab_real, abs_div, abs_of_pos (by norm_num : (0 : ℝ) < 512)]

theorem amax_kept (g : Fin 512 → EReal) (hg : ∀ t, ∃ r : ℝ, g t = r) : amax (fun l => ab (kept g l)) = pk g := by
  refine amax_congr_le fun i j => ?_
  obtain ⟨a, ha, ha', _⟩ := ab_kept g hg i
  obtain ⟨b, hb, hb', _⟩ := ab_kept g hg j
  rw [ha, hb, ha', hb', EReal.coe_le_coe_iff, EReal.coe_le_coe_iff]
  exact div_le_div_iff_of_pos_right (by norm_num)

theorem kept_pk (g : Fin 512 → EReal) (hg : ∀ t, ∃ r : ℝ, g t = r) : kept g (pk g) = ps g := by
  obtain ⟨r, h1, h2, h3⟩ := kept_cases g hg (pk g)
  unfold ps pm ngb
  rw [h1, h2, lit_inv512]
  rcases eq_or_ne r 0 with h | h
  · subst h
    simp
  · rw [h3 (abs_pos.2 h)]
    rcases lt_or_gt_of_ne h with hn | hn
    · rw [if_pos (by rw [decide_eq_true_eq, ← EReal.coe_zero, EReal.coe_lt_coe_iff]; exact hn), abs_of_neg hn, ← EReal.coe_zero, ← EReal.coe_sub, ← EReal.coe_mul]
      congr 1; ring
    · rw [if_neg (by rw [decide_eq_true_eq, ← EReal.coe_zero, EReal.coe_lt_coe_iff]; exact not_lt.2 hn.le), abs_of_pos hn, ← EReal.coe_mul]
      congr 1; ring

/-- The word of a small number is not negative, so no wrap applies to it. -/
theorem wrap_nat (p : Nat) (hp : p < 2 ^ 31) (w : BitVec 32) :
    Scalar.select (IntOp.cmpi .slt (BitVec.ofNat 32 p) 0#32) w (BitVec.ofNat 32 p) = BitVec.ofNat 32 p := by
  have h : (BitVec.ofNat 32 p).slt 0#32 = false := by
    rw [BitVec.slt, BitVec.toInt_eq_toNat_of_lt (by simp only [BitVec.toNat_ofNat]; omega)]
    simp
    omega
  simp only [IntOp.cmpi, h]
  rfl

/-! ### The peaks -/

theorem rval (B : Fin 16) (i j : Fin 64) (u : Fin 1) : val_main_values (F := Ideal) x0 (ix4 B i j u) = ab (kept (cc (sl3 x0 B) i j) (pk (cc (sl3 x0 B) i j))) := by
  unfold val_main_values
  rw [(topk1 (val_main_v99 (F := Ideal) x0) _ B i j u).1]
  simp only [r99]
  rw [amax_kept _ (cc_real _ i j)]

theorem ridx (B : Fin 16) (i j : Fin 64) (u : Fin 1) : val_main_indices (F := Ideal) x0 (ix4 B i j u) = BitVec.ofNat 32 (pk (cc (sl3 x0 B) i j)).val := by
  unfold val_main_indices
  rw [(topk1 (val_main_v99 (F := Ideal) x0) _ B i j u).2]
  simp only [r99]
  rw [amax_kept _ (cc_real _ i j)]

theorem r100 (B : Fin 16) (i j : Fin 64) : val_main_v100 (F := Ideal) x0 (ix3 B i j) = ab (kept (cc (sl3 x0 B) i j) (pk (cc (sl3 x0 B) i j))) := by
  unfold val_main_v100
  pointwise
  simp only [rval]

theorem r101 (B : Fin 16) (i j : Fin 64) : val_main_v101 (F := Ideal) x0 (ix3 B i j) = BitVec.ofNat 32 (pk (cc (sl3 x0 B) i j)).val := by
  unfold val_main_v101
  pointwise
  simp only [ridx]

theorem r2v5 (B : Fin 16) (i j : Fin 64) (u w : Fin 1) : val_main_call2_v5 (F := Ideal) x0 (ix5 B i j u w) = BitVec.ofNat 32 (pk (cc (sl3 x0 B) i j)).val := by
  unfold val_main_call2_v5 val_main_call2_v4 val_main_call2_v3 val_main_call2_v2 val_main_call2_c_0 val_main_call2_v1 val_main_call2_v0 val_main_call2_c val_main_v102
  pointwise
  simp only [r101]
  exact wrap_nat _ (by omega) _

theorem r104 (B : Fin 16) (i j : Fin 64) : val_main_v104 (F := Ideal) x0 (ix3 B i j) = rvl (sl3 x0 B) i j := by
  unfold val_main_v104 val_main_v103
  pointwise
  rw [g510 _ _ B i j _ (pk (cc (sl3 x0 B) i j)) (r2v5 x0 B i j _ _), r98, kept_pk _ (cc_real _ i j)]
  rfl

/-! ### The leaders -/

theorem r20 (B : Fin 16) (i : Fin 64) (k : Fin 8) : val_main_indices_20 (F := Ideal) x0 (ix3 B i k) = BitVec.ofNat 32 (ldr (sl3 x0 B) i k.val).val := by
  have key : ∀ j, ∃ r : ℝ, val_main_v100 (F := Ideal) x0 (ix3 B i j) = ((r / 512 : ℝ) : EReal) ∧ cmx (sl3 x0 B) i j = ((r : ℝ) : EReal) ∧ 0 ≤ r := fun j => by
    rw [r100]
    exact ab_kept _ (cc_real _ i j) _
  have hx : ∀ j, 0 ≤ val_main_v100 (F := Ideal) x0 (ix3 B i j) := fun j => by
    obtain ⟨r, h, _, h0⟩ := key j
    rw [h, ← EReal.coe_zero, EReal.coe_le_coe_iff]; positivity
  have hy : ∀ j, 0 ≤ cmx (sl3 x0 B) i j := fun j => cam_nonneg _ _
  unfold val_main_indices_20
  rw [topk8 (val_main_v100 (F := Ideal) x0) _ B i k hx]
  unfold ldr
  rw [lead_congr _ (cmx (sl3 x0 B) i) hx hy (fun a b => ?_) k.val (by omega)]
  obtain ⟨r, h, h', _⟩ := key a
  obtain ⟨s, g, g', _⟩ := key b
  rw [h, g, h', g', EReal.coe_lt_coe_iff, EReal.coe_lt_coe_iff]
  exact div_lt_div_iff_of_pos_right (by norm_num)

theorem r3v5 (B : Fin 16) (i : Fin 64) (k : Fin 8) (u : Fin 1) : val_main_call3_v5 (F := Ideal) x0 (ix4 B i k u) = BitVec.ofNat 32 (ldr (sl3 x0 B) i k.val).val := by
  unfold val_main_call3_v5 val_main_call3_v4 val_main_call3_v3 val_main_call3_v2 val_main_call3_c_0 val_main_call3_v1 val_main_call3_v0 val_main_call3_c
  pointwise
  simp only [r20]
  exact wrap_nat _ (by omega) _

theorem r4v5 (B : Fin 16) (i : Fin 64) (k : Fin 8) (u : Fin 1) : val_main_call4_v5 (F := Ideal) x0 (ix4 B i k u) = BitVec.ofNat 32 (ldr (sl3 x0 B) i k.val).val := by
  unfold val_main_call4_v5 val_main_call4_v4 val_main_call4_v3 val_main_call4_v2 val_main_call4_c_0 val_main_call4_v1 val_main_call4_v0 val_main_call4_c
  pointwise
  simp only [r20]
  exact wrap_nat _ (by omega) _

theorem r105 (B : Fin 16) (i : Fin 64) (k : Fin 8) : val_main_v105 (F := Ideal) x0 (ix3 B i k) = rk (sl3 x0 B) i k.val := by
  unfold val_main_v105
  rw [g64 _ _ B i k (ldr (sl3 x0 B) i k.val) (r3v5 x0 B i k _), r104]
  rfl

theorem r106 (B : Fin 16) (i : Fin 64) (k : Fin 8) : val_main_v106 (F := Ideal) x0 (ix3 B i k) = BitVec.ofNat 32 (pk (cc (sl3 x0 B) i (ldr (sl3 x0 B) i k.val))).val := by
  unfold val_main_v106
  rw [g64 _ _ B i k (ldr (sl3 x0 B) i k.val) (r4v5 x0 B i k _), r101]

theorem r108 (B : Fin 16) (i : Fin 64) (k : Fin 8) : val_main_v108 (F := Ideal) x0 (ix3 B i k) = BitVec.ofNat 32 (sk (sl3 x0 B) i k.val) := by
  unfold val_main_v108 val_main_v107 val_main_c_21
  pointwise
  simp only [r106]
  unfold sk shf
  simp [IntOp.addi, BitVec.ofNat_add]

/-! ### The windows -/

theorem r109 (B : Fin 16) (i : Fin 64) (t : Fin 608) : val_main_v109 (F := Ideal) x0 x1 (ix3 B i t) = sq (sl3 x0 B) (sl3 x1 B) i t.val := by
  unfold val_main_v109
  pointwise
  unfold sq
  by_cases h : t.val < 512
  · rw [dif_pos h, dif_pos h, r15]
  · rw [dif_neg h, dif_neg h, dif_pos (by omega), r19]

theorem r5v4 (B : Fin 16) (q : Fin 512) (u : Fin 1) : val_main_call5_v4 (F := Ideal) x0 (ix3 B q u) = BitVec.ofNat 32 (ldr (sl3 x0 B) ⟨q.val / 8, by omega⟩ (q.val % 8)).val := by
  unfold val_main_call5_v4 val_main_call5_v3 val_main_call5_v2 val_main_call5_c_0 val_main_call5_v1 val_main_call5_v0 val_main_call5_c val_main_v110
  pointwise
  simp only [r20]
  exact wrap_nat _ (by omega) _

theorem r111 (B : Fin 16) (q : Fin 512) (t : Fin 608) : val_main_v111 (F := Ideal) x0 x1 (ix3 B q t) = sq (sl3 x0 B) (sl3 x1 B) (ldr (sl3 x0 B) ⟨q.val / 8, by omega⟩ (q.val % 8)) t.val := by
  unfold val_main_v111
  rw [g608r _ _ B q t _ (r5v4 x0 B q _), r109]

theorem r6v5 (B : Fin 16) (q : Fin 512) (h : Fin 96) (u : Fin 1) : val_main_call6_v5 (F := Ideal) x0 (ix4 B q h u) = BitVec.ofNat 32 (512 + h.val - sk (sl3 x0 B) ⟨q.val / 8, by omega⟩ (q.val % 8)) := by
  have hs := sk_pos (sl3 x0 B) ⟨q.val / 8, by omega⟩ (q.val % 8)
  have e : ∀ s : Nat, s ≤ 510 → IntOp.subi (IntOp.addi (BitVec.ofNat 32 h.val) 512#32) (BitVec.ofNat 32 s) = BitVec.ofNat 32 (512 + h.val - s) := fun s hs => by
    apply BitVec.eq_of_toNat_eq
    simp only [IntOp.subi, IntOp.addi, BitVec.toNat_sub, BitVec.toNat_add, BitVec.toNat_ofNat]
    omega
  unfold val_main_call6_v5 val_main_call6_v4 val_main_call6_v3 val_main_call6_v2 val_main_call6_c_0 val_main_call6_v1 val_main_call6_v0 val_main_call6_c val_main_v118 val_main_v117 val_main_v115 val_main_v116 val_main_v114 val_main_v113 val_main_c_22 val_main_v112
  pointwise
  simp only [r108]
  rw [e _ hs.2]
  exact wrap_nat _ (by omega) _

theorem r119 (B : Fin 16) (q : Fin 512) (h : Fin 96) : val_main_v119 (F := Ideal) x0 x1 (ix3 B q h)
    = sq (sl3 x0 B) (sl3 x1 B) (ldr (sl3 x0 B) ⟨q.val / 8, by omega⟩ (q.val % 8)) (512 + h.val - sk (sl3 x0 B) ⟨q.val / 8, by omega⟩ (q.val % 8)) := by
  have hs := sk_pos (sl3 x0 B) ⟨q.val / 8, by omega⟩ (q.val % 8)
  unfold val_main_v119
  rw [g608 _ _ B q h ⟨512 + h.val - sk (sl3 x0 B) ⟨q.val / 8, by omega⟩ (q.val % 8), by omega⟩ (r6v5 x0 B q h _), r111]

theorem sign_sgn (x : EReal) : Ideal.sign x = sgn x := by
  unfold sgn
  rw [lit_neg1]
  induction x using EReal.rec with
  | bot =>
    show (-1 : EReal) = _
    rw [if_neg (by simp), if_pos (by simp)]; simp
  | top =>
    show (1 : EReal) = _
    rw [if_pos (by simp)]
  | coe r =>
    show (((SignType.sign r : ℝ)) : EReal) = _
    rcases lt_trichotomy r 0 with h | h | h
    · rw [if_neg (by rw [← EReal.coe_zero, EReal.coe_lt_coe_iff]; exact not_lt.2 h.le), if_pos (by rw [← EReal.coe_zero, EReal.coe_lt_coe_iff]; exact h), sign_neg h]; simp
    · subst h; simp
    · rw [if_pos (by rw [← EReal.coe_zero, EReal.coe_lt_coe_iff]; exact h), sign_pos h]; simp

theorem r124 (B : Fin 16) (i : Fin 64) (k : Fin 8) (h : Fin 96) : val_main_v124 (F := Ideal) x0 x1 (ix4 B i k h) = win (sl3 x0 B) (sl3 x1 B) i k.val h := by
  have e1 : ∀ (p : (i.val * 8 + k.val) / 8 < 64), (⟨(i.val * 8 + k.val) / 8, p⟩ : Fin 64) = i := fun p => Fin.ext (by dsimp only; omega)
  have e2 : (i.val * 8 + k.val) % 8 = k.val := by omega
  unfold val_main_v124 val_main_v123 val_main_v122 val_main_v121 val_main_v120
  pointwise
  simp only [r119, r105]
  simp only [e1, e2]
  unfold win
  rw [sign_sgn]

end Cert.Proof
-- ==== Proof.RefD.lean ====
/- The reference's filter bank. -/
module
public import proofs.«01_k».proof.Proof.RefC
public import Idealize.ShloMosaic.PureOps.Ideal
public import Idealize.ShloMosaic.Lib.Pointwise
@[expose] public section
noncomputable section
namespace Cert.Proof
open Idealize.ShloMosaic Cert.ReferenceIdeal Cert.ReferenceIdeal.Gen Cert.ReferenceIdeal.Read

/-- The reference's temperature. -/
def tmp (x2 : (⟨S1, .f32⟩ : BufTy).Contents (Elt Ideal)) : EReal := x2 (ix1 0)
/-- A matrix argument as a function of its two coordinates. -/
def m2 {a b : Nat} (x : (⟨2, ![a, b]⟩ : Shape).Idx → EReal) (i : Fin a) (j : Fin b) : EReal := x (ix2 i j)
/-- A vector argument as a function of its coordinate. -/
def m1 {a : Nat} (x : (⟨1, ![a]⟩ : Shape).Idx → EReal) (i : Fin a) : EReal := x (ix1 i)

theorem r130 (x0 : (⟨S16x64x512, .f32⟩ : BufTy).Contents (Elt Ideal)) (x2 : (⟨S1, .f32⟩ : BufTy).Contents (Elt Ideal)) (B : Fin 16) (i : Fin 64) (j : Fin 9) : val_main_v130 (F := Ideal) x0 x2 (ix3 B i j) = zc (sl3 x0 B) (tmp x2) i j := by
  unfold val_main_v130 val_main_v129 val_main_v128 val_main_v127 val_main_v126 val_main_v125 val_main_cst_23
  pointwise
  unfold zc tmp
  by_cases h : j.val = 0
  · rw [dif_pos (by omega), if_pos h]
  · rw [dif_neg (by omega), if_neg h, r105, absf_ab]

theorem r142 (x0 : (⟨S16x64x512, .f32⟩ : BufTy).Contents (Elt Ideal)) (x2 : (⟨S1, .f32⟩ : BufTy).Contents (Elt Ideal)) (B : Fin 16) (i : Fin 64) (k : Fin 8) : val_main_v142 (F := Ideal) x0 x2 (ix3 B i k) = cf (sl3 x0 B) (tmp x2) i k := by
  unfold val_main_v142 val_main_v141 val_main_v140 val_main_v139 val_main_v138 val_main_cst_26 val_main_v137 val_main_v136 val_main_v135 val_main_v134 val_main_v133 val_main_v131 val_main_cst_24 val_main_v132 val_main_cst_25
  pointwise
  simp only [r130]
  unfold cf smax
  simp only [ofBits_negInf, bot_sup_eq]
  have e : (⟨1 + k.val, by omega⟩ : Fin 9) = k.succ := Fin.ext (by rw [Fin.val_succ]; exact Nat.add_comm _ _)
  rw [e]

theorem r150 (x0 : (⟨S16x64x512, .f32⟩ : BufTy).Contents (Elt Ideal)) (x3 : (⟨S8x512, .f32⟩ : BufTy).Contents (Elt Ideal)) (x4 : (⟨S64x8, .f32⟩ : BufTy).Contents (Elt Ideal)) (x5 : (⟨S8, .f32⟩ : BufTy).Contents (Elt Ideal)) (B : Fin 16) (i : Fin 64) (k : Fin 8) : val_main_v150 (F := Ideal) x0 x3 x4 x5 (ix3 B i k) = zp (sl3 x0 B) (m2 x3) (m2 x4) (m1 x5) i k := by
  unfold val_main_v150 val_main_v147 val_main_v146 val_main_v149 val_main_v148 val_main_v145 val_main_v144 val_main_v143
  pointwise [dot_S16x64x512_S512x8_S16x64x8_2_0_01_1_n_n]
  rfl

theorem r161 (x0 : (⟨S16x64x512, .f32⟩ : BufTy).Contents (Elt Ideal)) (x3 : (⟨S8x512, .f32⟩ : BufTy).Contents (Elt Ideal)) (x4 : (⟨S64x8, .f32⟩ : BufTy).Contents (Elt Ideal)) (x5 : (⟨S8, .f32⟩ : BufTy).Contents (Elt Ideal)) (B : Fin 16) (i : Fin 64) (k : Fin 8) : val_main_v161 (F := Ideal) x0 x3 x4 x5 (ix3 B i k) = smax (zp (sl3 x0 B) (m2 x3) (m2 x4) (m1 x5) i) k := by
  unfold val_main_v161 val_main_v160 val_main_v159 val_main_v158 val_main_cst_29 val_main_v157 val_main_v156 val_main_v155 val_main_v154 val_main_v153 val_main_v151 val_main_cst_27 val_main_v152 val_main_cst_28
  pointwise
  simp only [r150]
  unfold smax
  simp only [ofBits_negInf, bot_sup_eq]

theorem r169 (x0 : (⟨S16x64x512, .f32⟩ : BufTy).Contents (Elt Ideal)) (x2 : (⟨S1, .f32⟩ : BufTy).Contents (Elt Ideal)) (x3 : (⟨S8x512, .f32⟩ : BufTy).Contents (Elt Ideal)) (x4 : (⟨S64x8, .f32⟩ : BufTy).Contents (Elt Ideal)) (x5 : (⟨S8, .f32⟩ : BufTy).Contents (Elt Ideal)) (x6 : (⟨S8x6664, .f32⟩ : BufTy).Contents (Elt Ideal)) (x7 : (⟨S8x833, .f32⟩ : BufTy).Contents (Elt Ideal)) (B : Fin 16) (i : Fin 64) (o : Fin 833) : val_main_v169 (F := Ideal) x0 x2 x3 x4 x5 x6 x7 (ix3 B i o)
    = filt (smax (zp (sl3 x0 B) (m2 x3) (m2 x4) (m1 x5) i)) (cf (sl3 x0 B) (tmp x2) i) (m2 x6) (m2 x7) o := by
  unfold val_main_v169 val_main_v164 val_main_v168 val_main_cst_30 val_main_v167 val_main_v163 val_main_v162 val_main_v166 val_main_v165
  pointwise [dot_S16x64x8_S8x833_S16x64x833_2_0_01_1_n_n, dot_S16x64x8_S8x6664_S16x64x6664_2_0_01_1_n_n]
  simp only [r161, r142]
  rfl

end Cert.Proof
-- ==== Proof.Inputs.lean ====
/- The inputs of one batch of the layer, as the arguments hold them. -/
module
public import proofs.«01_k».proof.Proof.RefD
public import Idealize.ShloMosaic.PureOps.Ideal
public import Idealize.ShloMosaic.Lib.Pointwise
@[expose] public section
noncomputable section
namespace Cert.Proof
open Idealize.ShloMosaic Cert.ReferenceIdeal Cert.ReferenceIdeal.Gen Cert.ReferenceIdeal.Read

/-- The inputs of batch `B`, as the arguments hold them. -/
def inp (x0 : (⟨S16x64x512, .f32⟩ : BufTy).Contents (Elt Ideal)) (x1 : (⟨S16x64x96, .f32⟩ : BufTy).Contents (Elt Ideal)) (x2 : (⟨S1, .f32⟩ : BufTy).Contents (Elt Ideal)) (x3 : (⟨S8x512, .f32⟩ : BufTy).Contents (Elt Ideal)) (x4 : (⟨S64x8, .f32⟩ : BufTy).Contents (Elt Ideal)) (x5 : (⟨S8, .f32⟩ : BufTy).Contents (Elt Ideal)) (x6 : (⟨S8x6664, .f32⟩ : BufTy).Contents (Elt Ideal)) (x7 : (⟨S8x833, .f32⟩ : BufTy).Contents (Elt Ideal)) (x8 : (⟨S49x147, .f32⟩ : BufTy).Contents (Elt Ideal)) (x9 : (⟨S49x147, .f32⟩ : BufTy).Contents (Elt Ideal)) (x10 : (⟨S49, .f32⟩ : BufTy).Contents (Elt Ideal)) (x11 : (⟨S49, .f32⟩ : BufTy).Contents (Elt Ideal)) (B : Fin 16) : Inp where
  X := sl3 x0 B
  Y := sl3 x1 B
  T := tmp x2
  cw := m2 x3
  bs := m2 x4
  fb := m1 x5
  mw := m2 x6
  mb := m2 x7
  wr := m2 x8
  wi := m2 x9
  br := m1 x10
  bi := m1 x11

end Cert.Proof
-- ==== Proof.RefE.lean ====
/- The reference's mixing of spectra and its result. -/
module
public import proofs.«01_k».proof.Proof.Inputs
public import Idealize.ShloMosaic.PureOps.Ideal
public import Idealize.ShloMosaic.Lib.Pointwise
@[expose] public section
noncomputable section
namespace Cert.Proof
open Idealize.ShloMosaic Cert.ReferenceIdeal Cert.ReferenceIdeal.Gen Cert.ReferenceIdeal.Read

theorem rv190 (x0 : (⟨S16x64x512, .f32⟩ : BufTy).Contents (Elt Ideal)) (x1 : (⟨S16x64x96, .f32⟩ : BufTy).Contents (Elt Ideal)) (B : Fin 16) (i : Fin 64) (f : Fin 49) : val_main_v190 (F := Ideal) x0 x1 (ix3 B i f) = re96 (yn (sl3 x0 B) (sl3 x1 B) i) f := by
  unfold val_main_v190
  pointwise [dot_S16x64x96_S96x49_S16x64x49_2_0_01_1_n_n]
  simp only [r19, qv187, re96]

theorem rv191 (x0 : (⟨S16x64x512, .f32⟩ : BufTy).Contents (Elt Ideal)) (x1 : (⟨S16x64x96, .f32⟩ : BufTy).Contents (Elt Ideal)) (B : Fin 16) (i : Fin 64) (f : Fin 49) : val_main_v191 (F := Ideal) x0 x1 (ix3 B i f) = im96 (yn (sl3 x0 B) (sl3 x1 B) i) f := by
  unfold val_main_v191
  pointwise [dot_S16x64x96_S96x49_S16x64x49_2_0_01_1_n_n]
  simp only [r19, qv189, im96]

theorem rv207 (x0 : (⟨S16x64x512, .f32⟩ : BufTy).Contents (Elt Ideal)) (x1 : (⟨S16x64x96, .f32⟩ : BufTy).Contents (Elt Ideal)) (B : Fin 16) (i : Fin 64) (k : Fin 8) (f : Fin 49) : val_main_v207 (F := Ideal) x0 x1 (ix4 B i k f) = re96 (win (sl3 x0 B) (sl3 x1 B) i k.val) f := by
  unfold val_main_v207
  pointwise [dot_S16x64x8x96_S96x49_S16x64x8x49_3_0_012_1_n_n]
  simp only [r124, qv204, re96]

theorem rv208 (x0 : (⟨S16x64x512, .f32⟩ : BufTy).Contents (Elt Ideal)) (x1 : (⟨S16x64x96, .f32⟩ : BufTy).Contents (Elt Ideal)) (B : Fin 16) (i : Fin 64) (k : Fin 8) (f : Fin 49) : val_main_v208 (F := Ideal) x0 x1 (ix4 B i k f) = im96 (win (sl3 x0 B) (sl3 x1 B) i k.val) f := by
  unfold val_main_v208
  pointwise [dot_S16x64x8x96_S96x49_S16x64x8x49_3_0_012_1_n_n]
  simp only [r124, qv206, im96]

theorem rv222 (x0 : (⟨S16x64x512, .f32⟩ : BufTy).Contents (Elt Ideal)) (x1 : (⟨S16x64x96, .f32⟩ : BufTy).Contents (Elt Ideal)) (x2 : (⟨S1, .f32⟩ : BufTy).Contents (Elt Ideal)) (x3 : (⟨S8x512, .f32⟩ : BufTy).Contents (Elt Ideal)) (x4 : (⟨S64x8, .f32⟩ : BufTy).Contents (Elt Ideal)) (x5 : (⟨S8, .f32⟩ : BufTy).Contents (Elt Ideal)) (x6 : (⟨S8x6664, .f32⟩ : BufTy).Contents (Elt Ideal)) (x7 : (⟨S8x833, .f32⟩ : BufTy).Contents (Elt Ideal)) (B : Fin 16) (i : Fin 64) (o : Fin 147) : val_main_v222 (F := Ideal) x0 x1 x2 x3 x4 x5 x6 x7 (ix3 B i o)
    = mixv (fun k => re96 (win (sl3 x0 B) (sl3 x1 B) i k.val)) (re96 (yn (sl3 x0 B) (sl3 x1 B) i)) (filt (smax (zp (sl3 x0 B) (m2 x3) (m2 x4) (m1 x5) i)) (cf (sl3 x0 B) (tmp x2) i) (m2 x6) (m2 x7)) o := by
  unfold val_main_v222 val_main_v221 val_main_v174 val_main_v173 val_main_v220 val_main_cst_40 val_main_v214 val_main_v172 val_main_v213 val_main_v212 val_main_v211 val_main_v219 val_main_cst_39 val_main_v209 val_main_v171 val_main_v170
  pointwise
  simp only [rv190, rv207, r169]
  generalize filt (smax (zp (sl3 x0 B) (m2 x3) (m2 x4) (m1 x5) i)) (cf (sl3 x0 B) (tmp x2) i) (m2 x6) (m2 x7) = w
  unfold mixv
  have e : o.val - 49 - 49 = o.val - 98 := by omega
  by_cases h1 : o.val < 49
  · rw [dif_pos h1, dif_pos h1]
  · rw [dif_neg h1, dif_neg h1]
    by_cases h2 : o.val < 98
    · rw [dif_pos h2]
      exact dif_pos (show o.val - 49 < 49 by omega)
    · rw [dif_neg h2]
      refine (dif_neg (show ¬ o.val - 49 < 49 by omega)).trans ?_
      simp only [e]

theorem rv226 (x0 : (⟨S16x64x512, .f32⟩ : BufTy).Contents (Elt Ideal)) (x1 : (⟨S16x64x96, .f32⟩ : BufTy).Contents (Elt Ideal)) (x2 : (⟨S1, .f32⟩ : BufTy).Contents (Elt Ideal)) (x3 : (⟨S8x512, .f32⟩ : BufTy).Contents (Elt Ideal)) (x4 : (⟨S64x8, .f32⟩ : BufTy).Contents (Elt Ideal)) (x5 : (⟨S8, .f32⟩ : BufTy).Contents (Elt Ideal)) (x6 : (⟨S8x6664, .f32⟩ : BufTy).Contents (Elt Ideal)) (x7 : (⟨S8x833, .f32⟩ : BufTy).Contents (Elt Ideal)) (B : Fin 16) (i : Fin 64) (o : Fin 147) : val_main_v226 (F := Ideal) x0 x1 x2 x3 x4 x5 x6 x7 (ix3 B i o)
    = mixv (fun k => im96 (win (sl3 x0 B) (sl3 x1 B) i k.val)) (im96 (yn (sl3 x0 B) (sl3 x1 B) i)) (filt (smax (zp (sl3 x0 B) (m2 x3) (m2 x4) (m1 x5) i)) (cf (sl3 x0 B) (tmp x2) i) (m2 x6) (m2 x7)) o := by
  unfold val_main_v226 val_main_v225 val_main_v174 val_main_v173 val_main_v224 val_main_cst_42 val_main_v218 val_main_v172 val_main_v217 val_main_v216 val_main_v215 val_main_v223 val_main_cst_41 val_main_v210 val_main_v171 val_main_v170
  pointwise
  simp only [rv191, rv208, r169]
  generalize filt (smax (zp (sl3 x0 B) (m2 x3) (m2 x4) (m1 x5) i)) (cf (sl3 x0 B) (tmp x2) i) (m2 x6) (m2 x7) = w
  unfold mixv
  have e : o.val - 49 - 49 = o.val - 98 := by omega
  by_cases h1 : o.val < 49
  · rw [dif_pos h1, dif_pos h1]
  · rw [dif_neg h1, dif_neg h1]
    by_cases h2 : o.val < 98
    · rw [dif_pos h2]
      exact dif_pos (show o.val - 49 < 49 by omega)
    · rw [dif_neg h2]
      refine (dif_neg (show ¬ o.val - 49 < 49 by omega)).trans ?_
      simp only [e]

theorem rv235 (x0 : (⟨S16x64x512, .f32⟩ : BufTy).Contents (Elt Ideal)) (x1 : (⟨S16x64x96, .f32⟩ : BufTy).Contents (Elt Ideal)) (x2 : (⟨S1, .f32⟩ : BufTy).Contents (Elt Ideal)) (x3 : (⟨S8x512, .f32⟩ : BufTy).Contents (Elt Ideal)) (x4 : (⟨S64x8, .f32⟩ : BufTy).Contents (Elt Ideal)) (x5 : (⟨S8, .f32⟩ : BufTy).Contents (Elt Ideal)) (x6 : (⟨S8x6664, .f32⟩ : BufTy).Contents (Elt Ideal)) (x7 : (⟨S8x833, .f32⟩ : BufTy).Contents (Elt Ideal)) (x8 : (⟨S49x147, .f32⟩ : BufTy).Contents (Elt Ideal)) (x9 : (⟨S49x147, .f32⟩ : BufTy).Contents (Elt Ideal)) (x10 : (⟨S49, .f32⟩ : BufTy).Contents (Elt Ideal)) (B : Fin 16) (i : Fin 64) (f : Fin 49) : val_main_v235 (F := Ideal) x0 x1 x2 x3 x4 x5 x6 x7 x8 x9 x10 (ix3 B i f)
    = outr (mixv (fun k => re96 (win (sl3 x0 B) (sl3 x1 B) i k.val)) (re96 (yn (sl3 x0 B) (sl3 x1 B) i)) (filt (smax (zp (sl3 x0 B) (m2 x3) (m2 x4) (m1 x5) i)) (cf (sl3 x0 B) (tmp x2) i) (m2 x6) (m2 x7))) (mixv (fun k => im96 (win (sl3 x0 B) (sl3 x1 B) i k.val)) (im96 (yn (sl3 x0 B) (sl3 x1 B) i)) (filt (smax (zp (sl3 x0 B) (m2 x3) (m2 x4) (m1 x5) i)) (cf (sl3 x0 B) (tmp x2) i) (m2 x6) (m2 x7))) (m2 x8) (m2 x9) (m1 x10) f := by
  unfold val_main_v235 val_main_v234 val_main_v233 val_main_v232 val_main_v231 val_main_v230 val_main_v228 val_main_v229 val_main_v227
  pointwise [dot_S16x64x147_S147x49_S16x64x49_2_0_01_1_n_n]
  simp only [rv222, rv226]
  rfl

theorem rv241 (x0 : (⟨S16x64x512, .f32⟩ : BufTy).Contents (Elt Ideal)) (x1 : (⟨S16x64x96, .f32⟩ : BufTy).Contents (Elt Ideal)) (x2 : (⟨S1, .f32⟩ : BufTy).Contents (Elt Ideal)) (x3 : (⟨S8x512, .f32⟩ : BufTy).Contents (Elt Ideal)) (x4 : (⟨S64x8, .f32⟩ : BufTy).Contents (Elt Ideal)) (x5 : (⟨S8, .f32⟩ : BufTy).Contents (Elt Ideal)) (x6 : (⟨S8x6664, .f32⟩ : BufTy).Contents (Elt Ideal)) (x7 : (⟨S8x833, .f32⟩ : BufTy).Contents (Elt Ideal)) (x8 : (⟨S49x147, .f32⟩ : BufTy).Contents (Elt Ideal)) (x9 : (⟨S49x147, .f32⟩ : BufTy).Contents (Elt Ideal)) (x11 : (⟨S49, .f32⟩ : BufTy).Contents (Elt Ideal)) (B : Fin 16) (i : Fin 64) (f : Fin 49) : val_main_v241 (F := Ideal) x0 x1 x2 x3 x4 x5 x6 x7 x8 x9 x11 (ix3 B i f)
    = outi (mixv (fun k => re96 (win (sl3 x0 B) (sl3 x1 B) i k.val)) (re96 (yn (sl3 x0 B) (sl3 x1 B) i)) (filt (smax (zp (sl3 x0 B) (m2 x3) (m2 x4) (m1 x5) i)) (cf (sl3 x0 B) (tmp x2) i) (m2 x6) (m2 x7))) (mixv (fun k => im96 (win (sl3 x0 B) (sl3 x1 B) i k.val)) (im96 (yn (sl3 x0 B) (sl3 x1 B) i)) (filt (smax (zp (sl3 x0 B) (m2 x3) (m2 x4) (m1 x5) i)) (cf (sl3 x0 B) (tmp x2) i) (m2 x6) (m2 x7))) (m2 x8) (m2 x9) (m1 x11) f := by
  unfold val_main_v241 val_main_v240 val_main_v239 val_main_v238 val_main_v237 val_main_v227 val_main_v236 val_main_v228
  pointwise [dot_S16x64x147_S147x49_S16x64x49_2_0_01_1_n_n]
  simp only [rv222, rv226]
  rfl

/-- The reference returns `result` of each batch's inputs. -/
theorem r278 (x0 : (⟨S16x64x512, .f32⟩ : BufTy).Contents (Elt Ideal)) (x1 : (⟨S16x64x96, .f32⟩ : BufTy).Contents (Elt Ideal)) (x2 : (⟨S1, .f32⟩ : BufTy).Contents (Elt Ideal)) (x3 : (⟨S8x512, .f32⟩ : BufTy).Contents (Elt Ideal)) (x4 : (⟨S64x8, .f32⟩ : BufTy).Contents (Elt Ideal)) (x5 : (⟨S8, .f32⟩ : BufTy).Contents (Elt Ideal)) (x6 : (⟨S8x6664, .f32⟩ : BufTy).Contents (Elt Ideal)) (x7 : (⟨S8x833, .f32⟩ : BufTy).Contents (Elt Ideal)) (x8 : (⟨S49x147, .f32⟩ : BufTy).Contents (Elt Ideal)) (x9 : (⟨S49x147, .f32⟩ : BufTy).Contents (Elt Ideal)) (x10 : (⟨S49, .f32⟩ : BufTy).Contents (Elt Ideal)) (x11 : (⟨S49, .f32⟩ : BufTy).Contents (Elt Ideal)) (B : Fin 16) (i : Fin 64) (h : Fin 96) : val_main_v278 (F := Ideal) x0 x1 x2 x3 x4 x5 x6 x7 x8 x9 x10 x11 (ix3 B i h) = result (inp x0 x1 x2 x3 x4 x5 x6 x7 x8 x9 x10 x11 B) i h := by
  unfold val_main_v278 val_main_v277 val_main_v276 val_main_v275 val_main_v274 val_main_v273 val_main_v272 val_main_v265
  pointwise [dot_S16x64x49_S49x96_S16x64x96_2_0_01_1_n_n]
  simp only [rv235, rv241, qv264, qv271, r19, r13, r3]
  rfl

end Cert.Proof
-- ==== Proof.Spectra.lean ====
/- The kernel's normalised rows, their spectra, and the correlations of every two rows of a block: each payload at
   one index, in terms of what its arguments hold. -/
module
public import proofs.«01_k».proof.Proof.Gen.KernelIdeal.Skeleton
public import proofs.«01_k».proof.Proof.Spec
public import Idealize.ShloMosaic.PureOps.Ideal
public import Idealize.ShloMosaic.Lib.Pointwise
@[expose] public section
noncomputable section
namespace Cert.Proof
open Idealize.ShloMosaic Cert.KernelIdeal Cert.KernelIdeal.Gen

/-! ### Words -/

theorem alt_select {α : Type} (t : Nat) (a b : α) (ht : t < 2 ^ 32) :
    Scalar.select (IntOp.cmpi CmpIPredicate.eq (IntOp.andi (BitVec.ofNat 32 t) 1#32) 0#32) a b = if t % 2 = 0 then a else b := by
  have h : (BitVec.ofNat 32 t &&& 1#32 = 0#32) ↔ t % 2 = 0 := by
    rw [← BitVec.toNat_inj]
    simp only [BitVec.toNat_and, BitVec.toNat_ofNat, Nat.mod_eq_of_lt ht]
    norm_num [Nat.and_one_is_mod]
  unfold Scalar.select IntOp.cmpi IntOp.andi
  by_cases h0 : t % 2 = 0
  · simp [h.2 h0, h0]
  · have h1 : (BitVec.ofNat 32 t &&& 1#32 == 0#32) = false := beq_eq_false_iff_ne.2 fun e => h0 (h.1 e)
    simp only [h1, h0, if_false]; rfl

/-! ### Normalised rows -/

theorem pay2_eq (v0 : Vec Ideal S1x64x512 .f32) (X : Fin 64 → Fin 512 → EReal) (hX : ∀ i t, v0 (ix3 0 i t) = X i t) (i : Fin 64) (t : Fin 512) :
    k0_pay2 (F := Ideal) v0 (ix2 i t) = X i t := by
  rw [← hX]; unfold k0_pay2; pointwise

theorem pay3_eq (v0 : Vec Ideal S1x64x512 .f32) (X : Fin 64 → Fin 512 → EReal) (hX : ∀ i t, v0 (ix3 0 i t) = X i t) (i : Fin 64) :
    k0_pay3 (F := Ideal) v0 (ix2 i 0) = mu X i := by
  unfold mu; simp only [← pay2_eq v0 X hX]; unfold k0_pay3; pointwise

theorem pay4_eq (v0 : Vec Ideal S1x64x512 .f32) (X : Fin 64 → Fin 512 → EReal) (hX : ∀ i t, v0 (ix3 0 i t) = X i t) (i : Fin 64) (t : Fin 512) :
    k0_pay4 (F := Ideal) v0 (ix2 i t) = X i t - mu X i := by
  rw [← pay3_eq v0 X hX, ← pay2_eq v0 X hX]; unfold k0_pay4; pointwise

theorem pay5_eq (v0 : Vec Ideal S1x64x512 .f32) (X : Fin 64 → Fin 512 → EReal) (hX : ∀ i t, v0 (ix3 0 i t) = X i t) (i : Fin 64) :
    k0_pay5 (F := Ideal) v0 (ix2 i 0) = sd X i := by
  unfold sd; simp only [← pay4_eq v0 X hX]; unfold k0_pay5; pointwise

theorem pay6_eq (v0 : Vec Ideal S1x64x512 .f32) (X : Fin 64 → Fin 512 → EReal) (hX : ∀ i t, v0 (ix3 0 i t) = X i t) (i : Fin 64) (t : Fin 512) :
    k0_pay6 (F := Ideal) v0 (ix2 i t) = xn X i t := by
  unfold xn; rw [← pay4_eq v0 X hX, ← pay5_eq v0 X hX]; unfold k0_pay6; pointwise

theorem pay7_eq (v0 : Vec Ideal S1x64x512 .f32) (v2 : Vec Ideal S1x64x96 .f32) (X : Fin 64 → Fin 512 → EReal) (Y : Fin 64 → Fin 96 → EReal)
    (hX : ∀ i t, v0 (ix3 0 i t) = X i t) (hY : ∀ i t, v2 (ix3 0 i t) = Y i t) (i : Fin 64) (t : Fin 96) :
    k0_pay7 (F := Ideal) v0 v2 (ix2 i t) = yn X Y i t := by
  unfold yn; rw [← hY, ← pay3_eq v0 X hX, ← pay5_eq v0 X hX]; unfold k0_pay7; pointwise

/-! ### Spectra -/

theorem pay9_eq (v0 : Vec Ideal S1x64x512 .f32) (v32 : Vec Ideal S512x256 .f32) (X : Fin 64 → Fin 512 → EReal)
    (hX : ∀ i t, v0 (ix3 0 i t) = X i t) (h32 : ∀ (s : Fin 512) (f : Fin 256), v32 (ix2 s f) = fre 512 s.val f.val) (i : Fin 64) (f : Fin 256) :
    k0_pay9 (F := Ideal) v0 v32 (ix2 i f) = re X i f.val := by
  unfold re; simp only [← h32, ← pay6_eq v0 X hX]; unfold k0_pay9; pointwise [dot_S64x512_S512x256_S64x256_1_0_0_1_n_n]

theorem pay10_eq (v0 : Vec Ideal S1x64x512 .f32) (v35 : Vec Ideal S512x256 .f32) (X : Fin 64 → Fin 512 → EReal)
    (hX : ∀ i t, v0 (ix3 0 i t) = X i t) (h35 : ∀ (s : Fin 512) (f : Fin 256), v35 (ix2 s f) = fim 512 s.val f.val) (i : Fin 64) (f : Fin 256) :
    k0_pay10 (F := Ideal) v0 v35 (ix2 i f) = im X i f.val := by
  unfold im; simp only [← h35, ← pay6_eq v0 X hX]; unfold k0_pay10; pointwise [dot_S64x512_S512x256_S64x256_1_0_0_1_n_n]

theorem pay8_eq (t : Fin 512) : k0_pay8 (F := Ideal) (ix2 0 t) = if t.val % 2 = 0 then 1 else Ideal.ofBits .f32 0xBF800000#32 := by
  rw [← alt_select t.val _ _ (by omega)]; unfold k0_pay8; pointwise

theorem pay11_eq (v19 : FVec Ideal S64x512 .f32) (X : Fin 64 → Fin 512 → EReal) (h19 : ∀ i t, v19 (ix2 i t) = xn X i t) (i : Fin 64) :
    k0_pay11 v19 (k0_pay8 (F := Ideal)) (ix2 i 0) = re X i 256 := by
  rw [re_half]; simp only [← h19, ← pay8_eq]; unfold k0_pay11; pointwise

/-! ### Products of spectra -/

/-- Row `n` of the batch. -/
def rw64 (n : Nat) : Fin 64 := ⟨n % 64, Nat.mod_lt _ (by omega)⟩

theorem rw64_eq (n : Nat) (h : n < 64) : (⟨n, h⟩ : Fin 64) = rw64 n := Fin.ext (Nat.mod_eq_of_lt h).symm
theorem rw64_val (i : Fin 64) : rw64 i.val = i := Fin.ext (Nat.mod_eq_of_lt i.isLt)

/-- The real part of the product of two rows' spectra. -/
def pre (X : Fin 64 → Fin 512 → EReal) (i j : Fin 64) (f : ℕ) : EReal := re X i f * re X j f + im X i f * im X j f
/-- Its imaginary part. -/
def pim (X : Fin 64 → Fin 512 → EReal) (i j : Fin 64) (f : ℕ) : EReal := im X i f * re X j f - re X i f * im X j f

theorem pay12_eq (v34 : FVec Ideal S64x256 .f32) (X : Fin 64 → Fin 512 → EReal) (h34 : ∀ (i : Fin 64) (f : Fin 256), v34 (ix2 i f) = re X i f.val) (i : Fin 16) (f : Fin 256) :
    k0_pay12 v34 (ix2 i f) = re X (rw64 (0 + i.val)) f.val := by
  rw [← h34, ← rw64_eq (0 + i.val) (by omega)]; unfold k0_pay12; pointwise

theorem pay13_eq (v37 : FVec Ideal S64x256 .f32) (X : Fin 64 → Fin 512 → EReal) (h37 : ∀ (i : Fin 64) (f : Fin 256), v37 (ix2 i f) = im X i f.val) (i : Fin 16) (f : Fin 256) :
    k0_pay13 v37 (ix2 i f) = im X (rw64 (0 + i.val)) f.val := by
  rw [← h37, ← rw64_eq (0 + i.val) (by omega)]; unfold k0_pay13; pointwise

theorem pay17_eq (v34 : FVec Ideal S64x256 .f32) (X : Fin 64 → Fin 512 → EReal) (h34 : ∀ (i : Fin 64) (f : Fin 256), v34 (ix2 i f) = re X i f.val) (i : Fin 16) (f : Fin 256) :
    k0_pay17 v34 (ix2 i f) = re X (rw64 (16 + i.val)) f.val := by
  rw [← h34, ← rw64_eq (16 + i.val) (by omega)]; unfold k0_pay17; pointwise

theorem pay18_eq (v37 : FVec Ideal S64x256 .f32) (X : Fin 64 → Fin 512 → EReal) (h37 : ∀ (i : Fin 64) (f : Fin 256), v37 (ix2 i f) = im X i f.val) (i : Fin 16) (f : Fin 256) :
    k0_pay18 v37 (ix2 i f) = im X (rw64 (16 + i.val)) f.val := by
  rw [← h37, ← rw64_eq (16 + i.val) (by omega)]; unfold k0_pay18; pointwise

theorem pay20_eq (v34 : FVec Ideal S64x256 .f32) (X : Fin 64 → Fin 512 → EReal) (h34 : ∀ (i : Fin 64) (f : Fin 256), v34 (ix2 i f) = re X i f.val) (i : Fin 48) (f : Fin 256) :
    k0_pay20 v34 (ix2 i f) = re X (rw64 (16 + i.val)) f.val := by
  rw [← h34, ← rw64_eq (16 + i.val) (by omega)]; unfold k0_pay20; pointwise

theorem pay21_eq (v37 : FVec Ideal S64x256 .f32) (X : Fin 64 → Fin 512 → EReal) (h37 : ∀ (i : Fin 64) (f : Fin 256), v37 (ix2 i f) = im X i f.val) (i : Fin 48) (f : Fin 256) :
    k0_pay21 v37 (ix2 i f) = im X (rw64 (16 + i.val)) f.val := by
  rw [← h37, ← rw64_eq (16 + i.val) (by omega)]; unfold k0_pay21; pointwise

theorem pay28_eq (v34 : FVec Ideal S64x256 .f32) (X : Fin 64 → Fin 512 → EReal) (h34 : ∀ (i : Fin 64) (f : Fin 256), v34 (ix2 i f) = re X i f.val) (i : Fin 16) (f : Fin 256) :
    k0_pay28 v34 (ix2 i f) = re X (rw64 (32 + i.val)) f.val := by
  rw [← h34, ← rw64_eq (32 + i.val) (by omega)]; unfold k0_pay28; pointwise

theorem pay29_eq (v37 : FVec Ideal S64x256 .f32) (X : Fin 64 → Fin 512 → EReal) (h37 : ∀ (i : Fin 64) (f : Fin 256), v37 (ix2 i f) = im X i f.val) (i : Fin 16) (f : Fin 256) :
    k0_pay29 v37 (ix2 i f) = im X (rw64 (32 + i.val)) f.val := by
  rw [← h37, ← rw64_eq (32 + i.val) (by omega)]; unfold k0_pay29; pointwise

theorem pay30_eq (v34 : FVec Ideal S64x256 .f32) (X : Fin 64 → Fin 512 → EReal) (h34 : ∀ (i : Fin 64) (f : Fin 256), v34 (ix2 i f) = re X i f.val) (i : Fin 32) (f : Fin 256) :
    k0_pay30 v34 (ix2 i f) = re X (rw64 (32 + i.val)) f.val := by
  rw [← h34, ← rw64_eq (32 + i.val) (by omega)]; unfold k0_pay30; pointwise

theorem pay31_eq (v37 : FVec Ideal S64x256 .f32) (X : Fin 64 → Fin 512 → EReal) (h37 : ∀ (i : Fin 64) (f : Fin 256), v37 (ix2 i f) = im X i f.val) (i : Fin 32) (f : Fin 256) :
    k0_pay31 v37 (ix2 i f) = im X (rw64 (32 + i.val)) f.val := by
  rw [← h37, ← rw64_eq (32 + i.val) (by omega)]; unfold k0_pay31; pointwise

theorem pay35_eq (v34 : FVec Ideal S64x256 .f32) (X : Fin 64 → Fin 512 → EReal) (h34 : ∀ (i : Fin 64) (f : Fin 256), v34 (ix2 i f) = re X i f.val) (i : Fin 16) (f : Fin 256) :
    k0_pay35 v34 (ix2 i f) = re X (rw64 (48 + i.val)) f.val := by
  rw [← h34, ← rw64_eq (48 + i.val) (by omega)]; unfold k0_pay35; pointwise

theorem pay36_eq (v37 : FVec Ideal S64x256 .f32) (X : Fin 64 → Fin 512 → EReal) (h37 : ∀ (i : Fin 64) (f : Fin 256), v37 (ix2 i f) = im X i f.val) (i : Fin 16) (f : Fin 256) :
    k0_pay36 v37 (ix2 i f) = im X (rw64 (48 + i.val)) f.val := by
  rw [← h37, ← rw64_eq (48 + i.val) (by omega)]; unfold k0_pay36; pointwise

theorem pay38_eq (v34 : FVec Ideal S64x256 .f32) (X : Fin 64 → Fin 512 → EReal) (h34 : ∀ (i : Fin 64) (f : Fin 256), v34 (ix2 i f) = re X i f.val) (i : Fin 16) (f : Fin 256) :
    k0_pay38 v34 (ix2 i f) = re X (rw64 (48 + i.val)) f.val := by
  rw [← h34, ← rw64_eq (48 + i.val) (by omega)]; unfold k0_pay38; pointwise

theorem pay39_eq (v37 : FVec Ideal S64x256 .f32) (X : Fin 64 → Fin 512 → EReal) (h37 : ∀ (i : Fin 64) (f : Fin 256), v37 (ix2 i f) = im X i f.val) (i : Fin 16) (f : Fin 256) :
    k0_pay39 v37 (ix2 i f) = im X (rw64 (48 + i.val)) f.val := by
  rw [← h37, ← rw64_eq (48 + i.val) (by omega)]; unfold k0_pay39; pointwise

theorem pay24_eq (v37 : FVec Ideal S64x256 .f32) (X : Fin 64 → Fin 512 → EReal) (h37 : ∀ (i : Fin 64) (f : Fin 256), v37 (ix2 i f) = im X i f.val) (i : Fin 16) (j : Fin 48) (f : Fin 256) :
    k0_pay24 v37 (ix3 i j f) = im X (rw64 (16 + i.val)) f.val := by
  rw [← pay18_eq v37 X h37 i f]; unfold k0_pay24; pointwise

theorem pay25_eq (v34 : FVec Ideal S64x256 .f32) (X : Fin 64 → Fin 512 → EReal) (h34 : ∀ (i : Fin 64) (f : Fin 256), v34 (ix2 i f) = re X i f.val) (i : Fin 16) (j : Fin 48) (f : Fin 256) :
    k0_pay25 v34 (ix3 i j f) = re X (rw64 (16 + j.val)) f.val := by
  rw [← pay20_eq v34 X h34 j f]; unfold k0_pay25; pointwise

theorem pay41_eq (v34 : FVec Ideal S64x256 .f32) (X : Fin 64 → Fin 512 → EReal) (h34 : ∀ (i : Fin 64) (f : Fin 256), v34 (ix2 i f) = re X i f.val) (i : Fin 16) (j : Fin 16) (f : Fin 256) :
    k0_pay41 v34 (ix3 i j f) = re X (rw64 (48 + i.val)) f.val := by
  rw [← pay35_eq v34 X h34 i f]; unfold k0_pay41; pointwise

theorem pay42_eq (v34 : FVec Ideal S64x256 .f32) (X : Fin 64 → Fin 512 → EReal) (h34 : ∀ (i : Fin 64) (f : Fin 256), v34 (ix2 i f) = re X i f.val) (i : Fin 16) (j : Fin 16) (f : Fin 256) :
    k0_pay42 v34 (ix3 i j f) = re X (rw64 (48 + j.val)) f.val := by
  rw [← pay38_eq v34 X h34 j f]; unfold k0_pay42; pointwise

theorem pay14_eq (v34 v37 : FVec Ideal S64x256 .f32) (X : Fin 64 → Fin 512 → EReal) (h34 : ∀ (i : Fin 64) (f : Fin 256), v34 (ix2 i f) = re X i f.val) (h37 : ∀ (i : Fin 64) (f : Fin 256), v37 (ix2 i f) = im X i f.val) (i : Fin 16) (j : Fin 64) (f : Fin 256) :
    k0_pay14 v34 v37 (ix2 ⟨i.val * 64 + j.val, by omega⟩ f) = pre X (rw64 (0 + i.val)) (rw64 (0 + j.val)) f.val := by
  have e1 : (i.val * 64 + j.val) / 64 = i.val := by omega
  have e2 : (i.val * 64 + j.val) % 64 = j.val := by omega
  unfold pre k0_pay14
  pointwise
  simp only [e1, e2, Fin.eta, pay12_eq v34 X h34, pay13_eq v37 X h37, h34, h37, rw64_eq, Nat.zero_add, rw64_val]

theorem pay15_eq (v34 v37 : FVec Ideal S64x256 .f32) (X : Fin 64 → Fin 512 → EReal) (h34 : ∀ (i : Fin 64) (f : Fin 256), v34 (ix2 i f) = re X i f.val) (h37 : ∀ (i : Fin 64) (f : Fin 256), v37 (ix2 i f) = im X i f.val) (i : Fin 16) (j : Fin 64) (f : Fin 256) :
    k0_pay15 v34 v37 (ix2 ⟨i.val * 64 + j.val, by omega⟩ f) = pim X (rw64 (0 + i.val)) (rw64 (0 + j.val)) f.val := by
  have e1 : (i.val * 64 + j.val) / 64 = i.val := by omega
  have e2 : (i.val * 64 + j.val) % 64 = j.val := by omega
  unfold pim k0_pay15
  pointwise
  simp only [e1, e2, Fin.eta, pay12_eq v34 X h34, pay13_eq v37 X h37, h34, h37, rw64_eq, Nat.zero_add, rw64_val]

theorem pay23_eq (v34 v37 : FVec Ideal S64x256 .f32) (X : Fin 64 → Fin 512 → EReal) (h34 : ∀ (i : Fin 64) (f : Fin 256), v34 (ix2 i f) = re X i f.val) (h37 : ∀ (i : Fin 64) (f : Fin 256), v37 (ix2 i f) = im X i f.val) (i : Fin 16) (j : Fin 48) (f : Fin 256) :
    k0_pay23 v34 v37 (ix2 ⟨i.val * 48 + j.val, by omega⟩ f) = pre X (rw64 (16 + i.val)) (rw64 (16 + j.val)) f.val := by
  have e1 : (i.val * 48 + j.val) / 48 = i.val := by omega
  have e2 : (i.val * 48 + j.val) % 48 = j.val := by omega
  unfold pre k0_pay23
  pointwise
  simp only [e1, e2, Fin.eta, pay17_eq v34 X h34, pay18_eq v37 X h37, pay20_eq v34 X h34, pay21_eq v37 X h37]

theorem pay32_eq (v34 v37 : FVec Ideal S64x256 .f32) (X : Fin 64 → Fin 512 → EReal) (h34 : ∀ (i : Fin 64) (f : Fin 256), v34 (ix2 i f) = re X i f.val) (h37 : ∀ (i : Fin 64) (f : Fin 256), v37 (ix2 i f) = im X i f.val) (i : Fin 16) (j : Fin 32) (f : Fin 256) :
    k0_pay32 v34 v37 (ix2 ⟨i.val * 32 + j.val, by omega⟩ f) = pre X (rw64 (32 + i.val)) (rw64 (32 + j.val)) f.val := by
  have e1 : (i.val * 32 + j.val) / 32 = i.val := by omega
  have e2 : (i.val * 32 + j.val) % 32 = j.val := by omega
  unfold pre k0_pay32
  pointwise
  simp only [e1, e2, Fin.eta, pay28_eq v34 X h34, pay29_eq v37 X h37, pay30_eq v34 X h34, pay31_eq v37 X h37]

theorem pay33_eq (v34 v37 : FVec Ideal S64x256 .f32) (X : Fin 64 → Fin 512 → EReal) (h34 : ∀ (i : Fin 64) (f : Fin 256), v34 (ix2 i f) = re X i f.val) (h37 : ∀ (i : Fin 64) (f : Fin 256), v37 (ix2 i f) = im X i f.val) (i : Fin 16) (j : Fin 32) (f : Fin 256) :
    k0_pay33 v34 v37 (ix2 ⟨i.val * 32 + j.val, by omega⟩ f) = pim X (rw64 (32 + i.val)) (rw64 (32 + j.val)) f.val := by
  have e1 : (i.val * 32 + j.val) / 32 = i.val := by omega
  have e2 : (i.val * 32 + j.val) % 32 = j.val := by omega
  unfold pim k0_pay33
  pointwise
  simp only [e1, e2, Fin.eta, pay28_eq v34 X h34, pay29_eq v37 X h37, pay30_eq v34 X h34, pay31_eq v37 X h37]

theorem pay26_eq (v34 v37 : FVec Ideal S64x256 .f32) (X : Fin 64 → Fin 512 → EReal) (h34 : ∀ (i : Fin 64) (f : Fin 256), v34 (ix2 i f) = re X i f.val) (h37 : ∀ (i : Fin 64) (f : Fin 256), v37 (ix2 i f) = im X i f.val) (i : Fin 16) (j : Fin 48) (f : Fin 256) :
    k0_pay26 (k0_pay17 v34) (k0_pay21 v37) (k0_pay24 v37) (k0_pay25 v34) (ix2 ⟨i.val * 48 + j.val, by omega⟩ f) = pim X (rw64 (16 + i.val)) (rw64 (16 + j.val)) f.val := by
  have e1 : (i.val * 48 + j.val) / 48 = i.val := by omega
  have e2 : (i.val * 48 + j.val) % 48 = j.val := by omega
  unfold pim k0_pay26
  pointwise
  simp only [e1, e2, Fin.eta, pay17_eq v34 X h34, pay21_eq v37 X h37, pay24_eq v37 X h37, pay25_eq v34 X h34]

theorem pay16_eq (v19 : FVec Ideal S64x512 .f32) (X : Fin 64 → Fin 512 → EReal) (h19 : ∀ i t, v19 (ix2 i t) = xn X i t) (i : Fin 16) (j : Fin 64) :
    k0_pay16 v19 (k0_pay8 (F := Ideal)) (ix2 ⟨i.val * 64 + j.val, by omega⟩ 0) = re X (rw64 (0 + i.val)) 256 * re X (rw64 (0 + j.val)) 256 := by
  have e1 : (i.val * 64 + j.val) / 64 = i.val := by omega
  have e2 : (i.val * 64 + j.val) % 64 = j.val := by omega
  unfold k0_pay16
  pointwise
  simp only [e1, e2, Fin.eta, pay11_eq v19 X h19, Nat.zero_add, rw64_val, rw64_eq]

theorem pay19_eq (v19 : FVec Ideal S64x512 .f32) (X : Fin 64 → Fin 512 → EReal) (h19 : ∀ i t, v19 (ix2 i t) = xn X i t) (i : Fin 16) :
    k0_pay19 v19 (k0_pay8 (F := Ideal)) (ix2 i 0) = re X (rw64 (16 + i.val)) 256 := by
  unfold k0_pay19
  pointwise
  simp only [pay11_eq v19 X h19, rw64_eq]

theorem pay22_eq (v19 : FVec Ideal S64x512 .f32) (X : Fin 64 → Fin 512 → EReal) (h19 : ∀ i t, v19 (ix2 i t) = xn X i t) (i : Fin 48) :
    k0_pay22 v19 (k0_pay8 (F := Ideal)) (ix2 i 0) = re X (rw64 (16 + i.val)) 256 := by
  unfold k0_pay22
  pointwise
  simp only [pay11_eq v19 X h19, rw64_eq]

theorem pay27_eq (v19 : FVec Ideal S64x512 .f32) (X : Fin 64 → Fin 512 → EReal) (h19 : ∀ i t, v19 (ix2 i t) = xn X i t) (i : Fin 16) (j : Fin 48) :
    k0_pay27 (k0_pay19 v19 (k0_pay8 (F := Ideal))) (k0_pay22 v19 (k0_pay8 (F := Ideal))) (ix2 ⟨i.val * 48 + j.val, by omega⟩ 0) = re X (rw64 (16 + i.val)) 256 * re X (rw64 (16 + j.val)) 256 := by
  have e1 : (i.val * 48 + j.val) / 48 = i.val := by omega
  have e2 : (i.val * 48 + j.val) % 48 = j.val := by omega
  unfold k0_pay27
  pointwise
  simp only [e1, e2, Fin.eta, pay19_eq v19 X h19, pay22_eq v19 X h19]

theorem pay34_eq (v41 : FVec Ideal S64x1 .f32) (X : Fin 64 → Fin 512 → EReal) (h41 : ∀ i, v41 (ix2 i 0) = re X i 256) (i : Fin 16) (j : Fin 32) :
    k0_pay34 v41 (ix2 ⟨i.val * 32 + j.val, by omega⟩ 0) = re X (rw64 (32 + i.val)) 256 * re X (rw64 (32 + j.val)) 256 := by
  have e1 : (i.val * 32 + j.val) / 32 = i.val := by omega
  have e2 : (i.val * 32 + j.val) % 32 = j.val := by omega
  unfold k0_pay34
  pointwise
  simp only [e1, e2, h41, rw64_eq]

theorem pay37_eq (v41 : FVec Ideal S64x1 .f32) (X : Fin 64 → Fin 512 → EReal) (h41 : ∀ i, v41 (ix2 i 0) = re X i 256) (i : Fin 16) :
    k0_pay37 v41 (ix2 i 0) = re X (rw64 (48 + i.val)) 256 := by
  unfold k0_pay37
  pointwise
  simp only [h41, rw64_eq]

theorem pay40_eq (v41 : FVec Ideal S64x1 .f32) (X : Fin 64 → Fin 512 → EReal) (h41 : ∀ i, v41 (ix2 i 0) = re X i 256) (i : Fin 16) :
    k0_pay40 v41 (ix2 i 0) = re X (rw64 (48 + i.val)) 256 := by
  unfold k0_pay40
  pointwise
  simp only [h41, rw64_eq]

end Cert.Proof
-- ==== Proof.Corr.lean ====
/- The kernel's correlations: the one product over all blocks of row pairs, read back block by block. -/
module
public import proofs.«01_k».proof.Proof.Gen.KernelIdeal.Skeleton
public import proofs.«01_k».proof.Proof.Spectra
public import Idealize.ShloMosaic.PureOps.Ideal
public import Idealize.ShloMosaic.Lib.Pointwise
@[expose] public section
noncomputable section
namespace Cert.Proof
open Idealize.ShloMosaic Cert.KernelIdeal Cert.KernelIdeal.Gen
set_option maxRecDepth 100000

/-- Block 0 of the correlations: rows 0 + i and 0 + j. -/
theorem cc_block0 (v24 : IVec S1x512 32) (v56 : FVec Ideal S1024x256 .f32) (v68 : FVec Ideal S1024x256 .f32) (v74 : FVec Ideal S1024x1 .f32) (v92 : FVec Ideal S768x256 .f32) (v104 : FVec Ideal S768x256 .f32) (v110 : FVec Ideal S768x1 .f32) (v128 : FVec Ideal S512x256 .f32) (v140 : FVec Ideal S512x256 .f32) (v146 : FVec Ideal S512x1 .f32) (v147 : FVec Ideal S16x256 .f32) (v148 : FVec Ideal S16x256 .f32) (v149 : FVec Ideal S16x1 .f32) (v150 : FVec Ideal S16x256 .f32) (v151 : FVec Ideal S16x256 .f32) (v152 : FVec Ideal S16x1 .f32) (v155 : FVec Ideal S16x16x256 .f32) (v156 : FVec Ideal S16x16x256 .f32) (v193 : Vec Ideal S256x512 .f32) (v196 : Vec Ideal S256x512 .f32) (X : Fin 64 → Fin 512 → EReal)
    (h24 : ∀ t : Fin 512, v24 (ix2 0 t) = BitVec.ofNat 32 t.val)
    (h193 : ∀ (f : Fin 256) (t : Fin 512), v193 (ix2 f t) = gre 512 f.val t.val) (h196 : ∀ (f : Fin 256) (t : Fin 512), v196 (ix2 f t) = gim 512 f.val t.val)
    (hr : ∀ (i : Fin 16) (j : Fin 64) (f : Fin 256), v56 (ix2 ⟨i.val * 64 + j.val, by omega⟩ f) = pre X (rw64 (0 + i.val)) (rw64 (0 + j.val)) f.val)
    (hi : ∀ (i : Fin 16) (j : Fin 64) (f : Fin 256), v68 (ix2 ⟨i.val * 64 + j.val, by omega⟩ f) = pim X (rw64 (0 + i.val)) (rw64 (0 + j.val)) f.val)
    (hy : ∀ (i : Fin 16) (j : Fin 64), v74 (ix2 ⟨i.val * 64 + j.val, by omega⟩ 0) = re X (rw64 (0 + i.val)) 256 * re X (rw64 (0 + j.val)) 256) (i : Fin 16) (j : Fin 64) (t : Fin 512) :
    k0_pay43 (F := Ideal) v24 v56 v68 v74 v92 v104 v110 v128 v140 v146 v147 v148 v149 v150 v151 v152 v155 v156 v193 v196 (ix2 ⟨i.val * 64 + j.val, by omega⟩ t) = cc X (rw64 (0 + i.val)) (rw64 (0 + j.val)) t := by
  rw [cc_split, gre_half, ← alt_select t.val _ _ (by omega)]
  have p : i.val * 64 + j.val < 1024 := by omega
  unfold k0_pay43
  pointwise [dot_S2560x256_S256x512_S2560x512_1_0_0_1_n_n]
  simp only [dif_pos p, hr i j, hi i j, hy i j, h24, h193, h196]
  simp only [pre, pim, Nat.zero_add]

/-- Block 1 of the correlations: rows 16 + i and 16 + j. -/
theorem cc_block1 (v24 : IVec S1x512 32) (v56 : FVec Ideal S1024x256 .f32) (v68 : FVec Ideal S1024x256 .f32) (v74 : FVec Ideal S1024x1 .f32) (v92 : FVec Ideal S768x256 .f32) (v104 : FVec Ideal S768x256 .f32) (v110 : FVec Ideal S768x1 .f32) (v128 : FVec Ideal S512x256 .f32) (v140 : FVec Ideal S512x256 .f32) (v146 : FVec Ideal S512x1 .f32) (v147 : FVec Ideal S16x256 .f32) (v148 : FVec Ideal S16x256 .f32) (v149 : FVec Ideal S16x1 .f32) (v150 : FVec Ideal S16x256 .f32) (v151 : FVec Ideal S16x256 .f32) (v152 : FVec Ideal S16x1 .f32) (v155 : FVec Ideal S16x16x256 .f32) (v156 : FVec Ideal S16x16x256 .f32) (v193 : Vec Ideal S256x512 .f32) (v196 : Vec Ideal S256x512 .f32) (X : Fin 64 → Fin 512 → EReal)
    (h24 : ∀ t : Fin 512, v24 (ix2 0 t) = BitVec.ofNat 32 t.val)
    (h193 : ∀ (f : Fin 256) (t : Fin 512), v193 (ix2 f t) = gre 512 f.val t.val) (h196 : ∀ (f : Fin 256) (t : Fin 512), v196 (ix2 f t) = gim 512 f.val t.val)
    (hr : ∀ (i : Fin 16) (j : Fin 48) (f : Fin 256), v92 (ix2 ⟨i.val * 48 + j.val, by omega⟩ f) = pre X (rw64 (16 + i.val)) (rw64 (16 + j.val)) f.val)
    (hi : ∀ (i : Fin 16) (j : Fin 48) (f : Fin 256), v104 (ix2 ⟨i.val * 48 + j.val, by omega⟩ f) = pim X (rw64 (16 + i.val)) (rw64 (16 + j.val)) f.val)
    (hy : ∀ (i : Fin 16) (j : Fin 48), v110 (ix2 ⟨i.val * 48 + j.val, by omega⟩ 0) = re X (rw64 (16 + i.val)) 256 * re X (rw64 (16 + j.val)) 256) (i : Fin 16) (j : Fin 48) (t : Fin 512) :
    k0_pay43 (F := Ideal) v24 v56 v68 v74 v92 v104 v110 v128 v140 v146 v147 v148 v149 v150 v151 v152 v155 v156 v193 v196 (ix2 ⟨1024 + (i.val * 48 + j.val), by omega⟩ t) = cc X (rw64 (16 + i.val)) (rw64 (16 + j.val)) t := by
  rw [cc_split, gre_half, ← alt_select t.val _ _ (by omega)]
  have n0 : ¬ (1024 + (i.val * 48 + j.val) < 1024) := by omega
  have p : i.val * 48 + j.val < 768 := by omega
  have e : 1024 + (i.val * 48 + j.val) - 1024 = i.val * 48 + j.val := by omega
  unfold k0_pay43
  pointwise [dot_S2560x256_S256x512_S2560x512_1_0_0_1_n_n]
  simp only [dif_neg n0, dif_pos p, e, hr i j, hi i j, hy i j, h24, h193, h196]
  simp only [pre, pim, Nat.zero_add]

/-- Block 2 of the correlations: rows 32 + i and 32 + j. -/
theorem cc_block2 (v24 : IVec S1x512 32) (v56 : FVec Ideal S1024x256 .f32) (v68 : FVec Ideal S1024x256 .f32) (v74 : FVec Ideal S1024x1 .f32) (v92 : FVec Ideal S768x256 .f32) (v104 : FVec Ideal S768x256 .f32) (v110 : FVec Ideal S768x1 .f32) (v128 : FVec Ideal S512x256 .f32) (v140 : FVec Ideal S512x256 .f32) (v146 : FVec Ideal S512x1 .f32) (v147 : FVec Ideal S16x256 .f32) (v148 : FVec Ideal S16x256 .f32) (v149 : FVec Ideal S16x1 .f32) (v150 : FVec Ideal S16x256 .f32) (v151 : FVec Ideal S16x256 .f32) (v152 : FVec Ideal S16x1 .f32) (v155 : FVec Ideal S16x16x256 .f32) (v156 : FVec Ideal S16x16x256 .f32) (v193 : Vec Ideal S256x512 .f32) (v196 : Vec Ideal S256x512 .f32) (X : Fin 64 → Fin 512 → EReal)
    (h24 : ∀ t : Fin 512, v24 (ix2 0 t) = BitVec.ofNat 32 t.val)
    (h193 : ∀ (f : Fin 256) (t : Fin 512), v193 (ix2 f t) = gre 512 f.val t.val) (h196 : ∀ (f : Fin 256) (t : Fin 512), v196 (ix2 f t) = gim 512 f.val t.val)
    (hr : ∀ (i : Fin 16) (j : Fin 32) (f : Fin 256), v128 (ix2 ⟨i.val * 32 + j.val, by omega⟩ f) = pre X (rw64 (32 + i.val)) (rw64 (32 + j.val)) f.val)
    (hi : ∀ (i : Fin 16) (j : Fin 32) (f : Fin 256), v140 (ix2 ⟨i.val * 32 + j.val, by omega⟩ f) = pim X (rw64 (32 + i.val)) (rw64 (32 + j.val)) f.val)
    (hy : ∀ (i : Fin 16) (j : Fin 32), v146 (ix2 ⟨i.val * 32 + j.val, by omega⟩ 0) = re X (rw64 (32 + i.val)) 256 * re X (rw64 (32 + j.val)) 256) (i : Fin 16) (j : Fin 32) (t : Fin 512) :
    k0_pay43 (F := Ideal) v24 v56 v68 v74 v92 v104 v110 v128 v140 v146 v147 v148 v149 v150 v151 v152 v155 v156 v193 v196 (ix2 ⟨1792 + (i.val * 32 + j.val), by omega⟩ t) = cc X (rw64 (32 + i.val)) (rw64 (32 + j.val)) t := by
  rw [cc_split, gre_half, ← alt_select t.val _ _ (by omega)]
  have n0 : ¬ (1792 + (i.val * 32 + j.val) < 1024) := by omega
  have n1 : ¬ (1792 + (i.val * 32 + j.val) - 1024 < 768) := by omega
  have p : i.val * 32 + j.val < 512 := by omega
  have e : 1792 + (i.val * 32 + j.val) - 1024 - 768 = i.val * 32 + j.val := by omega
  unfold k0_pay43
  pointwise [dot_S2560x256_S256x512_S2560x512_1_0_0_1_n_n]
  simp only [dif_neg n0, dif_neg n1, dif_pos p, e, hr i j, hi i j, hy i j, h24, h193, h196]
  simp only [pre, pim, Nat.zero_add]

/-- Block 3 of the correlations: rows 48 + i and 48 + j. -/
theorem cc_block3 (v24 : IVec S1x512 32) (v56 : FVec Ideal S1024x256 .f32) (v68 : FVec Ideal S1024x256 .f32) (v74 : FVec Ideal S1024x1 .f32) (v92 : FVec Ideal S768x256 .f32) (v104 : FVec Ideal S768x256 .f32) (v110 : FVec Ideal S768x1 .f32) (v128 : FVec Ideal S512x256 .f32) (v140 : FVec Ideal S512x256 .f32) (v146 : FVec Ideal S512x1 .f32) (v147 : FVec Ideal S16x256 .f32) (v148 : FVec Ideal S16x256 .f32) (v149 : FVec Ideal S16x1 .f32) (v150 : FVec Ideal S16x256 .f32) (v151 : FVec Ideal S16x256 .f32) (v152 : FVec Ideal S16x1 .f32) (v155 : FVec Ideal S16x16x256 .f32) (v156 : FVec Ideal S16x16x256 .f32) (v193 : Vec Ideal S256x512 .f32) (v196 : Vec Ideal S256x512 .f32) (X : Fin 64 → Fin 512 → EReal)
    (h24 : ∀ t : Fin 512, v24 (ix2 0 t) = BitVec.ofNat 32 t.val)
    (h193 : ∀ (f : Fin 256) (t : Fin 512), v193 (ix2 f t) = gre 512 f.val t.val) (h196 : ∀ (f : Fin 256) (t : Fin 512), v196 (ix2 f t) = gim 512 f.val t.val)
    (h147 : ∀ (i : Fin 16) (f : Fin 256), v147 (ix2 i f) = re X (rw64 (48 + i.val)) f.val)
    (h148 : ∀ (i : Fin 16) (f : Fin 256), v148 (ix2 i f) = im X (rw64 (48 + i.val)) f.val)
    (h149 : ∀ (i : Fin 16), v149 (ix2 i 0) = re X (rw64 (48 + i.val)) 256)
    (h150 : ∀ (i : Fin 16) (f : Fin 256), v150 (ix2 i f) = re X (rw64 (48 + i.val)) f.val)
    (h151 : ∀ (i : Fin 16) (f : Fin 256), v151 (ix2 i f) = im X (rw64 (48 + i.val)) f.val)
    (h152 : ∀ (i : Fin 16), v152 (ix2 i 0) = re X (rw64 (48 + i.val)) 256)
    (h155 : ∀ (i j : Fin 16) (f : Fin 256), v155 (ix3 i j f) = re X (rw64 (48 + i.val)) f.val)
    (h156 : ∀ (i j : Fin 16) (f : Fin 256), v156 (ix3 i j f) = re X (rw64 (48 + j.val)) f.val) (i : Fin 16) (j : Fin 16) (t : Fin 512) :
    k0_pay43 (F := Ideal) v24 v56 v68 v74 v92 v104 v110 v128 v140 v146 v147 v148 v149 v150 v151 v152 v155 v156 v193 v196 (ix2 ⟨2304 + (i.val * 16 + j.val), by omega⟩ t) = cc X (rw64 (48 + i.val)) (rw64 (48 + j.val)) t := by
  rw [cc_split, gre_half, ← alt_select t.val _ _ (by omega)]
  have n0 : ¬ (2304 + (i.val * 16 + j.val) < 1024) := by omega
  have n1 : ¬ (2304 + (i.val * 16 + j.val) - 1024 < 768) := by omega
  have n2 : ¬ (2304 + (i.val * 16 + j.val) - 1024 - 768 < 512) := by omega
  have e : 2304 + (i.val * 16 + j.val) - 1024 - 768 - 512 = i.val * 16 + j.val := by omega
  have e1 : (i.val * 16 + j.val) / 16 = i.val := by omega
  have e2 : (i.val * 16 + j.val) % 16 = j.val := by omega
  unfold k0_pay43
  pointwise [dot_S2560x256_S256x512_S2560x512_1_0_0_1_n_n]
  simp only [dif_neg n0, dif_neg n1, dif_neg n2, e, e1, e2, Fin.eta, h147, h148, h149, h150, h151, h152, h155, h156, h24, h193, h196]

theorem pay44_eq (v24 : IVec S1x512 32) (v56 : FVec Ideal S1024x256 .f32) (v68 : FVec Ideal S1024x256 .f32) (v74 : FVec Ideal S1024x1 .f32) (v92 : FVec Ideal S768x256 .f32) (v104 : FVec Ideal S768x256 .f32) (v110 : FVec Ideal S768x1 .f32) (v128 : FVec Ideal S512x256 .f32) (v140 : FVec Ideal S512x256 .f32) (v146 : FVec Ideal S512x1 .f32) (v147 : FVec Ideal S16x256 .f32) (v148 : FVec Ideal S16x256 .f32) (v149 : FVec Ideal S16x1 .f32) (v150 : FVec Ideal S16x256 .f32) (v151 : FVec Ideal S16x256 .f32) (v152 : FVec Ideal S16x1 .f32) (v155 : FVec Ideal S16x16x256 .f32) (v156 : FVec Ideal S16x16x256 .f32) (v193 : Vec Ideal S256x512 .f32) (v196 : Vec Ideal S256x512 .f32) (i : Fin 16) (j : Fin 64) (t : Fin 512) :
    k0_pay44 (F := Ideal) v24 v56 v68 v74 v92 v104 v110 v128 v140 v146 v147 v148 v149 v150 v151 v152 v155 v156 v193 v196 (ix3 i j t) = k0_pay43 (F := Ideal) v24 v56 v68 v74 v92 v104 v110 v128 v140 v146 v147 v148 v149 v150 v151 v152 v155 v156 v193 v196 (ix2 ⟨i.val * 64 + j.val, by omega⟩ t) := by
  unfold k0_pay44
  generalize k0_pay43 (F := Ideal) v24 v56 v68 v74 v92 v104 v110 v128 v140 v146 v147 v148 v149 v150 v151 v152 v155 v156 v193 v196 = v203
  pointwise
  try simp only [Nat.zero_add]

theorem pay46_eq (v24 : IVec S1x512 32) (v56 : FVec Ideal S1024x256 .f32) (v68 : FVec Ideal S1024x256 .f32) (v74 : FVec Ideal S1024x1 .f32) (v92 : FVec Ideal S768x256 .f32) (v104 : FVec Ideal S768x256 .f32) (v110 : FVec Ideal S768x1 .f32) (v128 : FVec Ideal S512x256 .f32) (v140 : FVec Ideal S512x256 .f32) (v146 : FVec Ideal S512x1 .f32) (v147 : FVec Ideal S16x256 .f32) (v148 : FVec Ideal S16x256 .f32) (v149 : FVec Ideal S16x1 .f32) (v150 : FVec Ideal S16x256 .f32) (v151 : FVec Ideal S16x256 .f32) (v152 : FVec Ideal S16x1 .f32) (v155 : FVec Ideal S16x16x256 .f32) (v156 : FVec Ideal S16x16x256 .f32) (v193 : Vec Ideal S256x512 .f32) (v196 : Vec Ideal S256x512 .f32) (i : Fin 16) (j : Fin 48) (t : Fin 512) :
    k0_pay46 (k0_pay45 (F := Ideal) v24 v56 v68 v74 v92 v104 v110 v128 v140 v146 v147 v148 v149 v150 v151 v152 v155 v156 v193 v196) (ix3 i j t) = k0_pay43 (F := Ideal) v24 v56 v68 v74 v92 v104 v110 v128 v140 v146 v147 v148 v149 v150 v151 v152 v155 v156 v193 v196 (ix2 ⟨1024 + (i.val * 48 + j.val), by omega⟩ t) := by
  unfold k0_pay46 k0_pay45
  generalize k0_pay43 (F := Ideal) v24 v56 v68 v74 v92 v104 v110 v128 v140 v146 v147 v148 v149 v150 v151 v152 v155 v156 v193 v196 = v203
  pointwise

theorem pay47_eq (v203 : FVec Ideal S2560x512 .f32) (i : Fin 16) (j : Fin 32) (t : Fin 512) :
    k0_pay47 v203 (ix3 i j t) = v203 (ix2 ⟨1792 + (i.val * 32 + j.val), by omega⟩ t) := by
  unfold k0_pay47
  pointwise

theorem pay48_eq (v203 : FVec Ideal S2560x512 .f32) (i : Fin 16) (j : Fin 16) (t : Fin 512) :
    k0_pay48 v203 (ix3 i j t) = v203 (ix2 ⟨2304 + (i.val * 16 + j.val), by omega⟩ t) := by
  unfold k0_pay48
  pointwise

end Cert.Proof
-- ==== Proof.CompA.lean ====
/- The four blocks of correlations the kernel body computes from what it reads. -/
module
public import proofs.«01_k».proof.Proof.Gen.KernelIdeal.Skeleton
public import proofs.«01_k».proof.Proof.Corr
public import proofs.«01_k».proof.Proof.Gen.KernelIdeal.Frame
public import Idealize.ShloMosaic.PureOps.Ideal
public import Idealize.ShloMosaic.Lib.Pointwise
@[expose] public section
noncomputable section
namespace Cert.Proof
open Idealize.ShloMosaic Cert.KernelIdeal Cert.KernelIdeal.Gen
set_option maxRecDepth 20000

/-- The blocks the kernel body reads hold the inputs of one batch and the tables of the transforms. -/
structure Loads (x0 : Vec Ideal S1x64x512 .f32) (x1 : Vec Ideal S1x64x96 .f32) (x2 : Vec Ideal S1x1 .f32) (x3 : Vec Ideal S512x8 .f32) (x4 : Vec Ideal S64x8 .f32) (x5 : Vec Ideal S1x8 .f32) (x6 : Vec Ideal S64x833 .f32) (x7 : Vec Ideal S8x833 .f32) (x8 : Vec Ideal S294x98 .f32) (x9 : Vec Ideal S1x98 .f32) (x10 : Vec Ideal S512x256 .f32) (x11 : Vec Ideal S512x256 .f32) (x12 : Vec Ideal S256x512 .f32) (x13 : Vec Ideal S256x512 .f32) (x14 : Vec Ideal S96x98 .f32) (x15 : Vec Ideal S49x96 .f32) (x16 : Vec Ideal S49x96 .f32) (p : Inp) : Prop where
  hX : ∀ (i : Fin 64) (t : Fin 512), View.ld x0 r0_0 (ix3 0 i t) = p.X i t
  hY : ∀ (i : Fin 64) (t : Fin 96), View.ld x1 r0_1 (ix3 0 i t) = p.Y i t
  h929 : View.ld x2 r0_4 (ix2 0 0) = p.T
  h953 : ∀ (t : Fin 512) (s : Fin 8), View.ld x3 r0_7 (ix2 t s) = p.cw s t
  h950 : ∀ (i : Fin 64) (s : Fin 8), View.ld x4 r0_6 (ix2 i s) = p.bs i s
  h948 : ∀ s : Fin 8, View.ld x5 r0_5 (ix2 0 s) = p.fb s
  h972 : ∀ (x : Fin 64) (o : Fin 833), View.ld x6 r0_8 (ix2 x o) = p.mw ⟨x.val / 8, by omega⟩ ⟨x.val % 8 * 833 + o.val, by omega⟩
  h975 : ∀ (s : Fin 8) (o : Fin 833), View.ld x7 r0_9 (ix2 s o) = p.mb s o
  m00 : ∀ (o : Fin 147) (f : Fin 49), View.ld x8 r0_11 (ix2 ⟨o.val, by omega⟩ ⟨f.val, by omega⟩) = p.wr f o
  m01 : ∀ (o : Fin 147) (f : Fin 49), View.ld x8 r0_11 (ix2 ⟨o.val, by omega⟩ ⟨49 + f.val, by omega⟩) = p.wi f o
  m10 : ∀ (o : Fin 147) (f : Fin 49), View.ld x8 r0_11 (ix2 ⟨147 + o.val, by omega⟩ ⟨f.val, by omega⟩) = -(p.wi f o)
  m11 : ∀ (o : Fin 147) (f : Fin 49), View.ld x8 r0_11 (ix2 ⟨147 + o.val, by omega⟩ ⟨49 + f.val, by omega⟩) = p.wr f o
  b0 : ∀ f : Fin 49, View.ld x9 r0_12 (ix2 0 ⟨f.val, by omega⟩) = p.br f
  b1 : ∀ f : Fin 49, View.ld x9 r0_12 (ix2 0 ⟨49 + f.val, by omega⟩) = p.bi f
  h32 : ∀ (s : Fin 512) (f : Fin 256), View.ld x10 r0_2 (ix2 s f) = fre 512 s.val f.val
  h35 : ∀ (s : Fin 512) (f : Fin 256), View.ld x11 r0_2 (ix2 s f) = fim 512 s.val f.val
  h193 : ∀ (f : Fin 256) (t : Fin 512), View.ld x12 r0_3 (ix2 f t) = gre 512 f.val t.val
  h196 : ∀ (f : Fin 256) (t : Fin 512), View.ld x13 r0_3 (ix2 f t) = gim 512 f.val t.val
  f0 : ∀ (h : Fin 96) (f : Fin 49), View.ld x14 r0_10 (ix2 h ⟨f.val, by omega⟩) = fre 96 h.val f.val
  f1 : ∀ (h : Fin 96) (f : Fin 49), View.ld x14 r0_10 (ix2 h ⟨49 + f.val, by omega⟩) = fim 96 h.val f.val
  h1116 : ∀ (f : Fin 49) (h : Fin 96), View.ld x15 r0_13 (ix2 f h) = gre 96 f.val h.val
  h1120 : ∀ (f : Fin 49) (h : Fin 96), View.ld x16 r0_13 (ix2 f h) = gim 96 f.val h.val

variable {x0 : Vec Ideal S1x64x512 .f32} {x1 : Vec Ideal S1x64x96 .f32} {x2 : Vec Ideal S1x1 .f32} {x3 : Vec Ideal S512x8 .f32} {x4 : Vec Ideal S64x8 .f32} {x5 : Vec Ideal S1x8 .f32} {x6 : Vec Ideal S64x833 .f32} {x7 : Vec Ideal S8x833 .f32} {x8 : Vec Ideal S294x98 .f32} {x9 : Vec Ideal S1x98 .f32} {x10 : Vec Ideal S512x256 .f32} {x11 : Vec Ideal S512x256 .f32} {x12 : Vec Ideal S256x512 .f32} {x13 : Vec Ideal S256x512 .f32} {x14 : Vec Ideal S96x98 .f32} {x15 : Vec Ideal S49x96 .f32} {x16 : Vec Ideal S49x96 .f32} {p : Inp} (h : Loads x0 x1 x2 x3 x4 x5 x6 x7 x8 x9 x10 x11 x12 x13 x14 x15 x16 p)
include h

/-- A value of the body. -/
theorem h24 : ∀ t : Fin 512, (k0_pay216 x0 x1 x2 x3 x4 x5 x6 x7 x8 x9 x10 x11 x12 x13 x14 x15 x16) (ix2 0 t) = BitVec.ofNat 32 t.val :=
  fun t => by
  clear h
  unfold k0_pay216; pointwise

/-- A value of the body. -/
theorem h19 : ∀ (i : Fin 64) (t : Fin 512), (k0_pay217 x0 x1 x2 x3 x4 x5 x6 x7 x8 x9 x10 x11 x12 x13 x14 x15 x16) (ix2 i t) = xn p.X i t :=
  fun i t => pay6_eq (View.ld x0 r0_0) p.X h.hX i t

/-- A value of the body. -/
theorem h23 : ∀ (i : Fin 64) (t : Fin 96), (k0_pay218 x0 x1 x2 x3 x4 x5 x6 x7 x8 x9 x10 x11 x12 x13 x14 x15 x16) (ix2 i t) = yn p.X p.Y i t :=
  fun i t => pay7_eq (View.ld x0 r0_0) (View.ld x1 r0_1) p.X p.Y h.hX h.hY i t

/-- A value of the body. -/
theorem h34 : ∀ (i : Fin 64) (f : Fin 256), (k0_pay220 x0 x1 x2 x3 x4 x5 x6 x7 x8 x9 x10 x11 x12 x13 x14 x15 x16) (ix2 i f) = re p.X i f.val :=
  fun i f => pay9_eq (View.ld x0 r0_0) (View.ld x10 r0_2) p.X h.hX h.h32 i f

/-- A value of the body. -/
theorem h37 : ∀ (i : Fin 64) (f : Fin 256), (k0_pay221 x0 x1 x2 x3 x4 x5 x6 x7 x8 x9 x10 x11 x12 x13 x14 x15 x16) (ix2 i f) = im p.X i f.val :=
  fun i f => pay10_eq (View.ld x0 r0_0) (View.ld x11 r0_2) p.X h.hX h.h35 i f

/-- A value of the body. -/
theorem h41 : ∀ (i : Fin 64), (k0_pay222 x0 x1 x2 x3 x4 x5 x6 x7 x8 x9 x10 x11 x12 x13 x14 x15 x16) (ix2 i 0) = re p.X i 256 :=
  fun i => pay11_eq (k0_pay217 x0 x1 x2 x3 x4 x5 x6 x7 x8 x9 x10 x11 x12 x13 x14 x15 x16) p.X (h19 h) i

/-- A block of correlations. -/
theorem g0 : ∀ (i : Fin 16) (j : Fin 64) (t : Fin 512), (k0_pay241 x0 x1 x2 x3 x4 x5 x6 x7 x8 x9 x10 x11 x12 x13 x14 x15 x16) (ix3 i j t) = cc p.X (rw64 (0 + i.val)) (rw64 (0 + j.val)) t :=
  fun i j t => (pay44_eq (k0_pay216 x0 x1 x2 x3 x4 x5 x6 x7 x8 x9 x10 x11 x12 x13 x14 x15 x16) (k0_pay223 x0 x1 x2 x3 x4 x5 x6 x7 x8 x9 x10 x11 x12 x13 x14 x15 x16) (k0_pay224 x0 x1 x2 x3 x4 x5 x6 x7 x8 x9 x10 x11 x12 x13 x14 x15 x16) (k0_pay225 x0 x1 x2 x3 x4 x5 x6 x7 x8 x9 x10 x11 x12 x13 x14 x15 x16) (k0_pay226 x0 x1 x2 x3 x4 x5 x6 x7 x8 x9 x10 x11 x12 x13 x14 x15 x16) (k0_pay227 x0 x1 x2 x3 x4 x5 x6 x7 x8 x9 x10 x11 x12 x13 x14 x15 x16) (k0_pay228 x0 x1 x2 x3 x4 x5 x6 x7 x8 x9 x10 x11 x12 x13 x14 x15 x16) (k0_pay229 x0 x1 x2 x3 x4 x5 x6 x7 x8 x9 x10 x11 x12 x13 x14 x15 x16) (k0_pay230 x0 x1 x2 x3 x4 x5 x6 x7 x8 x9 x10 x11 x12 x13 x14 x15 x16) (k0_pay231 x0 x1 x2 x3 x4 x5 x6 x7 x8 x9 x10 x11 x12 x13 x14 x15 x16) (k0_pay232 x0 x1 x2 x3 x4 x5 x6 x7 x8 x9 x10 x11 x12 x13 x14 x15 x16) (k0_pay233 x0 x1 x2 x3 x4 x5 x6 x7 x8 x9 x10 x11 x12 x13 x14 x15 x16) (k0_pay234 x0 x1 x2 x3 x4 x5 x6 x7 x8 x9 x10 x11 x12 x13 x14 x15 x16) (k0_pay235 x0 x1 x2 x3 x4 x5 x6 x7 x8 x9 x10 x11 x12 x13 x14 x15 x16) (k0_pay236 x0 x1 x2 x3 x4 x5 x6 x7 x8 x9 x10 x11 x12 x13 x14 x15 x16) (k0_pay237 x0 x1 x2 x3 x4 x5 x6 x7 x8 x9 x10 x11 x12 x13 x14 x15 x16) (k0_pay238 x0 x1 x2 x3 x4 x5 x6 x7 x8 x9 x10 x11 x12 x13 x14 x15 x16) (k0_pay239 x0 x1 x2 x3 x4 x5 x6 x7 x8 x9 x10 x11 x12 x13 x14 x15 x16) (View.ld x12 r0_3) (View.ld x13 r0_3) i j t).trans (cc_block0 (k0_pay216 x0 x1 x2 x3 x4 x5 x6 x7 x8 x9 x10 x11 x12 x13 x14 x15 x16) (k0_pay223 x0 x1 x2 x3 x4 x5 x6 x7 x8 x9 x10 x11 x12 x13 x14 x15 x16) (k0_pay224 x0 x1 x2 x3 x4 x5 x6 x7 x8 x9 x10 x11 x12 x13 x14 x15 x16) (k0_pay225 x0 x1 x2 x3 x4 x5 x6 x7 x8 x9 x10 x11 x12 x13 x14 x15 x16) (k0_pay226 x0 x1 x2 x3 x4 x5 x6 x7 x8 x9 x10 x11 x12 x13 x14 x15 x16) (k0_pay227 x0 x1 x2 x3 x4 x5 x6 x7 x8 x9 x10 x11 x12 x13 x14 x15 x16) (k0_pay228 x0 x1 x2 x3 x4 x5 x6 x7 x8 x9 x10 x11 x12 x13 x14 x15 x16) (k0_pay229 x0 x1 x2 x3 x4 x5 x6 x7 x8 x9 x10 x11 x12 x13 x14 x15 x16) (k0_pay230 x0 x1 x2 x3 x4 x5 x6 x7 x8 x9 x10 x11 x12 x13 x14 x15 x16) (k0_pay231 x0 x1 x2 x3 x4 x5 x6 x7 x8 x9 x10 x11 x12 x13 x14 x15 x16) (k0_pay232 x0 x1 x2 x3 x4 x5 x6 x7 x8 x9 x10 x11 x12 x13 x14 x15 x16) (k0_pay233 x0 x1 x2 x3 x4 x5 x6 x7 x8 x9 x10 x11 x12 x13 x14 x15 x16) (k0_pay234 x0 x1 x2 x3 x4 x5 x6 x7 x8 x9 x10 x11 x12 x13 x14 x15 x16) (k0_pay235 x0 x1 x2 x3 x4 x5 x6 x7 x8 x9 x10 x11 x12 x13 x14 x15 x16) (k0_pay236 x0 x1 x2 x3 x4 x5 x6 x7 x8 x9 x10 x11 x12 x13 x14 x15 x16) (k0_pay237 x0 x1 x2 x3 x4 x5 x6 x7 x8 x9 x10 x11 x12 x13 x14 x15 x16) (k0_pay238 x0 x1 x2 x3 x4 x5 x6 x7 x8 x9 x10 x11 x12 x13 x14 x15 x16) (k0_pay239 x0 x1 x2 x3 x4 x5 x6 x7 x8 x9 x10 x11 x12 x13 x14 x15 x16) (View.ld x12 r0_3) (View.ld x13 r0_3) p.X (h24 h) h.h193 h.h196 (fun i j f => pay14_eq (k0_pay220 x0 x1 x2 x3 x4 x5 x6 x7 x8 x9 x10 x11 x12 x13 x14 x15 x16) (k0_pay221 x0 x1 x2 x3 x4 x5 x6 x7 x8 x9 x10 x11 x12 x13 x14 x15 x16) p.X (h34 h) (h37 h) i j f) (fun i j f => pay15_eq (k0_pay220 x0 x1 x2 x3 x4 x5 x6 x7 x8 x9 x10 x11 x12 x13 x14 x15 x16) (k0_pay221 x0 x1 x2 x3 x4 x5 x6 x7 x8 x9 x10 x11 x12 x13 x14 x15 x16) p.X (h34 h) (h37 h) i j f) (fun i j => pay16_eq (k0_pay217 x0 x1 x2 x3 x4 x5 x6 x7 x8 x9 x10 x11 x12 x13 x14 x15 x16) p.X (h19 h) i j) i j t)

/-- The block names rows of the batch. -/
theorem row0 : ∀ (i : Fin 16) (j : Fin 64) (a b : Fin 64), a.val = i.val → b.val = j.val → (fun t => (k0_pay241 x0 x1 x2 x3 x4 x5 x6 x7 x8 x9 x10 x11 x12 x13 x14 x15 x16) (ix3 i j t)) = cc p.X a b :=
  fun i j a b ha hb => funext fun t => by
  rw [g0 h i j t, show rw64 (0 + i.val) = a from Fin.ext (by show (0 + i.val) % 64 = a.val; omega), show rw64 (0 + j.val) = b from Fin.ext (by show (0 + j.val) % 64 = b.val; omega)]

/-- The block read backwards. -/
theorem back0_16 : ∀ (i j : Fin 16) (a b : Fin 64), a.val = 16 + j.val → b.val = i.val → ∀ t : Fin 512, (k0_pay241 x0 x1 x2 x3 x4 x5 x6 x7 x8 x9 x10 x11 x12 x13 x14 x15 x16) (ix3 i ⟨16 + j.val, by omega⟩ t) = cc p.X a b ⟨(512 - t.val) % 512, Nat.mod_lt _ (by omega)⟩ :=
  fun i j a b ha hb t => by
  rw [g0 h i _ t, cc_swap, show rw64 (0 + i.val) = b from Fin.ext (by show (0 + i.val) % 64 = b.val; omega), show rw64 (0 + (⟨16 + j.val, by omega⟩ : Fin 64).val) = a from Fin.ext (by show (0 + (16 + j.val)) % 64 = a.val; omega)]

/-- The block read backwards. -/
theorem back0_32 : ∀ (i j : Fin 16) (a b : Fin 64), a.val = 32 + j.val → b.val = i.val → ∀ t : Fin 512, (k0_pay241 x0 x1 x2 x3 x4 x5 x6 x7 x8 x9 x10 x11 x12 x13 x14 x15 x16) (ix3 i ⟨32 + j.val, by omega⟩ t) = cc p.X a b ⟨(512 - t.val) % 512, Nat.mod_lt _ (by omega)⟩ :=
  fun i j a b ha hb t => by
  rw [g0 h i _ t, cc_swap, show rw64 (0 + i.val) = b from Fin.ext (by show (0 + i.val) % 64 = b.val; omega), show rw64 (0 + (⟨32 + j.val, by omega⟩ : Fin 64).val) = a from Fin.ext (by show (0 + (32 + j.val)) % 64 = a.val; omega)]

/-- The block read backwards. -/
theorem back0_48 : ∀ (i j : Fin 16) (a b : Fin 64), a.val = 48 + j.val → b.val = i.val → ∀ t : Fin 512, (k0_pay241 x0 x1 x2 x3 x4 x5 x6 x7 x8 x9 x10 x11 x12 x13 x14 x15 x16) (ix3 i ⟨48 + j.val, by omega⟩ t) = cc p.X a b ⟨(512 - t.val) % 512, Nat.mod_lt _ (by omega)⟩ :=
  fun i j a b ha hb t => by
  rw [g0 h i _ t, cc_swap, show rw64 (0 + i.val) = b from Fin.ext (by show (0 + i.val) % 64 = b.val; omega), show rw64 (0 + (⟨48 + j.val, by omega⟩ : Fin 64).val) = a from Fin.ext (by show (0 + (48 + j.val)) % 64 = a.val; omega)]

/-- A block of correlations. -/
theorem g1 : ∀ (i : Fin 16) (j : Fin 48) (t : Fin 512), (k0_pay243 x0 x1 x2 x3 x4 x5 x6 x7 x8 x9 x10 x11 x12 x13 x14 x15 x16) (ix3 i j t) = cc p.X (rw64 (16 + i.val)) (rw64 (16 + j.val)) t :=
  fun i j t => (pay46_eq (k0_pay216 x0 x1 x2 x3 x4 x5 x6 x7 x8 x9 x10 x11 x12 x13 x14 x15 x16) (k0_pay223 x0 x1 x2 x3 x4 x5 x6 x7 x8 x9 x10 x11 x12 x13 x14 x15 x16) (k0_pay224 x0 x1 x2 x3 x4 x5 x6 x7 x8 x9 x10 x11 x12 x13 x14 x15 x16) (k0_pay225 x0 x1 x2 x3 x4 x5 x6 x7 x8 x9 x10 x11 x12 x13 x14 x15 x16) (k0_pay226 x0 x1 x2 x3 x4 x5 x6 x7 x8 x9 x10 x11 x12 x13 x14 x15 x16) (k0_pay227 x0 x1 x2 x3 x4 x5 x6 x7 x8 x9 x10 x11 x12 x13 x14 x15 x16) (k0_pay228 x0 x1 x2 x3 x4 x5 x6 x7 x8 x9 x10 x11 x12 x13 x14 x15 x16) (k0_pay229 x0 x1 x2 x3 x4 x5 x6 x7 x8 x9 x10 x11 x12 x13 x14 x15 x16) (k0_pay230 x0 x1 x2 x3 x4 x5 x6 x7 x8 x9 x10 x11 x12 x13 x14 x15 x16) (k0_pay231 x0 x1 x2 x3 x4 x5 x6 x7 x8 x9 x10 x11 x12 x13 x14 x15 x16) (k0_pay232 x0 x1 x2 x3 x4 x5 x6 x7 x8 x9 x10 x11 x12 x13 x14 x15 x16) (k0_pay233 x0 x1 x2 x3 x4 x5 x6 x7 x8 x9 x10 x11 x12 x13 x14 x15 x16) (k0_pay234 x0 x1 x2 x3 x4 x5 x6 x7 x8 x9 x10 x11 x12 x13 x14 x15 x16) (k0_pay235 x0 x1 x2 x3 x4 x5 x6 x7 x8 x9 x10 x11 x12 x13 x14 x15 x16) (k0_pay236 x0 x1 x2 x3 x4 x5 x6 x7 x8 x9 x10 x11 x12 x13 x14 x15 x16) (k0_pay237 x0 x1 x2 x3 x4 x5 x6 x7 x8 x9 x10 x11 x12 x13 x14 x15 x16) (k0_pay238 x0 x1 x2 x3 x4 x5 x6 x7 x8 x9 x10 x11 x12 x13 x14 x15 x16) (k0_pay239 x0 x1 x2 x3 x4 x5 x6 x7 x8 x9 x10 x11 x12 x13 x14 x15 x16) (View.ld x12 r0_3) (View.ld x13 r0_3) i j t).trans (cc_block1 (k0_pay216 x0 x1 x2 x3 x4 x5 x6 x7 x8 x9 x10 x11 x12 x13 x14 x15 x16) (k0_pay223 x0 x1 x2 x3 x4 x5 x6 x7 x8 x9 x10 x11 x12 x13 x14 x15 x16) (k0_pay224 x0 x1 x2 x3 x4 x5 x6 x7 x8 x9 x10 x11 x12 x13 x14 x15 x16) (k0_pay225 x0 x1 x2 x3 x4 x5 x6 x7 x8 x9 x10 x11 x12 x13 x14 x15 x16) (k0_pay226 x0 x1 x2 x3 x4 x5 x6 x7 x8 x9 x10 x11 x12 x13 x14 x15 x16) (k0_pay227 x0 x1 x2 x3 x4 x5 x6 x7 x8 x9 x10 x11 x12 x13 x14 x15 x16) (k0_pay228 x0 x1 x2 x3 x4 x5 x6 x7 x8 x9 x10 x11 x12 x13 x14 x15 x16) (k0_pay229 x0 x1 x2 x3 x4 x5 x6 x7 x8 x9 x10 x11 x12 x13 x14 x15 x16) (k0_pay230 x0 x1 x2 x3 x4 x5 x6 x7 x8 x9 x10 x11 x12 x13 x14 x15 x16) (k0_pay231 x0 x1 x2 x3 x4 x5 x6 x7 x8 x9 x10 x11 x12 x13 x14 x15 x16) (k0_pay232 x0 x1 x2 x3 x4 x5 x6 x7 x8 x9 x10 x11 x12 x13 x14 x15 x16) (k0_pay233 x0 x1 x2 x3 x4 x5 x6 x7 x8 x9 x10 x11 x12 x13 x14 x15 x16) (k0_pay234 x0 x1 x2 x3 x4 x5 x6 x7 x8 x9 x10 x11 x12 x13 x14 x15 x16) (k0_pay235 x0 x1 x2 x3 x4 x5 x6 x7 x8 x9 x10 x11 x12 x13 x14 x15 x16) (k0_pay236 x0 x1 x2 x3 x4 x5 x6 x7 x8 x9 x10 x11 x12 x13 x14 x15 x16) (k0_pay237 x0 x1 x2 x3 x4 x5 x6 x7 x8 x9 x10 x11 x12 x13 x14 x15 x16) (k0_pay238 x0 x1 x2 x3 x4 x5 x6 x7 x8 x9 x10 x11 x12 x13 x14 x15 x16) (k0_pay239 x0 x1 x2 x3 x4 x5 x6 x7 x8 x9 x10 x11 x12 x13 x14 x15 x16) (View.ld x12 r0_3) (View.ld x13 r0_3) p.X (h24 h) h.h193 h.h196 (fun i j f => pay23_eq (k0_pay220 x0 x1 x2 x3 x4 x5 x6 x7 x8 x9 x10 x11 x12 x13 x14 x15 x16) (k0_pay221 x0 x1 x2 x3 x4 x5 x6 x7 x8 x9 x10 x11 x12 x13 x14 x15 x16) p.X (h34 h) (h37 h) i j f) (fun i j f => pay26_eq (k0_pay220 x0 x1 x2 x3 x4 x5 x6 x7 x8 x9 x10 x11 x12 x13 x14 x15 x16) (k0_pay221 x0 x1 x2 x3 x4 x5 x6 x7 x8 x9 x10 x11 x12 x13 x14 x15 x16) p.X (h34 h) (h37 h) i j f) (fun i j => pay27_eq (k0_pay217 x0 x1 x2 x3 x4 x5 x6 x7 x8 x9 x10 x11 x12 x13 x14 x15 x16) p.X (h19 h) i j) i j t)

/-- The block names rows of the batch. -/
theorem row1 : ∀ (i : Fin 16) (j : Fin 48) (a b : Fin 64), a.val = 16 + i.val → b.val = 16 + j.val → (fun t => (k0_pay243 x0 x1 x2 x3 x4 x5 x6 x7 x8 x9 x10 x11 x12 x13 x14 x15 x16) (ix3 i j t)) = cc p.X a b :=
  fun i j a b ha hb => funext fun t => by
  rw [g1 h i j t, show rw64 (16 + i.val) = a from Fin.ext (by show (16 + i.val) % 64 = a.val; omega), show rw64 (16 + j.val) = b from Fin.ext (by show (16 + j.val) % 64 = b.val; omega)]

/-- The block read backwards. -/
theorem back1_16 : ∀ (i j : Fin 16) (a b : Fin 64), a.val = 32 + j.val → b.val = 16 + i.val → ∀ t : Fin 512, (k0_pay243 x0 x1 x2 x3 x4 x5 x6 x7 x8 x9 x10 x11 x12 x13 x14 x15 x16) (ix3 i ⟨16 + j.val, by omega⟩ t) = cc p.X a b ⟨(512 - t.val) % 512, Nat.mod_lt _ (by omega)⟩ :=
  fun i j a b ha hb t => by
  rw [g1 h i _ t, cc_swap, show rw64 (16 + i.val) = b from Fin.ext (by show (16 + i.val) % 64 = b.val; omega), show rw64 (16 + (⟨16 + j.val, by omega⟩ : Fin 48).val) = a from Fin.ext (by show (16 + (16 + j.val)) % 64 = a.val; omega)]

/-- The block read backwards. -/
theorem back1_32 : ∀ (i j : Fin 16) (a b : Fin 64), a.val = 48 + j.val → b.val = 16 + i.val → ∀ t : Fin 512, (k0_pay243 x0 x1 x2 x3 x4 x5 x6 x7 x8 x9 x10 x11 x12 x13 x14 x15 x16) (ix3 i ⟨32 + j.val, by omega⟩ t) = cc p.X a b ⟨(512 - t.val) % 512, Nat.mod_lt _ (by omega)⟩ :=
  fun i j a b ha hb t => by
  rw [g1 h i _ t, cc_swap, show rw64 (16 + i.val) = b from Fin.ext (by show (16 + i.val) % 64 = b.val; omega), show rw64 (16 + (⟨32 + j.val, by omega⟩ : Fin 48).val) = a from Fin.ext (by show (16 + (32 + j.val)) % 64 = a.val; omega)]

/-- A block of correlations. -/
theorem g2 : ∀ (i : Fin 16) (j : Fin 32) (t : Fin 512), (k0_pay244 x0 x1 x2 x3 x4 x5 x6 x7 x8 x9 x10 x11 x12 x13 x14 x15 x16) (ix3 i j t) = cc p.X (rw64 (32 + i.val)) (rw64 (32 + j.val)) t :=
  fun i j t => (pay47_eq (k0_pay240 x0 x1 x2 x3 x4 x5 x6 x7 x8 x9 x10 x11 x12 x13 x14 x15 x16) i j t).trans (cc_block2 (k0_pay216 x0 x1 x2 x3 x4 x5 x6 x7 x8 x9 x10 x11 x12 x13 x14 x15 x16) (k0_pay223 x0 x1 x2 x3 x4 x5 x6 x7 x8 x9 x10 x11 x12 x13 x14 x15 x16) (k0_pay224 x0 x1 x2 x3 x4 x5 x6 x7 x8 x9 x10 x11 x12 x13 x14 x15 x16) (k0_pay225 x0 x1 x2 x3 x4 x5 x6 x7 x8 x9 x10 x11 x12 x13 x14 x15 x16) (k0_pay226 x0 x1 x2 x3 x4 x5 x6 x7 x8 x9 x10 x11 x12 x13 x14 x15 x16) (k0_pay227 x0 x1 x2 x3 x4 x5 x6 x7 x8 x9 x10 x11 x12 x13 x14 x15 x16) (k0_pay228 x0 x1 x2 x3 x4 x5 x6 x7 x8 x9 x10 x11 x12 x13 x14 x15 x16) (k0_pay229 x0 x1 x2 x3 x4 x5 x6 x7 x8 x9 x10 x11 x12 x13 x14 x15 x16) (k0_pay230 x0 x1 x2 x3 x4 x5 x6 x7 x8 x9 x10 x11 x12 x13 x14 x15 x16) (k0_pay231 x0 x1 x2 x3 x4 x5 x6 x7 x8 x9 x10 x11 x12 x13 x14 x15 x16) (k0_pay232 x0 x1 x2 x3 x4 x5 x6 x7 x8 x9 x10 x11 x12 x13 x14 x15 x16) (k0_pay233 x0 x1 x2 x3 x4 x5 x6 x7 x8 x9 x10 x11 x12 x13 x14 x15 x16) (k0_pay234 x0 x1 x2 x3 x4 x5 x6 x7 x8 x9 x10 x11 x12 x13 x14 x15 x16) (k0_pay235 x0 x1 x2 x3 x4 x5 x6 x7 x8 x9 x10 x11 x12 x13 x14 x15 x16) (k0_pay236 x0 x1 x2 x3 x4 x5 x6 x7 x8 x9 x10 x11 x12 x13 x14 x15 x16) (k0_pay237 x0 x1 x2 x3 x4 x5 x6 x7 x8 x9 x10 x11 x12 x13 x14 x15 x16) (k0_pay238 x0 x1 x2 x3 x4 x5 x6 x7 x8 x9 x10 x11 x12 x13 x14 x15 x16) (k0_pay239 x0 x1 x2 x3 x4 x5 x6 x7 x8 x9 x10 x11 x12 x13 x14 x15 x16) (View.ld x12 r0_3) (View.ld x13 r0_3) p.X (h24 h) h.h193 h.h196 (fun i j f => pay32_eq (k0_pay220 x0 x1 x2 x3 x4 x5 x6 x7 x8 x9 x10 x11 x12 x13 x14 x15 x16) (k0_pay221 x0 x1 x2 x3 x4 x5 x6 x7 x8 x9 x10 x11 x12 x13 x14 x15 x16) p.X (h34 h) (h37 h) i j f) (fun i j f => pay33_eq (k0_pay220 x0 x1 x2 x3 x4 x5 x6 x7 x8 x9 x10 x11 x12 x13 x14 x15 x16) (k0_pay221 x0 x1 x2 x3 x4 x5 x6 x7 x8 x9 x10 x11 x12 x13 x14 x15 x16) p.X (h34 h) (h37 h) i j f) (fun i j => pay34_eq (k0_pay222 x0 x1 x2 x3 x4 x5 x6 x7 x8 x9 x10 x11 x12 x13 x14 x15 x16) p.X (h41 h) i j) i j t)

/-- The block names rows of the batch. -/
theorem row2 : ∀ (i : Fin 16) (j : Fin 32) (a b : Fin 64), a.val = 32 + i.val → b.val = 32 + j.val → (fun t => (k0_pay244 x0 x1 x2 x3 x4 x5 x6 x7 x8 x9 x10 x11 x12 x13 x14 x15 x16) (ix3 i j t)) = cc p.X a b :=
  fun i j a b ha hb => funext fun t => by
  rw [g2 h i j t, show rw64 (32 + i.val) = a from Fin.ext (by show (32 + i.val) % 64 = a.val; omega), show rw64 (32 + j.val) = b from Fin.ext (by show (32 + j.val) % 64 = b.val; omega)]

/-- The block read backwards. -/
theorem back2_16 : ∀ (i j : Fin 16) (a b : Fin 64), a.val = 48 + j.val → b.val = 32 + i.val → ∀ t : Fin 512, (k0_pay244 x0 x1 x2 x3 x4 x5 x6 x7 x8 x9 x10 x11 x12 x13 x14 x15 x16) (ix3 i ⟨16 + j.val, by omega⟩ t) = cc p.X a b ⟨(512 - t.val) % 512, Nat.mod_lt _ (by omega)⟩ :=
  fun i j a b ha hb t => by
  rw [g2 h i _ t, cc_swap, show rw64 (32 + i.val) = b from Fin.ext (by show (32 + i.val) % 64 = b.val; omega), show rw64 (32 + (⟨16 + j.val, by omega⟩ : Fin 32).val) = a from Fin.ext (by show (32 + (16 + j.val)) % 64 = a.val; omega)]

/-- A block of correlations. -/
theorem g3 : ∀ (i : Fin 16) (j : Fin 16) (t : Fin 512), (k0_pay245 x0 x1 x2 x3 x4 x5 x6 x7 x8 x9 x10 x11 x12 x13 x14 x15 x16) (ix3 i j t) = cc p.X (rw64 (48 + i.val)) (rw64 (48 + j.val)) t :=
  fun i j t => (pay48_eq (k0_pay240 x0 x1 x2 x3 x4 x5 x6 x7 x8 x9 x10 x11 x12 x13 x14 x15 x16) i j t).trans (cc_block3 (k0_pay216 x0 x1 x2 x3 x4 x5 x6 x7 x8 x9 x10 x11 x12 x13 x14 x15 x16) (k0_pay223 x0 x1 x2 x3 x4 x5 x6 x7 x8 x9 x10 x11 x12 x13 x14 x15 x16) (k0_pay224 x0 x1 x2 x3 x4 x5 x6 x7 x8 x9 x10 x11 x12 x13 x14 x15 x16) (k0_pay225 x0 x1 x2 x3 x4 x5 x6 x7 x8 x9 x10 x11 x12 x13 x14 x15 x16) (k0_pay226 x0 x1 x2 x3 x4 x5 x6 x7 x8 x9 x10 x11 x12 x13 x14 x15 x16) (k0_pay227 x0 x1 x2 x3 x4 x5 x6 x7 x8 x9 x10 x11 x12 x13 x14 x15 x16) (k0_pay228 x0 x1 x2 x3 x4 x5 x6 x7 x8 x9 x10 x11 x12 x13 x14 x15 x16) (k0_pay229 x0 x1 x2 x3 x4 x5 x6 x7 x8 x9 x10 x11 x12 x13 x14 x15 x16) (k0_pay230 x0 x1 x2 x3 x4 x5 x6 x7 x8 x9 x10 x11 x12 x13 x14 x15 x16) (k0_pay231 x0 x1 x2 x3 x4 x5 x6 x7 x8 x9 x10 x11 x12 x13 x14 x15 x16) (k0_pay232 x0 x1 x2 x3 x4 x5 x6 x7 x8 x9 x10 x11 x12 x13 x14 x15 x16) (k0_pay233 x0 x1 x2 x3 x4 x5 x6 x7 x8 x9 x10 x11 x12 x13 x14 x15 x16) (k0_pay234 x0 x1 x2 x3 x4 x5 x6 x7 x8 x9 x10 x11 x12 x13 x14 x15 x16) (k0_pay235 x0 x1 x2 x3 x4 x5 x6 x7 x8 x9 x10 x11 x12 x13 x14 x15 x16) (k0_pay236 x0 x1 x2 x3 x4 x5 x6 x7 x8 x9 x10 x11 x12 x13 x14 x15 x16) (k0_pay237 x0 x1 x2 x3 x4 x5 x6 x7 x8 x9 x10 x11 x12 x13 x14 x15 x16) (k0_pay238 x0 x1 x2 x3 x4 x5 x6 x7 x8 x9 x10 x11 x12 x13 x14 x15 x16) (k0_pay239 x0 x1 x2 x3 x4 x5 x6 x7 x8 x9 x10 x11 x12 x13 x14 x15 x16) (View.ld x12 r0_3) (View.ld x13 r0_3) p.X (h24 h) h.h193 h.h196 (fun i f => pay35_eq (k0_pay220 x0 x1 x2 x3 x4 x5 x6 x7 x8 x9 x10 x11 x12 x13 x14 x15 x16) p.X (h34 h) i f) (fun i f => pay36_eq (k0_pay221 x0 x1 x2 x3 x4 x5 x6 x7 x8 x9 x10 x11 x12 x13 x14 x15 x16) p.X (h37 h) i f) (fun i => pay37_eq (k0_pay222 x0 x1 x2 x3 x4 x5 x6 x7 x8 x9 x10 x11 x12 x13 x14 x15 x16) p.X (h41 h) i) (fun i f => pay38_eq (k0_pay220 x0 x1 x2 x3 x4 x5 x6 x7 x8 x9 x10 x11 x12 x13 x14 x15 x16) p.X (h34 h) i f) (fun i f => pay39_eq (k0_pay221 x0 x1 x2 x3 x4 x5 x6 x7 x8 x9 x10 x11 x12 x13 x14 x15 x16) p.X (h37 h) i f) (fun i => pay40_eq (k0_pay222 x0 x1 x2 x3 x4 x5 x6 x7 x8 x9 x10 x11 x12 x13 x14 x15 x16) p.X (h41 h) i) (fun i j f => pay41_eq (k0_pay220 x0 x1 x2 x3 x4 x5 x6 x7 x8 x9 x10 x11 x12 x13 x14 x15 x16) p.X (h34 h) i j f) (fun i j f => pay42_eq (k0_pay220 x0 x1 x2 x3 x4 x5 x6 x7 x8 x9 x10 x11 x12 x13 x14 x15 x16) p.X (h34 h) i j f) i j t)

/-- The block names rows of the batch. -/
theorem row3 : ∀ (i : Fin 16) (j : Fin 16) (a b : Fin 64), a.val = 48 + i.val → b.val = 48 + j.val → (fun t => (k0_pay245 x0 x1 x2 x3 x4 x5 x6 x7 x8 x9 x10 x11 x12 x13 x14 x15 x16) (ix3 i j t)) = cc p.X a b :=
  fun i j a b ha hb => funext fun t => by
  rw [g3 h i j t, show rw64 (48 + i.val) = a from Fin.ext (by show (48 + i.val) % 64 = a.val; omega), show rw64 (48 + j.val) = b from Fin.ext (by show (48 + j.val) % 64 = b.val; omega)]

end Cert.Proof
-- ==== Proof.Peaks0.lean ====
/- The kernel's search for each correlation row's peak, in one block of rows: magnitudes at local peaks, the greatest
   of them, the word that packs its position with the sign there, and the signed peak and lag read from the word. -/
module
public import proofs.«01_k».proof.Proof.Gen.KernelIdeal.Skeleton
public import proofs.«01_k».proof.Proof.Words
public import Idealize.ShloMosaic.PureOps.Ideal
public import Idealize.ShloMosaic.Lib.Pointwise
@[expose] public section
noncomputable section
namespace Cert.Proof
open Idealize.ShloMosaic Cert.KernelIdeal Cert.KernelIdeal.Gen
set_option maxRecDepth 20000

/-! ### The first block -/

/-- The magnitudes at local peaks. -/
theorem pay50_eq (v205 : FVec Ideal S16x64x512 .f32) (i : Fin 16) (j : Fin 64) (l : Fin 510) : k0_pay50 (F := Ideal) v205 (ix3 i j l) = cam (fun t => v205 (ix3 i j t)) l := by
  unfold k0_pay50 k0_pay49; pointwise
  simp only [absf_ab]
  exact select_cam _ _ _

/-- The greatest magnitude. -/
theorem pay51_eq (v205 : FVec Ideal S16x64x512 .f32) (i : Fin 16) (j : Fin 64) : k0_pay51 (F := Ideal) v205 (ix2 i j) = pm (fun t => v205 (ix3 i j t)) := by
  unfold k0_pay51
  generalize h0 : k0_pay50 (F := Ideal) v205 = A0
  pointwise
  subst h0
  simp only [pay50_eq]
  exact fold_max_amax _

/-- The packed word. -/
theorem pay52_eq (v205 : FVec Ideal S16x64x512 .f32) (i : Fin 16) (j : Fin 64) : k0_pay52 (F := Ideal) v205 (ix2 i j) = cw (fun t => v205 (ix3 i j t)) := by
  unfold k0_pay52
  generalize h0 : k0_pay50 (F := Ideal) v205 = A0
  generalize h1 : k0_pay51 (F := Ideal) v205 = A1
  pointwise
  subst h0 h1
  simp only [pay50_eq, pay51_eq]
  exact fold_cw _

/-- The signed peak. -/
theorem pay53_eq (v205 : FVec Ideal S16x64x512 .f32) (i : Fin 16) (j : Fin 64) : k0_pay53 (F := Ideal) v205 (ix2 i j) = ps (fun t => v205 (ix3 i j t)) := by
  unfold k0_pay53
  generalize h0 : k0_pay51 (F := Ideal) v205 = A0
  generalize h1 : k0_pay52 (F := Ideal) v205 = A1
  pointwise
  subst h0 h1
  simp only [pay51_eq, pay52_eq]
  exact cw_sign _

/-- The lag. -/
theorem pay54_eq (v205 : FVec Ideal S16x64x512 .f32) (i : Fin 16) (j : Fin 64) : k0_pay54 (F := Ideal) v205 (ix2 i j) = BitVec.ofNat 32 ((pk (fun t => v205 (ix3 i j t))).val + 1) := by
  unfold k0_pay54
  generalize h0 : k0_pay52 (F := Ideal) v205 = A0
  pointwise
  subst h0
  simp only [pay52_eq]
  exact cw_lag _
end Cert.Proof
-- ==== Proof.Back0.lean ====
/- The search for one block's rows read backwards: a later row's correlations with an earlier one, taken from the
   earlier row's with the lags negated. -/
module
public import proofs.«01_k».proof.Proof.Gen.KernelIdeal.Skeleton
public import proofs.«01_k».proof.Proof.Peaks0
public import Idealize.ShloMosaic.PureOps.Ideal
public import Idealize.ShloMosaic.Lib.Pointwise
@[expose] public section
noncomputable section
namespace Cert.Proof
open Idealize.ShloMosaic Cert.KernelIdeal Cert.KernelIdeal.Gen
set_option maxRecDepth 20000

/-- The magnitudes. -/
theorem pay49_eq (v205 : FVec Ideal S16x64x512 .f32) (i : Fin 16) (j : Fin 64) (t : Fin 512) : k0_pay49 (F := Ideal) v205 (ix3 i j t) = ab (v205 (ix3 i j t)) := by
  unfold k0_pay49; pointwise; rfl

/-- The magnitudes at local peaks, backwards. -/
theorem pay78_eq (v205 : FVec Ideal S16x64x512 .f32) (i j : Fin 16) (l : Fin 510) :
    k0_pay78 (F := Ideal) (k0_pay49 (F := Ideal) v205) (k0_pay50 (F := Ideal) v205) (ix3 i j l) = camb (fun t => v205 (ix3 i ⟨16 + j.val, by omega⟩ t)) l := by
  unfold k0_pay78
  generalize h0 : k0_pay49 (F := Ideal) v205 = A0
  generalize h1 : k0_pay50 (F := Ideal) v205 = A1
  pointwise
  subst h0 h1
  simp only [pay50_eq, pay49_eq]
  unfold camb
  by_cases h : l.val < 509
  · simp only [dif_pos h]
  · have hl : l = 509 := Fin.ext (by have := l.isLt; show l.val = 509; omega)
    subst hl
    simp only [dif_neg h]
    exact select_cam (v205 (ix3 i ⟨16 + j.val, by omega⟩ 510)) (v205 (ix3 i ⟨16 + j.val, by omega⟩ 511)) (v205 (ix3 i ⟨16 + j.val, by omega⟩ 0))

/-- The greatest magnitude, backwards. -/
theorem pay79_eq (v205 : FVec Ideal S16x64x512 .f32) (i j : Fin 16) (H : Fin 512 → EReal)
    (hg : ∀ t : Fin 512, v205 (ix3 i ⟨16 + j.val, by omega⟩ t) = H ⟨(512 - t.val) % 512, Nat.mod_lt _ (by omega)⟩) :
    k0_pay79 (F := Ideal) (k0_pay49 (F := Ideal) v205) (k0_pay50 (F := Ideal) v205) (ix2 i j) = pm H := by
  unfold k0_pay79
  generalize h0 : k0_pay78 (F := Ideal) (k0_pay49 (F := Ideal) v205) (k0_pay50 (F := Ideal) v205) = A0
  pointwise
  subst h0
  simp only [pay78_eq]
  exact (fold_bw _ H hg).1

/-- The packed word, backwards. -/
theorem pay80_eq (v205 : FVec Ideal S16x64x512 .f32) (i j : Fin 16) (H : Fin 512 → EReal)
    (hg : ∀ t : Fin 512, v205 (ix3 i ⟨16 + j.val, by omega⟩ t) = H ⟨(512 - t.val) % 512, Nat.mod_lt _ (by omega)⟩) :
    k0_pay80 (F := Ideal) v205 (k0_pay49 (F := Ideal) v205) (k0_pay50 (F := Ideal) v205) (ix2 i j) = bw H := by
  unfold k0_pay80
  generalize h0 : k0_pay78 (F := Ideal) (k0_pay49 (F := Ideal) v205) (k0_pay50 (F := Ideal) v205) = A0
  generalize h1 : k0_pay79 (F := Ideal) (k0_pay49 (F := Ideal) v205) (k0_pay50 (F := Ideal) v205) = A1
  pointwise
  subst h0 h1
  simp only [pay78_eq]
  rw [pay79_eq v205 i j H hg]
  exact (fold_bw _ H hg).2

/-- The packed word's low bit, backwards. -/
theorem pay81_eq (v205 : FVec Ideal S16x64x512 .f32) (i j : Fin 16) (H : Fin 512 → EReal)
    (hg : ∀ t : Fin 512, v205 (ix3 i ⟨16 + j.val, by omega⟩ t) = H ⟨(512 - t.val) % 512, Nat.mod_lt _ (by omega)⟩) :
    k0_pay81 (F := Ideal) v205 (k0_pay49 (F := Ideal) v205) (k0_pay50 (F := Ideal) v205) (ix2 i j) = IntOp.andi (bw H) 1#32 := by
  unfold k0_pay81
  generalize h0 : k0_pay80 (F := Ideal) v205 (k0_pay49 (F := Ideal) v205) (k0_pay50 (F := Ideal) v205) = A0
  pointwise
  subst h0
  rw [pay80_eq v205 i j H hg]

/-- The magnitudes at local peaks, backwards. -/
theorem pay86_eq (v205 : FVec Ideal S16x64x512 .f32) (i j : Fin 16) (l : Fin 510) :
    k0_pay86 (F := Ideal) (k0_pay49 (F := Ideal) v205) (k0_pay50 (F := Ideal) v205) (ix3 i j l) = camb (fun t => v205 (ix3 i ⟨32 + j.val, by omega⟩ t)) l := by
  unfold k0_pay86
  generalize h0 : k0_pay49 (F := Ideal) v205 = A0
  generalize h1 : k0_pay50 (F := Ideal) v205 = A1
  pointwise
  subst h0 h1
  simp only [pay50_eq, pay49_eq]
  unfold camb
  by_cases h : l.val < 509
  · simp only [dif_pos h]
  · have hl : l = 509 := Fin.ext (by have := l.isLt; show l.val = 509; omega)
    subst hl
    simp only [dif_neg h]
    exact select_cam (v205 (ix3 i ⟨32 + j.val, by omega⟩ 510)) (v205 (ix3 i ⟨32 + j.val, by omega⟩ 511)) (v205 (ix3 i ⟨32 + j.val, by omega⟩ 0))

/-- The greatest magnitude, backwards. -/
theorem pay87_eq (v205 : FVec Ideal S16x64x512 .f32) (i j : Fin 16) (H : Fin 512 → EReal)
    (hg : ∀ t : Fin 512, v205 (ix3 i ⟨32 + j.val, by omega⟩ t) = H ⟨(512 - t.val) % 512, Nat.mod_lt _ (by omega)⟩) :
    k0_pay87 (F := Ideal) (k0_pay49 (F := Ideal) v205) (k0_pay50 (F := Ideal) v205) (ix2 i j) = pm H := by
  unfold k0_pay87
  generalize h0 : k0_pay86 (F := Ideal) (k0_pay49 (F := Ideal) v205) (k0_pay50 (F := Ideal) v205) = A0
  pointwise
  subst h0
  simp only [pay86_eq]
  exact (fold_bw _ H hg).1

/-- The packed word, backwards. -/
theorem pay88_eq (v205 : FVec Ideal S16x64x512 .f32) (i j : Fin 16) (H : Fin 512 → EReal)
    (hg : ∀ t : Fin 512, v205 (ix3 i ⟨32 + j.val, by omega⟩ t) = H ⟨(512 - t.val) % 512, Nat.mod_lt _ (by omega)⟩) :
    k0_pay88 (F := Ideal) v205 (k0_pay49 (F := Ideal) v205) (k0_pay50 (F := Ideal) v205) (ix2 i j) = bw H := by
  unfold k0_pay88
  generalize h0 : k0_pay86 (F := Ideal) (k0_pay49 (F := Ideal) v205) (k0_pay50 (F := Ideal) v205) = A0
  generalize h1 : k0_pay87 (F := Ideal) (k0_pay49 (F := Ideal) v205) (k0_pay50 (F := Ideal) v205) = A1
  pointwise
  subst h0 h1
  simp only [pay86_eq]
  rw [pay87_eq v205 i j H hg]
  exact (fold_bw _ H hg).2

/-- The packed word's low bit, backwards. -/
theorem pay89_eq (v205 : FVec Ideal S16x64x512 .f32) (i j : Fin 16) (H : Fin 512 → EReal)
    (hg : ∀ t : Fin 512, v205 (ix3 i ⟨32 + j.val, by omega⟩ t) = H ⟨(512 - t.val) % 512, Nat.mod_lt _ (by omega)⟩) :
    k0_pay89 (F := Ideal) v205 (k0_pay49 (F := Ideal) v205) (k0_pay50 (F := Ideal) v205) (ix2 i j) = IntOp.andi (bw H) 1#32 := by
  unfold k0_pay89
  generalize h0 : k0_pay88 (F := Ideal) v205 (k0_pay49 (F := Ideal) v205) (k0_pay50 (F := Ideal) v205) = A0
  pointwise
  subst h0
  rw [pay88_eq v205 i j H hg]

/-- The magnitudes at local peaks, backwards. -/
theorem pay100_eq (v205 : FVec Ideal S16x64x512 .f32) (i j : Fin 16) (l : Fin 510) :
    k0_pay100 (F := Ideal) (k0_pay49 (F := Ideal) v205) (k0_pay50 (F := Ideal) v205) (ix3 i j l) = camb (fun t => v205 (ix3 i ⟨48 + j.val, by omega⟩ t)) l := by
  unfold k0_pay100
  generalize h0 : k0_pay49 (F := Ideal) v205 = A0
  generalize h1 : k0_pay50 (F := Ideal) v205 = A1
  pointwise
  subst h0 h1
  simp only [pay50_eq, pay49_eq]
  unfold camb
  by_cases h : l.val < 509
  · simp only [dif_pos h]
  · have hl : l = 509 := Fin.ext (by have := l.isLt; show l.val = 509; omega)
    subst hl
    simp only [dif_neg h]
    exact select_cam (v205 (ix3 i ⟨48 + j.val, by omega⟩ 510)) (v205 (ix3 i ⟨48 + j.val, by omega⟩ 511)) (v205 (ix3 i ⟨48 + j.val, by omega⟩ 0))

/-- The greatest magnitude, backwards. -/
theorem pay101_eq (v205 : FVec Ideal S16x64x512 .f32) (i j : Fin 16) (H : Fin 512 → EReal)
    (hg : ∀ t : Fin 512, v205 (ix3 i ⟨48 + j.val, by omega⟩ t) = H ⟨(512 - t.val) % 512, Nat.mod_lt _ (by omega)⟩) :
    k0_pay101 (F := Ideal) (k0_pay49 (F := Ideal) v205) (k0_pay50 (F := Ideal) v205) (ix2 i j) = pm H := by
  unfold k0_pay101
  generalize h0 : k0_pay100 (F := Ideal) (k0_pay49 (F := Ideal) v205) (k0_pay50 (F := Ideal) v205) = A0
  pointwise
  subst h0
  simp only [pay100_eq]
  exact (fold_bw _ H hg).1

/-- The packed word, backwards. -/
theorem pay102_eq (v205 : FVec Ideal S16x64x512 .f32) (i j : Fin 16) (H : Fin 512 → EReal)
    (hg : ∀ t : Fin 512, v205 (ix3 i ⟨48 + j.val, by omega⟩ t) = H ⟨(512 - t.val) % 512, Nat.mod_lt _ (by omega)⟩) :
    k0_pay102 (F := Ideal) v205 (k0_pay49 (F := Ideal) v205) (k0_pay50 (F := Ideal) v205) (ix2 i j) = bw H := by
  unfold k0_pay102
  generalize h0 : k0_pay100 (F := Ideal) (k0_pay49 (F := Ideal) v205) (k0_pay50 (F := Ideal) v205) = A0
  generalize h1 : k0_pay101 (F := Ideal) (k0_pay49 (F := Ideal) v205) (k0_pay50 (F := Ideal) v205) = A1
  pointwise
  subst h0 h1
  simp only [pay100_eq]
  rw [pay101_eq v205 i j H hg]
  exact (fold_bw _ H hg).2
end Cert.Proof
-- ==== Proof.Peaks1.lean ====
/- The kernel's search for each correlation row's peak, in one block of rows: magnitudes at local peaks, the greatest
   of them, the word that packs its position with the sign there, and the signed peak and lag read from the word. -/
module
public import proofs.«01_k».proof.Proof.Gen.KernelIdeal.Skeleton
public import proofs.«01_k».proof.Proof.Words
public import Idealize.ShloMosaic.PureOps.Ideal
public import Idealize.ShloMosaic.Lib.Pointwise
@[expose] public section
noncomputable section
namespace Cert.Proof
open Idealize.ShloMosaic Cert.KernelIdeal Cert.KernelIdeal.Gen
set_option maxRecDepth 20000

/-! ### The second block -/

/-- The magnitudes. -/
theorem pay55_eq (v206 : FVec Ideal S768x512 .f32) (i : Fin 16) (j : Fin 48) (t : Fin 512) : k0_pay55 (F := Ideal) v206 (ix3 i j t) = ab (k0_pay46 (F := Ideal) v206 (ix3 i j t)) := by
  unfold k0_pay55
  generalize k0_pay46 (F := Ideal) v206 = A
  pointwise; rfl

/-- The magnitude at the middle lag. -/
theorem pay56_eq (v206 : FVec Ideal S768x512 .f32) (i : Fin 16) (j : Fin 48) (l : Fin 510) : k0_pay56 (F := Ideal) v206 (ix3 i j l) = ab (k0_pay46 (F := Ideal) v206 (ix3 i j ⟨1 + l.val, by omega⟩)) := by
  rw [← pay55_eq]
  unfold k0_pay56
  generalize k0_pay55 (F := Ideal) v206 = A
  pointwise

/-- The middle lag against the one before. -/
theorem pay57_eq (v206 : FVec Ideal S768x512 .f32) (i : Fin 16) (j : Fin 48) (l : Fin 510) : k0_pay57 (F := Ideal) v206 (ix3 i j l)
    = BitVec.ofBool (decide (ab (k0_pay46 (F := Ideal) v206 (ix3 i j ⟨l.val, by omega⟩)) ≤ ab (k0_pay46 (F := Ideal) v206 (ix3 i j ⟨1 + l.val, by omega⟩)))) := by
  simp only [← pay55_eq]
  rw [show k0_pay55 (F := Ideal) v206 (ix3 i j ⟨1 + l.val, by omega⟩) = k0_pay56 (F := Ideal) v206 (ix3 i j l) from (pay55_eq _ _ _ _).trans (pay56_eq _ _ _ _).symm]
  unfold k0_pay57
  generalize k0_pay55 (F := Ideal) v206 = A
  generalize k0_pay56 (F := Ideal) v206 = B
  pointwise

/-- The middle lag against the one after. -/
theorem pay58_eq (v206 : FVec Ideal S768x512 .f32) (i : Fin 16) (j : Fin 48) (l : Fin 510) : k0_pay58 (F := Ideal) v206 (ix3 i j l)
    = BitVec.ofBool (decide (ab (k0_pay46 (F := Ideal) v206 (ix3 i j ⟨2 + l.val, by omega⟩)) ≤ ab (k0_pay46 (F := Ideal) v206 (ix3 i j ⟨1 + l.val, by omega⟩)))) := by
  simp only [← pay55_eq]
  rw [show k0_pay55 (F := Ideal) v206 (ix3 i j ⟨1 + l.val, by omega⟩) = k0_pay56 (F := Ideal) v206 (ix3 i j l) from (pay55_eq _ _ _ _).trans (pay56_eq _ _ _ _).symm]
  unfold k0_pay58
  generalize k0_pay55 (F := Ideal) v206 = A
  generalize k0_pay56 (F := Ideal) v206 = B
  pointwise

/-- The magnitudes at local peaks. -/
theorem pay59_eq (v206 : FVec Ideal S768x512 .f32) (i : Fin 16) (j : Fin 48) (l : Fin 510) : k0_pay59 (F := Ideal) (k0_pay56 (F := Ideal) v206) (k0_pay57 (F := Ideal) v206) (k0_pay58 (F := Ideal) v206) (ix3 i j l) = cam (fun t => (k0_pay46 (F := Ideal) v206) (ix3 i j t)) l := by
  unfold k0_pay59
  generalize h0 : k0_pay56 (F := Ideal) v206 = A
  generalize h1 : k0_pay57 (F := Ideal) v206 = B
  generalize h2 : k0_pay58 (F := Ideal) v206 = C
  pointwise
  subst h0 h1 h2
  rw [pay56_eq, pay57_eq, pay58_eq]
  exact select_cam _ _ _

/-- The greatest magnitude. -/
theorem pay60_eq (v206 : FVec Ideal S768x512 .f32) (i : Fin 16) (j : Fin 48) : k0_pay60 (F := Ideal) (k0_pay56 (F := Ideal) v206) (k0_pay57 (F := Ideal) v206) (k0_pay58 (F := Ideal) v206) (ix2 i j) = pm (fun t => (k0_pay46 (F := Ideal) v206) (ix3 i j t)) := by
  unfold k0_pay60
  generalize h0 : k0_pay59 (F := Ideal) (k0_pay56 (F := Ideal) v206) (k0_pay57 (F := Ideal) v206) (k0_pay58 (F := Ideal) v206) = A0
  pointwise
  subst h0
  simp only [pay59_eq]
  exact fold_max_amax _

/-- The packed word. -/
theorem pay61_eq (v206 : FVec Ideal S768x512 .f32) (i : Fin 16) (j : Fin 48) : k0_pay61 (F := Ideal) (k0_pay46 (F := Ideal) v206) (k0_pay56 (F := Ideal) v206) (k0_pay57 (F := Ideal) v206) (k0_pay58 (F := Ideal) v206) (ix2 i j) = cw (fun t => (k0_pay46 (F := Ideal) v206) (ix3 i j t)) := by
  unfold k0_pay61
  generalize h0 : k0_pay59 (F := Ideal) (k0_pay56 (F := Ideal) v206) (k0_pay57 (F := Ideal) v206) (k0_pay58 (F := Ideal) v206) = A0
  generalize h1 : k0_pay60 (F := Ideal) (k0_pay56 (F := Ideal) v206) (k0_pay57 (F := Ideal) v206) (k0_pay58 (F := Ideal) v206) = A1
  pointwise
  subst h0 h1
  simp only [pay59_eq, pay60_eq]
  exact fold_cw _

/-- The signed peak. -/
theorem pay62_eq (v206 : FVec Ideal S768x512 .f32) (i : Fin 16) (j : Fin 48) : k0_pay62 (F := Ideal) (k0_pay46 (F := Ideal) v206) (k0_pay56 (F := Ideal) v206) (k0_pay57 (F := Ideal) v206) (k0_pay58 (F := Ideal) v206) (ix2 i j) = ps (fun t => (k0_pay46 (F := Ideal) v206) (ix3 i j t)) := by
  unfold k0_pay62
  generalize h0 : k0_pay60 (F := Ideal) (k0_pay56 (F := Ideal) v206) (k0_pay57 (F := Ideal) v206) (k0_pay58 (F := Ideal) v206) = A0
  generalize h1 : k0_pay61 (F := Ideal) (k0_pay46 (F := Ideal) v206) (k0_pay56 (F := Ideal) v206) (k0_pay57 (F := Ideal) v206) (k0_pay58 (F := Ideal) v206) = A1
  pointwise
  subst h0 h1
  simp only [pay60_eq, pay61_eq]
  exact cw_sign _

/-- The lag. -/
theorem pay63_eq (v206 : FVec Ideal S768x512 .f32) (i : Fin 16) (j : Fin 48) : k0_pay63 (F := Ideal) (k0_pay46 (F := Ideal) v206) (k0_pay56 (F := Ideal) v206) (k0_pay57 (F := Ideal) v206) (k0_pay58 (F := Ideal) v206) (ix2 i j) = BitVec.ofNat 32 ((pk (fun t => (k0_pay46 (F := Ideal) v206) (ix3 i j t))).val + 1) := by
  unfold k0_pay63
  generalize h0 : k0_pay61 (F := Ideal) (k0_pay46 (F := Ideal) v206) (k0_pay56 (F := Ideal) v206) (k0_pay57 (F := Ideal) v206) (k0_pay58 (F := Ideal) v206) = A0
  pointwise
  subst h0
  simp only [pay61_eq]
  exact cw_lag _
end Cert.Proof
-- ==== Proof.Back1.lean ====
/- The search for one block's rows read backwards: a later row's correlations with an earlier one, taken from the
   earlier row's with the lags negated. -/
module
public import proofs.«01_k».proof.Proof.Gen.KernelIdeal.Skeleton
public import proofs.«01_k».proof.Proof.Peaks1
public import Idealize.ShloMosaic.PureOps.Ideal
public import Idealize.ShloMosaic.Lib.Pointwise
@[expose] public section
noncomputable section
namespace Cert.Proof
open Idealize.ShloMosaic Cert.KernelIdeal Cert.KernelIdeal.Gen
set_option maxRecDepth 20000

/-- The magnitudes at local peaks, backwards. -/
theorem pay93_eq (v206 : FVec Ideal S768x512 .f32) (i j : Fin 16) (l : Fin 510) :
    k0_pay93 (F := Ideal) (k0_pay55 (F := Ideal) v206) (k0_pay59 (F := Ideal) (k0_pay56 (F := Ideal) v206) (k0_pay57 (F := Ideal) v206) (k0_pay58 (F := Ideal) v206)) (ix3 i j l) = camb (fun t => (k0_pay46 (F := Ideal) v206) (ix3 i ⟨16 + j.val, by omega⟩ t)) l := by
  unfold k0_pay93
  generalize h0 : k0_pay55 (F := Ideal) v206 = A0
  generalize h1 : k0_pay59 (F := Ideal) (k0_pay56 (F := Ideal) v206) (k0_pay57 (F := Ideal) v206) (k0_pay58 (F := Ideal) v206) = A1
  pointwise
  subst h0 h1
  simp only [pay59_eq, pay55_eq]
  unfold camb
  by_cases h : l.val < 509
  · simp only [dif_pos h]
  · have hl : l = 509 := Fin.ext (by have := l.isLt; show l.val = 509; omega)
    subst hl
    simp only [dif_neg h]
    exact select_cam ((k0_pay46 (F := Ideal) v206) (ix3 i ⟨16 + j.val, by omega⟩ 510)) ((k0_pay46 (F := Ideal) v206) (ix3 i ⟨16 + j.val, by omega⟩ 511)) ((k0_pay46 (F := Ideal) v206) (ix3 i ⟨16 + j.val, by omega⟩ 0))

/-- The greatest magnitude, backwards. -/
theorem pay94_eq (v206 : FVec Ideal S768x512 .f32) (i j : Fin 16) (H : Fin 512 → EReal)
    (hg : ∀ t : Fin 512, (k0_pay46 (F := Ideal) v206) (ix3 i ⟨16 + j.val, by omega⟩ t) = H ⟨(512 - t.val) % 512, Nat.mod_lt _ (by omega)⟩) :
    k0_pay94 (F := Ideal) (k0_pay55 (F := Ideal) v206) (k0_pay59 (F := Ideal) (k0_pay56 (F := Ideal) v206) (k0_pay57 (F := Ideal) v206) (k0_pay58 (F := Ideal) v206)) (ix2 i j) = pm H := by
  unfold k0_pay94
  generalize h0 : k0_pay93 (F := Ideal) (k0_pay55 (F := Ideal) v206) (k0_pay59 (F := Ideal) (k0_pay56 (F := Ideal) v206) (k0_pay57 (F := Ideal) v206) (k0_pay58 (F := Ideal) v206)) = A0
  pointwise
  subst h0
  simp only [pay93_eq]
  exact (fold_bw _ H hg).1

/-- The packed word, backwards. -/
theorem pay95_eq (v206 : FVec Ideal S768x512 .f32) (i j : Fin 16) (H : Fin 512 → EReal)
    (hg : ∀ t : Fin 512, (k0_pay46 (F := Ideal) v206) (ix3 i ⟨16 + j.val, by omega⟩ t) = H ⟨(512 - t.val) % 512, Nat.mod_lt _ (by omega)⟩) :
    k0_pay95 (F := Ideal) (k0_pay46 (F := Ideal) v206) (k0_pay55 (F := Ideal) v206) (k0_pay59 (F := Ideal) (k0_pay56 (F := Ideal) v206) (k0_pay57 (F := Ideal) v206) (k0_pay58 (F := Ideal) v206)) (ix2 i j) = bw H := by
  unfold k0_pay95
  generalize h0 : k0_pay93 (F := Ideal) (k0_pay55 (F := Ideal) v206) (k0_pay59 (F := Ideal) (k0_pay56 (F := Ideal) v206) (k0_pay57 (F := Ideal) v206) (k0_pay58 (F := Ideal) v206)) = A0
  generalize h1 : k0_pay94 (F := Ideal) (k0_pay55 (F := Ideal) v206) (k0_pay59 (F := Ideal) (k0_pay56 (F := Ideal) v206) (k0_pay57 (F := Ideal) v206) (k0_pay58 (F := Ideal) v206)) = A1
  pointwise
  subst h0 h1
  simp only [pay93_eq]
  rw [pay94_eq v206 i j H hg]
  exact (fold_bw _ H hg).2

/-- The packed word's low bit, backwards. -/
theorem pay96_eq (v206 : FVec Ideal S768x512 .f32) (i j : Fin 16) (H : Fin 512 → EReal)
    (hg : ∀ t : Fin 512, (k0_pay46 (F := Ideal) v206) (ix3 i ⟨16 + j.val, by omega⟩ t) = H ⟨(512 - t.val) % 512, Nat.mod_lt _ (by omega)⟩) :
    k0_pay96 (F := Ideal) (k0_pay46 (F := Ideal) v206) (k0_pay55 (F := Ideal) v206) (k0_pay59 (F := Ideal) (k0_pay56 (F := Ideal) v206) (k0_pay57 (F := Ideal) v206) (k0_pay58 (F := Ideal) v206)) (ix2 i j) = IntOp.andi (bw H) 1#32 := by
  unfold k0_pay96
  generalize h0 : k0_pay95 (F := Ideal) (k0_pay46 (F := Ideal) v206) (k0_pay55 (F := Ideal) v206) (k0_pay59 (F := Ideal) (k0_pay56 (F := Ideal) v206) (k0_pay57 (F := Ideal) v206) (k0_pay58 (F := Ideal) v206)) = A0
  pointwise
  subst h0
  rw [pay95_eq v206 i j H hg]

/-- The magnitudes at local peaks, backwards. -/
theorem pay107_eq (v206 : FVec Ideal S768x512 .f32) (i j : Fin 16) (l : Fin 510) :
    k0_pay107 (F := Ideal) (k0_pay55 (F := Ideal) v206) (k0_pay59 (F := Ideal) (k0_pay56 (F := Ideal) v206) (k0_pay57 (F := Ideal) v206) (k0_pay58 (F := Ideal) v206)) (ix3 i j l) = camb (fun t => (k0_pay46 (F := Ideal) v206) (ix3 i ⟨32 + j.val, by omega⟩ t)) l := by
  unfold k0_pay107
  generalize h0 : k0_pay55 (F := Ideal) v206 = A0
  generalize h1 : k0_pay59 (F := Ideal) (k0_pay56 (F := Ideal) v206) (k0_pay57 (F := Ideal) v206) (k0_pay58 (F := Ideal) v206) = A1
  pointwise
  subst h0 h1
  simp only [pay59_eq, pay55_eq]
  unfold camb
  by_cases h : l.val < 509
  · simp only [dif_pos h]
  · have hl : l = 509 := Fin.ext (by have := l.isLt; show l.val = 509; omega)
    subst hl
    simp only [dif_neg h]
    exact select_cam ((k0_pay46 (F := Ideal) v206) (ix3 i ⟨32 + j.val, by omega⟩ 510)) ((k0_pay46 (F := Ideal) v206) (ix3 i ⟨32 + j.val, by omega⟩ 511)) ((k0_pay46 (F := Ideal) v206) (ix3 i ⟨32 + j.val, by omega⟩ 0))

/-- The greatest magnitude, backwards. -/
theorem pay108_eq (v206 : FVec Ideal S768x512 .f32) (i j : Fin 16) (H : Fin 512 → EReal)
    (hg : ∀ t : Fin 512, (k0_pay46 (F := Ideal) v206) (ix3 i ⟨32 + j.val, by omega⟩ t) = H ⟨(512 - t.val) % 512, Nat.mod_lt _ (by omega)⟩) :
    k0_pay108 (F := Ideal) (k0_pay55 (F := Ideal) v206) (k0_pay59 (F := Ideal) (k0_pay56 (F := Ideal) v206) (k0_pay57 (F := Ideal) v206) (k0_pay58 (F := Ideal) v206)) (ix2 i j) = pm H := by
  unfold k0_pay108
  generalize h0 : k0_pay107 (F := Ideal) (k0_pay55 (F := Ideal) v206) (k0_pay59 (F := Ideal) (k0_pay56 (F := Ideal) v206) (k0_pay57 (F := Ideal) v206) (k0_pay58 (F := Ideal) v206)) = A0
  pointwise
  subst h0
  simp only [pay107_eq]
  exact (fold_bw _ H hg).1

/-- The packed word, backwards. -/
theorem pay109_eq (v206 : FVec Ideal S768x512 .f32) (i j : Fin 16) (H : Fin 512 → EReal)
    (hg : ∀ t : Fin 512, (k0_pay46 (F := Ideal) v206) (ix3 i ⟨32 + j.val, by omega⟩ t) = H ⟨(512 - t.val) % 512, Nat.mod_lt _ (by omega)⟩) :
    k0_pay109 (F := Ideal) (k0_pay46 (F := Ideal) v206) (k0_pay55 (F := Ideal) v206) (k0_pay59 (F := Ideal) (k0_pay56 (F := Ideal) v206) (k0_pay57 (F := Ideal) v206) (k0_pay58 (F := Ideal) v206)) (ix2 i j) = bw H := by
  unfold k0_pay109
  generalize h0 : k0_pay107 (F := Ideal) (k0_pay55 (F := Ideal) v206) (k0_pay59 (F := Ideal) (k0_pay56 (F := Ideal) v206) (k0_pay57 (F := Ideal) v206) (k0_pay58 (F := Ideal) v206)) = A0
  generalize h1 : k0_pay108 (F := Ideal) (k0_pay55 (F := Ideal) v206) (k0_pay59 (F := Ideal) (k0_pay56 (F := Ideal) v206) (k0_pay57 (F := Ideal) v206) (k0_pay58 (F := Ideal) v206)) = A1
  pointwise
  subst h0 h1
  simp only [pay107_eq]
  rw [pay108_eq v206 i j H hg]
  exact (fold_bw _ H hg).2

/-- The packed word's low bit, backwards. -/
theorem pay110_eq (v206 : FVec Ideal S768x512 .f32) (i j : Fin 16) (H : Fin 512 → EReal)
    (hg : ∀ t : Fin 512, (k0_pay46 (F := Ideal) v206) (ix3 i ⟨32 + j.val, by omega⟩ t) = H ⟨(512 - t.val) % 512, Nat.mod_lt _ (by omega)⟩) :
    k0_pay110 (F := Ideal) (k0_pay46 (F := Ideal) v206) (k0_pay55 (F := Ideal) v206) (k0_pay59 (F := Ideal) (k0_pay56 (F := Ideal) v206) (k0_pay57 (F := Ideal) v206) (k0_pay58 (F := Ideal) v206)) (ix2 i j) = IntOp.andi (bw H) 1#32 := by
  unfold k0_pay110
  generalize h0 : k0_pay109 (F := Ideal) (k0_pay46 (F := Ideal) v206) (k0_pay55 (F := Ideal) v206) (k0_pay59 (F := Ideal) (k0_pay56 (F := Ideal) v206) (k0_pay57 (F := Ideal) v206) (k0_pay58 (F := Ideal) v206)) = A0
  pointwise
  subst h0
  rw [pay109_eq v206 i j H hg]
end Cert.Proof
-- ==== Proof.Peaks2.lean ====
/- The kernel's search for each correlation row's peak, in one block of rows: magnitudes at local peaks, the greatest
   of them, the word that packs its position with the sign there, and the signed peak and lag read from the word. -/
module
public import proofs.«01_k».proof.Proof.Gen.KernelIdeal.Skeleton
public import proofs.«01_k».proof.Proof.Words
public import Idealize.ShloMosaic.PureOps.Ideal
public import Idealize.ShloMosaic.Lib.Pointwise
@[expose] public section
noncomputable section
namespace Cert.Proof
open Idealize.ShloMosaic Cert.KernelIdeal Cert.KernelIdeal.Gen
set_option maxRecDepth 20000

/-! ### The third block -/

/-- The magnitudes at local peaks. -/
theorem pay65_eq (v209 : FVec Ideal S16x32x512 .f32) (i : Fin 16) (j : Fin 32) (l : Fin 510) : k0_pay65 (F := Ideal) v209 (ix3 i j l) = cam (fun t => v209 (ix3 i j t)) l := by
  unfold k0_pay65 k0_pay64; pointwise
  simp only [absf_ab]
  exact select_cam _ _ _

/-- The greatest magnitude. -/
theorem pay66_eq (v209 : FVec Ideal S16x32x512 .f32) (i : Fin 16) (j : Fin 32) : k0_pay66 (F := Ideal) v209 (ix2 i j) = pm (fun t => v209 (ix3 i j t)) := by
  unfold k0_pay66
  generalize h0 : k0_pay65 (F := Ideal) v209 = A0
  pointwise
  subst h0
  simp only [pay65_eq]
  exact fold_max_amax _

/-- The packed word. -/
theorem pay69_eq (v209 : FVec Ideal S16x32x512 .f32) (i : Fin 16) (j : Fin 32) : k0_pay69 (F := Ideal) (k0_pay65 (F := Ideal) v209) (k0_pay66 (F := Ideal) v209) k0_pay67 (k0_pay68 (F := Ideal) v209) (ix2 i j) = cw (fun t => v209 (ix3 i j t)) := by
  unfold k0_pay69 k0_pay67 k0_pay68
  generalize h0 : k0_pay65 (F := Ideal) v209 = A0
  generalize h1 : k0_pay66 (F := Ideal) v209 = A1
  pointwise
  subst h0 h1
  simp only [pay65_eq, pay66_eq]
  exact fold_cw _

/-- The signed peak. -/
theorem pay70_eq (v209 : FVec Ideal S16x32x512 .f32) (i : Fin 16) (j : Fin 32) : k0_pay70 (F := Ideal) (k0_pay65 (F := Ideal) v209) (k0_pay66 (F := Ideal) v209) k0_pay67 (k0_pay68 (F := Ideal) v209) (ix2 i j) = ps (fun t => v209 (ix3 i j t)) := by
  unfold k0_pay70
  generalize h0 : k0_pay66 (F := Ideal) v209 = A0
  generalize h1 : k0_pay69 (F := Ideal) (k0_pay65 (F := Ideal) v209) (k0_pay66 (F := Ideal) v209) k0_pay67 (k0_pay68 (F := Ideal) v209) = A1
  pointwise
  subst h0 h1
  simp only [pay66_eq, pay69_eq]
  exact cw_sign _

/-- The lag. -/
theorem pay71_eq (v209 : FVec Ideal S16x32x512 .f32) (i : Fin 16) (j : Fin 32) : k0_pay71 (F := Ideal) (k0_pay65 (F := Ideal) v209) (k0_pay66 (F := Ideal) v209) k0_pay67 (k0_pay68 (F := Ideal) v209) (ix2 i j) = BitVec.ofNat 32 ((pk (fun t => v209 (ix3 i j t))).val + 1) := by
  unfold k0_pay71
  generalize h0 : k0_pay69 (F := Ideal) (k0_pay65 (F := Ideal) v209) (k0_pay66 (F := Ideal) v209) k0_pay67 (k0_pay68 (F := Ideal) v209) = A0
  pointwise
  subst h0
  simp only [pay69_eq]
  exact cw_lag _
end Cert.Proof
-- ==== Proof.Back2.lean ====
/- The search for one block's rows read backwards: a later row's correlations with an earlier one, taken from the
   earlier row's with the lags negated. -/
module
public import proofs.«01_k».proof.Proof.Gen.KernelIdeal.Skeleton
public import proofs.«01_k».proof.Proof.Peaks2
public import Idealize.ShloMosaic.PureOps.Ideal
public import Idealize.ShloMosaic.Lib.Pointwise
@[expose] public section
noncomputable section
namespace Cert.Proof
open Idealize.ShloMosaic Cert.KernelIdeal Cert.KernelIdeal.Gen
set_option maxRecDepth 20000

/-- The magnitudes. -/
theorem pay64_eq (v209 : FVec Ideal S16x32x512 .f32) (i : Fin 16) (j : Fin 32) (t : Fin 512) : k0_pay64 (F := Ideal) v209 (ix3 i j t) = ab (v209 (ix3 i j t)) := by
  unfold k0_pay64; pointwise; rfl

/-- The magnitudes at local peaks, backwards. -/
theorem pay114_eq (v209 : FVec Ideal S16x32x512 .f32) (i j : Fin 16) (l : Fin 510) :
    k0_pay114 (F := Ideal) (k0_pay64 (F := Ideal) v209) (k0_pay65 (F := Ideal) v209) (ix3 i j l) = camb (fun t => v209 (ix3 i ⟨16 + j.val, by omega⟩ t)) l := by
  unfold k0_pay114
  generalize h0 : k0_pay64 (F := Ideal) v209 = A0
  generalize h1 : k0_pay65 (F := Ideal) v209 = A1
  pointwise
  subst h0 h1
  simp only [pay65_eq, pay64_eq]
  unfold camb
  by_cases h : l.val < 509
  · simp only [dif_pos h]
  · have hl : l = 509 := Fin.ext (by have := l.isLt; show l.val = 509; omega)
    subst hl
    simp only [dif_neg h]
    exact select_cam (v209 (ix3 i ⟨16 + j.val, by omega⟩ 510)) (v209 (ix3 i ⟨16 + j.val, by omega⟩ 511)) (v209 (ix3 i ⟨16 + j.val, by omega⟩ 0))

/-- The greatest magnitude, backwards. -/
theorem pay115_eq (v209 : FVec Ideal S16x32x512 .f32) (i j : Fin 16) (H : Fin 512 → EReal)
    (hg : ∀ t : Fin 512, v209 (ix3 i ⟨16 + j.val, by omega⟩ t) = H ⟨(512 - t.val) % 512, Nat.mod_lt _ (by omega)⟩) :
    k0_pay115 (F := Ideal) (k0_pay64 (F := Ideal) v209) (k0_pay65 (F := Ideal) v209) (ix2 i j) = pm H := by
  unfold k0_pay115
  generalize h0 : k0_pay114 (F := Ideal) (k0_pay64 (F := Ideal) v209) (k0_pay65 (F := Ideal) v209) = A0
  pointwise
  subst h0
  simp only [pay114_eq]
  exact (fold_bw _ H hg).1

/-- The packed word, backwards. -/
theorem pay116_eq (v209 : FVec Ideal S16x32x512 .f32) (i j : Fin 16) (H : Fin 512 → EReal)
    (hg : ∀ t : Fin 512, v209 (ix3 i ⟨16 + j.val, by omega⟩ t) = H ⟨(512 - t.val) % 512, Nat.mod_lt _ (by omega)⟩) :
    k0_pay116 (F := Ideal) v209 (k0_pay64 (F := Ideal) v209) (k0_pay65 (F := Ideal) v209) (ix2 i j) = bw H := by
  unfold k0_pay116
  generalize h0 : k0_pay114 (F := Ideal) (k0_pay64 (F := Ideal) v209) (k0_pay65 (F := Ideal) v209) = A0
  generalize h1 : k0_pay115 (F := Ideal) (k0_pay64 (F := Ideal) v209) (k0_pay65 (F := Ideal) v209) = A1
  pointwise
  subst h0 h1
  simp only [pay114_eq]
  rw [pay115_eq v209 i j H hg]
  exact (fold_bw _ H hg).2

/-- The packed word's low bit, backwards. -/
theorem pay117_eq (v209 : FVec Ideal S16x32x512 .f32) (i j : Fin 16) (H : Fin 512 → EReal)
    (hg : ∀ t : Fin 512, v209 (ix3 i ⟨16 + j.val, by omega⟩ t) = H ⟨(512 - t.val) % 512, Nat.mod_lt _ (by omega)⟩) :
    k0_pay117 (F := Ideal) v209 (k0_pay64 (F := Ideal) v209) (k0_pay65 (F := Ideal) v209) (ix2 i j) = IntOp.andi (bw H) 1#32 := by
  unfold k0_pay117
  generalize h0 : k0_pay116 (F := Ideal) v209 (k0_pay64 (F := Ideal) v209) (k0_pay65 (F := Ideal) v209) = A0
  pointwise
  subst h0
  rw [pay116_eq v209 i j H hg]
end Cert.Proof
-- ==== Proof.Peaks3.lean ====
/- The kernel's search for each correlation row's peak, in one block of rows: magnitudes at local peaks, the greatest
   of them, the word that packs its position with the sign there, and the signed peak and lag read from the word. -/
module
public import proofs.«01_k».proof.Proof.Gen.KernelIdeal.Skeleton
public import proofs.«01_k».proof.Proof.Words
public import Idealize.ShloMosaic.PureOps.Ideal
public import Idealize.ShloMosaic.Lib.Pointwise
@[expose] public section
noncomputable section
namespace Cert.Proof
open Idealize.ShloMosaic Cert.KernelIdeal Cert.KernelIdeal.Gen
set_option maxRecDepth 20000

/-! ### The fourth block -/

/-- The magnitudes at local peaks. -/
theorem pay72_eq (v211 : FVec Ideal S16x16x512 .f32) (i : Fin 16) (j : Fin 16) (l : Fin 510) : k0_pay72 (F := Ideal) v211 (ix3 i j l) = cam (fun t => v211 (ix3 i j t)) l := by
  unfold k0_pay72; pointwise
  simp only [absf_ab]
  exact select_cam _ _ _

/-- The greatest magnitude. -/
theorem pay73_eq (v211 : FVec Ideal S16x16x512 .f32) (i : Fin 16) (j : Fin 16) : k0_pay73 (F := Ideal) v211 (ix2 i j) = pm (fun t => v211 (ix3 i j t)) := by
  unfold k0_pay73
  generalize h0 : k0_pay72 (F := Ideal) v211 = A0
  pointwise
  subst h0
  simp only [pay72_eq]
  exact fold_max_amax _

/-- The packed word. -/
theorem pay75_eq (v211 : FVec Ideal S16x16x512 .f32) (i : Fin 16) (j : Fin 16) : k0_pay75 (k0_pay74 (F := Ideal) v211) (ix2 i j) = cw (fun t => v211 (ix3 i j t)) := by
  unfold k0_pay75 k0_pay74
  generalize h0 : k0_pay72 (F := Ideal) v211 = A0
  generalize h1 : k0_pay73 (F := Ideal) v211 = A1
  pointwise
  subst h0 h1
  simp only [pay72_eq, pay73_eq]
  exact fold_cw _

/-- The signed peak. -/
theorem pay76_eq (v211 : FVec Ideal S16x16x512 .f32) (i : Fin 16) (j : Fin 16) : k0_pay76 (F := Ideal) (k0_pay73 (F := Ideal) v211) (k0_pay74 (F := Ideal) v211) (ix2 i j) = ps (fun t => v211 (ix3 i j t)) := by
  unfold k0_pay76
  generalize h0 : k0_pay73 (F := Ideal) v211 = A0
  generalize h1 : k0_pay75 (k0_pay74 (F := Ideal) v211) = A1
  pointwise
  subst h0 h1
  simp only [pay73_eq, pay75_eq]
  exact cw_sign _

/-- The lag. -/
theorem pay77_eq (v211 : FVec Ideal S16x16x512 .f32) (i : Fin 16) (j : Fin 16) : k0_pay77 (k0_pay74 (F := Ideal) v211) (ix2 i j) = BitVec.ofNat 32 ((pk (fun t => v211 (ix3 i j t))).val + 1) := by
  unfold k0_pay77
  generalize h0 : k0_pay75 (k0_pay74 (F := Ideal) v211) = A0
  pointwise
  subst h0
  simp only [pay75_eq]
  exact cw_lag _
end Cert.Proof
-- ==== Proof.Tables.lean ====
/- The three tables over every two rows - peak magnitude, lag, signed peak - put together from the blocks and from the
   blocks read backwards. -/
module
public import proofs.«01_k».proof.Proof.Gen.KernelIdeal.Skeleton
public import proofs.«01_k».proof.Proof.Words
public import Idealize.ShloMosaic.PureOps.Ideal
public import Idealize.ShloMosaic.Lib.Pointwise
@[expose] public section
noncomputable section
namespace Cert.Proof
open Idealize.ShloMosaic Cert.KernelIdeal Cert.KernelIdeal.Gen
set_option maxRecDepth 20000

/-- The lag as a word. -/
def lagw (g : Fin 512 → EReal) : BitVec 32 := BitVec.ofNat 32 ((pk g).val + 1)

theorem word_lag (w : BitVec 32) (g : Fin 512 → EReal) (h : w = bw g) :
    IntOp.subi 512#32 (IntOp.addi (IntOp.shrsi ArithUnit.vector w 1#32) 2#32) = lagw g := by
  rw [h]; exact bw_lag g

theorem word_sign (w z : BitVec 32) (m : EReal) (g : Fin 512 → EReal) (hw : w = IntOp.andi (bw g) 1#32) (hz : z = 0#32) (hm : m = pm g) :
    Scalar.select (IntOp.cmpi CmpIPredicate.ne w z) (0 - m) m * Ideal.ofBits .f32 989855744#32 = ps g := by
  rw [hw, hz, hm]; exact bw_sign g

/-- Magnitudes of a part of the table. -/
theorem pay83_eq (v258 : FVec Ideal S16x48 .f32) (v373 : FVec Ideal S16x16 .f32) (G : Fin 64 → Fin 64 → Fin 512 → EReal)
    (h373 : ∀ (i : Fin 16) (j : Fin 16) (a b : Fin 64), a.val = 16 + i.val → b.val = j.val → v373 (ix2 j i) = pm (G a b))
    (h258 : ∀ (i : Fin 16) (j : Fin 48) (a b : Fin 64), a.val = 16 + i.val → b.val = 16 + j.val → v258 (ix2 i j) = pm (G a b))
    (i : Fin 16) (j : Fin 64) (a b : Fin 64) (ha : a.val = 16 + i.val) (hb : b.val = j.val) : k0_pay83 (F := Ideal) v258 v373 (ix2 i j) = pm (G a b) := by
  unfold k0_pay83; pointwise
  split
  · exact h373 _ _ a b (by first | omega | (dsimp only; omega) | (simp only []; omega)) (by first | omega | (dsimp only; omega) | (simp only []; omega))
  exact h258 _ _ a b (by first | omega | (dsimp only; omega) | (simp only []; omega)) (by first | omega | (dsimp only; omega) | (simp only []; omega))

/-- Lags of a part of the table. -/
theorem pay84_eq (v285 : IVec S16x48 32) (v387 : IVec S16x16 32) (G : Fin 64 → Fin 64 → Fin 512 → EReal)
    (h387 : ∀ (i : Fin 16) (j : Fin 16) (a b : Fin 64), a.val = 16 + i.val → b.val = j.val → v387 (ix2 j i) = bw (G a b))
    (h285 : ∀ (i : Fin 16) (j : Fin 48) (a b : Fin 64), a.val = 16 + i.val → b.val = 16 + j.val → v285 (ix2 i j) = lagw (G a b))
    (i : Fin 16) (j : Fin 64) (a b : Fin 64) (ha : a.val = 16 + i.val) (hb : b.val = j.val) : k0_pay84 v285 v387 (ix2 i j) = lagw (G a b) := by
  unfold k0_pay84; pointwise
  split
  · exact word_lag _ _ (h387 _ _ a b (by first | omega | (dsimp only; omega) | (simp only []; omega)) (by first | omega | (dsimp only; omega) | (simp only []; omega)))
  exact h285 _ _ a b (by first | omega | (dsimp only; omega) | (simp only []; omega)) (by first | omega | (dsimp only; omega) | (simp only []; omega))

/-- Signed peaks of a part of the table. -/
theorem pay85_eq (v281 : FVec Ideal S16x48 .f32) (v373 : FVec Ideal S16x16 .f32) (v389 : IVec S16x16 32) (v390 : IVec S16x16 32) (G : Fin 64 → Fin 64 → Fin 512 → EReal) (h390 : ∀ x, v390 x = 0#32)
    (h373 : ∀ (i : Fin 16) (j : Fin 16) (a b : Fin 64), a.val = 16 + i.val → b.val = j.val → v373 (ix2 j i) = pm (G a b))
    (h389 : ∀ (i : Fin 16) (j : Fin 16) (a b : Fin 64), a.val = 16 + i.val → b.val = j.val → v389 (ix2 j i) = IntOp.andi (bw (G a b)) 1#32)
    (h281 : ∀ (i : Fin 16) (j : Fin 48) (a b : Fin 64), a.val = 16 + i.val → b.val = 16 + j.val → v281 (ix2 i j) = ps (G a b))
    (i : Fin 16) (j : Fin 64) (a b : Fin 64) (ha : a.val = 16 + i.val) (hb : b.val = j.val) : k0_pay85 (F := Ideal) v281 v373 v389 v390 (ix2 i j) = ps (G a b) := by
  unfold k0_pay85; pointwise
  split
  · exact word_sign _ _ _ _ (h389 _ _ a b (by first | omega | (dsimp only; omega) | (simp only []; omega)) (by first | omega | (dsimp only; omega) | (simp only []; omega))) (h390 _) (h373 _ _ a b (by first | omega | (dsimp only; omega) | (simp only []; omega)) (by first | omega | (dsimp only; omega) | (simp only []; omega)))
  exact h281 _ _ a b (by first | omega | (dsimp only; omega) | (simp only []; omega)) (by first | omega | (dsimp only; omega) | (simp only []; omega))

/-- Magnitudes of a part of the table. -/
theorem pay90_eq (v422 : FVec Ideal S16x16 .f32) (G : Fin 64 → Fin 64 → Fin 512 → EReal)
    (h422 : ∀ (i : Fin 16) (j : Fin 16) (a b : Fin 64), a.val = 32 + i.val → b.val = j.val → v422 (ix2 j i) = pm (G a b))
    (i : Fin 16) (j : Fin 16) (a b : Fin 64) (ha : a.val = 32 + i.val) (hb : b.val = j.val) : k0_pay90 (F := Ideal) v422 (ix2 i j) = pm (G a b) := by
  unfold k0_pay90; pointwise
  exact h422 _ _ a b (by first | omega | (dsimp only; omega) | (simp only []; omega)) (by first | omega | (dsimp only; omega) | (simp only []; omega))

/-- Lags of a part of the table. -/
theorem pay91_eq (v436 : IVec S16x16 32) (G : Fin 64 → Fin 64 → Fin 512 → EReal)
    (h436 : ∀ (i : Fin 16) (j : Fin 16) (a b : Fin 64), a.val = 32 + i.val → b.val = j.val → v436 (ix2 j i) = bw (G a b))
    (i : Fin 16) (j : Fin 16) (a b : Fin 64) (ha : a.val = 32 + i.val) (hb : b.val = j.val) : k0_pay91 v436 (ix2 i j) = lagw (G a b) := by
  unfold k0_pay91; pointwise
  exact word_lag _ _ (h436 _ _ a b (by first | omega | (dsimp only; omega) | (simp only []; omega)) (by first | omega | (dsimp only; omega) | (simp only []; omega)))

/-- Signed peaks of a part of the table. -/
theorem pay92_eq (v422 : FVec Ideal S16x16 .f32) (v438 : IVec S16x16 32) (G : Fin 64 → Fin 64 → Fin 512 → EReal)
    (h422 : ∀ (i : Fin 16) (j : Fin 16) (a b : Fin 64), a.val = 32 + i.val → b.val = j.val → v422 (ix2 j i) = pm (G a b))
    (h438 : ∀ (i : Fin 16) (j : Fin 16) (a b : Fin 64), a.val = 32 + i.val → b.val = j.val → v438 (ix2 j i) = IntOp.andi (bw (G a b)) 1#32)
    (i : Fin 16) (j : Fin 16) (a b : Fin 64) (ha : a.val = 32 + i.val) (hb : b.val = j.val) : k0_pay92 (F := Ideal) v422 v438 (ix2 i j) = ps (G a b) := by
  unfold k0_pay92; pointwise
  exact word_sign _ _ _ _ (h438 _ _ a b (by first | omega | (dsimp only; omega) | (simp only []; omega)) (by first | omega | (dsimp only; omega) | (simp only []; omega))) rfl (h422 _ _ a b (by first | omega | (dsimp only; omega) | (simp only []; omega)) (by first | omega | (dsimp only; omega) | (simp only []; omega)))

/-- Magnitudes of a part of the table. -/
theorem pay97_eq (v295 : FVec Ideal S16x32 .f32) (v452 : FVec Ideal S16x16 .f32) (v468 : FVec Ideal S16x16 .f32) (G : Fin 64 → Fin 64 → Fin 512 → EReal)
    (h452 : ∀ (i : Fin 16) (j : Fin 16) (a b : Fin 64), a.val = 32 + i.val → b.val = j.val → v452 (ix2 i j) = pm (G a b))
    (h468 : ∀ (i : Fin 16) (j : Fin 16) (a b : Fin 64), a.val = 32 + i.val → b.val = 16 + j.val → v468 (ix2 j i) = pm (G a b))
    (h295 : ∀ (i : Fin 16) (j : Fin 32) (a b : Fin 64), a.val = 32 + i.val → b.val = 32 + j.val → v295 (ix2 i j) = pm (G a b))
    (i : Fin 16) (j : Fin 64) (a b : Fin 64) (ha : a.val = 32 + i.val) (hb : b.val = j.val) : k0_pay97 (F := Ideal) v295 v452 v468 (ix2 i j) = pm (G a b) := by
  unfold k0_pay97; pointwise
  split
  · exact h452 _ _ a b (by first | omega | (dsimp only; omega) | (simp only []; omega)) (by first | omega | (dsimp only; omega) | (simp only []; omega))
  split
  · exact h468 _ _ a b (by first | omega | (dsimp only; omega) | (simp only []; omega)) (by first | omega | (dsimp only; omega) | (simp only []; omega))
  exact h295 _ _ a b (by first | omega | (dsimp only; omega) | (simp only []; omega)) (by first | omega | (dsimp only; omega) | (simp only []; omega))

/-- Lags of a part of the table. -/
theorem pay98_eq (v322 : IVec S16x32 32) (v453 : IVec S16x16 32) (v482 : IVec S16x16 32) (G : Fin 64 → Fin 64 → Fin 512 → EReal)
    (h453 : ∀ (i : Fin 16) (j : Fin 16) (a b : Fin 64), a.val = 32 + i.val → b.val = j.val → v453 (ix2 i j) = lagw (G a b))
    (h482 : ∀ (i : Fin 16) (j : Fin 16) (a b : Fin 64), a.val = 32 + i.val → b.val = 16 + j.val → v482 (ix2 j i) = bw (G a b))
    (h322 : ∀ (i : Fin 16) (j : Fin 32) (a b : Fin 64), a.val = 32 + i.val → b.val = 32 + j.val → v322 (ix2 i j) = lagw (G a b))
    (i : Fin 16) (j : Fin 64) (a b : Fin 64) (ha : a.val = 32 + i.val) (hb : b.val = j.val) : k0_pay98 v322 v453 v482 (ix2 i j) = lagw (G a b) := by
  unfold k0_pay98; pointwise
  split
  · exact h453 _ _ a b (by first | omega | (dsimp only; omega) | (simp only []; omega)) (by first | omega | (dsimp only; omega) | (simp only []; omega))
  split
  · exact word_lag _ _ (h482 _ _ a b (by first | omega | (dsimp only; omega) | (simp only []; omega)) (by first | omega | (dsimp only; omega) | (simp only []; omega)))
  exact h322 _ _ a b (by first | omega | (dsimp only; omega) | (simp only []; omega)) (by first | omega | (dsimp only; omega) | (simp only []; omega))

/-- Signed peaks of a part of the table. -/
theorem pay99_eq (v318 : FVec Ideal S16x32 .f32) (v454 : FVec Ideal S16x16 .f32) (v468 : FVec Ideal S16x16 .f32) (v484 : IVec S16x16 32) (G : Fin 64 → Fin 64 → Fin 512 → EReal)
    (h454 : ∀ (i : Fin 16) (j : Fin 16) (a b : Fin 64), a.val = 32 + i.val → b.val = j.val → v454 (ix2 i j) = ps (G a b))
    (h468 : ∀ (i : Fin 16) (j : Fin 16) (a b : Fin 64), a.val = 32 + i.val → b.val = 16 + j.val → v468 (ix2 j i) = pm (G a b))
    (h484 : ∀ (i : Fin 16) (j : Fin 16) (a b : Fin 64), a.val = 32 + i.val → b.val = 16 + j.val → v484 (ix2 j i) = IntOp.andi (bw (G a b)) 1#32)
    (h318 : ∀ (i : Fin 16) (j : Fin 32) (a b : Fin 64), a.val = 32 + i.val → b.val = 32 + j.val → v318 (ix2 i j) = ps (G a b))
    (i : Fin 16) (j : Fin 64) (a b : Fin 64) (ha : a.val = 32 + i.val) (hb : b.val = j.val) : k0_pay99 (F := Ideal) v318 v454 v468 v484 0#32 (ix2 i j) = ps (G a b) := by
  unfold k0_pay99; pointwise
  split
  · exact h454 _ _ a b (by first | omega | (dsimp only; omega) | (simp only []; omega)) (by first | omega | (dsimp only; omega) | (simp only []; omega))
  split
  · exact word_sign _ _ _ _ (h484 _ _ a b (by first | omega | (dsimp only; omega) | (simp only []; omega)) (by first | omega | (dsimp only; omega) | (simp only []; omega))) rfl (h468 _ _ a b (by first | omega | (dsimp only; omega) | (simp only []; omega)) (by first | omega | (dsimp only; omega) | (simp only []; omega)))
  exact h318 _ _ a b (by first | omega | (dsimp only; omega) | (simp only []; omega)) (by first | omega | (dsimp only; omega) | (simp only []; omega))

/-- Magnitudes of a part of the table. -/
theorem pay104_eq (v517 : FVec Ideal S16x16 .f32) (G : Fin 64 → Fin 64 → Fin 512 → EReal)
    (h517 : ∀ (i : Fin 16) (j : Fin 16) (a b : Fin 64), a.val = 48 + i.val → b.val = j.val → v517 (ix2 j i) = pm (G a b))
    (i : Fin 16) (j : Fin 16) (a b : Fin 64) (ha : a.val = 48 + i.val) (hb : b.val = j.val) : k0_pay104 (F := Ideal) v517 (ix2 i j) = pm (G a b) := by
  unfold k0_pay104; pointwise
  exact h517 _ _ a b (by first | omega | (dsimp only; omega) | (simp only []; omega)) (by first | omega | (dsimp only; omega) | (simp only []; omega))

/-- Lags of a part of the table. -/
theorem pay105_eq (v531 : IVec S16x16 32) (G : Fin 64 → Fin 64 → Fin 512 → EReal)
    (h531 : ∀ (i : Fin 16) (j : Fin 16) (a b : Fin 64), a.val = 48 + i.val → b.val = j.val → v531 (ix2 j i) = bw (G a b))
    (i : Fin 16) (j : Fin 16) (a b : Fin 64) (ha : a.val = 48 + i.val) (hb : b.val = j.val) : k0_pay105 v531 (ix2 i j) = lagw (G a b) := by
  unfold k0_pay105; pointwise
  exact word_lag _ _ (h531 _ _ a b (by first | omega | (dsimp only; omega) | (simp only []; omega)) (by first | omega | (dsimp only; omega) | (simp only []; omega)))

/-- Magnitudes of a part of the table. -/
theorem pay111_eq (v563 : FVec Ideal S16x16 .f32) (G : Fin 64 → Fin 64 → Fin 512 → EReal)
    (h563 : ∀ (i : Fin 16) (j : Fin 16) (a b : Fin 64), a.val = 48 + i.val → b.val = 16 + j.val → v563 (ix2 j i) = pm (G a b))
    (i : Fin 16) (j : Fin 16) (a b : Fin 64) (ha : a.val = 48 + i.val) (hb : b.val = 16 + j.val) : k0_pay111 (F := Ideal) v563 (ix2 i j) = pm (G a b) := by
  unfold k0_pay111; pointwise
  exact h563 _ _ a b (by first | omega | (dsimp only; omega) | (simp only []; omega)) (by first | omega | (dsimp only; omega) | (simp only []; omega))

/-- Lags of a part of the table. -/
theorem pay112_eq (v577 : IVec S16x16 32) (G : Fin 64 → Fin 64 → Fin 512 → EReal)
    (h577 : ∀ (i : Fin 16) (j : Fin 16) (a b : Fin 64), a.val = 48 + i.val → b.val = 16 + j.val → v577 (ix2 j i) = bw (G a b))
    (i : Fin 16) (j : Fin 16) (a b : Fin 64) (ha : a.val = 48 + i.val) (hb : b.val = 16 + j.val) : k0_pay112 v577 (ix2 i j) = lagw (G a b) := by
  unfold k0_pay112; pointwise
  exact word_lag _ _ (h577 _ _ a b (by first | omega | (dsimp only; omega) | (simp only []; omega)) (by first | omega | (dsimp only; omega) | (simp only []; omega)))

/-- Signed peaks of a part of the table. -/
theorem pay113_eq (v563 : FVec Ideal S16x16 .f32) (v579 : IVec S16x16 32) (G : Fin 64 → Fin 64 → Fin 512 → EReal)
    (h563 : ∀ (i : Fin 16) (j : Fin 16) (a b : Fin 64), a.val = 48 + i.val → b.val = 16 + j.val → v563 (ix2 j i) = pm (G a b))
    (h579 : ∀ (i : Fin 16) (j : Fin 16) (a b : Fin 64), a.val = 48 + i.val → b.val = 16 + j.val → v579 (ix2 j i) = IntOp.andi (bw (G a b)) 1#32)
    (i : Fin 16) (j : Fin 16) (a b : Fin 64) (ha : a.val = 48 + i.val) (hb : b.val = 16 + j.val) : k0_pay113 (F := Ideal) v563 v579 (ix2 i j) = ps (G a b) := by
  unfold k0_pay113; pointwise
  exact word_sign _ _ _ _ (h579 _ _ a b (by first | omega | (dsimp only; omega) | (simp only []; omega)) (by first | omega | (dsimp only; omega) | (simp only []; omega))) rfl (h563 _ _ a b (by first | omega | (dsimp only; omega) | (simp only []; omega)) (by first | omega | (dsimp only; omega) | (simp only []; omega)))

/-- Signed peaks of a part of the table. -/
theorem pay106_eq (v517 : FVec Ideal S16x16 .f32) (v531 : IVec S16x16 32) (v532 : IVec S16x16 32) (G : Fin 64 → Fin 64 → Fin 512 → EReal) (h532 : ∀ x, v532 x = 1#32)
    (h517 : ∀ (i : Fin 16) (j : Fin 16) (a b : Fin 64), a.val = 48 + i.val → b.val = j.val → v517 (ix2 j i) = pm (G a b))
    (h531 : ∀ (i : Fin 16) (j : Fin 16) (a b : Fin 64), a.val = 48 + i.val → b.val = j.val → v531 (ix2 j i) = bw (G a b))
    (i : Fin 16) (j : Fin 16) (a b : Fin 64) (ha : a.val = 48 + i.val) (hb : b.val = j.val) : k0_pay106 (F := Ideal) v517 v531 v532 (ix2 i j) = ps (G a b) := by
  unfold k0_pay106; pointwise
  exact word_sign _ _ _ _ (by rw [h532, h531 _ _ a b ha hb]) rfl (h517 _ _ a b ha hb)

/-- Magnitudes of a part of the table. -/
theorem pay118_eq (v221 : FVec Ideal S16x64 .f32) (v332 : FVec Ideal S16x16 .f32) (v406 : FVec Ideal S16x64 .f32) (v501 : FVec Ideal S16x64 .f32) (v547 : FVec Ideal S16x16 .f32) (v593 : FVec Ideal S16x16 .f32) (v609 : FVec Ideal S16x16 .f32) (G : Fin 64 → Fin 64 → Fin 512 → EReal)
    (h221 : ∀ (i : Fin 16) (j : Fin 64) (a b : Fin 64), a.val = i.val → b.val = j.val → v221 (ix2 i j) = pm (G a b))
    (h406 : ∀ (i : Fin 16) (j : Fin 64) (a b : Fin 64), a.val = 16 + i.val → b.val = j.val → v406 (ix2 i j) = pm (G a b))
    (h501 : ∀ (i : Fin 16) (j : Fin 64) (a b : Fin 64), a.val = 32 + i.val → b.val = j.val → v501 (ix2 i j) = pm (G a b))
    (h547 : ∀ (i : Fin 16) (j : Fin 16) (a b : Fin 64), a.val = 48 + i.val → b.val = j.val → v547 (ix2 i j) = pm (G a b))
    (h593 : ∀ (i : Fin 16) (j : Fin 16) (a b : Fin 64), a.val = 48 + i.val → b.val = 16 + j.val → v593 (ix2 i j) = pm (G a b))
    (h609 : ∀ (i : Fin 16) (j : Fin 16) (a b : Fin 64), a.val = 48 + i.val → b.val = 32 + j.val → v609 (ix2 j i) = pm (G a b))
    (h332 : ∀ (i : Fin 16) (j : Fin 16) (a b : Fin 64), a.val = 48 + i.val → b.val = 48 + j.val → v332 (ix2 i j) = pm (G a b))
    (i : Fin 64) (j : Fin 64) (a b : Fin 64) (ha : a.val = i.val) (hb : b.val = j.val) : k0_pay118 (F := Ideal) v221 v332 v406 v501 v547 v593 v609 (ix2 i j) = pm (G a b) := by
  unfold k0_pay118; pointwise
  split
  · exact h221 _ _ a b (by first | omega | (dsimp only; omega) | (simp only []; omega)) (by first | omega | (dsimp only; omega) | (simp only []; omega))
  split
  · exact h406 _ _ a b (by first | omega | (dsimp only; omega) | (simp only []; omega)) (by first | omega | (dsimp only; omega) | (simp only []; omega))
  split
  · exact h501 _ _ a b (by first | omega | (dsimp only; omega) | (simp only []; omega)) (by first | omega | (dsimp only; omega) | (simp only []; omega))
  split
  · exact h547 _ _ a b (by first | omega | (dsimp only; omega) | (simp only []; omega)) (by first | omega | (dsimp only; omega) | (simp only []; omega))
  split
  · exact h593 _ _ a b (by first | omega | (dsimp only; omega) | (simp only []; omega)) (by first | omega | (dsimp only; omega) | (simp only []; omega))
  split
  · exact h609 _ _ a b (by first | omega | (dsimp only; omega) | (simp only []; omega)) (by first | omega | (dsimp only; omega) | (simp only []; omega))
  exact h332 _ _ a b (by first | omega | (dsimp only; omega) | (simp only []; omega)) (by first | omega | (dsimp only; omega) | (simp only []; omega))

/-- Lags of a part of the table. -/
theorem pay119_eq (v248 : IVec S16x64 32) (v359 : IVec S16x16 32) (v407 : IVec S16x64 32) (v502 : IVec S16x64 32) (v548 : IVec S16x16 32) (v594 : IVec S16x16 32) (v623 : IVec S16x16 32) (G : Fin 64 → Fin 64 → Fin 512 → EReal)
    (h248 : ∀ (i : Fin 16) (j : Fin 64) (a b : Fin 64), a.val = i.val → b.val = j.val → v248 (ix2 i j) = lagw (G a b))
    (h407 : ∀ (i : Fin 16) (j : Fin 64) (a b : Fin 64), a.val = 16 + i.val → b.val = j.val → v407 (ix2 i j) = lagw (G a b))
    (h502 : ∀ (i : Fin 16) (j : Fin 64) (a b : Fin 64), a.val = 32 + i.val → b.val = j.val → v502 (ix2 i j) = lagw (G a b))
    (h548 : ∀ (i : Fin 16) (j : Fin 16) (a b : Fin 64), a.val = 48 + i.val → b.val = j.val → v548 (ix2 i j) = lagw (G a b))
    (h594 : ∀ (i : Fin 16) (j : Fin 16) (a b : Fin 64), a.val = 48 + i.val → b.val = 16 + j.val → v594 (ix2 i j) = lagw (G a b))
    (h623 : ∀ (i : Fin 16) (j : Fin 16) (a b : Fin 64), a.val = 48 + i.val → b.val = 32 + j.val → v623 (ix2 j i) = bw (G a b))
    (h359 : ∀ (i : Fin 16) (j : Fin 16) (a b : Fin 64), a.val = 48 + i.val → b.val = 48 + j.val → v359 (ix2 i j) = lagw (G a b))
    (i : Fin 64) (j : Fin 64) (a b : Fin 64) (ha : a.val = i.val) (hb : b.val = j.val) : k0_pay119 v248 v359 v407 v502 v548 v594 v623 (ix2 i j) = lagw (G a b) := by
  unfold k0_pay119; pointwise
  split
  · exact h248 _ _ a b (by first | omega | (dsimp only; omega) | (simp only []; omega)) (by first | omega | (dsimp only; omega) | (simp only []; omega))
  split
  · exact h407 _ _ a b (by first | omega | (dsimp only; omega) | (simp only []; omega)) (by first | omega | (dsimp only; omega) | (simp only []; omega))
  split
  · exact h502 _ _ a b (by first | omega | (dsimp only; omega) | (simp only []; omega)) (by first | omega | (dsimp only; omega) | (simp only []; omega))
  split
  · exact h548 _ _ a b (by first | omega | (dsimp only; omega) | (simp only []; omega)) (by first | omega | (dsimp only; omega) | (simp only []; omega))
  split
  · exact h594 _ _ a b (by first | omega | (dsimp only; omega) | (simp only []; omega)) (by first | omega | (dsimp only; omega) | (simp only []; omega))
  split
  · exact word_lag _ _ (h623 _ _ a b (by first | omega | (dsimp only; omega) | (simp only []; omega)) (by first | omega | (dsimp only; omega) | (simp only []; omega)))
  exact h359 _ _ a b (by first | omega | (dsimp only; omega) | (simp only []; omega)) (by first | omega | (dsimp only; omega) | (simp only []; omega))

/-- Signed peaks of a part of the table. -/
theorem pay120_eq (v244 : FVec Ideal S16x64 .f32) (v355 : FVec Ideal S16x16 .f32) (v408 : FVec Ideal S16x64 .f32) (v503 : FVec Ideal S16x64 .f32) (v549 : FVec Ideal S16x16 .f32) (v595 : FVec Ideal S16x16 .f32) (v609 : FVec Ideal S16x16 .f32) (v625 : IVec S16x16 32) (G : Fin 64 → Fin 64 → Fin 512 → EReal)
    (h244 : ∀ (i : Fin 16) (j : Fin 64) (a b : Fin 64), a.val = i.val → b.val = j.val → v244 (ix2 i j) = ps (G a b))
    (h408 : ∀ (i : Fin 16) (j : Fin 64) (a b : Fin 64), a.val = 16 + i.val → b.val = j.val → v408 (ix2 i j) = ps (G a b))
    (h503 : ∀ (i : Fin 16) (j : Fin 64) (a b : Fin 64), a.val = 32 + i.val → b.val = j.val → v503 (ix2 i j) = ps (G a b))
    (h549 : ∀ (i : Fin 16) (j : Fin 16) (a b : Fin 64), a.val = 48 + i.val → b.val = j.val → v549 (ix2 i j) = ps (G a b))
    (h595 : ∀ (i : Fin 16) (j : Fin 16) (a b : Fin 64), a.val = 48 + i.val → b.val = 16 + j.val → v595 (ix2 i j) = ps (G a b))
    (h609 : ∀ (i : Fin 16) (j : Fin 16) (a b : Fin 64), a.val = 48 + i.val → b.val = 32 + j.val → v609 (ix2 j i) = pm (G a b))
    (h625 : ∀ (i : Fin 16) (j : Fin 16) (a b : Fin 64), a.val = 48 + i.val → b.val = 32 + j.val → v625 (ix2 j i) = IntOp.andi (bw (G a b)) 1#32)
    (h355 : ∀ (i : Fin 16) (j : Fin 16) (a b : Fin 64), a.val = 48 + i.val → b.val = 48 + j.val → v355 (ix2 i j) = ps (G a b))
    (i : Fin 64) (j : Fin 64) (a b : Fin 64) (ha : a.val = i.val) (hb : b.val = j.val) : k0_pay120 (F := Ideal) v244 v355 v408 v503 v549 v595 v609 v625 0#32 (ix2 i j) = ps (G a b) := by
  unfold k0_pay120; pointwise
  split
  · exact h244 _ _ a b (by first | omega | (dsimp only; omega) | (simp only []; omega)) (by first | omega | (dsimp only; omega) | (simp only []; omega))
  split
  · exact h408 _ _ a b (by first | omega | (dsimp only; omega) | (simp only []; omega)) (by first | omega | (dsimp only; omega) | (simp only []; omega))
  split
  · exact h503 _ _ a b (by first | omega | (dsimp only; omega) | (simp only []; omega)) (by first | omega | (dsimp only; omega) | (simp only []; omega))
  split
  · exact h549 _ _ a b (by first | omega | (dsimp only; omega) | (simp only []; omega)) (by first | omega | (dsimp only; omega) | (simp only []; omega))
  split
  · exact h595 _ _ a b (by first | omega | (dsimp only; omega) | (simp only []; omega)) (by first | omega | (dsimp only; omega) | (simp only []; omega))
  split
  · exact word_sign _ _ _ _ (h625 _ _ a b (by first | omega | (dsimp only; omega) | (simp only []; omega)) (by first | omega | (dsimp only; omega) | (simp only []; omega))) rfl (h609 _ _ a b (by first | omega | (dsimp only; omega) | (simp only []; omega)) (by first | omega | (dsimp only; omega) | (simp only []; omega)))
  exact h355 _ _ a b (by first | omega | (dsimp only; omega) | (simp only []; omega)) (by first | omega | (dsimp only; omega) | (simp only []; omega))
end Cert.Proof
-- ==== Proof.CompB.lean ====
/- The three tables the kernel body computes and its eight rounds, in terms of the inputs. -/
module
public import proofs.«01_k».proof.Proof.Gen.KernelIdeal.Skeleton
public import proofs.«01_k».proof.Proof.CompA
public import proofs.«01_k».proof.Proof.Back0
public import proofs.«01_k».proof.Proof.Back1
public import proofs.«01_k».proof.Proof.Back2
public import proofs.«01_k».proof.Proof.Peaks0
public import proofs.«01_k».proof.Proof.Peaks1
public import proofs.«01_k».proof.Proof.Peaks2
public import proofs.«01_k».proof.Proof.Peaks3
public import proofs.«01_k».proof.Proof.Tables
public import proofs.«01_k».proof.Proof.Rounds
public import Idealize.ShloMosaic.PureOps.Ideal
public import Idealize.ShloMosaic.Lib.Pointwise
@[expose] public section
noncomputable section
namespace Cert.Proof
open Idealize.ShloMosaic Cert.KernelIdeal Cert.KernelIdeal.Gen
set_option maxRecDepth 20000

variable {x0 : Vec Ideal S1x64x512 .f32} {x1 : Vec Ideal S1x64x96 .f32} {x2 : Vec Ideal S1x1 .f32} {x3 : Vec Ideal S512x8 .f32} {x4 : Vec Ideal S64x8 .f32} {x5 : Vec Ideal S1x8 .f32} {x6 : Vec Ideal S64x833 .f32} {x7 : Vec Ideal S8x833 .f32} {x8 : Vec Ideal S294x98 .f32} {x9 : Vec Ideal S1x98 .f32} {x10 : Vec Ideal S512x256 .f32} {x11 : Vec Ideal S512x256 .f32} {x12 : Vec Ideal S256x512 .f32} {x13 : Vec Ideal S256x512 .f32} {x14 : Vec Ideal S96x98 .f32} {x15 : Vec Ideal S49x96 .f32} {x16 : Vec Ideal S49x96 .f32} {p : Inp} (h : Loads x0 x1 x2 x3 x4 x5 x6 x7 x8 x9 x10 x11 x12 x13 x14 x15 x16 p)
include h

/-- A value of the body. -/
theorem hv221 : ∀ (i : Fin 16) (j : Fin 64) (a b : Fin 64), a.val = i.val → b.val = j.val → (k0_pay248 x0 x1 x2 x3 x4 x5 x6 x7 x8 x9 x10 x11 x12 x13 x14 x15 x16) (ix2 i j) = pm (cc p.X a b) :=
  fun i j a b ha hb => (pay51_eq (k0_pay241 x0 x1 x2 x3 x4 x5 x6 x7 x8 x9 x10 x11 x12 x13 x14 x15 x16) i j).trans (congrArg pm (row0 h i j a b (by omega) (by omega)))

/-- A value of the body. -/
theorem hv244 : ∀ (i : Fin 16) (j : Fin 64) (a b : Fin 64), a.val = i.val → b.val = j.val → (k0_pay249 x0 x1 x2 x3 x4 x5 x6 x7 x8 x9 x10 x11 x12 x13 x14 x15 x16) (ix2 i j) = ps (cc p.X a b) :=
  fun i j a b ha hb => (pay53_eq (k0_pay241 x0 x1 x2 x3 x4 x5 x6 x7 x8 x9 x10 x11 x12 x13 x14 x15 x16) i j).trans (congrArg ps (row0 h i j a b (by omega) (by omega)))

/-- A value of the body. -/
theorem hv248 : ∀ (i : Fin 16) (j : Fin 64) (a b : Fin 64), a.val = i.val → b.val = j.val → (k0_pay250 x0 x1 x2 x3 x4 x5 x6 x7 x8 x9 x10 x11 x12 x13 x14 x15 x16) (ix2 i j) = lagw (cc p.X a b) :=
  fun i j a b ha hb => (pay54_eq (k0_pay241 x0 x1 x2 x3 x4 x5 x6 x7 x8 x9 x10 x11 x12 x13 x14 x15 x16) i j).trans (congrArg lagw (row0 h i j a b (by omega) (by omega)))

/-- A value of the body. -/
theorem hv258 : ∀ (i : Fin 16) (j : Fin 48) (a b : Fin 64), a.val = 16 + i.val → b.val = 16 + j.val → (k0_pay60 (k0_pay252 x0 x1 x2 x3 x4 x5 x6 x7 x8 x9 x10 x11 x12 x13 x14 x15 x16) (k0_pay253 x0 x1 x2 x3 x4 x5 x6 x7 x8 x9 x10 x11 x12 x13 x14 x15 x16) (k0_pay254 x0 x1 x2 x3 x4 x5 x6 x7 x8 x9 x10 x11 x12 x13 x14 x15 x16)) (ix2 i j) = pm (cc p.X a b) :=
  fun i j a b ha hb => (pay60_eq (k0_pay242 x0 x1 x2 x3 x4 x5 x6 x7 x8 x9 x10 x11 x12 x13 x14 x15 x16) i j).trans (congrArg pm (row1 h i j a b ha hb))

/-- A value of the body. -/
theorem hv285 : ∀ (i : Fin 16) (j : Fin 48) (a b : Fin 64), a.val = 16 + i.val → b.val = 16 + j.val → (k0_pay63 (k0_pay243 x0 x1 x2 x3 x4 x5 x6 x7 x8 x9 x10 x11 x12 x13 x14 x15 x16) (k0_pay252 x0 x1 x2 x3 x4 x5 x6 x7 x8 x9 x10 x11 x12 x13 x14 x15 x16) (k0_pay253 x0 x1 x2 x3 x4 x5 x6 x7 x8 x9 x10 x11 x12 x13 x14 x15 x16) (k0_pay254 x0 x1 x2 x3 x4 x5 x6 x7 x8 x9 x10 x11 x12 x13 x14 x15 x16)) (ix2 i j) = lagw (cc p.X a b) :=
  fun i j a b ha hb => (pay63_eq (k0_pay242 x0 x1 x2 x3 x4 x5 x6 x7 x8 x9 x10 x11 x12 x13 x14 x15 x16) i j).trans (congrArg lagw (row1 h i j a b ha hb))

/-- A value of the body. -/
theorem hv281 : ∀ (i : Fin 16) (j : Fin 48) (a b : Fin 64), a.val = 16 + i.val → b.val = 16 + j.val → (k0_pay62 (k0_pay243 x0 x1 x2 x3 x4 x5 x6 x7 x8 x9 x10 x11 x12 x13 x14 x15 x16) (k0_pay252 x0 x1 x2 x3 x4 x5 x6 x7 x8 x9 x10 x11 x12 x13 x14 x15 x16) (k0_pay253 x0 x1 x2 x3 x4 x5 x6 x7 x8 x9 x10 x11 x12 x13 x14 x15 x16) (k0_pay254 x0 x1 x2 x3 x4 x5 x6 x7 x8 x9 x10 x11 x12 x13 x14 x15 x16)) (ix2 i j) = ps (cc p.X a b) :=
  fun i j a b ha hb => (pay62_eq (k0_pay242 x0 x1 x2 x3 x4 x5 x6 x7 x8 x9 x10 x11 x12 x13 x14 x15 x16) i j).trans (congrArg ps (row1 h i j a b ha hb))

/-- A value of the body. -/
theorem hv295 : ∀ (i : Fin 16) (j : Fin 32) (a b : Fin 64), a.val = 32 + i.val → b.val = 32 + j.val → (k0_pay258 x0 x1 x2 x3 x4 x5 x6 x7 x8 x9 x10 x11 x12 x13 x14 x15 x16) (ix2 i j) = pm (cc p.X a b) :=
  fun i j a b ha hb => (pay66_eq (k0_pay244 x0 x1 x2 x3 x4 x5 x6 x7 x8 x9 x10 x11 x12 x13 x14 x15 x16) i j).trans (congrArg pm (row2 h i j a b ha hb))

/-- A value of the body. -/
theorem hv322 : ∀ (i : Fin 16) (j : Fin 32) (a b : Fin 64), a.val = 32 + i.val → b.val = 32 + j.val → (k0_pay71 (k0_pay257 x0 x1 x2 x3 x4 x5 x6 x7 x8 x9 x10 x11 x12 x13 x14 x15 x16) (k0_pay258 x0 x1 x2 x3 x4 x5 x6 x7 x8 x9 x10 x11 x12 x13 x14 x15 x16) (k0_pay259 x0 x1 x2 x3 x4 x5 x6 x7 x8 x9 x10 x11 x12 x13 x14 x15 x16) (k0_pay260 x0 x1 x2 x3 x4 x5 x6 x7 x8 x9 x10 x11 x12 x13 x14 x15 x16)) (ix2 i j) = lagw (cc p.X a b) :=
  fun i j a b ha hb => (pay71_eq (k0_pay244 x0 x1 x2 x3 x4 x5 x6 x7 x8 x9 x10 x11 x12 x13 x14 x15 x16) i j).trans (congrArg lagw (row2 h i j a b ha hb))

/-- A value of the body. -/
theorem hv318 : ∀ (i : Fin 16) (j : Fin 32) (a b : Fin 64), a.val = 32 + i.val → b.val = 32 + j.val → (k0_pay70 (k0_pay257 x0 x1 x2 x3 x4 x5 x6 x7 x8 x9 x10 x11 x12 x13 x14 x15 x16) (k0_pay258 x0 x1 x2 x3 x4 x5 x6 x7 x8 x9 x10 x11 x12 x13 x14 x15 x16) (k0_pay259 x0 x1 x2 x3 x4 x5 x6 x7 x8 x9 x10 x11 x12 x13 x14 x15 x16) (k0_pay260 x0 x1 x2 x3 x4 x5 x6 x7 x8 x9 x10 x11 x12 x13 x14 x15 x16)) (ix2 i j) = ps (cc p.X a b) :=
  fun i j a b ha hb => (pay70_eq (k0_pay244 x0 x1 x2 x3 x4 x5 x6 x7 x8 x9 x10 x11 x12 x13 x14 x15 x16) i j).trans (congrArg ps (row2 h i j a b ha hb))

/-- A value of the body. -/
theorem hv332 : ∀ (i : Fin 16) (j : Fin 16) (a b : Fin 64), a.val = 48 + i.val → b.val = 48 + j.val → (k0_pay261 x0 x1 x2 x3 x4 x5 x6 x7 x8 x9 x10 x11 x12 x13 x14 x15 x16) (ix2 i j) = pm (cc p.X a b) :=
  fun i j a b ha hb => (pay73_eq (k0_pay245 x0 x1 x2 x3 x4 x5 x6 x7 x8 x9 x10 x11 x12 x13 x14 x15 x16) i j).trans (congrArg pm (row3 h i j a b ha hb))

/-- A value of the body. -/
theorem hv355 : ∀ (i : Fin 16) (j : Fin 16) (a b : Fin 64), a.val = 48 + i.val → b.val = 48 + j.val → (k0_pay263 x0 x1 x2 x3 x4 x5 x6 x7 x8 x9 x10 x11 x12 x13 x14 x15 x16) (ix2 i j) = ps (cc p.X a b) :=
  fun i j a b ha hb => (pay76_eq (k0_pay245 x0 x1 x2 x3 x4 x5 x6 x7 x8 x9 x10 x11 x12 x13 x14 x15 x16) i j).trans (congrArg ps (row3 h i j a b ha hb))

/-- A value of the body. -/
theorem hv359 : ∀ (i : Fin 16) (j : Fin 16) (a b : Fin 64), a.val = 48 + i.val → b.val = 48 + j.val → (k0_pay264 x0 x1 x2 x3 x4 x5 x6 x7 x8 x9 x10 x11 x12 x13 x14 x15 x16) (ix2 i j) = lagw (cc p.X a b) :=
  fun i j a b ha hb => (pay77_eq (k0_pay245 x0 x1 x2 x3 x4 x5 x6 x7 x8 x9 x10 x11 x12 x13 x14 x15 x16) i j).trans (congrArg lagw (row3 h i j a b ha hb))

/-- A value of the body. -/
theorem hv373 : ∀ (i : Fin 16) (j : Fin 16) (a b : Fin 64), a.val = 16 + i.val → b.val = j.val → (k0_pay265 x0 x1 x2 x3 x4 x5 x6 x7 x8 x9 x10 x11 x12 x13 x14 x15 x16) (ix2 j i) = pm (cc p.X a b) :=
  fun i j a b ha hb => pay79_eq (k0_pay241 x0 x1 x2 x3 x4 x5 x6 x7 x8 x9 x10 x11 x12 x13 x14 x15 x16) j i (cc p.X a b) (fun t => back0_16 h j i a b ha (by omega) t)

/-- A value of the body. -/
theorem hv387 : ∀ (i : Fin 16) (j : Fin 16) (a b : Fin 64), a.val = 16 + i.val → b.val = j.val → (k0_pay80 (k0_pay241 x0 x1 x2 x3 x4 x5 x6 x7 x8 x9 x10 x11 x12 x13 x14 x15 x16) (k0_pay246 x0 x1 x2 x3 x4 x5 x6 x7 x8 x9 x10 x11 x12 x13 x14 x15 x16) (k0_pay247 x0 x1 x2 x3 x4 x5 x6 x7 x8 x9 x10 x11 x12 x13 x14 x15 x16)) (ix2 j i) = bw (cc p.X a b) :=
  fun i j a b ha hb => pay80_eq (k0_pay241 x0 x1 x2 x3 x4 x5 x6 x7 x8 x9 x10 x11 x12 x13 x14 x15 x16) j i (cc p.X a b) (fun t => back0_16 h j i a b ha (by omega) t)

/-- A value of the body. -/
theorem hv389 : ∀ (i : Fin 16) (j : Fin 16) (a b : Fin 64), a.val = 16 + i.val → b.val = j.val → (k0_pay81 (k0_pay241 x0 x1 x2 x3 x4 x5 x6 x7 x8 x9 x10 x11 x12 x13 x14 x15 x16) (k0_pay246 x0 x1 x2 x3 x4 x5 x6 x7 x8 x9 x10 x11 x12 x13 x14 x15 x16) (k0_pay247 x0 x1 x2 x3 x4 x5 x6 x7 x8 x9 x10 x11 x12 x13 x14 x15 x16)) (ix2 j i) = IntOp.andi (bw (cc p.X a b)) 1#32 :=
  fun i j a b ha hb => pay81_eq (k0_pay241 x0 x1 x2 x3 x4 x5 x6 x7 x8 x9 x10 x11 x12 x13 x14 x15 x16) j i (cc p.X a b) (fun t => back0_16 h j i a b ha (by omega) t)

/-- A value of the body. -/
theorem hv422 : ∀ (i : Fin 16) (j : Fin 16) (a b : Fin 64), a.val = 32 + i.val → b.val = j.val → (k0_pay269 x0 x1 x2 x3 x4 x5 x6 x7 x8 x9 x10 x11 x12 x13 x14 x15 x16) (ix2 j i) = pm (cc p.X a b) :=
  fun i j a b ha hb => pay87_eq (k0_pay241 x0 x1 x2 x3 x4 x5 x6 x7 x8 x9 x10 x11 x12 x13 x14 x15 x16) j i (cc p.X a b) (fun t => back0_32 h j i a b ha (by omega) t)

/-- A value of the body. -/
theorem hv436 : ∀ (i : Fin 16) (j : Fin 16) (a b : Fin 64), a.val = 32 + i.val → b.val = j.val → (k0_pay88 (k0_pay241 x0 x1 x2 x3 x4 x5 x6 x7 x8 x9 x10 x11 x12 x13 x14 x15 x16) (k0_pay246 x0 x1 x2 x3 x4 x5 x6 x7 x8 x9 x10 x11 x12 x13 x14 x15 x16) (k0_pay247 x0 x1 x2 x3 x4 x5 x6 x7 x8 x9 x10 x11 x12 x13 x14 x15 x16)) (ix2 j i) = bw (cc p.X a b) :=
  fun i j a b ha hb => pay88_eq (k0_pay241 x0 x1 x2 x3 x4 x5 x6 x7 x8 x9 x10 x11 x12 x13 x14 x15 x16) j i (cc p.X a b) (fun t => back0_32 h j i a b ha (by omega) t)

/-- A value of the body. -/
theorem hv438 : ∀ (i : Fin 16) (j : Fin 16) (a b : Fin 64), a.val = 32 + i.val → b.val = j.val → (k0_pay89 (k0_pay241 x0 x1 x2 x3 x4 x5 x6 x7 x8 x9 x10 x11 x12 x13 x14 x15 x16) (k0_pay246 x0 x1 x2 x3 x4 x5 x6 x7 x8 x9 x10 x11 x12 x13 x14 x15 x16) (k0_pay247 x0 x1 x2 x3 x4 x5 x6 x7 x8 x9 x10 x11 x12 x13 x14 x15 x16)) (ix2 j i) = IntOp.andi (bw (cc p.X a b)) 1#32 :=
  fun i j a b ha hb => pay89_eq (k0_pay241 x0 x1 x2 x3 x4 x5 x6 x7 x8 x9 x10 x11 x12 x13 x14 x15 x16) j i (cc p.X a b) (fun t => back0_32 h j i a b ha (by omega) t)

/-- A value of the body. -/
theorem hv517 : ∀ (i : Fin 16) (j : Fin 16) (a b : Fin 64), a.val = 48 + i.val → b.val = j.val → (k0_pay274 x0 x1 x2 x3 x4 x5 x6 x7 x8 x9 x10 x11 x12 x13 x14 x15 x16) (ix2 j i) = pm (cc p.X a b) :=
  fun i j a b ha hb => pay101_eq (k0_pay241 x0 x1 x2 x3 x4 x5 x6 x7 x8 x9 x10 x11 x12 x13 x14 x15 x16) j i (cc p.X a b) (fun t => back0_48 h j i a b ha (by omega) t)

/-- A value of the body. -/
theorem hv531 : ∀ (i : Fin 16) (j : Fin 16) (a b : Fin 64), a.val = 48 + i.val → b.val = j.val → (k0_pay275 x0 x1 x2 x3 x4 x5 x6 x7 x8 x9 x10 x11 x12 x13 x14 x15 x16) (ix2 j i) = bw (cc p.X a b) :=
  fun i j a b ha hb => pay102_eq (k0_pay241 x0 x1 x2 x3 x4 x5 x6 x7 x8 x9 x10 x11 x12 x13 x14 x15 x16) j i (cc p.X a b) (fun t => back0_48 h j i a b ha (by omega) t)

/-- A value of the body. -/
theorem hv468 : ∀ (i : Fin 16) (j : Fin 16) (a b : Fin 64), a.val = 32 + i.val → b.val = 16 + j.val → (k0_pay270 x0 x1 x2 x3 x4 x5 x6 x7 x8 x9 x10 x11 x12 x13 x14 x15 x16) (ix2 j i) = pm (cc p.X a b) :=
  fun i j a b ha hb => pay94_eq (k0_pay242 x0 x1 x2 x3 x4 x5 x6 x7 x8 x9 x10 x11 x12 x13 x14 x15 x16) j i (cc p.X a b) (fun t => back1_16 h j i a b ha hb t)

/-- A value of the body. -/
theorem hv482 : ∀ (i : Fin 16) (j : Fin 16) (a b : Fin 64), a.val = 32 + i.val → b.val = 16 + j.val → (k0_pay95 (k0_pay243 x0 x1 x2 x3 x4 x5 x6 x7 x8 x9 x10 x11 x12 x13 x14 x15 x16) (k0_pay251 x0 x1 x2 x3 x4 x5 x6 x7 x8 x9 x10 x11 x12 x13 x14 x15 x16) (k0_pay255 x0 x1 x2 x3 x4 x5 x6 x7 x8 x9 x10 x11 x12 x13 x14 x15 x16)) (ix2 j i) = bw (cc p.X a b) :=
  fun i j a b ha hb => pay95_eq (k0_pay242 x0 x1 x2 x3 x4 x5 x6 x7 x8 x9 x10 x11 x12 x13 x14 x15 x16) j i (cc p.X a b) (fun t => back1_16 h j i a b ha hb t)

/-- A value of the body. -/
theorem hv484 : ∀ (i : Fin 16) (j : Fin 16) (a b : Fin 64), a.val = 32 + i.val → b.val = 16 + j.val → (k0_pay96 (k0_pay243 x0 x1 x2 x3 x4 x5 x6 x7 x8 x9 x10 x11 x12 x13 x14 x15 x16) (k0_pay251 x0 x1 x2 x3 x4 x5 x6 x7 x8 x9 x10 x11 x12 x13 x14 x15 x16) (k0_pay255 x0 x1 x2 x3 x4 x5 x6 x7 x8 x9 x10 x11 x12 x13 x14 x15 x16)) (ix2 j i) = IntOp.andi (bw (cc p.X a b)) 1#32 :=
  fun i j a b ha hb => pay96_eq (k0_pay242 x0 x1 x2 x3 x4 x5 x6 x7 x8 x9 x10 x11 x12 x13 x14 x15 x16) j i (cc p.X a b) (fun t => back1_16 h j i a b ha hb t)

/-- A value of the body. -/
theorem hv563 : ∀ (i : Fin 16) (j : Fin 16) (a b : Fin 64), a.val = 48 + i.val → b.val = 16 + j.val → (k0_pay279 x0 x1 x2 x3 x4 x5 x6 x7 x8 x9 x10 x11 x12 x13 x14 x15 x16) (ix2 j i) = pm (cc p.X a b) :=
  fun i j a b ha hb => pay108_eq (k0_pay242 x0 x1 x2 x3 x4 x5 x6 x7 x8 x9 x10 x11 x12 x13 x14 x15 x16) j i (cc p.X a b) (fun t => back1_32 h j i a b ha hb t)

/-- A value of the body. -/
theorem hv577 : ∀ (i : Fin 16) (j : Fin 16) (a b : Fin 64), a.val = 48 + i.val → b.val = 16 + j.val → (k0_pay109 (k0_pay243 x0 x1 x2 x3 x4 x5 x6 x7 x8 x9 x10 x11 x12 x13 x14 x15 x16) (k0_pay251 x0 x1 x2 x3 x4 x5 x6 x7 x8 x9 x10 x11 x12 x13 x14 x15 x16) (k0_pay255 x0 x1 x2 x3 x4 x5 x6 x7 x8 x9 x10 x11 x12 x13 x14 x15 x16)) (ix2 j i) = bw (cc p.X a b) :=
  fun i j a b ha hb => pay109_eq (k0_pay242 x0 x1 x2 x3 x4 x5 x6 x7 x8 x9 x10 x11 x12 x13 x14 x15 x16) j i (cc p.X a b) (fun t => back1_32 h j i a b ha hb t)

/-- A value of the body. -/
theorem hv579 : ∀ (i : Fin 16) (j : Fin 16) (a b : Fin 64), a.val = 48 + i.val → b.val = 16 + j.val → (k0_pay110 (k0_pay243 x0 x1 x2 x3 x4 x5 x6 x7 x8 x9 x10 x11 x12 x13 x14 x15 x16) (k0_pay251 x0 x1 x2 x3 x4 x5 x6 x7 x8 x9 x10 x11 x12 x13 x14 x15 x16) (k0_pay255 x0 x1 x2 x3 x4 x5 x6 x7 x8 x9 x10 x11 x12 x13 x14 x15 x16)) (ix2 j i) = IntOp.andi (bw (cc p.X a b)) 1#32 :=
  fun i j a b ha hb => pay110_eq (k0_pay242 x0 x1 x2 x3 x4 x5 x6 x7 x8 x9 x10 x11 x12 x13 x14 x15 x16) j i (cc p.X a b) (fun t => back1_32 h j i a b ha hb t)

/-- A value of the body. -/
theorem hv609 : ∀ (i : Fin 16) (j : Fin 16) (a b : Fin 64), a.val = 48 + i.val → b.val = 32 + j.val → (k0_pay283 x0 x1 x2 x3 x4 x5 x6 x7 x8 x9 x10 x11 x12 x13 x14 x15 x16) (ix2 j i) = pm (cc p.X a b) :=
  fun i j a b ha hb => pay115_eq (k0_pay244 x0 x1 x2 x3 x4 x5 x6 x7 x8 x9 x10 x11 x12 x13 x14 x15 x16) j i (cc p.X a b) (fun t => back2_16 h j i a b ha hb t)

/-- A value of the body. -/
theorem hv623 : ∀ (i : Fin 16) (j : Fin 16) (a b : Fin 64), a.val = 48 + i.val → b.val = 32 + j.val → (k0_pay284 x0 x1 x2 x3 x4 x5 x6 x7 x8 x9 x10 x11 x12 x13 x14 x15 x16) (ix2 j i) = bw (cc p.X a b) :=
  fun i j a b ha hb => pay116_eq (k0_pay244 x0 x1 x2 x3 x4 x5 x6 x7 x8 x9 x10 x11 x12 x13 x14 x15 x16) j i (cc p.X a b) (fun t => back2_16 h j i a b ha hb t)

/-- A value of the body. -/
theorem hv625 : ∀ (i : Fin 16) (j : Fin 16) (a b : Fin 64), a.val = 48 + i.val → b.val = 32 + j.val → (k0_pay285 x0 x1 x2 x3 x4 x5 x6 x7 x8 x9 x10 x11 x12 x13 x14 x15 x16) (ix2 j i) = IntOp.andi (bw (cc p.X a b)) 1#32 :=
  fun i j a b ha hb => pay117_eq (k0_pay244 x0 x1 x2 x3 x4 x5 x6 x7 x8 x9 x10 x11 x12 x13 x14 x15 x16) j i (cc p.X a b) (fun t => back2_16 h j i a b ha hb t)

/-- A value of the body. -/
theorem hv406 : ∀ (i : Fin 16) (j : Fin 64) (a b : Fin 64), a.val = 16 + i.val → b.val = j.val → (k0_pay266 x0 x1 x2 x3 x4 x5 x6 x7 x8 x9 x10 x11 x12 x13 x14 x15 x16) (ix2 i j) = pm (cc p.X a b) :=
  pay83_eq (k0_pay60 (k0_pay252 x0 x1 x2 x3 x4 x5 x6 x7 x8 x9 x10 x11 x12 x13 x14 x15 x16) (k0_pay253 x0 x1 x2 x3 x4 x5 x6 x7 x8 x9 x10 x11 x12 x13 x14 x15 x16) (k0_pay254 x0 x1 x2 x3 x4 x5 x6 x7 x8 x9 x10 x11 x12 x13 x14 x15 x16)) (k0_pay265 x0 x1 x2 x3 x4 x5 x6 x7 x8 x9 x10 x11 x12 x13 x14 x15 x16) (cc p.X)  (hv373 h) (hv258 h)

/-- A value of the body. -/
theorem hv407 : ∀ (i : Fin 16) (j : Fin 64) (a b : Fin 64), a.val = 16 + i.val → b.val = j.val → (k0_pay267 x0 x1 x2 x3 x4 x5 x6 x7 x8 x9 x10 x11 x12 x13 x14 x15 x16) (ix2 i j) = lagw (cc p.X a b) :=
  pay84_eq (k0_pay63 (k0_pay243 x0 x1 x2 x3 x4 x5 x6 x7 x8 x9 x10 x11 x12 x13 x14 x15 x16) (k0_pay252 x0 x1 x2 x3 x4 x5 x6 x7 x8 x9 x10 x11 x12 x13 x14 x15 x16) (k0_pay253 x0 x1 x2 x3 x4 x5 x6 x7 x8 x9 x10 x11 x12 x13 x14 x15 x16) (k0_pay254 x0 x1 x2 x3 x4 x5 x6 x7 x8 x9 x10 x11 x12 x13 x14 x15 x16)) (k0_pay80 (k0_pay241 x0 x1 x2 x3 x4 x5 x6 x7 x8 x9 x10 x11 x12 x13 x14 x15 x16) (k0_pay246 x0 x1 x2 x3 x4 x5 x6 x7 x8 x9 x10 x11 x12 x13 x14 x15 x16) (k0_pay247 x0 x1 x2 x3 x4 x5 x6 x7 x8 x9 x10 x11 x12 x13 x14 x15 x16)) (cc p.X)  (hv387 h) (hv285 h)

/-- A value of the body. -/
theorem hv408 : ∀ (i : Fin 16) (j : Fin 64) (a b : Fin 64), a.val = 16 + i.val → b.val = j.val → (k0_pay268 x0 x1 x2 x3 x4 x5 x6 x7 x8 x9 x10 x11 x12 x13 x14 x15 x16) (ix2 i j) = ps (cc p.X a b) :=
  pay85_eq (k0_pay62 (k0_pay243 x0 x1 x2 x3 x4 x5 x6 x7 x8 x9 x10 x11 x12 x13 x14 x15 x16) (k0_pay252 x0 x1 x2 x3 x4 x5 x6 x7 x8 x9 x10 x11 x12 x13 x14 x15 x16) (k0_pay253 x0 x1 x2 x3 x4 x5 x6 x7 x8 x9 x10 x11 x12 x13 x14 x15 x16) (k0_pay254 x0 x1 x2 x3 x4 x5 x6 x7 x8 x9 x10 x11 x12 x13 x14 x15 x16)) (k0_pay265 x0 x1 x2 x3 x4 x5 x6 x7 x8 x9 x10 x11 x12 x13 x14 x15 x16) (k0_pay81 (k0_pay241 x0 x1 x2 x3 x4 x5 x6 x7 x8 x9 x10 x11 x12 x13 x14 x15 x16) (k0_pay246 x0 x1 x2 x3 x4 x5 x6 x7 x8 x9 x10 x11 x12 x13 x14 x15 x16) (k0_pay247 x0 x1 x2 x3 x4 x5 x6 x7 x8 x9 x10 x11 x12 x13 x14 x15 x16)) k0_pay82 (cc p.X) (fun _ => rfl) (hv373 h) (hv389 h) (hv281 h)

/-- A value of the body. -/
theorem hv452 : ∀ (i : Fin 16) (j : Fin 16) (a b : Fin 64), a.val = 32 + i.val → b.val = j.val → (k0_pay90 (k0_pay269 x0 x1 x2 x3 x4 x5 x6 x7 x8 x9 x10 x11 x12 x13 x14 x15 x16)) (ix2 i j) = pm (cc p.X a b) :=
  pay90_eq (k0_pay269 x0 x1 x2 x3 x4 x5 x6 x7 x8 x9 x10 x11 x12 x13 x14 x15 x16) (cc p.X)  (hv422 h)

/-- A value of the body. -/
theorem hv453 : ∀ (i : Fin 16) (j : Fin 16) (a b : Fin 64), a.val = 32 + i.val → b.val = j.val → (k0_pay91 (k0_pay88 (k0_pay241 x0 x1 x2 x3 x4 x5 x6 x7 x8 x9 x10 x11 x12 x13 x14 x15 x16) (k0_pay246 x0 x1 x2 x3 x4 x5 x6 x7 x8 x9 x10 x11 x12 x13 x14 x15 x16) (k0_pay247 x0 x1 x2 x3 x4 x5 x6 x7 x8 x9 x10 x11 x12 x13 x14 x15 x16))) (ix2 i j) = lagw (cc p.X a b) :=
  pay91_eq (k0_pay88 (k0_pay241 x0 x1 x2 x3 x4 x5 x6 x7 x8 x9 x10 x11 x12 x13 x14 x15 x16) (k0_pay246 x0 x1 x2 x3 x4 x5 x6 x7 x8 x9 x10 x11 x12 x13 x14 x15 x16) (k0_pay247 x0 x1 x2 x3 x4 x5 x6 x7 x8 x9 x10 x11 x12 x13 x14 x15 x16)) (cc p.X)  (hv436 h)

/-- A value of the body. -/
theorem hv454 : ∀ (i : Fin 16) (j : Fin 16) (a b : Fin 64), a.val = 32 + i.val → b.val = j.val → (k0_pay92 (k0_pay269 x0 x1 x2 x3 x4 x5 x6 x7 x8 x9 x10 x11 x12 x13 x14 x15 x16) (k0_pay89 (k0_pay241 x0 x1 x2 x3 x4 x5 x6 x7 x8 x9 x10 x11 x12 x13 x14 x15 x16) (k0_pay246 x0 x1 x2 x3 x4 x5 x6 x7 x8 x9 x10 x11 x12 x13 x14 x15 x16) (k0_pay247 x0 x1 x2 x3 x4 x5 x6 x7 x8 x9 x10 x11 x12 x13 x14 x15 x16))) (ix2 i j) = ps (cc p.X a b) :=
  pay92_eq (k0_pay269 x0 x1 x2 x3 x4 x5 x6 x7 x8 x9 x10 x11 x12 x13 x14 x15 x16) (k0_pay89 (k0_pay241 x0 x1 x2 x3 x4 x5 x6 x7 x8 x9 x10 x11 x12 x13 x14 x15 x16) (k0_pay246 x0 x1 x2 x3 x4 x5 x6 x7 x8 x9 x10 x11 x12 x13 x14 x15 x16) (k0_pay247 x0 x1 x2 x3 x4 x5 x6 x7 x8 x9 x10 x11 x12 x13 x14 x15 x16)) (cc p.X)  (hv422 h) (hv438 h)

/-- A value of the body. -/
theorem hv501 : ∀ (i : Fin 16) (j : Fin 64) (a b : Fin 64), a.val = 32 + i.val → b.val = j.val → (k0_pay271 x0 x1 x2 x3 x4 x5 x6 x7 x8 x9 x10 x11 x12 x13 x14 x15 x16) (ix2 i j) = pm (cc p.X a b) :=
  pay97_eq (k0_pay258 x0 x1 x2 x3 x4 x5 x6 x7 x8 x9 x10 x11 x12 x13 x14 x15 x16) (k0_pay90 (k0_pay269 x0 x1 x2 x3 x4 x5 x6 x7 x8 x9 x10 x11 x12 x13 x14 x15 x16)) (k0_pay270 x0 x1 x2 x3 x4 x5 x6 x7 x8 x9 x10 x11 x12 x13 x14 x15 x16) (cc p.X)  (hv452 h) (hv468 h) (hv295 h)

/-- A value of the body. -/
theorem hv502 : ∀ (i : Fin 16) (j : Fin 64) (a b : Fin 64), a.val = 32 + i.val → b.val = j.val → (k0_pay272 x0 x1 x2 x3 x4 x5 x6 x7 x8 x9 x10 x11 x12 x13 x14 x15 x16) (ix2 i j) = lagw (cc p.X a b) :=
  pay98_eq (k0_pay71 (k0_pay257 x0 x1 x2 x3 x4 x5 x6 x7 x8 x9 x10 x11 x12 x13 x14 x15 x16) (k0_pay258 x0 x1 x2 x3 x4 x5 x6 x7 x8 x9 x10 x11 x12 x13 x14 x15 x16) (k0_pay259 x0 x1 x2 x3 x4 x5 x6 x7 x8 x9 x10 x11 x12 x13 x14 x15 x16) (k0_pay260 x0 x1 x2 x3 x4 x5 x6 x7 x8 x9 x10 x11 x12 x13 x14 x15 x16)) (k0_pay91 (k0_pay88 (k0_pay241 x0 x1 x2 x3 x4 x5 x6 x7 x8 x9 x10 x11 x12 x13 x14 x15 x16) (k0_pay246 x0 x1 x2 x3 x4 x5 x6 x7 x8 x9 x10 x11 x12 x13 x14 x15 x16) (k0_pay247 x0 x1 x2 x3 x4 x5 x6 x7 x8 x9 x10 x11 x12 x13 x14 x15 x16))) (k0_pay95 (k0_pay243 x0 x1 x2 x3 x4 x5 x6 x7 x8 x9 x10 x11 x12 x13 x14 x15 x16) (k0_pay251 x0 x1 x2 x3 x4 x5 x6 x7 x8 x9 x10 x11 x12 x13 x14 x15 x16) (k0_pay255 x0 x1 x2 x3 x4 x5 x6 x7 x8 x9 x10 x11 x12 x13 x14 x15 x16)) (cc p.X)  (hv453 h) (hv482 h) (hv322 h)

/-- A value of the body. -/
theorem hv503 : ∀ (i : Fin 16) (j : Fin 64) (a b : Fin 64), a.val = 32 + i.val → b.val = j.val → (k0_pay273 x0 x1 x2 x3 x4 x5 x6 x7 x8 x9 x10 x11 x12 x13 x14 x15 x16) (ix2 i j) = ps (cc p.X a b) :=
  pay99_eq (k0_pay70 (k0_pay257 x0 x1 x2 x3 x4 x5 x6 x7 x8 x9 x10 x11 x12 x13 x14 x15 x16) (k0_pay258 x0 x1 x2 x3 x4 x5 x6 x7 x8 x9 x10 x11 x12 x13 x14 x15 x16) (k0_pay259 x0 x1 x2 x3 x4 x5 x6 x7 x8 x9 x10 x11 x12 x13 x14 x15 x16) (k0_pay260 x0 x1 x2 x3 x4 x5 x6 x7 x8 x9 x10 x11 x12 x13 x14 x15 x16)) (k0_pay92 (k0_pay269 x0 x1 x2 x3 x4 x5 x6 x7 x8 x9 x10 x11 x12 x13 x14 x15 x16) (k0_pay89 (k0_pay241 x0 x1 x2 x3 x4 x5 x6 x7 x8 x9 x10 x11 x12 x13 x14 x15 x16) (k0_pay246 x0 x1 x2 x3 x4 x5 x6 x7 x8 x9 x10 x11 x12 x13 x14 x15 x16) (k0_pay247 x0 x1 x2 x3 x4 x5 x6 x7 x8 x9 x10 x11 x12 x13 x14 x15 x16))) (k0_pay270 x0 x1 x2 x3 x4 x5 x6 x7 x8 x9 x10 x11 x12 x13 x14 x15 x16) (k0_pay96 (k0_pay243 x0 x1 x2 x3 x4 x5 x6 x7 x8 x9 x10 x11 x12 x13 x14 x15 x16) (k0_pay251 x0 x1 x2 x3 x4 x5 x6 x7 x8 x9 x10 x11 x12 x13 x14 x15 x16) (k0_pay255 x0 x1 x2 x3 x4 x5 x6 x7 x8 x9 x10 x11 x12 x13 x14 x15 x16)) (cc p.X)  (hv454 h) (hv468 h) (hv484 h) (hv318 h)

/-- A value of the body. -/
theorem hv547 : ∀ (i : Fin 16) (j : Fin 16) (a b : Fin 64), a.val = 48 + i.val → b.val = j.val → (k0_pay276 x0 x1 x2 x3 x4 x5 x6 x7 x8 x9 x10 x11 x12 x13 x14 x15 x16) (ix2 i j) = pm (cc p.X a b) :=
  pay104_eq (k0_pay274 x0 x1 x2 x3 x4 x5 x6 x7 x8 x9 x10 x11 x12 x13 x14 x15 x16) (cc p.X)  (hv517 h)

/-- A value of the body. -/
theorem hv548 : ∀ (i : Fin 16) (j : Fin 16) (a b : Fin 64), a.val = 48 + i.val → b.val = j.val → (k0_pay277 x0 x1 x2 x3 x4 x5 x6 x7 x8 x9 x10 x11 x12 x13 x14 x15 x16) (ix2 i j) = lagw (cc p.X a b) :=
  pay105_eq (k0_pay275 x0 x1 x2 x3 x4 x5 x6 x7 x8 x9 x10 x11 x12 x13 x14 x15 x16) (cc p.X)  (hv531 h)

/-- A value of the body. -/
theorem hv549 : ∀ (i : Fin 16) (j : Fin 16) (a b : Fin 64), a.val = 48 + i.val → b.val = j.val → (k0_pay278 x0 x1 x2 x3 x4 x5 x6 x7 x8 x9 x10 x11 x12 x13 x14 x15 x16) (ix2 i j) = ps (cc p.X a b) :=
  pay106_eq (k0_pay274 x0 x1 x2 x3 x4 x5 x6 x7 x8 x9 x10 x11 x12 x13 x14 x15 x16) (k0_pay275 x0 x1 x2 x3 x4 x5 x6 x7 x8 x9 x10 x11 x12 x13 x14 x15 x16) k0_pay103 (cc p.X) (fun _ => rfl) (hv517 h) (hv531 h)

/-- A value of the body. -/
theorem hv593 : ∀ (i : Fin 16) (j : Fin 16) (a b : Fin 64), a.val = 48 + i.val → b.val = 16 + j.val → (k0_pay280 x0 x1 x2 x3 x4 x5 x6 x7 x8 x9 x10 x11 x12 x13 x14 x15 x16) (ix2 i j) = pm (cc p.X a b) :=
  pay111_eq (k0_pay279 x0 x1 x2 x3 x4 x5 x6 x7 x8 x9 x10 x11 x12 x13 x14 x15 x16) (cc p.X)  (hv563 h)

/-- A value of the body. -/
theorem hv594 : ∀ (i : Fin 16) (j : Fin 16) (a b : Fin 64), a.val = 48 + i.val → b.val = 16 + j.val → (k0_pay281 x0 x1 x2 x3 x4 x5 x6 x7 x8 x9 x10 x11 x12 x13 x14 x15 x16) (ix2 i j) = lagw (cc p.X a b) :=
  pay112_eq (k0_pay109 (k0_pay243 x0 x1 x2 x3 x4 x5 x6 x7 x8 x9 x10 x11 x12 x13 x14 x15 x16) (k0_pay251 x0 x1 x2 x3 x4 x5 x6 x7 x8 x9 x10 x11 x12 x13 x14 x15 x16) (k0_pay255 x0 x1 x2 x3 x4 x5 x6 x7 x8 x9 x10 x11 x12 x13 x14 x15 x16)) (cc p.X)  (hv577 h)

/-- A value of the body. -/
theorem hv595 : ∀ (i : Fin 16) (j : Fin 16) (a b : Fin 64), a.val = 48 + i.val → b.val = 16 + j.val → (k0_pay282 x0 x1 x2 x3 x4 x5 x6 x7 x8 x9 x10 x11 x12 x13 x14 x15 x16) (ix2 i j) = ps (cc p.X a b) :=
  pay113_eq (k0_pay279 x0 x1 x2 x3 x4 x5 x6 x7 x8 x9 x10 x11 x12 x13 x14 x15 x16) (k0_pay110 (k0_pay243 x0 x1 x2 x3 x4 x5 x6 x7 x8 x9 x10 x11 x12 x13 x14 x15 x16) (k0_pay251 x0 x1 x2 x3 x4 x5 x6 x7 x8 x9 x10 x11 x12 x13 x14 x15 x16) (k0_pay255 x0 x1 x2 x3 x4 x5 x6 x7 x8 x9 x10 x11 x12 x13 x14 x15 x16)) (cc p.X)  (hv563 h) (hv579 h)

/-- A whole table. -/
theorem h118 : ∀ i j : Fin 64, (k0_pay118 (k0_pay248 x0 x1 x2 x3 x4 x5 x6 x7 x8 x9 x10 x11 x12 x13 x14 x15 x16) (k0_pay261 x0 x1 x2 x3 x4 x5 x6 x7 x8 x9 x10 x11 x12 x13 x14 x15 x16) (k0_pay266 x0 x1 x2 x3 x4 x5 x6 x7 x8 x9 x10 x11 x12 x13 x14 x15 x16) (k0_pay271 x0 x1 x2 x3 x4 x5 x6 x7 x8 x9 x10 x11 x12 x13 x14 x15 x16) (k0_pay276 x0 x1 x2 x3 x4 x5 x6 x7 x8 x9 x10 x11 x12 x13 x14 x15 x16) (k0_pay280 x0 x1 x2 x3 x4 x5 x6 x7 x8 x9 x10 x11 x12 x13 x14 x15 x16) (k0_pay283 x0 x1 x2 x3 x4 x5 x6 x7 x8 x9 x10 x11 x12 x13 x14 x15 x16)) (ix2 i j) = cmx p.X i j :=
  fun i j => pay118_eq (k0_pay248 x0 x1 x2 x3 x4 x5 x6 x7 x8 x9 x10 x11 x12 x13 x14 x15 x16) (k0_pay261 x0 x1 x2 x3 x4 x5 x6 x7 x8 x9 x10 x11 x12 x13 x14 x15 x16) (k0_pay266 x0 x1 x2 x3 x4 x5 x6 x7 x8 x9 x10 x11 x12 x13 x14 x15 x16) (k0_pay271 x0 x1 x2 x3 x4 x5 x6 x7 x8 x9 x10 x11 x12 x13 x14 x15 x16) (k0_pay276 x0 x1 x2 x3 x4 x5 x6 x7 x8 x9 x10 x11 x12 x13 x14 x15 x16) (k0_pay280 x0 x1 x2 x3 x4 x5 x6 x7 x8 x9 x10 x11 x12 x13 x14 x15 x16) (k0_pay283 x0 x1 x2 x3 x4 x5 x6 x7 x8 x9 x10 x11 x12 x13 x14 x15 x16) (cc p.X) (hv221 h) (hv406 h) (hv501 h) (hv547 h) (hv593 h) (hv609 h) (hv332 h) i j i j rfl rfl

/-- A whole table. -/
theorem h646 : ∀ i j : Fin 64, (k0_pay287 x0 x1 x2 x3 x4 x5 x6 x7 x8 x9 x10 x11 x12 x13 x14 x15 x16) (ix2 i j) = BitVec.ofNat 32 (shf p.X i j) :=
  fun i j => pay119_eq (k0_pay250 x0 x1 x2 x3 x4 x5 x6 x7 x8 x9 x10 x11 x12 x13 x14 x15 x16) (k0_pay264 x0 x1 x2 x3 x4 x5 x6 x7 x8 x9 x10 x11 x12 x13 x14 x15 x16) (k0_pay267 x0 x1 x2 x3 x4 x5 x6 x7 x8 x9 x10 x11 x12 x13 x14 x15 x16) (k0_pay272 x0 x1 x2 x3 x4 x5 x6 x7 x8 x9 x10 x11 x12 x13 x14 x15 x16) (k0_pay277 x0 x1 x2 x3 x4 x5 x6 x7 x8 x9 x10 x11 x12 x13 x14 x15 x16) (k0_pay281 x0 x1 x2 x3 x4 x5 x6 x7 x8 x9 x10 x11 x12 x13 x14 x15 x16) (k0_pay284 x0 x1 x2 x3 x4 x5 x6 x7 x8 x9 x10 x11 x12 x13 x14 x15 x16) (cc p.X) (hv248 h) (hv407 h) (hv502 h) (hv548 h) (hv594 h) (hv623 h) (hv359 h) i j i j rfl rfl

/-- A whole table. -/
theorem h647 : ∀ i j : Fin 64, (k0_pay288 x0 x1 x2 x3 x4 x5 x6 x7 x8 x9 x10 x11 x12 x13 x14 x15 x16) (ix2 i j) = rvl p.X i j :=
  fun i j => pay120_eq (k0_pay249 x0 x1 x2 x3 x4 x5 x6 x7 x8 x9 x10 x11 x12 x13 x14 x15 x16) (k0_pay263 x0 x1 x2 x3 x4 x5 x6 x7 x8 x9 x10 x11 x12 x13 x14 x15 x16) (k0_pay268 x0 x1 x2 x3 x4 x5 x6 x7 x8 x9 x10 x11 x12 x13 x14 x15 x16) (k0_pay273 x0 x1 x2 x3 x4 x5 x6 x7 x8 x9 x10 x11 x12 x13 x14 x15 x16) (k0_pay278 x0 x1 x2 x3 x4 x5 x6 x7 x8 x9 x10 x11 x12 x13 x14 x15 x16) (k0_pay282 x0 x1 x2 x3 x4 x5 x6 x7 x8 x9 x10 x11 x12 x13 x14 x15 x16) (k0_pay283 x0 x1 x2 x3 x4 x5 x6 x7 x8 x9 x10 x11 x12 x13 x14 x15 x16) (k0_pay285 x0 x1 x2 x3 x4 x5 x6 x7 x8 x9 x10 x11 x12 x13 x14 x15 x16) (cc p.X) (hv244 h) (hv408 h) (hv503 h) (hv549 h) (hv595 h) (hv609 h) (hv625 h) (hv355 h) i j i j rfl rfl

/-- A value of the body. -/
theorem h648 : ∀ i j : Fin 64, (k0_pay286 x0 x1 x2 x3 x4 x5 x6 x7 x8 x9 x10 x11 x12 x13 x14 x15 x16) (ix2 i j) = BitVec.ofNat 32 j.val :=
  fun i j => by
  clear h
  unfold k0_pay286; pointwise

/-- A round. -/
theorem h668 : ∀ i j : Fin 64, (k0_pay290 x0 x1 x2 x3 x4 x5 x6 x7 x8 x9 x10 x11 x12 x13 x14 x15 x16) (ix2 i j) = cur (cmx p.X i) 1 j :=
  fun i j => pay125_eq (k0_pay248 x0 x1 x2 x3 x4 x5 x6 x7 x8 x9 x10 x11 x12 x13 x14 x15 x16) (k0_pay261 x0 x1 x2 x3 x4 x5 x6 x7 x8 x9 x10 x11 x12 x13 x14 x15 x16) (k0_pay266 x0 x1 x2 x3 x4 x5 x6 x7 x8 x9 x10 x11 x12 x13 x14 x15 x16) (k0_pay271 x0 x1 x2 x3 x4 x5 x6 x7 x8 x9 x10 x11 x12 x13 x14 x15 x16) (k0_pay276 x0 x1 x2 x3 x4 x5 x6 x7 x8 x9 x10 x11 x12 x13 x14 x15 x16) (k0_pay280 x0 x1 x2 x3 x4 x5 x6 x7 x8 x9 x10 x11 x12 x13 x14 x15 x16) (k0_pay283 x0 x1 x2 x3 x4 x5 x6 x7 x8 x9 x10 x11 x12 x13 x14 x15 x16) (cmx p.X) (h118 h) i j

/-- A round. -/
theorem h671 : ∀ i j : Fin 64, (k0_pay291 x0 x1 x2 x3 x4 x5 x6 x7 x8 x9 x10 x11 x12 x13 x14 x15 x16) (ix2 i j) = cur (cmx p.X i) 1 (ldr p.X i 1) :=
  fun i j => pay126_eq (k0_pay248 x0 x1 x2 x3 x4 x5 x6 x7 x8 x9 x10 x11 x12 x13 x14 x15 x16) (k0_pay261 x0 x1 x2 x3 x4 x5 x6 x7 x8 x9 x10 x11 x12 x13 x14 x15 x16) (k0_pay266 x0 x1 x2 x3 x4 x5 x6 x7 x8 x9 x10 x11 x12 x13 x14 x15 x16) (k0_pay271 x0 x1 x2 x3 x4 x5 x6 x7 x8 x9 x10 x11 x12 x13 x14 x15 x16) (k0_pay276 x0 x1 x2 x3 x4 x5 x6 x7 x8 x9 x10 x11 x12 x13 x14 x15 x16) (k0_pay280 x0 x1 x2 x3 x4 x5 x6 x7 x8 x9 x10 x11 x12 x13 x14 x15 x16) (k0_pay283 x0 x1 x2 x3 x4 x5 x6 x7 x8 x9 x10 x11 x12 x13 x14 x15 x16) (cmx p.X) (h118 h) i j

/-- A round. -/
theorem h708 : ∀ i j : Fin 64, (k0_pay294 x0 x1 x2 x3 x4 x5 x6 x7 x8 x9 x10 x11 x12 x13 x14 x15 x16) (ix2 i j) = cur (cmx p.X i) 3 j :=
  fun i j => pay136_eq (k0_pay286 x0 x1 x2 x3 x4 x5 x6 x7 x8 x9 x10 x11 x12 x13 x14 x15 x16) (k0_pay290 x0 x1 x2 x3 x4 x5 x6 x7 x8 x9 x10 x11 x12 x13 x14 x15 x16) (k0_pay291 x0 x1 x2 x3 x4 x5 x6 x7 x8 x9 x10 x11 x12 x13 x14 x15 x16) (cmx p.X) (h648 h) (h668 h) (h671 h) i j

/-- A round. -/
theorem h714 : ∀ i j : Fin 64, (k0_pay295 x0 x1 x2 x3 x4 x5 x6 x7 x8 x9 x10 x11 x12 x13 x14 x15 x16) (ix2 i j) = if cur (cmx p.X i) 3 (ldr p.X i 3) ≤ cur (cmx p.X i) 3 j then BitVec.ofNat 32 j.val else 64#32 :=
  fun i j => pay137_eq (k0_pay286 x0 x1 x2 x3 x4 x5 x6 x7 x8 x9 x10 x11 x12 x13 x14 x15 x16) (k0_pay290 x0 x1 x2 x3 x4 x5 x6 x7 x8 x9 x10 x11 x12 x13 x14 x15 x16) (k0_pay291 x0 x1 x2 x3 x4 x5 x6 x7 x8 x9 x10 x11 x12 x13 x14 x15 x16) (cmx p.X) (h648 h) (h668 h) (h671 h) i j

/-- A round. -/
theorem h748 : ∀ i j : Fin 64, (k0_pay298 x0 x1 x2 x3 x4 x5 x6 x7 x8 x9 x10 x11 x12 x13 x14 x15 x16) (ix2 i j) = cur (cmx p.X i) 5 j :=
  fun i j => pay147_eq (k0_pay286 x0 x1 x2 x3 x4 x5 x6 x7 x8 x9 x10 x11 x12 x13 x14 x15 x16) (k0_pay294 x0 x1 x2 x3 x4 x5 x6 x7 x8 x9 x10 x11 x12 x13 x14 x15 x16) (k0_pay295 x0 x1 x2 x3 x4 x5 x6 x7 x8 x9 x10 x11 x12 x13 x14 x15 x16) (cmx p.X) (h648 h) (h708 h) (h714 h) i j

/-- A round. -/
theorem h757 : ∀ i j : Fin 64, (k0_pay299 x0 x1 x2 x3 x4 x5 x6 x7 x8 x9 x10 x11 x12 x13 x14 x15 x16) (ix2 i j) = BitVec.ofNat 32 (ldr p.X i 5).val :=
  fun i j => pay149_eq (k0_pay286 x0 x1 x2 x3 x4 x5 x6 x7 x8 x9 x10 x11 x12 x13 x14 x15 x16) (k0_pay294 x0 x1 x2 x3 x4 x5 x6 x7 x8 x9 x10 x11 x12 x13 x14 x15 x16) (k0_pay295 x0 x1 x2 x3 x4 x5 x6 x7 x8 x9 x10 x11 x12 x13 x14 x15 x16) (cmx p.X) (h648 h) (h708 h) (h714 h) i j

/-- A round. -/
theorem h798 : ∀ i j : Fin 64, (k0_pay302 x0 x1 x2 x3 x4 x5 x6 x7 x8 x9 x10 x11 x12 x13 x14 x15 x16) (ix2 i j) = hot j (ldr p.X i 7) :=
  fun i j => pay159_eq (k0_pay286 x0 x1 x2 x3 x4 x5 x6 x7 x8 x9 x10 x11 x12 x13 x14 x15 x16) (k0_pay298 x0 x1 x2 x3 x4 x5 x6 x7 x8 x9 x10 x11 x12 x13 x14 x15 x16) (k0_pay299 x0 x1 x2 x3 x4 x5 x6 x7 x8 x9 x10 x11 x12 x13 x14 x15 x16) (cmx p.X) (h648 h) (h748 h) (h757 h) i j

/-- A round. -/
theorem pk0 : ∀ i : Fin 64, (k0_pay289 x0 x1 x2 x3 x4 x5 x6 x7 x8 x9 x10 x11 x12 x13 x14 x15 x16) (ix2 i 0) = rk p.X i 0 :=
  fun i => pay124_eq (k0_pay248 x0 x1 x2 x3 x4 x5 x6 x7 x8 x9 x10 x11 x12 x13 x14 x15 x16) (k0_pay249 x0 x1 x2 x3 x4 x5 x6 x7 x8 x9 x10 x11 x12 x13 x14 x15 x16) (k0_pay261 x0 x1 x2 x3 x4 x5 x6 x7 x8 x9 x10 x11 x12 x13 x14 x15 x16) (k0_pay263 x0 x1 x2 x3 x4 x5 x6 x7 x8 x9 x10 x11 x12 x13 x14 x15 x16) (k0_pay266 x0 x1 x2 x3 x4 x5 x6 x7 x8 x9 x10 x11 x12 x13 x14 x15 x16) (k0_pay268 x0 x1 x2 x3 x4 x5 x6 x7 x8 x9 x10 x11 x12 x13 x14 x15 x16) (k0_pay271 x0 x1 x2 x3 x4 x5 x6 x7 x8 x9 x10 x11 x12 x13 x14 x15 x16) (k0_pay273 x0 x1 x2 x3 x4 x5 x6 x7 x8 x9 x10 x11 x12 x13 x14 x15 x16) (k0_pay276 x0 x1 x2 x3 x4 x5 x6 x7 x8 x9 x10 x11 x12 x13 x14 x15 x16) (k0_pay278 x0 x1 x2 x3 x4 x5 x6 x7 x8 x9 x10 x11 x12 x13 x14 x15 x16) (k0_pay280 x0 x1 x2 x3 x4 x5 x6 x7 x8 x9 x10 x11 x12 x13 x14 x15 x16) (k0_pay282 x0 x1 x2 x3 x4 x5 x6 x7 x8 x9 x10 x11 x12 x13 x14 x15 x16) (k0_pay283 x0 x1 x2 x3 x4 x5 x6 x7 x8 x9 x10 x11 x12 x13 x14 x15 x16) (k0_pay285 x0 x1 x2 x3 x4 x5 x6 x7 x8 x9 x10 x11 x12 x13 x14 x15 x16) 0#32 (cmx p.X) (rvl p.X) (h118 h) (h647 h) i

/-- A round. -/
theorem pk1 : ∀ i : Fin 64, (k0_pay292 x0 x1 x2 x3 x4 x5 x6 x7 x8 x9 x10 x11 x12 x13 x14 x15 x16) (ix2 i 0) = rk p.X i 1 :=
  fun i => pay130_eq (k0_pay288 x0 x1 x2 x3 x4 x5 x6 x7 x8 x9 x10 x11 x12 x13 x14 x15 x16) (k0_pay286 x0 x1 x2 x3 x4 x5 x6 x7 x8 x9 x10 x11 x12 x13 x14 x15 x16) (k0_pay290 x0 x1 x2 x3 x4 x5 x6 x7 x8 x9 x10 x11 x12 x13 x14 x15 x16) (k0_pay291 x0 x1 x2 x3 x4 x5 x6 x7 x8 x9 x10 x11 x12 x13 x14 x15 x16) (cmx p.X) (rvl p.X) (h647 h) (h648 h) (h668 h) (h671 h) i

/-- A round. -/
theorem pk2 : ∀ i : Fin 64, (k0_pay293 x0 x1 x2 x3 x4 x5 x6 x7 x8 x9 x10 x11 x12 x13 x14 x15 x16) (ix2 i 0) = rk p.X i 2 :=
  fun i => pay135_eq (k0_pay288 x0 x1 x2 x3 x4 x5 x6 x7 x8 x9 x10 x11 x12 x13 x14 x15 x16) (k0_pay286 x0 x1 x2 x3 x4 x5 x6 x7 x8 x9 x10 x11 x12 x13 x14 x15 x16) (k0_pay290 x0 x1 x2 x3 x4 x5 x6 x7 x8 x9 x10 x11 x12 x13 x14 x15 x16) (k0_pay291 x0 x1 x2 x3 x4 x5 x6 x7 x8 x9 x10 x11 x12 x13 x14 x15 x16) (cmx p.X) (rvl p.X) (h647 h) (h648 h) (h668 h) (h671 h) i

/-- A round. -/
theorem pk3 : ∀ i : Fin 64, (k0_pay296 x0 x1 x2 x3 x4 x5 x6 x7 x8 x9 x10 x11 x12 x13 x14 x15 x16) (ix2 i 0) = rk p.X i 3 :=
  fun i => pay141_eq (k0_pay288 x0 x1 x2 x3 x4 x5 x6 x7 x8 x9 x10 x11 x12 x13 x14 x15 x16) (k0_pay286 x0 x1 x2 x3 x4 x5 x6 x7 x8 x9 x10 x11 x12 x13 x14 x15 x16) (k0_pay295 x0 x1 x2 x3 x4 x5 x6 x7 x8 x9 x10 x11 x12 x13 x14 x15 x16) (cmx p.X) (rvl p.X) (h647 h) (h648 h) (h714 h) i

/-- A round. -/
theorem pk4 : ∀ i : Fin 64, (k0_pay297 x0 x1 x2 x3 x4 x5 x6 x7 x8 x9 x10 x11 x12 x13 x14 x15 x16) (ix2 i 0) = rk p.X i 4 :=
  fun i => pay146_eq (k0_pay288 x0 x1 x2 x3 x4 x5 x6 x7 x8 x9 x10 x11 x12 x13 x14 x15 x16) (k0_pay286 x0 x1 x2 x3 x4 x5 x6 x7 x8 x9 x10 x11 x12 x13 x14 x15 x16) (k0_pay294 x0 x1 x2 x3 x4 x5 x6 x7 x8 x9 x10 x11 x12 x13 x14 x15 x16) (k0_pay295 x0 x1 x2 x3 x4 x5 x6 x7 x8 x9 x10 x11 x12 x13 x14 x15 x16) (cmx p.X) (rvl p.X) (h647 h) (h648 h) (h708 h) (h714 h) i

/-- A round. -/
theorem pk5 : ∀ i : Fin 64, (k0_pay300 x0 x1 x2 x3 x4 x5 x6 x7 x8 x9 x10 x11 x12 x13 x14 x15 x16) (ix2 i 0) = rk p.X i 5 :=
  fun i => pay152_eq (k0_pay288 x0 x1 x2 x3 x4 x5 x6 x7 x8 x9 x10 x11 x12 x13 x14 x15 x16) (k0_pay286 x0 x1 x2 x3 x4 x5 x6 x7 x8 x9 x10 x11 x12 x13 x14 x15 x16) (k0_pay299 x0 x1 x2 x3 x4 x5 x6 x7 x8 x9 x10 x11 x12 x13 x14 x15 x16) (cmx p.X) (rvl p.X) (h647 h) (h648 h) (h757 h) i

/-- A round. -/
theorem pk6 : ∀ i : Fin 64, (k0_pay301 x0 x1 x2 x3 x4 x5 x6 x7 x8 x9 x10 x11 x12 x13 x14 x15 x16) (ix2 i 0) = rk p.X i 6 :=
  fun i => pay157_eq (k0_pay288 x0 x1 x2 x3 x4 x5 x6 x7 x8 x9 x10 x11 x12 x13 x14 x15 x16) (k0_pay286 x0 x1 x2 x3 x4 x5 x6 x7 x8 x9 x10 x11 x12 x13 x14 x15 x16) (k0_pay298 x0 x1 x2 x3 x4 x5 x6 x7 x8 x9 x10 x11 x12 x13 x14 x15 x16) (k0_pay299 x0 x1 x2 x3 x4 x5 x6 x7 x8 x9 x10 x11 x12 x13 x14 x15 x16) (cmx p.X) (rvl p.X) (h647 h) (h648 h) (h748 h) (h757 h) i

/-- A round. -/
theorem pk7 : ∀ i : Fin 64, (k0_pay303 x0 x1 x2 x3 x4 x5 x6 x7 x8 x9 x10 x11 x12 x13 x14 x15 x16) (ix2 i 0) = rk p.X i 7 :=
  fun i => pay161_eq (k0_pay288 x0 x1 x2 x3 x4 x5 x6 x7 x8 x9 x10 x11 x12 x13 x14 x15 x16) (k0_pay302 x0 x1 x2 x3 x4 x5 x6 x7 x8 x9 x10 x11 x12 x13 x14 x15 x16) (cmx p.X) (rvl p.X) (h647 h) (h798 h) i

/-- A round. -/
theorem ld0 : ∀ i : Fin 64, (k0_pay121 (k0_pay248 x0 x1 x2 x3 x4 x5 x6 x7 x8 x9 x10 x11 x12 x13 x14 x15 x16) (k0_pay261 x0 x1 x2 x3 x4 x5 x6 x7 x8 x9 x10 x11 x12 x13 x14 x15 x16) (k0_pay266 x0 x1 x2 x3 x4 x5 x6 x7 x8 x9 x10 x11 x12 x13 x14 x15 x16) (k0_pay271 x0 x1 x2 x3 x4 x5 x6 x7 x8 x9 x10 x11 x12 x13 x14 x15 x16) (k0_pay276 x0 x1 x2 x3 x4 x5 x6 x7 x8 x9 x10 x11 x12 x13 x14 x15 x16) (k0_pay280 x0 x1 x2 x3 x4 x5 x6 x7 x8 x9 x10 x11 x12 x13 x14 x15 x16) (k0_pay283 x0 x1 x2 x3 x4 x5 x6 x7 x8 x9 x10 x11 x12 x13 x14 x15 x16)) (ix2 i 0) = BitVec.ofNat 32 (ldr p.X i 0).val :=
  fun i => pay121_eq (k0_pay248 x0 x1 x2 x3 x4 x5 x6 x7 x8 x9 x10 x11 x12 x13 x14 x15 x16) (k0_pay261 x0 x1 x2 x3 x4 x5 x6 x7 x8 x9 x10 x11 x12 x13 x14 x15 x16) (k0_pay266 x0 x1 x2 x3 x4 x5 x6 x7 x8 x9 x10 x11 x12 x13 x14 x15 x16) (k0_pay271 x0 x1 x2 x3 x4 x5 x6 x7 x8 x9 x10 x11 x12 x13 x14 x15 x16) (k0_pay276 x0 x1 x2 x3 x4 x5 x6 x7 x8 x9 x10 x11 x12 x13 x14 x15 x16) (k0_pay280 x0 x1 x2 x3 x4 x5 x6 x7 x8 x9 x10 x11 x12 x13 x14 x15 x16) (k0_pay283 x0 x1 x2 x3 x4 x5 x6 x7 x8 x9 x10 x11 x12 x13 x14 x15 x16) (cmx p.X) (h118 h) i

/-- A round. -/
theorem ld1 : ∀ i : Fin 64, (k0_pay127 (k0_pay286 x0 x1 x2 x3 x4 x5 x6 x7 x8 x9 x10 x11 x12 x13 x14 x15 x16) (k0_pay290 x0 x1 x2 x3 x4 x5 x6 x7 x8 x9 x10 x11 x12 x13 x14 x15 x16) (k0_pay291 x0 x1 x2 x3 x4 x5 x6 x7 x8 x9 x10 x11 x12 x13 x14 x15 x16)) (ix2 i 0) = BitVec.ofNat 32 (ldr p.X i 1).val :=
  fun i => pay127_eq (k0_pay286 x0 x1 x2 x3 x4 x5 x6 x7 x8 x9 x10 x11 x12 x13 x14 x15 x16) (k0_pay290 x0 x1 x2 x3 x4 x5 x6 x7 x8 x9 x10 x11 x12 x13 x14 x15 x16) (k0_pay291 x0 x1 x2 x3 x4 x5 x6 x7 x8 x9 x10 x11 x12 x13 x14 x15 x16) (cmx p.X) (h648 h) (h668 h) (h671 h) i

/-- A round. -/
theorem ld2 : ∀ i : Fin 64, (k0_pay132 (k0_pay286 x0 x1 x2 x3 x4 x5 x6 x7 x8 x9 x10 x11 x12 x13 x14 x15 x16) (k0_pay290 x0 x1 x2 x3 x4 x5 x6 x7 x8 x9 x10 x11 x12 x13 x14 x15 x16) (k0_pay291 x0 x1 x2 x3 x4 x5 x6 x7 x8 x9 x10 x11 x12 x13 x14 x15 x16)) (ix2 i 0) = BitVec.ofNat 32 (ldr p.X i 2).val :=
  fun i => pay132_eq (k0_pay286 x0 x1 x2 x3 x4 x5 x6 x7 x8 x9 x10 x11 x12 x13 x14 x15 x16) (k0_pay290 x0 x1 x2 x3 x4 x5 x6 x7 x8 x9 x10 x11 x12 x13 x14 x15 x16) (k0_pay291 x0 x1 x2 x3 x4 x5 x6 x7 x8 x9 x10 x11 x12 x13 x14 x15 x16) (cmx p.X) (h648 h) (h668 h) (h671 h) i

/-- A round. -/
theorem ld3 : ∀ i : Fin 64, (k0_pay138 (k0_pay295 x0 x1 x2 x3 x4 x5 x6 x7 x8 x9 x10 x11 x12 x13 x14 x15 x16)) (ix2 i 0) = BitVec.ofNat 32 (ldr p.X i 3).val :=
  fun i => pay138_eq (k0_pay295 x0 x1 x2 x3 x4 x5 x6 x7 x8 x9 x10 x11 x12 x13 x14 x15 x16) (cmx p.X) (h714 h) i

/-- A round. -/
theorem ld4 : ∀ i : Fin 64, (k0_pay143 (k0_pay286 x0 x1 x2 x3 x4 x5 x6 x7 x8 x9 x10 x11 x12 x13 x14 x15 x16) (k0_pay294 x0 x1 x2 x3 x4 x5 x6 x7 x8 x9 x10 x11 x12 x13 x14 x15 x16) (k0_pay295 x0 x1 x2 x3 x4 x5 x6 x7 x8 x9 x10 x11 x12 x13 x14 x15 x16)) (ix2 i 0) = BitVec.ofNat 32 (ldr p.X i 4).val :=
  fun i => pay143_eq (k0_pay286 x0 x1 x2 x3 x4 x5 x6 x7 x8 x9 x10 x11 x12 x13 x14 x15 x16) (k0_pay294 x0 x1 x2 x3 x4 x5 x6 x7 x8 x9 x10 x11 x12 x13 x14 x15 x16) (k0_pay295 x0 x1 x2 x3 x4 x5 x6 x7 x8 x9 x10 x11 x12 x13 x14 x15 x16) (cmx p.X) (h648 h) (h708 h) (h714 h) i

/-- A round. -/
theorem ld5 : ∀ i : Fin 64, (k0_pay148 (k0_pay286 x0 x1 x2 x3 x4 x5 x6 x7 x8 x9 x10 x11 x12 x13 x14 x15 x16) (k0_pay294 x0 x1 x2 x3 x4 x5 x6 x7 x8 x9 x10 x11 x12 x13 x14 x15 x16) (k0_pay295 x0 x1 x2 x3 x4 x5 x6 x7 x8 x9 x10 x11 x12 x13 x14 x15 x16)) (ix2 i 0) = BitVec.ofNat 32 (ldr p.X i 5).val :=
  fun i => pay148_eq (k0_pay286 x0 x1 x2 x3 x4 x5 x6 x7 x8 x9 x10 x11 x12 x13 x14 x15 x16) (k0_pay294 x0 x1 x2 x3 x4 x5 x6 x7 x8 x9 x10 x11 x12 x13 x14 x15 x16) (k0_pay295 x0 x1 x2 x3 x4 x5 x6 x7 x8 x9 x10 x11 x12 x13 x14 x15 x16) (cmx p.X) (h648 h) (h708 h) (h714 h) i

/-- A round. -/
theorem ld6 : ∀ i : Fin 64, (k0_pay154 (k0_pay286 x0 x1 x2 x3 x4 x5 x6 x7 x8 x9 x10 x11 x12 x13 x14 x15 x16) (k0_pay298 x0 x1 x2 x3 x4 x5 x6 x7 x8 x9 x10 x11 x12 x13 x14 x15 x16) (k0_pay299 x0 x1 x2 x3 x4 x5 x6 x7 x8 x9 x10 x11 x12 x13 x14 x15 x16)) (ix2 i 0) = BitVec.ofNat 32 (ldr p.X i 6).val :=
  fun i => pay154_eq (k0_pay286 x0 x1 x2 x3 x4 x5 x6 x7 x8 x9 x10 x11 x12 x13 x14 x15 x16) (k0_pay298 x0 x1 x2 x3 x4 x5 x6 x7 x8 x9 x10 x11 x12 x13 x14 x15 x16) (k0_pay299 x0 x1 x2 x3 x4 x5 x6 x7 x8 x9 x10 x11 x12 x13 x14 x15 x16) (cmx p.X) (h648 h) (h748 h) (h757 h) i

/-- A round. -/
theorem ld7 : ∀ i : Fin 64, (k0_pay158 (k0_pay286 x0 x1 x2 x3 x4 x5 x6 x7 x8 x9 x10 x11 x12 x13 x14 x15 x16) (k0_pay298 x0 x1 x2 x3 x4 x5 x6 x7 x8 x9 x10 x11 x12 x13 x14 x15 x16) (k0_pay299 x0 x1 x2 x3 x4 x5 x6 x7 x8 x9 x10 x11 x12 x13 x14 x15 x16)) (ix2 i 0) = BitVec.ofNat 32 (ldr p.X i 7).val :=
  fun i => pay158_eq (k0_pay286 x0 x1 x2 x3 x4 x5 x6 x7 x8 x9 x10 x11 x12 x13 x14 x15 x16) (k0_pay298 x0 x1 x2 x3 x4 x5 x6 x7 x8 x9 x10 x11 x12 x13 x14 x15 x16) (k0_pay299 x0 x1 x2 x3 x4 x5 x6 x7 x8 x9 x10 x11 x12 x13 x14 x15 x16) (cmx p.X) (h648 h) (h748 h) (h757 h) i

/-- A round. -/
theorem sh0 : ∀ i : Fin 64, (k0_pay123 (k0_pay248 x0 x1 x2 x3 x4 x5 x6 x7 x8 x9 x10 x11 x12 x13 x14 x15 x16) (k0_pay250 x0 x1 x2 x3 x4 x5 x6 x7 x8 x9 x10 x11 x12 x13 x14 x15 x16) (k0_pay261 x0 x1 x2 x3 x4 x5 x6 x7 x8 x9 x10 x11 x12 x13 x14 x15 x16) (k0_pay264 x0 x1 x2 x3 x4 x5 x6 x7 x8 x9 x10 x11 x12 x13 x14 x15 x16) (k0_pay266 x0 x1 x2 x3 x4 x5 x6 x7 x8 x9 x10 x11 x12 x13 x14 x15 x16) (k0_pay267 x0 x1 x2 x3 x4 x5 x6 x7 x8 x9 x10 x11 x12 x13 x14 x15 x16) (k0_pay271 x0 x1 x2 x3 x4 x5 x6 x7 x8 x9 x10 x11 x12 x13 x14 x15 x16) (k0_pay272 x0 x1 x2 x3 x4 x5 x6 x7 x8 x9 x10 x11 x12 x13 x14 x15 x16) (k0_pay276 x0 x1 x2 x3 x4 x5 x6 x7 x8 x9 x10 x11 x12 x13 x14 x15 x16) (k0_pay277 x0 x1 x2 x3 x4 x5 x6 x7 x8 x9 x10 x11 x12 x13 x14 x15 x16) (k0_pay280 x0 x1 x2 x3 x4 x5 x6 x7 x8 x9 x10 x11 x12 x13 x14 x15 x16) (k0_pay281 x0 x1 x2 x3 x4 x5 x6 x7 x8 x9 x10 x11 x12 x13 x14 x15 x16) (k0_pay283 x0 x1 x2 x3 x4 x5 x6 x7 x8 x9 x10 x11 x12 x13 x14 x15 x16) (k0_pay284 x0 x1 x2 x3 x4 x5 x6 x7 x8 x9 x10 x11 x12 x13 x14 x15 x16)) (ix2 i 0) = BitVec.ofNat 32 (sk p.X i 0) :=
  fun i => pay123_eq (k0_pay248 x0 x1 x2 x3 x4 x5 x6 x7 x8 x9 x10 x11 x12 x13 x14 x15 x16) (k0_pay250 x0 x1 x2 x3 x4 x5 x6 x7 x8 x9 x10 x11 x12 x13 x14 x15 x16) (k0_pay261 x0 x1 x2 x3 x4 x5 x6 x7 x8 x9 x10 x11 x12 x13 x14 x15 x16) (k0_pay264 x0 x1 x2 x3 x4 x5 x6 x7 x8 x9 x10 x11 x12 x13 x14 x15 x16) (k0_pay266 x0 x1 x2 x3 x4 x5 x6 x7 x8 x9 x10 x11 x12 x13 x14 x15 x16) (k0_pay267 x0 x1 x2 x3 x4 x5 x6 x7 x8 x9 x10 x11 x12 x13 x14 x15 x16) (k0_pay271 x0 x1 x2 x3 x4 x5 x6 x7 x8 x9 x10 x11 x12 x13 x14 x15 x16) (k0_pay272 x0 x1 x2 x3 x4 x5 x6 x7 x8 x9 x10 x11 x12 x13 x14 x15 x16) (k0_pay276 x0 x1 x2 x3 x4 x5 x6 x7 x8 x9 x10 x11 x12 x13 x14 x15 x16) (k0_pay277 x0 x1 x2 x3 x4 x5 x6 x7 x8 x9 x10 x11 x12 x13 x14 x15 x16) (k0_pay280 x0 x1 x2 x3 x4 x5 x6 x7 x8 x9 x10 x11 x12 x13 x14 x15 x16) (k0_pay281 x0 x1 x2 x3 x4 x5 x6 x7 x8 x9 x10 x11 x12 x13 x14 x15 x16) (k0_pay283 x0 x1 x2 x3 x4 x5 x6 x7 x8 x9 x10 x11 x12 x13 x14 x15 x16) (k0_pay284 x0 x1 x2 x3 x4 x5 x6 x7 x8 x9 x10 x11 x12 x13 x14 x15 x16) (cmx p.X) (fun i j => BitVec.ofNat 32 (shf p.X i j)) (h118 h) (h646 h) i

/-- A round. -/
theorem sh1 : ∀ i : Fin 64, (k0_pay129 (k0_pay287 x0 x1 x2 x3 x4 x5 x6 x7 x8 x9 x10 x11 x12 x13 x14 x15 x16) (k0_pay286 x0 x1 x2 x3 x4 x5 x6 x7 x8 x9 x10 x11 x12 x13 x14 x15 x16) (k0_pay290 x0 x1 x2 x3 x4 x5 x6 x7 x8 x9 x10 x11 x12 x13 x14 x15 x16) (k0_pay291 x0 x1 x2 x3 x4 x5 x6 x7 x8 x9 x10 x11 x12 x13 x14 x15 x16)) (ix2 i 0) = BitVec.ofNat 32 (sk p.X i 1) :=
  fun i => pay129_eq (k0_pay287 x0 x1 x2 x3 x4 x5 x6 x7 x8 x9 x10 x11 x12 x13 x14 x15 x16) (k0_pay286 x0 x1 x2 x3 x4 x5 x6 x7 x8 x9 x10 x11 x12 x13 x14 x15 x16) (k0_pay290 x0 x1 x2 x3 x4 x5 x6 x7 x8 x9 x10 x11 x12 x13 x14 x15 x16) (k0_pay291 x0 x1 x2 x3 x4 x5 x6 x7 x8 x9 x10 x11 x12 x13 x14 x15 x16) (cmx p.X) (fun i j => BitVec.ofNat 32 (shf p.X i j)) (h646 h) (h648 h) (h668 h) (h671 h) i

/-- A round. -/
theorem sh2 : ∀ i : Fin 64, (k0_pay134 (k0_pay287 x0 x1 x2 x3 x4 x5 x6 x7 x8 x9 x10 x11 x12 x13 x14 x15 x16) (k0_pay286 x0 x1 x2 x3 x4 x5 x6 x7 x8 x9 x10 x11 x12 x13 x14 x15 x16) (k0_pay290 x0 x1 x2 x3 x4 x5 x6 x7 x8 x9 x10 x11 x12 x13 x14 x15 x16) (k0_pay291 x0 x1 x2 x3 x4 x5 x6 x7 x8 x9 x10 x11 x12 x13 x14 x15 x16)) (ix2 i 0) = BitVec.ofNat 32 (sk p.X i 2) :=
  fun i => pay134_eq (k0_pay287 x0 x1 x2 x3 x4 x5 x6 x7 x8 x9 x10 x11 x12 x13 x14 x15 x16) (k0_pay286 x0 x1 x2 x3 x4 x5 x6 x7 x8 x9 x10 x11 x12 x13 x14 x15 x16) (k0_pay290 x0 x1 x2 x3 x4 x5 x6 x7 x8 x9 x10 x11 x12 x13 x14 x15 x16) (k0_pay291 x0 x1 x2 x3 x4 x5 x6 x7 x8 x9 x10 x11 x12 x13 x14 x15 x16) (cmx p.X) (fun i j => BitVec.ofNat 32 (shf p.X i j)) (h646 h) (h648 h) (h668 h) (h671 h) i

/-- A round. -/
theorem sh3 : ∀ i : Fin 64, (k0_pay140 (k0_pay287 x0 x1 x2 x3 x4 x5 x6 x7 x8 x9 x10 x11 x12 x13 x14 x15 x16) (k0_pay286 x0 x1 x2 x3 x4 x5 x6 x7 x8 x9 x10 x11 x12 x13 x14 x15 x16) (k0_pay295 x0 x1 x2 x3 x4 x5 x6 x7 x8 x9 x10 x11 x12 x13 x14 x15 x16)) (ix2 i 0) = BitVec.ofNat 32 (sk p.X i 3) :=
  fun i => pay140_eq (k0_pay287 x0 x1 x2 x3 x4 x5 x6 x7 x8 x9 x10 x11 x12 x13 x14 x15 x16) (k0_pay286 x0 x1 x2 x3 x4 x5 x6 x7 x8 x9 x10 x11 x12 x13 x14 x15 x16) (k0_pay295 x0 x1 x2 x3 x4 x5 x6 x7 x8 x9 x10 x11 x12 x13 x14 x15 x16) (cmx p.X) (fun i j => BitVec.ofNat 32 (shf p.X i j)) (h646 h) (h648 h) (h714 h) i

/-- A round. -/
theorem sh4 : ∀ i : Fin 64, (k0_pay145 (k0_pay287 x0 x1 x2 x3 x4 x5 x6 x7 x8 x9 x10 x11 x12 x13 x14 x15 x16) (k0_pay286 x0 x1 x2 x3 x4 x5 x6 x7 x8 x9 x10 x11 x12 x13 x14 x15 x16) (k0_pay294 x0 x1 x2 x3 x4 x5 x6 x7 x8 x9 x10 x11 x12 x13 x14 x15 x16) (k0_pay295 x0 x1 x2 x3 x4 x5 x6 x7 x8 x9 x10 x11 x12 x13 x14 x15 x16)) (ix2 i 0) = BitVec.ofNat 32 (sk p.X i 4) :=
  fun i => pay145_eq (k0_pay287 x0 x1 x2 x3 x4 x5 x6 x7 x8 x9 x10 x11 x12 x13 x14 x15 x16) (k0_pay286 x0 x1 x2 x3 x4 x5 x6 x7 x8 x9 x10 x11 x12 x13 x14 x15 x16) (k0_pay294 x0 x1 x2 x3 x4 x5 x6 x7 x8 x9 x10 x11 x12 x13 x14 x15 x16) (k0_pay295 x0 x1 x2 x3 x4 x5 x6 x7 x8 x9 x10 x11 x12 x13 x14 x15 x16) (cmx p.X) (fun i j => BitVec.ofNat 32 (shf p.X i j)) (h646 h) (h648 h) (h708 h) (h714 h) i

/-- A round. -/
theorem sh5 : ∀ i : Fin 64, (k0_pay151 (k0_pay287 x0 x1 x2 x3 x4 x5 x6 x7 x8 x9 x10 x11 x12 x13 x14 x15 x16) (k0_pay286 x0 x1 x2 x3 x4 x5 x6 x7 x8 x9 x10 x11 x12 x13 x14 x15 x16) (k0_pay299 x0 x1 x2 x3 x4 x5 x6 x7 x8 x9 x10 x11 x12 x13 x14 x15 x16)) (ix2 i 0) = BitVec.ofNat 32 (sk p.X i 5) :=
  fun i => pay151_eq (k0_pay287 x0 x1 x2 x3 x4 x5 x6 x7 x8 x9 x10 x11 x12 x13 x14 x15 x16) (k0_pay286 x0 x1 x2 x3 x4 x5 x6 x7 x8 x9 x10 x11 x12 x13 x14 x15 x16) (k0_pay299 x0 x1 x2 x3 x4 x5 x6 x7 x8 x9 x10 x11 x12 x13 x14 x15 x16) (cmx p.X) (fun i j => BitVec.ofNat 32 (shf p.X i j)) (h646 h) (h648 h) (h757 h) i

/-- A round. -/
theorem sh6 : ∀ i : Fin 64, (k0_pay156 (k0_pay287 x0 x1 x2 x3 x4 x5 x6 x7 x8 x9 x10 x11 x12 x13 x14 x15 x16) (k0_pay286 x0 x1 x2 x3 x4 x5 x6 x7 x8 x9 x10 x11 x12 x13 x14 x15 x16) (k0_pay298 x0 x1 x2 x3 x4 x5 x6 x7 x8 x9 x10 x11 x12 x13 x14 x15 x16) (k0_pay299 x0 x1 x2 x3 x4 x5 x6 x7 x8 x9 x10 x11 x12 x13 x14 x15 x16)) (ix2 i 0) = BitVec.ofNat 32 (sk p.X i 6) :=
  fun i => pay156_eq (k0_pay287 x0 x1 x2 x3 x4 x5 x6 x7 x8 x9 x10 x11 x12 x13 x14 x15 x16) (k0_pay286 x0 x1 x2 x3 x4 x5 x6 x7 x8 x9 x10 x11 x12 x13 x14 x15 x16) (k0_pay298 x0 x1 x2 x3 x4 x5 x6 x7 x8 x9 x10 x11 x12 x13 x14 x15 x16) (k0_pay299 x0 x1 x2 x3 x4 x5 x6 x7 x8 x9 x10 x11 x12 x13 x14 x15 x16) (cmx p.X) (fun i j => BitVec.ofNat 32 (shf p.X i j)) (h646 h) (h648 h) (h748 h) (h757 h) i

/-- A round. -/
theorem h800 : ∀ i j : Fin 64, (k0_pay160 (k0_pay287 x0 x1 x2 x3 x4 x5 x6 x7 x8 x9 x10 x11 x12 x13 x14 x15 x16) (k0_pay286 x0 x1 x2 x3 x4 x5 x6 x7 x8 x9 x10 x11 x12 x13 x14 x15 x16) (k0_pay298 x0 x1 x2 x3 x4 x5 x6 x7 x8 x9 x10 x11 x12 x13 x14 x15 x16) (k0_pay299 x0 x1 x2 x3 x4 x5 x6 x7 x8 x9 x10 x11 x12 x13 x14 x15 x16)) (ix2 i j) = if j = ldr p.X i 7 then BitVec.ofNat 32 (shf p.X i j) else 0#32 :=
  fun i j => pay160_eq (k0_pay287 x0 x1 x2 x3 x4 x5 x6 x7 x8 x9 x10 x11 x12 x13 x14 x15 x16) (k0_pay286 x0 x1 x2 x3 x4 x5 x6 x7 x8 x9 x10 x11 x12 x13 x14 x15 x16) (k0_pay298 x0 x1 x2 x3 x4 x5 x6 x7 x8 x9 x10 x11 x12 x13 x14 x15 x16) (k0_pay299 x0 x1 x2 x3 x4 x5 x6 x7 x8 x9 x10 x11 x12 x13 x14 x15 x16) (cmx p.X) (fun i j => BitVec.ofNat 32 (shf p.X i j)) (h646 h) (h648 h) (h748 h) (h757 h) i j

/-- A value of the body. -/
theorem sh7 : ∀ i : Fin 64, Finset.fold IntOp.addi (0#32) (fun x : Fin 64 => (k0_pay160 (k0_pay287 x0 x1 x2 x3 x4 x5 x6 x7 x8 x9 x10 x11 x12 x13 x14 x15 x16) (k0_pay286 x0 x1 x2 x3 x4 x5 x6 x7 x8 x9 x10 x11 x12 x13 x14 x15 x16) (k0_pay298 x0 x1 x2 x3 x4 x5 x6 x7 x8 x9 x10 x11 x12 x13 x14 x15 x16) (k0_pay299 x0 x1 x2 x3 x4 x5 x6 x7 x8 x9 x10 x11 x12 x13 x14 x15 x16)) (ix2 i x)) Finset.univ = BitVec.ofNat 32 (sk p.X i 7) :=
  fun i => by
  simp only [h800 h]
  exact fold_hot (ldr p.X i 7) (fun j => BitVec.ofNat 32 (shf p.X i j))

end Cert.Proof
-- ==== Proof.Filters.lean ====
/- The filter bank: the two softmaxes, and the kernel's single sum over states and leaders taken apart. -/
module
public import proofs.«01_k».proof.Proof.Gen.KernelIdeal.Skeleton
public import proofs.«01_k».proof.Proof.Rows
public import Idealize.ShloMosaic.PureOps.Ideal
public import Idealize.ShloMosaic.Lib.Pointwise
@[expose] public section
noncomputable section
namespace Cert.Proof
open Idealize.ShloMosaic Cert.KernelIdeal Cert.KernelIdeal.Gen
set_option maxRecDepth 20000

theorem rk_real (X : Fin 64 → Fin 512 → EReal) (i : Fin 64) (k : ℕ) : ∃ r : ℝ, rk X i k = r := by
  have hc : ∀ (j : Fin 64) (t : Fin 512), ∃ r : ℝ, cc X i j t = r := by
    intro j t
    have hr := fun f => re_real X i f
    have hr' := fun f => re_real X j f
    have hi := fun f => im_real X i f
    have hi' := fun f => im_real X j f
    choose a ha using hr
    choose b hb using hr'
    choose c hc using hi
    choose d hd using hi'
    unfold cc
    simp only [ha, hb, hc, hd, gre, gim, ← EReal.coe_mul, ← EReal.coe_add, ← EReal.coe_sub, coe_sum]
    exact ⟨_, rfl⟩
  unfold rk rvl
  generalize ldr X i k = j
  have hp : ∃ r : ℝ, pm (cc X i j) = r := by
    unfold pm cam
    split
    · obtain ⟨r, hr⟩ := hc j ⟨1 + (pk (cc X i j)).val, by omega⟩
      unfold ab
      rw [hr, ← EReal.coe_neg]
      exact ⟨max r (-r), (EReal.coe_strictMono.monotone.map_max).symm⟩
    · exact ⟨0, rfl⟩
  obtain ⟨r, hr⟩ := hp
  unfold ps
  rw [hr, show Ideal.ofBits .f32 0x3B000000#32 = ((1 / 512 : ℝ) : EReal) by simp [Ideal.ofBits, Ideal.ieee, -EReal.coe_mul]; norm_num]
  split
  · exact ⟨(0 - r) * (1 / 512), by rw [EReal.coe_mul, EReal.coe_sub]; rfl⟩
  · exact ⟨r * (1 / 512), by rw [EReal.coe_mul]⟩

theorem zc_real (X : Fin 64 → Fin 512 → EReal) (T : EReal) (hT : T ≠ 0) (i : Fin 64) (j : Fin 9) : ∃ r : ℝ, zc X T i j = r := by
  have hn : ∃ a : ℝ, (if j.val = 0 then (1 : EReal) else ab (rk X i (j.val - 1))) = a := by
    split
    · exact ⟨1, rfl⟩
    · obtain ⟨r, hr⟩ := rk_real X i (j.val - 1)
      unfold ab
      rw [hr, ← EReal.coe_neg]
      exact ⟨max r (-r), (EReal.coe_strictMono.monotone.map_max).symm⟩
  obtain ⟨a, ha⟩ := hn
  unfold zc
  rw [ha]
  induction T with
  | bot => exact ⟨0, by unfold Ideal.div; rw [if_neg (by simp), EReal.inv_bot, mul_zero]; rfl⟩
  | top => exact ⟨0, by rw [div_top]; rfl⟩
  | coe t => exact ⟨a / t, div_real a t (by exact_mod_cast hT)⟩

/-- A softmax of reals is a real number, never negative. -/
theorem smax_real {n : Nat} [NeZero n] (z : Fin n → EReal) (hz : ∀ j, ∃ r : ℝ, z j = r) (i : Fin n) : 0 ≤ smax z i ∧ smax z i ≠ ⊤ := by
  choose g hg using hz
  have hm : Finset.fold max (Ideal.ofBits .f32 0xFF800000#32) z Finset.univ = z (amax z) := fold_max_amax z
  rw [ofBits_negInf] at hm
  unfold smax
  rw [hm]
  have he : ∀ j, Ideal.exp (z j - z (amax z)) = ((Real.exp (g j - g (amax z)) : ℝ) : EReal) := by
    intro j
    rw [hg j, hg (amax z), ← EReal.coe_sub]; rfl
  simp only [he]
  rw [coe_sum]
  have hp : 0 < ∑ j, Real.exp (g j - g (amax z)) := Finset.sum_pos (fun j _ => Real.exp_pos _) ⟨i, Finset.mem_univ i⟩
  rw [div_real _ _ hp.ne']
  constructor
  · exact_mod_cast div_nonneg (Real.exp_pos _).le hp.le
  · exact EReal.coe_ne_top _

theorem mul_sum_of {ι : Type} (s : Finset ι) (c : EReal) (h0 : 0 ≤ c) (ht : c ≠ ⊤) (f : ι → EReal) : c * ∑ x ∈ s, f x = ∑ x ∈ s, c * f x := by
  classical
  induction s using Finset.induction_on with
  | empty => simp
  | insert a s ha ih => rw [Finset.sum_insert ha, Finset.sum_insert ha, EReal.left_distrib_of_nonneg_of_ne_top h0 ht, ih]

/-- A sum over 64 pairs is a double sum. -/
theorem sum_pairs (F : Fin 64 → EReal) : ∑ x, F x = ∑ k : Fin 8, ∑ s : Fin 8, F ⟨8 * s.val + k.val, by omega⟩ := by
  have h := Fintype.sum_equiv (finProdFinEquiv (m := 8) (n := 8)) (fun p : Fin 8 × Fin 8 => (F ⟨8 * p.1.val + p.2.val, by omega⟩ : EReal)) F (by
    rintro ⟨s, k⟩
    congr 1
    exact Fin.ext (by simp [finProdFinEquiv]; omega))
  rw [← h, Fintype.sum_prod_type_right]

theorem filt_eq (p c : Fin 8 → EReal) (hc : ∀ k, 0 ≤ c k ∧ c k ≠ ⊤) (w : Fin 64 → EReal) (mw : Fin 8 → Fin 6664 → EReal) (mb : Fin 8 → Fin 833 → EReal) (o : Fin 833)
    (hw : ∀ (x : Fin 64), w x = mw ⟨x.val / 8, by omega⟩ ⟨x.val % 8 * 833 + o.val, by omega⟩) :
    (∑ x : Fin 64, p ⟨x.val / 8, by omega⟩ * c ⟨x.val % 8, by omega⟩ * w x) + ∑ s : Fin 8, p s * mb s o = filt p c mw mb o := by
  unfold filt
  congr 1
  rw [sum_pairs]
  refine Finset.sum_congr rfl fun k _ => ?_
  rw [mul_sum_of _ _ (hc k).1 (hc k).2]
  refine Finset.sum_congr rfl fun s _ => ?_
  have h1 : (8 * s.val + k.val) / 8 = s.val := by omega
  have h2 : (8 * s.val + k.val) % 8 = k.val := by omega
  rw [hw]
  simp only [h1, h2]
  rw [mul_comm (p s) (c k), mul_assoc]

theorem col_leaf (v : FVec Ideal S64x1 .f32) (i : Fin 64) (x : Fin 1) (r : Fin 64 → ℕ → EReal) (n k : ℕ) (h : v (ix2 i 0) = r i n) (e : n = k) : v (ix2 i x) = r i k := by
  rw [Subsingleton.elim x 0, h, e]

/-- The leaders' signed peaks side by side. -/
def peaks8 (v666 v686 v706 v726 v746 v766 v786 v806 : FVec Ideal S64x1 .f32) : FVec Ideal S64x8 .f32 :=
  concatenate S64x8 1 [⟨S64x1, v666⟩, ⟨S64x1, v686⟩, ⟨S64x1, v706⟩, ⟨S64x1, v726⟩, ⟨S64x1, v746⟩, ⟨S64x1, v766⟩, ⟨S64x1, v786⟩, ⟨S64x1, v806⟩] concatenates_S64x1_S64x1_S64x1_S64x1_S64x1_S64x1_S64x1_S64x1_S64x8_d1

theorem peaks8_eq (v666 v686 v706 v726 v746 v766 v786 v806 : FVec Ideal S64x1 .f32) (r : Fin 64 → ℕ → EReal)
    (h666 : ∀ i : Fin 64, v666 (ix2 i 0) = r i 0)
    (h686 : ∀ i : Fin 64, v686 (ix2 i 0) = r i 1)
    (h706 : ∀ i : Fin 64, v706 (ix2 i 0) = r i 2)
    (h726 : ∀ i : Fin 64, v726 (ix2 i 0) = r i 3)
    (h746 : ∀ i : Fin 64, v746 (ix2 i 0) = r i 4)
    (h766 : ∀ i : Fin 64, v766 (ix2 i 0) = r i 5)
    (h786 : ∀ i : Fin 64, v786 (ix2 i 0) = r i 6)
    (h806 : ∀ i : Fin 64, v806 (ix2 i 0) = r i 7)
    (i : Fin 64) (k : Fin 8) : peaks8 v666 v686 v706 v726 v746 v766 v786 v806 (ix2 i k) = r i k.val := by
  unfold peaks8
  pointwise
  split
  · exact col_leaf v666 i _ r 0 k.val (h666 i) (by omega)
  split
  · exact col_leaf v686 i _ r 1 k.val (h686 i) (by omega)
  split
  · exact col_leaf v706 i _ r 2 k.val (h706 i) (by omega)
  split
  · exact col_leaf v726 i _ r 3 k.val (h726 i) (by omega)
  split
  · exact col_leaf v746 i _ r 4 k.val (h746 i) (by omega)
  split
  · exact col_leaf v766 i _ r 5 k.val (h766 i) (by omega)
  split
  · exact col_leaf v786 i _ r 6 k.val (h786 i) (by omega)
  · exact col_leaf v806 i _ r 7 k.val (h806 i) (by omega)

theorem inv_scale (x T : EReal) (hT : T ≠ 0) : x * Ideal.div 1 T = Ideal.div x T := by
  unfold Ideal.div; rw [if_neg hT, if_neg hT, one_mul]

/-- The coefficients' numerators. -/
theorem pay168_eq (v666 v686 v706 v726 v746 v766 v786 v806 : FVec Ideal S64x1 .f32) (v929 : Vec Ideal S1x1 .f32) (X : Fin 64 → Fin 512 → EReal) (T : EReal) (hT : T ≠ 0)
    (h929 : v929 (ix2 0 0) = T)
    (h666 : ∀ i : Fin 64, v666 (ix2 i 0) = rk X i 0)
    (h686 : ∀ i : Fin 64, v686 (ix2 i 0) = rk X i 1)
    (h706 : ∀ i : Fin 64, v706 (ix2 i 0) = rk X i 2)
    (h726 : ∀ i : Fin 64, v726 (ix2 i 0) = rk X i 3)
    (h746 : ∀ i : Fin 64, v746 (ix2 i 0) = rk X i 4)
    (h766 : ∀ i : Fin 64, v766 (ix2 i 0) = rk X i 5)
    (h786 : ∀ i : Fin 64, v786 (ix2 i 0) = rk X i 6)
    (h806 : ∀ i : Fin 64, v806 (ix2 i 0) = rk X i 7)
    (i : Fin 64) (j : Fin 9) : k0_pay168 (F := Ideal) v666 v686 v706 v726 v746 v766 v786 v806 v929 (ix2 i j) = Ideal.exp (zc X T i j - Finset.fold max ⊥ (zc X T i) Finset.univ) := by
  have h := peaks8_eq v666 v686 v706 v726 v746 v766 v786 v806 (rk X) h666 h686 h706 h726 h746 h766 h786 h806
  unfold peaks8 at h
  unfold k0_pay168
  generalize concatenate S64x8 1 [⟨S64x1, v666⟩, ⟨S64x1, v686⟩, ⟨S64x1, v706⟩, ⟨S64x1, v726⟩, ⟨S64x1, v746⟩, ⟨S64x1, v766⟩, ⟨S64x1, v786⟩, ⟨S64x1, v806⟩] concatenates_S64x1_S64x1_S64x1_S64x1_S64x1_S64x1_S64x1_S64x1_S64x8_d1 = R at h ⊢
  pointwise
  have hz : ∀ x : Fin 9, (if h : x.val < 1 then (1 : EReal) else FloatOps.absf (R (ix2 i ⟨x.val - 1, by omega⟩))) * Ideal.div 1 (v929 (ix2 0 0)) = zc X T i x := by
    intro x
    rw [h929, inv_scale _ _ hT]
    unfold zc
    congr 1
    by_cases hx : x.val < 1
    · rw [dif_pos hx, if_pos (by omega)]
    · rw [dif_neg hx, if_neg (by omega), absf_ab, h]
  simp only [hz, ofBits_negInf]

/-- Their sum. -/
theorem pay169_eq (v666 v686 v706 v726 v746 v766 v786 v806 : FVec Ideal S64x1 .f32) (v929 : Vec Ideal S1x1 .f32) (X : Fin 64 → Fin 512 → EReal) (T : EReal) (hT : T ≠ 0)
    (h929 : v929 (ix2 0 0) = T)
    (h666 : ∀ i : Fin 64, v666 (ix2 i 0) = rk X i 0)
    (h686 : ∀ i : Fin 64, v686 (ix2 i 0) = rk X i 1)
    (h706 : ∀ i : Fin 64, v706 (ix2 i 0) = rk X i 2)
    (h726 : ∀ i : Fin 64, v726 (ix2 i 0) = rk X i 3)
    (h746 : ∀ i : Fin 64, v746 (ix2 i 0) = rk X i 4)
    (h766 : ∀ i : Fin 64, v766 (ix2 i 0) = rk X i 5)
    (h786 : ∀ i : Fin 64, v786 (ix2 i 0) = rk X i 6)
    (h806 : ∀ i : Fin 64, v806 (ix2 i 0) = rk X i 7)
    (i : Fin 64) : k0_pay169 (F := Ideal) v666 v686 v706 v726 v746 v766 v786 v806 v929 (ix1 i) = ∑ j, Ideal.exp (zc X T i j - Finset.fold max ⊥ (zc X T i) Finset.univ) := by
  have h := pay168_eq v666 v686 v706 v726 v746 v766 v786 v806 v929 X T hT h929 h666 h686 h706 h726 h746 h766 h786 h806
  unfold k0_pay169
  generalize k0_pay168 (F := Ideal) v666 v686 v706 v726 v746 v766 v786 v806 v929 = A at h ⊢
  pointwise
  exact Finset.sum_congr rfl fun j _ => h i j

/-- The filters. -/
theorem pay170_eq (v1 : FVec Ideal S64x512 .f32) (v942 : FVec Ideal S64x9 .f32) (v943 : FVec Ideal S64 .f32) (v948 : Vec Ideal S1x8 .f32) (v950 : Vec Ideal S64x8 .f32)
    (v953 : Vec Ideal S512x8 .f32) (v972 : Vec Ideal S64x833 .f32) (v975 : Vec Ideal S8x833 .f32) (p : Inp) (hT : p.T ≠ 0)
    (h1 : ∀ (i : Fin 64) (t : Fin 512), v1 (ix2 i t) = p.X i t)
    (h942 : ∀ (i : Fin 64) (j : Fin 9), v942 (ix2 i j) = Ideal.exp (zc p.X p.T i j - Finset.fold max ⊥ (zc p.X p.T i) Finset.univ))
    (h943 : ∀ i : Fin 64, v943 (ix1 i) = ∑ j, Ideal.exp (zc p.X p.T i j - Finset.fold max ⊥ (zc p.X p.T i) Finset.univ))
    (h948 : ∀ s : Fin 8, v948 (ix2 0 s) = p.fb s) (h950 : ∀ (i : Fin 64) (s : Fin 8), v950 (ix2 i s) = p.bs i s)
    (h953 : ∀ (t : Fin 512) (s : Fin 8), v953 (ix2 t s) = p.cw s t)
    (h972 : ∀ (x : Fin 64) (o : Fin 833), v972 (ix2 x o) = p.mw ⟨x.val / 8, by omega⟩ ⟨x.val % 8 * 833 + o.val, by omega⟩)
    (h975 : ∀ (s : Fin 8) (o : Fin 833), v975 (ix2 s o) = p.mb s o)
    (i : Fin 64) (o : Fin 833) : k0_pay170 (F := Ideal) v1 v942 v943 v948 v950 v953 v972 v975 (ix2 i o) = flt p i o := by
  unfold k0_pay170
  pointwise [dot_S64x512_S512x8_S64x8_1_0_0_1_n_n, dot_S64x64_S64x833_S64x833_1_0_0_1_n_n, dot_S64x8_S8x833_S64x833_1_0_0_1_n_n]
  simp only [h1, h942, h943, h948, h950, h953, h975, ofBits_negInf]
  unfold flt
  refine Eq.trans ?_ (filt_eq (smax (zp p.X p.cw p.bs p.fb i)) (cf p.X p.T i) (fun k => smax_real _ (zc_real p.X p.T hT i) _) (fun x => v972 (ix2 x o)) p.mw p.mb o (fun x => h972 x o))
  refine congrArg₂ (· + ·) (Finset.sum_congr rfl fun x _ => ?_) rfl
  have hs : (⟨1 + x.val % 8, by omega⟩ : Fin 9) = (⟨x.val % 8, by omega⟩ : Fin 8).succ := Fin.ext (by simp [Fin.succ]; omega)
  unfold cf
  rw [← hs]
  rfl
end Cert.Proof
-- ==== Proof.CompC.lean ====
/- The kernel body's result, in terms of the inputs: windows, filters, mixing, and the block it stores. -/
module
public import proofs.«01_k».proof.Proof.Gen.KernelIdeal.Skeleton
public import proofs.«01_k».proof.Proof.CompB
public import proofs.«01_k».proof.Proof.Rows
public import proofs.«01_k».proof.Proof.Filters
public import proofs.«01_k».proof.Proof.Mixing
public import Idealize.ShloMosaic.Lib.Pipeline.ValueKit.Acc
public import Idealize.ShloMosaic.PureOps.Ideal
public import Idealize.ShloMosaic.Lib.Pointwise
@[expose] public section
noncomputable section
namespace Cert.Proof
open Idealize.ShloMosaic Cert.KernelIdeal Cert.KernelIdeal.Gen
set_option maxRecDepth 20000

variable {x0 : Vec Ideal S1x64x512 .f32} {x1 : Vec Ideal S1x64x96 .f32} {x2 : Vec Ideal S1x1 .f32} {x3 : Vec Ideal S512x8 .f32} {x4 : Vec Ideal S64x8 .f32} {x5 : Vec Ideal S1x8 .f32} {x6 : Vec Ideal S64x833 .f32} {x7 : Vec Ideal S8x833 .f32} {x8 : Vec Ideal S294x98 .f32} {x9 : Vec Ideal S1x98 .f32} {x10 : Vec Ideal S512x256 .f32} {x11 : Vec Ideal S512x256 .f32} {x12 : Vec Ideal S256x512 .f32} {x13 : Vec Ideal S256x512 .f32} {x14 : Vec Ideal S96x98 .f32} {x15 : Vec Ideal S49x96 .f32} {x16 : Vec Ideal S49x96 .f32} {p : Inp} (h : Loads x0 x1 x2 x3 x4 x5 x6 x7 x8 x9 x10 x11 x12 x13 x14 x15 x16 p)
include h

/-- A value of the body. -/
theorem h842 : ∀ q : Fin 512, (k0_pay304 x0 x1 x2 x3 x4 x5 x6 x7 x8 x9 x10 x11 x12 x13 x14 x15 x16) (ix2 q 0) = BitVec.ofNat 32 (sk p.X (rowi q) (q.val / 64)) :=
  fun q => pay162_eq (k0_pay123 (k0_pay248 x0 x1 x2 x3 x4 x5 x6 x7 x8 x9 x10 x11 x12 x13 x14 x15 x16) (k0_pay250 x0 x1 x2 x3 x4 x5 x6 x7 x8 x9 x10 x11 x12 x13 x14 x15 x16) (k0_pay261 x0 x1 x2 x3 x4 x5 x6 x7 x8 x9 x10 x11 x12 x13 x14 x15 x16) (k0_pay264 x0 x1 x2 x3 x4 x5 x6 x7 x8 x9 x10 x11 x12 x13 x14 x15 x16) (k0_pay266 x0 x1 x2 x3 x4 x5 x6 x7 x8 x9 x10 x11 x12 x13 x14 x15 x16) (k0_pay267 x0 x1 x2 x3 x4 x5 x6 x7 x8 x9 x10 x11 x12 x13 x14 x15 x16) (k0_pay271 x0 x1 x2 x3 x4 x5 x6 x7 x8 x9 x10 x11 x12 x13 x14 x15 x16) (k0_pay272 x0 x1 x2 x3 x4 x5 x6 x7 x8 x9 x10 x11 x12 x13 x14 x15 x16) (k0_pay276 x0 x1 x2 x3 x4 x5 x6 x7 x8 x9 x10 x11 x12 x13 x14 x15 x16) (k0_pay277 x0 x1 x2 x3 x4 x5 x6 x7 x8 x9 x10 x11 x12 x13 x14 x15 x16) (k0_pay280 x0 x1 x2 x3 x4 x5 x6 x7 x8 x9 x10 x11 x12 x13 x14 x15 x16) (k0_pay281 x0 x1 x2 x3 x4 x5 x6 x7 x8 x9 x10 x11 x12 x13 x14 x15 x16) (k0_pay283 x0 x1 x2 x3 x4 x5 x6 x7 x8 x9 x10 x11 x12 x13 x14 x15 x16) (k0_pay284 x0 x1 x2 x3 x4 x5 x6 x7 x8 x9 x10 x11 x12 x13 x14 x15 x16)) (k0_pay129 (k0_pay287 x0 x1 x2 x3 x4 x5 x6 x7 x8 x9 x10 x11 x12 x13 x14 x15 x16) (k0_pay286 x0 x1 x2 x3 x4 x5 x6 x7 x8 x9 x10 x11 x12 x13 x14 x15 x16) (k0_pay290 x0 x1 x2 x3 x4 x5 x6 x7 x8 x9 x10 x11 x12 x13 x14 x15 x16) (k0_pay291 x0 x1 x2 x3 x4 x5 x6 x7 x8 x9 x10 x11 x12 x13 x14 x15 x16)) (k0_pay134 (k0_pay287 x0 x1 x2 x3 x4 x5 x6 x7 x8 x9 x10 x11 x12 x13 x14 x15 x16) (k0_pay286 x0 x1 x2 x3 x4 x5 x6 x7 x8 x9 x10 x11 x12 x13 x14 x15 x16) (k0_pay290 x0 x1 x2 x3 x4 x5 x6 x7 x8 x9 x10 x11 x12 x13 x14 x15 x16) (k0_pay291 x0 x1 x2 x3 x4 x5 x6 x7 x8 x9 x10 x11 x12 x13 x14 x15 x16)) (k0_pay140 (k0_pay287 x0 x1 x2 x3 x4 x5 x6 x7 x8 x9 x10 x11 x12 x13 x14 x15 x16) (k0_pay286 x0 x1 x2 x3 x4 x5 x6 x7 x8 x9 x10 x11 x12 x13 x14 x15 x16) (k0_pay295 x0 x1 x2 x3 x4 x5 x6 x7 x8 x9 x10 x11 x12 x13 x14 x15 x16)) (k0_pay145 (k0_pay287 x0 x1 x2 x3 x4 x5 x6 x7 x8 x9 x10 x11 x12 x13 x14 x15 x16) (k0_pay286 x0 x1 x2 x3 x4 x5 x6 x7 x8 x9 x10 x11 x12 x13 x14 x15 x16) (k0_pay294 x0 x1 x2 x3 x4 x5 x6 x7 x8 x9 x10 x11 x12 x13 x14 x15 x16) (k0_pay295 x0 x1 x2 x3 x4 x5 x6 x7 x8 x9 x10 x11 x12 x13 x14 x15 x16)) (k0_pay151 (k0_pay287 x0 x1 x2 x3 x4 x5 x6 x7 x8 x9 x10 x11 x12 x13 x14 x15 x16) (k0_pay286 x0 x1 x2 x3 x4 x5 x6 x7 x8 x9 x10 x11 x12 x13 x14 x15 x16) (k0_pay299 x0 x1 x2 x3 x4 x5 x6 x7 x8 x9 x10 x11 x12 x13 x14 x15 x16)) (k0_pay156 (k0_pay287 x0 x1 x2 x3 x4 x5 x6 x7 x8 x9 x10 x11 x12 x13 x14 x15 x16) (k0_pay286 x0 x1 x2 x3 x4 x5 x6 x7 x8 x9 x10 x11 x12 x13 x14 x15 x16) (k0_pay298 x0 x1 x2 x3 x4 x5 x6 x7 x8 x9 x10 x11 x12 x13 x14 x15 x16) (k0_pay299 x0 x1 x2 x3 x4 x5 x6 x7 x8 x9 x10 x11 x12 x13 x14 x15 x16)) (k0_pay160 (k0_pay287 x0 x1 x2 x3 x4 x5 x6 x7 x8 x9 x10 x11 x12 x13 x14 x15 x16) (k0_pay286 x0 x1 x2 x3 x4 x5 x6 x7 x8 x9 x10 x11 x12 x13 x14 x15 x16) (k0_pay298 x0 x1 x2 x3 x4 x5 x6 x7 x8 x9 x10 x11 x12 x13 x14 x15 x16) (k0_pay299 x0 x1 x2 x3 x4 x5 x6 x7 x8 x9 x10 x11 x12 x13 x14 x15 x16)) (sk p.X) (sh0 h) (sh1 h) (sh2 h) (sh3 h) (sh4 h) (sh5 h) (sh6 h) (sh7 h) q

/-- A value of the body. -/
theorem h855 : ∀ (q : Fin 512) (t : Fin 608), (k0_pay305 x0 x1 x2 x3 x4 x5 x6 x7 x8 x9 x10 x11 x12 x13 x14 x15 x16) (ix2 q t) = sq p.X p.Y (ldr p.X (rowi q) (q.val / 64)) t.val * sgn (rk p.X (rowi q) (q.val / 64)) :=
  fun q t => pay163_eq (k0_pay217 x0 x1 x2 x3 x4 x5 x6 x7 x8 x9 x10 x11 x12 x13 x14 x15 x16) (k0_pay218 x0 x1 x2 x3 x4 x5 x6 x7 x8 x9 x10 x11 x12 x13 x14 x15 x16) (k0_pay288 x0 x1 x2 x3 x4 x5 x6 x7 x8 x9 x10 x11 x12 x13 x14 x15 x16) (k0_pay286 x0 x1 x2 x3 x4 x5 x6 x7 x8 x9 x10 x11 x12 x13 x14 x15 x16) (k0_pay121 (k0_pay248 x0 x1 x2 x3 x4 x5 x6 x7 x8 x9 x10 x11 x12 x13 x14 x15 x16) (k0_pay261 x0 x1 x2 x3 x4 x5 x6 x7 x8 x9 x10 x11 x12 x13 x14 x15 x16) (k0_pay266 x0 x1 x2 x3 x4 x5 x6 x7 x8 x9 x10 x11 x12 x13 x14 x15 x16) (k0_pay271 x0 x1 x2 x3 x4 x5 x6 x7 x8 x9 x10 x11 x12 x13 x14 x15 x16) (k0_pay276 x0 x1 x2 x3 x4 x5 x6 x7 x8 x9 x10 x11 x12 x13 x14 x15 x16) (k0_pay280 x0 x1 x2 x3 x4 x5 x6 x7 x8 x9 x10 x11 x12 x13 x14 x15 x16) (k0_pay283 x0 x1 x2 x3 x4 x5 x6 x7 x8 x9 x10 x11 x12 x13 x14 x15 x16)) (k0_pay289 x0 x1 x2 x3 x4 x5 x6 x7 x8 x9 x10 x11 x12 x13 x14 x15 x16) (k0_pay127 (k0_pay286 x0 x1 x2 x3 x4 x5 x6 x7 x8 x9 x10 x11 x12 x13 x14 x15 x16) (k0_pay290 x0 x1 x2 x3 x4 x5 x6 x7 x8 x9 x10 x11 x12 x13 x14 x15 x16) (k0_pay291 x0 x1 x2 x3 x4 x5 x6 x7 x8 x9 x10 x11 x12 x13 x14 x15 x16)) (k0_pay292 x0 x1 x2 x3 x4 x5 x6 x7 x8 x9 x10 x11 x12 x13 x14 x15 x16) (k0_pay132 (k0_pay286 x0 x1 x2 x3 x4 x5 x6 x7 x8 x9 x10 x11 x12 x13 x14 x15 x16) (k0_pay290 x0 x1 x2 x3 x4 x5 x6 x7 x8 x9 x10 x11 x12 x13 x14 x15 x16) (k0_pay291 x0 x1 x2 x3 x4 x5 x6 x7 x8 x9 x10 x11 x12 x13 x14 x15 x16)) (k0_pay293 x0 x1 x2 x3 x4 x5 x6 x7 x8 x9 x10 x11 x12 x13 x14 x15 x16) (k0_pay138 (k0_pay295 x0 x1 x2 x3 x4 x5 x6 x7 x8 x9 x10 x11 x12 x13 x14 x15 x16)) (k0_pay296 x0 x1 x2 x3 x4 x5 x6 x7 x8 x9 x10 x11 x12 x13 x14 x15 x16) (k0_pay143 (k0_pay286 x0 x1 x2 x3 x4 x5 x6 x7 x8 x9 x10 x11 x12 x13 x14 x15 x16) (k0_pay294 x0 x1 x2 x3 x4 x5 x6 x7 x8 x9 x10 x11 x12 x13 x14 x15 x16) (k0_pay295 x0 x1 x2 x3 x4 x5 x6 x7 x8 x9 x10 x11 x12 x13 x14 x15 x16)) (k0_pay297 x0 x1 x2 x3 x4 x5 x6 x7 x8 x9 x10 x11 x12 x13 x14 x15 x16) (k0_pay148 (k0_pay286 x0 x1 x2 x3 x4 x5 x6 x7 x8 x9 x10 x11 x12 x13 x14 x15 x16) (k0_pay294 x0 x1 x2 x3 x4 x5 x6 x7 x8 x9 x10 x11 x12 x13 x14 x15 x16) (k0_pay295 x0 x1 x2 x3 x4 x5 x6 x7 x8 x9 x10 x11 x12 x13 x14 x15 x16)) (k0_pay300 x0 x1 x2 x3 x4 x5 x6 x7 x8 x9 x10 x11 x12 x13 x14 x15 x16) (k0_pay154 (k0_pay286 x0 x1 x2 x3 x4 x5 x6 x7 x8 x9 x10 x11 x12 x13 x14 x15 x16) (k0_pay298 x0 x1 x2 x3 x4 x5 x6 x7 x8 x9 x10 x11 x12 x13 x14 x15 x16) (k0_pay299 x0 x1 x2 x3 x4 x5 x6 x7 x8 x9 x10 x11 x12 x13 x14 x15 x16)) (k0_pay301 x0 x1 x2 x3 x4 x5 x6 x7 x8 x9 x10 x11 x12 x13 x14 x15 x16) (k0_pay158 (k0_pay286 x0 x1 x2 x3 x4 x5 x6 x7 x8 x9 x10 x11 x12 x13 x14 x15 x16) (k0_pay298 x0 x1 x2 x3 x4 x5 x6 x7 x8 x9 x10 x11 x12 x13 x14 x15 x16) (k0_pay299 x0 x1 x2 x3 x4 x5 x6 x7 x8 x9 x10 x11 x12 x13 x14 x15 x16)) (k0_pay302 x0 x1 x2 x3 x4 x5 x6 x7 x8 x9 x10 x11 x12 x13 x14 x15 x16) (ldr p.X) (rk p.X) (sq p.X p.Y)
    (fun i t => by rw [h19 h]; unfold sq; rw [dif_pos t.isLt])
    (fun i t => by
      rw [h23 h]; unfold sq
      rw [dif_neg (by omega), dif_pos (by have := t.isLt; omega)]
      exact congrArg (yn p.X p.Y i) (Fin.ext (by show t.val = 512 + t.val - 512; omega)))
    (h648 h) (ld0 h) (ld1 h) (ld2 h) (ld3 h) (ld4 h) (ld5 h) (ld6 h) (ld7 h) (pk0 h) (pk1 h) (pk2 h) (pk3 h) (pk4 h) (pk5 h) (pk6 h) (pk7 h) q t

/-- A value of the body. -/
theorem h928 : ∀ (q : Fin 512) (t : Fin 96), (k0_pay306 x0 x1 x2 x3 x4 x5 x6 x7 x8 x9 x10 x11 x12 x13 x14 x15 x16) (ix2 q t) = win p.X p.Y (rowi q) (q.val / 64) t :=
  fun q t => rolls_eq (k0_pay304 x0 x1 x2 x3 x4 x5 x6 x7 x8 x9 x10 x11 x12 x13 x14 x15 x16) (k0_pay305 x0 x1 x2 x3 x4 x5 x6 x7 x8 x9 x10 x11 x12 x13 x14 x15 x16) (fun q => sk p.X (rowi q) (q.val / 64)) (fun q n => sq p.X p.Y (ldr p.X (rowi q) (q.val / 64)) n * sgn (rk p.X (rowi q) (q.val / 64)))
    (fun q => by have := (sk_pos p.X (rowi q) (q.val / 64)).2; omega) (h842 h) (h855 h) q t

/-- A value of the body. -/
theorem h977 : p.T ≠ 0 → ∀ (i : Fin 64) (o : Fin 833), (k0_pay307 x0 x1 x2 x3 x4 x5 x6 x7 x8 x9 x10 x11 x12 x13 x14 x15 x16) (ix2 i o) = flt p i o :=
  fun hT i o => pay170_eq (k0_pay2 (View.ld x0 r0_0)) (k0_pay168 (k0_pay289 x0 x1 x2 x3 x4 x5 x6 x7 x8 x9 x10 x11 x12 x13 x14 x15 x16) (k0_pay292 x0 x1 x2 x3 x4 x5 x6 x7 x8 x9 x10 x11 x12 x13 x14 x15 x16) (k0_pay293 x0 x1 x2 x3 x4 x5 x6 x7 x8 x9 x10 x11 x12 x13 x14 x15 x16) (k0_pay296 x0 x1 x2 x3 x4 x5 x6 x7 x8 x9 x10 x11 x12 x13 x14 x15 x16) (k0_pay297 x0 x1 x2 x3 x4 x5 x6 x7 x8 x9 x10 x11 x12 x13 x14 x15 x16) (k0_pay300 x0 x1 x2 x3 x4 x5 x6 x7 x8 x9 x10 x11 x12 x13 x14 x15 x16) (k0_pay301 x0 x1 x2 x3 x4 x5 x6 x7 x8 x9 x10 x11 x12 x13 x14 x15 x16) (k0_pay303 x0 x1 x2 x3 x4 x5 x6 x7 x8 x9 x10 x11 x12 x13 x14 x15 x16) (View.ld x2 r0_4)) (k0_pay169 (k0_pay289 x0 x1 x2 x3 x4 x5 x6 x7 x8 x9 x10 x11 x12 x13 x14 x15 x16) (k0_pay292 x0 x1 x2 x3 x4 x5 x6 x7 x8 x9 x10 x11 x12 x13 x14 x15 x16) (k0_pay293 x0 x1 x2 x3 x4 x5 x6 x7 x8 x9 x10 x11 x12 x13 x14 x15 x16) (k0_pay296 x0 x1 x2 x3 x4 x5 x6 x7 x8 x9 x10 x11 x12 x13 x14 x15 x16) (k0_pay297 x0 x1 x2 x3 x4 x5 x6 x7 x8 x9 x10 x11 x12 x13 x14 x15 x16) (k0_pay300 x0 x1 x2 x3 x4 x5 x6 x7 x8 x9 x10 x11 x12 x13 x14 x15 x16) (k0_pay301 x0 x1 x2 x3 x4 x5 x6 x7 x8 x9 x10 x11 x12 x13 x14 x15 x16) (k0_pay303 x0 x1 x2 x3 x4 x5 x6 x7 x8 x9 x10 x11 x12 x13 x14 x15 x16) (View.ld x2 r0_4)) (View.ld x5 r0_5) (View.ld x4 r0_6) (View.ld x3 r0_7) (View.ld x6 r0_8) (View.ld x7 r0_9) p hT (fun i t => pay2_eq (View.ld x0 r0_0) p.X h.hX i t)
    (fun i j => pay168_eq (k0_pay289 x0 x1 x2 x3 x4 x5 x6 x7 x8 x9 x10 x11 x12 x13 x14 x15 x16) (k0_pay292 x0 x1 x2 x3 x4 x5 x6 x7 x8 x9 x10 x11 x12 x13 x14 x15 x16) (k0_pay293 x0 x1 x2 x3 x4 x5 x6 x7 x8 x9 x10 x11 x12 x13 x14 x15 x16) (k0_pay296 x0 x1 x2 x3 x4 x5 x6 x7 x8 x9 x10 x11 x12 x13 x14 x15 x16) (k0_pay297 x0 x1 x2 x3 x4 x5 x6 x7 x8 x9 x10 x11 x12 x13 x14 x15 x16) (k0_pay300 x0 x1 x2 x3 x4 x5 x6 x7 x8 x9 x10 x11 x12 x13 x14 x15 x16) (k0_pay301 x0 x1 x2 x3 x4 x5 x6 x7 x8 x9 x10 x11 x12 x13 x14 x15 x16) (k0_pay303 x0 x1 x2 x3 x4 x5 x6 x7 x8 x9 x10 x11 x12 x13 x14 x15 x16) (View.ld x2 r0_4) p.X p.T hT h.h929 (pk0 h) (pk1 h) (pk2 h) (pk3 h) (pk4 h) (pk5 h) (pk6 h) (pk7 h) i j) (fun i => pay169_eq (k0_pay289 x0 x1 x2 x3 x4 x5 x6 x7 x8 x9 x10 x11 x12 x13 x14 x15 x16) (k0_pay292 x0 x1 x2 x3 x4 x5 x6 x7 x8 x9 x10 x11 x12 x13 x14 x15 x16) (k0_pay293 x0 x1 x2 x3 x4 x5 x6 x7 x8 x9 x10 x11 x12 x13 x14 x15 x16) (k0_pay296 x0 x1 x2 x3 x4 x5 x6 x7 x8 x9 x10 x11 x12 x13 x14 x15 x16) (k0_pay297 x0 x1 x2 x3 x4 x5 x6 x7 x8 x9 x10 x11 x12 x13 x14 x15 x16) (k0_pay300 x0 x1 x2 x3 x4 x5 x6 x7 x8 x9 x10 x11 x12 x13 x14 x15 x16) (k0_pay301 x0 x1 x2 x3 x4 x5 x6 x7 x8 x9 x10 x11 x12 x13 x14 x15 x16) (k0_pay303 x0 x1 x2 x3 x4 x5 x6 x7 x8 x9 x10 x11 x12 x13 x14 x15 x16) (View.ld x2 r0_4) p.X p.T hT h.h929 (pk0 h) (pk1 h) (pk2 h) (pk3 h) (pk4 h) (pk5 h) (pk6 h) (pk7 h) i)
    h.h948 h.h950 h.h953 h.h972 h.h975 i o

/-- A value of the body. -/
theorem h981 : ∀ (i : Fin 64) (f : Fin 49), (k0_pay308 x0 x1 x2 x3 x4 x5 x6 x7 x8 x9 x10 x11 x12 x13 x14 x15 x16) (ix2 i f) = re96 (yn p.X p.Y i) f :=
  fun i f => pay172_eq (k0_pay218 x0 x1 x2 x3 x4 x5 x6 x7 x8 x9 x10 x11 x12 x13 x14 x15 x16) (View.ld x14 r0_10) (yn p.X p.Y) (h23 h) h.f0 i f

/-- A value of the body. -/
theorem h982 : ∀ (i : Fin 64) (f : Fin 49), (k0_pay309 x0 x1 x2 x3 x4 x5 x6 x7 x8 x9 x10 x11 x12 x13 x14 x15 x16) (ix2 i f) = im96 (yn p.X p.Y i) f :=
  fun i f => pay173_eq (k0_pay218 x0 x1 x2 x3 x4 x5 x6 x7 x8 x9 x10 x11 x12 x13 x14 x15 x16) (View.ld x14 r0_10) (yn p.X p.Y) (h23 h) h.f1 i f

/-- A value of the body. -/
theorem hDr : ∀ (q : Fin 512) (k : ℕ) (i : Fin 64) (f : Fin 49), q.val = 64 * k + i.val → k0_pay174 (F := Ideal) (k0_pay306 x0 x1 x2 x3 x4 x5 x6 x7 x8 x9 x10 x11 x12 x13 x14 x15 x16) (View.ld x14 r0_10) (ix2 q ⟨f.val, by omega⟩) = re96 (win p.X p.Y i k) f :=
  fun q k i f hq => pay174_re (k0_pay306 x0 x1 x2 x3 x4 x5 x6 x7 x8 x9 x10 x11 x12 x13 x14 x15 x16) (View.ld x14 r0_10) (win p.X p.Y) (h928 h) h.f0 q k i f hq

/-- A value of the body. -/
theorem hDi : ∀ (q : Fin 512) (k : ℕ) (i : Fin 64) (f : Fin 49), q.val = 64 * k + i.val → k0_pay174 (F := Ideal) (k0_pay306 x0 x1 x2 x3 x4 x5 x6 x7 x8 x9 x10 x11 x12 x13 x14 x15 x16) (View.ld x14 r0_10) (ix2 q ⟨49 + f.val, by omega⟩) = im96 (win p.X p.Y i k) f :=
  fun q k i f hq => pay174_im (k0_pay306 x0 x1 x2 x3 x4 x5 x6 x7 x8 x9 x10 x11 x12 x13 x14 x15 x16) (View.ld x14 r0_10) (win p.X p.Y) (h928 h) h.f1 q k i f hq

/-- A value of the body. -/
theorem ext784 : ∀ (i : Fin 64) (f : Fin 49), (extractStridedSlice S64x49 ![0, 784] (k0_pay307 x0 x1 x2 x3 x4 x5 x6 x7 x8 x9 x10 x11 x12 x13 x14 x15 x16) slices_S64x833_o0_784_S64x49) (ix2 i f) = (k0_pay307 x0 x1 x2 x3 x4 x5 x6 x7 x8 x9 x10 x11 x12 x13 x14 x15 x16) (ix2 i ⟨784 + f.val, by omega⟩) :=
  fun i f => by
  clear h
  generalize (k0_pay307 x0 x1 x2 x3 x4 x5 x6 x7 x8 x9 x10 x11 x12 x13 x14 x15 x16) = A
  pointwise

/-- The mixed spectra, real part. -/
theorem hmr : p.T ≠ 0 → ∀ (i : Fin 64) (o : Fin 147), mix3 (k0_pay212 (k0_pay307 x0 x1 x2 x3 x4 x5 x6 x7 x8 x9 x10 x11 x12 x13 x14 x15 x16) (k0_pay310 x0 x1 x2 x3 x4 x5 x6 x7 x8 x9 x10 x11 x12 x13 x14 x15 x16) (k0_pay194 (k0_pay306 x0 x1 x2 x3 x4 x5 x6 x7 x8 x9 x10 x11 x12 x13 x14 x15 x16) (k0_pay307 x0 x1 x2 x3 x4 x5 x6 x7 x8 x9 x10 x11 x12 x13 x14 x15 x16) (View.ld x14 r0_10))) (k0_pay214 (k0_pay307 x0 x1 x2 x3 x4 x5 x6 x7 x8 x9 x10 x11 x12 x13 x14 x15 x16) (k0_pay308 x0 x1 x2 x3 x4 x5 x6 x7 x8 x9 x10 x11 x12 x13 x14 x15 x16) (k0_pay310 x0 x1 x2 x3 x4 x5 x6 x7 x8 x9 x10 x11 x12 x13 x14 x15 x16) (k0_pay188 (k0_pay306 x0 x1 x2 x3 x4 x5 x6 x7 x8 x9 x10 x11 x12 x13 x14 x15 x16) (k0_pay307 x0 x1 x2 x3 x4 x5 x6 x7 x8 x9 x10 x11 x12 x13 x14 x15 x16) (k0_pay308 x0 x1 x2 x3 x4 x5 x6 x7 x8 x9 x10 x11 x12 x13 x14 x15 x16) (View.ld x14 r0_10)) (k0_pay311 x0 x1 x2 x3 x4 x5 x6 x7 x8 x9 x10 x11 x12 x13 x14 x15 x16) (k0_pay192 (k0_pay306 x0 x1 x2 x3 x4 x5 x6 x7 x8 x9 x10 x11 x12 x13 x14 x15 x16) (k0_pay307 x0 x1 x2 x3 x4 x5 x6 x7 x8 x9 x10 x11 x12 x13 x14 x15 x16) (View.ld x14 r0_10))) (mulf (k0_pay308 x0 x1 x2 x3 x4 x5 x6 x7 x8 x9 x10 x11 x12 x13 x14 x15 x16) (extractStridedSlice S64x49 ![0, 784] (k0_pay307 x0 x1 x2 x3 x4 x5 x6 x7 x8 x9 x10 x11 x12 x13 x14 x15 x16) slices_S64x833_o0_784_S64x49)) (ix2 i o) = mixr p i o :=
  fun hT i o => mix3_eq (k0_pay212 (k0_pay307 x0 x1 x2 x3 x4 x5 x6 x7 x8 x9 x10 x11 x12 x13 x14 x15 x16) (k0_pay310 x0 x1 x2 x3 x4 x5 x6 x7 x8 x9 x10 x11 x12 x13 x14 x15 x16) (k0_pay194 (k0_pay306 x0 x1 x2 x3 x4 x5 x6 x7 x8 x9 x10 x11 x12 x13 x14 x15 x16) (k0_pay307 x0 x1 x2 x3 x4 x5 x6 x7 x8 x9 x10 x11 x12 x13 x14 x15 x16) (View.ld x14 r0_10))) (k0_pay214 (k0_pay307 x0 x1 x2 x3 x4 x5 x6 x7 x8 x9 x10 x11 x12 x13 x14 x15 x16) (k0_pay308 x0 x1 x2 x3 x4 x5 x6 x7 x8 x9 x10 x11 x12 x13 x14 x15 x16) (k0_pay310 x0 x1 x2 x3 x4 x5 x6 x7 x8 x9 x10 x11 x12 x13 x14 x15 x16) (k0_pay188 (k0_pay306 x0 x1 x2 x3 x4 x5 x6 x7 x8 x9 x10 x11 x12 x13 x14 x15 x16) (k0_pay307 x0 x1 x2 x3 x4 x5 x6 x7 x8 x9 x10 x11 x12 x13 x14 x15 x16) (k0_pay308 x0 x1 x2 x3 x4 x5 x6 x7 x8 x9 x10 x11 x12 x13 x14 x15 x16) (View.ld x14 r0_10)) (k0_pay311 x0 x1 x2 x3 x4 x5 x6 x7 x8 x9 x10 x11 x12 x13 x14 x15 x16) (k0_pay192 (k0_pay306 x0 x1 x2 x3 x4 x5 x6 x7 x8 x9 x10 x11 x12 x13 x14 x15 x16) (k0_pay307 x0 x1 x2 x3 x4 x5 x6 x7 x8 x9 x10 x11 x12 x13 x14 x15 x16) (View.ld x14 r0_10))) (mulf (k0_pay308 x0 x1 x2 x3 x4 x5 x6 x7 x8 x9 x10 x11 x12 x13 x14 x15 x16) (extractStridedSlice S64x49 ![0, 784] (k0_pay307 x0 x1 x2 x3 x4 x5 x6 x7 x8 x9 x10 x11 x12 x13 x14 x15 x16) slices_S64x833_o0_784_S64x49)) (fun i k => re96 (win p.X p.Y i k)) (fun i => re96 (yn p.X p.Y i)) (flt p)
    (fun i f => (pay212_eq (k0_pay307 x0 x1 x2 x3 x4 x5 x6 x7 x8 x9 x10 x11 x12 x13 x14 x15 x16) (k0_pay306 x0 x1 x2 x3 x4 x5 x6 x7 x8 x9 x10 x11 x12 x13 x14 x15 x16) (View.ld x14 r0_10) (fun i k => re96 (win p.X p.Y i k)) (hDr h) i f).trans (Finset.sum_congr rfl fun k _ => by rw [h977 h hT]))
    (fun i f => (pay214_eq (k0_pay307 x0 x1 x2 x3 x4 x5 x6 x7 x8 x9 x10 x11 x12 x13 x14 x15 x16) (k0_pay306 x0 x1 x2 x3 x4 x5 x6 x7 x8 x9 x10 x11 x12 x13 x14 x15 x16) (View.ld x14 r0_10) (k0_pay308 x0 x1 x2 x3 x4 x5 x6 x7 x8 x9 x10 x11 x12 x13 x14 x15 x16) (fun i k => re96 (win p.X p.Y i k)) (hDr h) i f).trans (Finset.sum_congr rfl fun k _ => by rw [h977 h hT, h977 h hT, h981 h]))
    (fun i f => (congrArg₂ (· * ·) (h981 h i f) ((ext784 h i f).trans (h977 h hT i _)))) i o

/-- The mixed spectra, imaginary part. -/
theorem hmi : p.T ≠ 0 → ∀ (i : Fin 64) (o : Fin 147), mix3 (k0_pay213 (k0_pay307 x0 x1 x2 x3 x4 x5 x6 x7 x8 x9 x10 x11 x12 x13 x14 x15 x16) (k0_pay310 x0 x1 x2 x3 x4 x5 x6 x7 x8 x9 x10 x11 x12 x13 x14 x15 x16) (k0_pay187 (k0_pay306 x0 x1 x2 x3 x4 x5 x6 x7 x8 x9 x10 x11 x12 x13 x14 x15 x16) (k0_pay307 x0 x1 x2 x3 x4 x5 x6 x7 x8 x9 x10 x11 x12 x13 x14 x15 x16) (View.ld x14 r0_10)) (k0_pay312 x0 x1 x2 x3 x4 x5 x6 x7 x8 x9 x10 x11 x12 x13 x14 x15 x16)) (addf (k0_pay207 (k0_pay307 x0 x1 x2 x3 x4 x5 x6 x7 x8 x9 x10 x11 x12 x13 x14 x15 x16) (k0_pay309 x0 x1 x2 x3 x4 x5 x6 x7 x8 x9 x10 x11 x12 x13 x14 x15 x16) (k0_pay310 x0 x1 x2 x3 x4 x5 x6 x7 x8 x9 x10 x11 x12 x13 x14 x15 x16) (k0_pay189 (k0_pay306 x0 x1 x2 x3 x4 x5 x6 x7 x8 x9 x10 x11 x12 x13 x14 x15 x16) (k0_pay307 x0 x1 x2 x3 x4 x5 x6 x7 x8 x9 x10 x11 x12 x13 x14 x15 x16) (k0_pay309 x0 x1 x2 x3 x4 x5 x6 x7 x8 x9 x10 x11 x12 x13 x14 x15 x16) (View.ld x14 r0_10)) (k0_pay311 x0 x1 x2 x3 x4 x5 x6 x7 x8 x9 x10 x11 x12 x13 x14 x15 x16) (k0_pay312 x0 x1 x2 x3 x4 x5 x6 x7 x8 x9 x10 x11 x12 x13 x14 x15 x16)) (mulf (subf (k0_pay211 (k0_pay307 x0 x1 x2 x3 x4 x5 x6 x7 x8 x9 x10 x11 x12 x13 x14 x15 x16) (k0_pay310 x0 x1 x2 x3 x4 x5 x6 x7 x8 x9 x10 x11 x12 x13 x14 x15 x16)) (k0_pay309 x0 x1 x2 x3 x4 x5 x6 x7 x8 x9 x10 x11 x12 x13 x14 x15 x16)) (k0_pay209 (k0_pay307 x0 x1 x2 x3 x4 x5 x6 x7 x8 x9 x10 x11 x12 x13 x14 x15 x16)))) (mulf (k0_pay309 x0 x1 x2 x3 x4 x5 x6 x7 x8 x9 x10 x11 x12 x13 x14 x15 x16) (extractStridedSlice S64x49 ![0, 784] (k0_pay307 x0 x1 x2 x3 x4 x5 x6 x7 x8 x9 x10 x11 x12 x13 x14 x15 x16) slices_S64x833_o0_784_S64x49)) (ix2 i o) = mixi p i o :=
  fun hT i o => mix3_eq (k0_pay213 (k0_pay307 x0 x1 x2 x3 x4 x5 x6 x7 x8 x9 x10 x11 x12 x13 x14 x15 x16) (k0_pay310 x0 x1 x2 x3 x4 x5 x6 x7 x8 x9 x10 x11 x12 x13 x14 x15 x16) (k0_pay187 (k0_pay306 x0 x1 x2 x3 x4 x5 x6 x7 x8 x9 x10 x11 x12 x13 x14 x15 x16) (k0_pay307 x0 x1 x2 x3 x4 x5 x6 x7 x8 x9 x10 x11 x12 x13 x14 x15 x16) (View.ld x14 r0_10)) (k0_pay312 x0 x1 x2 x3 x4 x5 x6 x7 x8 x9 x10 x11 x12 x13 x14 x15 x16)) (addf (k0_pay207 (k0_pay307 x0 x1 x2 x3 x4 x5 x6 x7 x8 x9 x10 x11 x12 x13 x14 x15 x16) (k0_pay309 x0 x1 x2 x3 x4 x5 x6 x7 x8 x9 x10 x11 x12 x13 x14 x15 x16) (k0_pay310 x0 x1 x2 x3 x4 x5 x6 x7 x8 x9 x10 x11 x12 x13 x14 x15 x16) (k0_pay189 (k0_pay306 x0 x1 x2 x3 x4 x5 x6 x7 x8 x9 x10 x11 x12 x13 x14 x15 x16) (k0_pay307 x0 x1 x2 x3 x4 x5 x6 x7 x8 x9 x10 x11 x12 x13 x14 x15 x16) (k0_pay309 x0 x1 x2 x3 x4 x5 x6 x7 x8 x9 x10 x11 x12 x13 x14 x15 x16) (View.ld x14 r0_10)) (k0_pay311 x0 x1 x2 x3 x4 x5 x6 x7 x8 x9 x10 x11 x12 x13 x14 x15 x16) (k0_pay312 x0 x1 x2 x3 x4 x5 x6 x7 x8 x9 x10 x11 x12 x13 x14 x15 x16)) (mulf (subf (k0_pay211 (k0_pay307 x0 x1 x2 x3 x4 x5 x6 x7 x8 x9 x10 x11 x12 x13 x14 x15 x16) (k0_pay310 x0 x1 x2 x3 x4 x5 x6 x7 x8 x9 x10 x11 x12 x13 x14 x15 x16)) (k0_pay309 x0 x1 x2 x3 x4 x5 x6 x7 x8 x9 x10 x11 x12 x13 x14 x15 x16)) (k0_pay209 (k0_pay307 x0 x1 x2 x3 x4 x5 x6 x7 x8 x9 x10 x11 x12 x13 x14 x15 x16)))) (mulf (k0_pay309 x0 x1 x2 x3 x4 x5 x6 x7 x8 x9 x10 x11 x12 x13 x14 x15 x16) (extractStridedSlice S64x49 ![0, 784] (k0_pay307 x0 x1 x2 x3 x4 x5 x6 x7 x8 x9 x10 x11 x12 x13 x14 x15 x16) slices_S64x833_o0_784_S64x49)) (fun i k => im96 (win p.X p.Y i k)) (fun i => im96 (yn p.X p.Y i)) (flt p)
    (fun i f => (pay213_eq (k0_pay307 x0 x1 x2 x3 x4 x5 x6 x7 x8 x9 x10 x11 x12 x13 x14 x15 x16) (k0_pay306 x0 x1 x2 x3 x4 x5 x6 x7 x8 x9 x10 x11 x12 x13 x14 x15 x16) (View.ld x14 r0_10) (fun i k => im96 (win p.X p.Y i k)) (hDi h) i f).trans (Finset.sum_congr rfl fun k _ => by rw [h977 h hT]))
    (fun i f => (pay207_eq (k0_pay307 x0 x1 x2 x3 x4 x5 x6 x7 x8 x9 x10 x11 x12 x13 x14 x15 x16) (k0_pay306 x0 x1 x2 x3 x4 x5 x6 x7 x8 x9 x10 x11 x12 x13 x14 x15 x16) (View.ld x14 r0_10) (k0_pay309 x0 x1 x2 x3 x4 x5 x6 x7 x8 x9 x10 x11 x12 x13 x14 x15 x16) (fun i k => im96 (win p.X p.Y i k)) (hDi h) i f).trans (Finset.sum_congr rfl fun k _ => by rw [h977 h hT, h977 h hT, h982 h]))
    (fun i f => (congrArg₂ (· * ·) (h982 h i f) ((ext784 h i f).trans (h977 h hT i _)))) i o

/-- A value of the body. -/
theorem h1124 : p.T ≠ 0 → ∀ (i : Fin 64) (t : Fin 96), (k0_pay215 (k0_pay218 x0 x1 x2 x3 x4 x5 x6 x7 x8 x9 x10 x11 x12 x13 x14 x15 x16) (k0_pay307 x0 x1 x2 x3 x4 x5 x6 x7 x8 x9 x10 x11 x12 x13 x14 x15 x16) (k0_pay308 x0 x1 x2 x3 x4 x5 x6 x7 x8 x9 x10 x11 x12 x13 x14 x15 x16) (k0_pay309 x0 x1 x2 x3 x4 x5 x6 x7 x8 x9 x10 x11 x12 x13 x14 x15 x16) (k0_pay207 (k0_pay307 x0 x1 x2 x3 x4 x5 x6 x7 x8 x9 x10 x11 x12 x13 x14 x15 x16) (k0_pay309 x0 x1 x2 x3 x4 x5 x6 x7 x8 x9 x10 x11 x12 x13 x14 x15 x16) (k0_pay310 x0 x1 x2 x3 x4 x5 x6 x7 x8 x9 x10 x11 x12 x13 x14 x15 x16) (k0_pay189 (k0_pay306 x0 x1 x2 x3 x4 x5 x6 x7 x8 x9 x10 x11 x12 x13 x14 x15 x16) (k0_pay307 x0 x1 x2 x3 x4 x5 x6 x7 x8 x9 x10 x11 x12 x13 x14 x15 x16) (k0_pay309 x0 x1 x2 x3 x4 x5 x6 x7 x8 x9 x10 x11 x12 x13 x14 x15 x16) (View.ld x14 r0_10)) (k0_pay311 x0 x1 x2 x3 x4 x5 x6 x7 x8 x9 x10 x11 x12 x13 x14 x15 x16) (k0_pay312 x0 x1 x2 x3 x4 x5 x6 x7 x8 x9 x10 x11 x12 x13 x14 x15 x16)) (k0_pay209 (k0_pay307 x0 x1 x2 x3 x4 x5 x6 x7 x8 x9 x10 x11 x12 x13 x14 x15 x16)) (k0_pay211 (k0_pay307 x0 x1 x2 x3 x4 x5 x6 x7 x8 x9 x10 x11 x12 x13 x14 x15 x16) (k0_pay310 x0 x1 x2 x3 x4 x5 x6 x7 x8 x9 x10 x11 x12 x13 x14 x15 x16)) (k0_pay212 (k0_pay307 x0 x1 x2 x3 x4 x5 x6 x7 x8 x9 x10 x11 x12 x13 x14 x15 x16) (k0_pay310 x0 x1 x2 x3 x4 x5 x6 x7 x8 x9 x10 x11 x12 x13 x14 x15 x16) (k0_pay194 (k0_pay306 x0 x1 x2 x3 x4 x5 x6 x7 x8 x9 x10 x11 x12 x13 x14 x15 x16) (k0_pay307 x0 x1 x2 x3 x4 x5 x6 x7 x8 x9 x10 x11 x12 x13 x14 x15 x16) (View.ld x14 r0_10))) (k0_pay213 (k0_pay307 x0 x1 x2 x3 x4 x5 x6 x7 x8 x9 x10 x11 x12 x13 x14 x15 x16) (k0_pay310 x0 x1 x2 x3 x4 x5 x6 x7 x8 x9 x10 x11 x12 x13 x14 x15 x16) (k0_pay187 (k0_pay306 x0 x1 x2 x3 x4 x5 x6 x7 x8 x9 x10 x11 x12 x13 x14 x15 x16) (k0_pay307 x0 x1 x2 x3 x4 x5 x6 x7 x8 x9 x10 x11 x12 x13 x14 x15 x16) (View.ld x14 r0_10)) (k0_pay312 x0 x1 x2 x3 x4 x5 x6 x7 x8 x9 x10 x11 x12 x13 x14 x15 x16)) (k0_pay214 (k0_pay307 x0 x1 x2 x3 x4 x5 x6 x7 x8 x9 x10 x11 x12 x13 x14 x15 x16) (k0_pay308 x0 x1 x2 x3 x4 x5 x6 x7 x8 x9 x10 x11 x12 x13 x14 x15 x16) (k0_pay310 x0 x1 x2 x3 x4 x5 x6 x7 x8 x9 x10 x11 x12 x13 x14 x15 x16) (k0_pay188 (k0_pay306 x0 x1 x2 x3 x4 x5 x6 x7 x8 x9 x10 x11 x12 x13 x14 x15 x16) (k0_pay307 x0 x1 x2 x3 x4 x5 x6 x7 x8 x9 x10 x11 x12 x13 x14 x15 x16) (k0_pay308 x0 x1 x2 x3 x4 x5 x6 x7 x8 x9 x10 x11 x12 x13 x14 x15 x16) (View.ld x14 r0_10)) (k0_pay311 x0 x1 x2 x3 x4 x5 x6 x7 x8 x9 x10 x11 x12 x13 x14 x15 x16) (k0_pay192 (k0_pay306 x0 x1 x2 x3 x4 x5 x6 x7 x8 x9 x10 x11 x12 x13 x14 x15 x16) (k0_pay307 x0 x1 x2 x3 x4 x5 x6 x7 x8 x9 x10 x11 x12 x13 x14 x15 x16) (View.ld x14 r0_10))) (View.ld x8 r0_11) (View.ld x9 r0_12) (View.ld x15 r0_13) (View.ld x16 r0_13)) (ix2 i t) = yn p.X p.Y i t + inv96 (outr (mixr p i) (mixi p i) p.wr p.wi p.br) (outi (mixr p i) (mixi p i) p.wr p.wi p.bi) t :=
  fun hT i t => pay215_eq (k0_pay218 x0 x1 x2 x3 x4 x5 x6 x7 x8 x9 x10 x11 x12 x13 x14 x15 x16) (k0_pay307 x0 x1 x2 x3 x4 x5 x6 x7 x8 x9 x10 x11 x12 x13 x14 x15 x16) (k0_pay308 x0 x1 x2 x3 x4 x5 x6 x7 x8 x9 x10 x11 x12 x13 x14 x15 x16) (k0_pay309 x0 x1 x2 x3 x4 x5 x6 x7 x8 x9 x10 x11 x12 x13 x14 x15 x16) (k0_pay207 (k0_pay307 x0 x1 x2 x3 x4 x5 x6 x7 x8 x9 x10 x11 x12 x13 x14 x15 x16) (k0_pay309 x0 x1 x2 x3 x4 x5 x6 x7 x8 x9 x10 x11 x12 x13 x14 x15 x16) (k0_pay310 x0 x1 x2 x3 x4 x5 x6 x7 x8 x9 x10 x11 x12 x13 x14 x15 x16) (k0_pay189 (k0_pay306 x0 x1 x2 x3 x4 x5 x6 x7 x8 x9 x10 x11 x12 x13 x14 x15 x16) (k0_pay307 x0 x1 x2 x3 x4 x5 x6 x7 x8 x9 x10 x11 x12 x13 x14 x15 x16) (k0_pay309 x0 x1 x2 x3 x4 x5 x6 x7 x8 x9 x10 x11 x12 x13 x14 x15 x16) (View.ld x14 r0_10)) (k0_pay311 x0 x1 x2 x3 x4 x5 x6 x7 x8 x9 x10 x11 x12 x13 x14 x15 x16) (k0_pay312 x0 x1 x2 x3 x4 x5 x6 x7 x8 x9 x10 x11 x12 x13 x14 x15 x16)) (k0_pay209 (k0_pay307 x0 x1 x2 x3 x4 x5 x6 x7 x8 x9 x10 x11 x12 x13 x14 x15 x16)) (k0_pay211 (k0_pay307 x0 x1 x2 x3 x4 x5 x6 x7 x8 x9 x10 x11 x12 x13 x14 x15 x16) (k0_pay310 x0 x1 x2 x3 x4 x5 x6 x7 x8 x9 x10 x11 x12 x13 x14 x15 x16)) (k0_pay212 (k0_pay307 x0 x1 x2 x3 x4 x5 x6 x7 x8 x9 x10 x11 x12 x13 x14 x15 x16) (k0_pay310 x0 x1 x2 x3 x4 x5 x6 x7 x8 x9 x10 x11 x12 x13 x14 x15 x16) (k0_pay194 (k0_pay306 x0 x1 x2 x3 x4 x5 x6 x7 x8 x9 x10 x11 x12 x13 x14 x15 x16) (k0_pay307 x0 x1 x2 x3 x4 x5 x6 x7 x8 x9 x10 x11 x12 x13 x14 x15 x16) (View.ld x14 r0_10))) (k0_pay213 (k0_pay307 x0 x1 x2 x3 x4 x5 x6 x7 x8 x9 x10 x11 x12 x13 x14 x15 x16) (k0_pay310 x0 x1 x2 x3 x4 x5 x6 x7 x8 x9 x10 x11 x12 x13 x14 x15 x16) (k0_pay187 (k0_pay306 x0 x1 x2 x3 x4 x5 x6 x7 x8 x9 x10 x11 x12 x13 x14 x15 x16) (k0_pay307 x0 x1 x2 x3 x4 x5 x6 x7 x8 x9 x10 x11 x12 x13 x14 x15 x16) (View.ld x14 r0_10)) (k0_pay312 x0 x1 x2 x3 x4 x5 x6 x7 x8 x9 x10 x11 x12 x13 x14 x15 x16)) (k0_pay214 (k0_pay307 x0 x1 x2 x3 x4 x5 x6 x7 x8 x9 x10 x11 x12 x13 x14 x15 x16) (k0_pay308 x0 x1 x2 x3 x4 x5 x6 x7 x8 x9 x10 x11 x12 x13 x14 x15 x16) (k0_pay310 x0 x1 x2 x3 x4 x5 x6 x7 x8 x9 x10 x11 x12 x13 x14 x15 x16) (k0_pay188 (k0_pay306 x0 x1 x2 x3 x4 x5 x6 x7 x8 x9 x10 x11 x12 x13 x14 x15 x16) (k0_pay307 x0 x1 x2 x3 x4 x5 x6 x7 x8 x9 x10 x11 x12 x13 x14 x15 x16) (k0_pay308 x0 x1 x2 x3 x4 x5 x6 x7 x8 x9 x10 x11 x12 x13 x14 x15 x16) (View.ld x14 r0_10)) (k0_pay311 x0 x1 x2 x3 x4 x5 x6 x7 x8 x9 x10 x11 x12 x13 x14 x15 x16) (k0_pay192 (k0_pay306 x0 x1 x2 x3 x4 x5 x6 x7 x8 x9 x10 x11 x12 x13 x14 x15 x16) (k0_pay307 x0 x1 x2 x3 x4 x5 x6 x7 x8 x9 x10 x11 x12 x13 x14 x15 x16) (View.ld x14 r0_10))) (View.ld x8 r0_11) (View.ld x9 r0_12) (View.ld x15 r0_13) (View.ld x16 r0_13) (mixr p) (mixi p) (yn p.X p.Y) p.wr p.wi p.br p.bi (h23 h) (hmr h hT) (hmi h hT) h.m00 h.m01 h.m10 h.m11 h.b0 h.b1 h.h1116 h.h1120 i t

/-- The block the body stores holds the layer of that batch. -/
theorem block_eq : p.T ≠ 0 → ∀ (u : Fin 1) (i : Fin 64) (t : Fin 96), out0_17 x0 x1 x2 x3 x4 x5 x6 x7 x8 x9 x10 x11 x12 x13 x14 x15 x16 (ix3 u i t) = result p i t :=
  fun hT u i t => by
  have e : out0_17 x0 x1 x2 x3 x4 x5 x6 x7 x8 x9 x10 x11 x12 x13 x14 x15 x16 = k0_pay1 (k0_pay3 (View.ld x0 r0_0)) (k0_pay5 (View.ld x0 r0_0)) (k0_pay215 (k0_pay218 x0 x1 x2 x3 x4 x5 x6 x7 x8 x9 x10 x11 x12 x13 x14 x15 x16) (k0_pay307 x0 x1 x2 x3 x4 x5 x6 x7 x8 x9 x10 x11 x12 x13 x14 x15 x16) (k0_pay308 x0 x1 x2 x3 x4 x5 x6 x7 x8 x9 x10 x11 x12 x13 x14 x15 x16) (k0_pay309 x0 x1 x2 x3 x4 x5 x6 x7 x8 x9 x10 x11 x12 x13 x14 x15 x16) (k0_pay207 (k0_pay307 x0 x1 x2 x3 x4 x5 x6 x7 x8 x9 x10 x11 x12 x13 x14 x15 x16) (k0_pay309 x0 x1 x2 x3 x4 x5 x6 x7 x8 x9 x10 x11 x12 x13 x14 x15 x16) (k0_pay310 x0 x1 x2 x3 x4 x5 x6 x7 x8 x9 x10 x11 x12 x13 x14 x15 x16) (k0_pay189 (k0_pay306 x0 x1 x2 x3 x4 x5 x6 x7 x8 x9 x10 x11 x12 x13 x14 x15 x16) (k0_pay307 x0 x1 x2 x3 x4 x5 x6 x7 x8 x9 x10 x11 x12 x13 x14 x15 x16) (k0_pay309 x0 x1 x2 x3 x4 x5 x6 x7 x8 x9 x10 x11 x12 x13 x14 x15 x16) (View.ld x14 r0_10)) (k0_pay311 x0 x1 x2 x3 x4 x5 x6 x7 x8 x9 x10 x11 x12 x13 x14 x15 x16) (k0_pay312 x0 x1 x2 x3 x4 x5 x6 x7 x8 x9 x10 x11 x12 x13 x14 x15 x16)) (k0_pay209 (k0_pay307 x0 x1 x2 x3 x4 x5 x6 x7 x8 x9 x10 x11 x12 x13 x14 x15 x16)) (k0_pay211 (k0_pay307 x0 x1 x2 x3 x4 x5 x6 x7 x8 x9 x10 x11 x12 x13 x14 x15 x16) (k0_pay310 x0 x1 x2 x3 x4 x5 x6 x7 x8 x9 x10 x11 x12 x13 x14 x15 x16)) (k0_pay212 (k0_pay307 x0 x1 x2 x3 x4 x5 x6 x7 x8 x9 x10 x11 x12 x13 x14 x15 x16) (k0_pay310 x0 x1 x2 x3 x4 x5 x6 x7 x8 x9 x10 x11 x12 x13 x14 x15 x16) (k0_pay194 (k0_pay306 x0 x1 x2 x3 x4 x5 x6 x7 x8 x9 x10 x11 x12 x13 x14 x15 x16) (k0_pay307 x0 x1 x2 x3 x4 x5 x6 x7 x8 x9 x10 x11 x12 x13 x14 x15 x16) (View.ld x14 r0_10))) (k0_pay213 (k0_pay307 x0 x1 x2 x3 x4 x5 x6 x7 x8 x9 x10 x11 x12 x13 x14 x15 x16) (k0_pay310 x0 x1 x2 x3 x4 x5 x6 x7 x8 x9 x10 x11 x12 x13 x14 x15 x16) (k0_pay187 (k0_pay306 x0 x1 x2 x3 x4 x5 x6 x7 x8 x9 x10 x11 x12 x13 x14 x15 x16) (k0_pay307 x0 x1 x2 x3 x4 x5 x6 x7 x8 x9 x10 x11 x12 x13 x14 x15 x16) (View.ld x14 r0_10)) (k0_pay312 x0 x1 x2 x3 x4 x5 x6 x7 x8 x9 x10 x11 x12 x13 x14 x15 x16)) (k0_pay214 (k0_pay307 x0 x1 x2 x3 x4 x5 x6 x7 x8 x9 x10 x11 x12 x13 x14 x15 x16) (k0_pay308 x0 x1 x2 x3 x4 x5 x6 x7 x8 x9 x10 x11 x12 x13 x14 x15 x16) (k0_pay310 x0 x1 x2 x3 x4 x5 x6 x7 x8 x9 x10 x11 x12 x13 x14 x15 x16) (k0_pay188 (k0_pay306 x0 x1 x2 x3 x4 x5 x6 x7 x8 x9 x10 x11 x12 x13 x14 x15 x16) (k0_pay307 x0 x1 x2 x3 x4 x5 x6 x7 x8 x9 x10 x11 x12 x13 x14 x15 x16) (k0_pay308 x0 x1 x2 x3 x4 x5 x6 x7 x8 x9 x10 x11 x12 x13 x14 x15 x16) (View.ld x14 r0_10)) (k0_pay311 x0 x1 x2 x3 x4 x5 x6 x7 x8 x9 x10 x11 x12 x13 x14 x15 x16) (k0_pay192 (k0_pay306 x0 x1 x2 x3 x4 x5 x6 x7 x8 x9 x10 x11 x12 x13 x14 x15 x16) (k0_pay307 x0 x1 x2 x3 x4 x5 x6 x7 x8 x9 x10 x11 x12 x13 x14 x15 x16) (View.ld x14 r0_10))) (View.ld x8 r0_11) (View.ld x9 r0_12) (View.ld x15 r0_13) (View.ld x16 r0_13)) := View.canon_cons_unit_lit _ _ _ (by intro a; fin_cases a <;> rfl)
  rw [e]
  exact (pay1_eq (k0_pay3 (View.ld x0 r0_0)) (k0_pay5 (View.ld x0 r0_0)) (k0_pay215 (k0_pay218 x0 x1 x2 x3 x4 x5 x6 x7 x8 x9 x10 x11 x12 x13 x14 x15 x16) (k0_pay307 x0 x1 x2 x3 x4 x5 x6 x7 x8 x9 x10 x11 x12 x13 x14 x15 x16) (k0_pay308 x0 x1 x2 x3 x4 x5 x6 x7 x8 x9 x10 x11 x12 x13 x14 x15 x16) (k0_pay309 x0 x1 x2 x3 x4 x5 x6 x7 x8 x9 x10 x11 x12 x13 x14 x15 x16) (k0_pay207 (k0_pay307 x0 x1 x2 x3 x4 x5 x6 x7 x8 x9 x10 x11 x12 x13 x14 x15 x16) (k0_pay309 x0 x1 x2 x3 x4 x5 x6 x7 x8 x9 x10 x11 x12 x13 x14 x15 x16) (k0_pay310 x0 x1 x2 x3 x4 x5 x6 x7 x8 x9 x10 x11 x12 x13 x14 x15 x16) (k0_pay189 (k0_pay306 x0 x1 x2 x3 x4 x5 x6 x7 x8 x9 x10 x11 x12 x13 x14 x15 x16) (k0_pay307 x0 x1 x2 x3 x4 x5 x6 x7 x8 x9 x10 x11 x12 x13 x14 x15 x16) (k0_pay309 x0 x1 x2 x3 x4 x5 x6 x7 x8 x9 x10 x11 x12 x13 x14 x15 x16) (View.ld x14 r0_10)) (k0_pay311 x0 x1 x2 x3 x4 x5 x6 x7 x8 x9 x10 x11 x12 x13 x14 x15 x16) (k0_pay312 x0 x1 x2 x3 x4 x5 x6 x7 x8 x9 x10 x11 x12 x13 x14 x15 x16)) (k0_pay209 (k0_pay307 x0 x1 x2 x3 x4 x5 x6 x7 x8 x9 x10 x11 x12 x13 x14 x15 x16)) (k0_pay211 (k0_pay307 x0 x1 x2 x3 x4 x5 x6 x7 x8 x9 x10 x11 x12 x13 x14 x15 x16) (k0_pay310 x0 x1 x2 x3 x4 x5 x6 x7 x8 x9 x10 x11 x12 x13 x14 x15 x16)) (k0_pay212 (k0_pay307 x0 x1 x2 x3 x4 x5 x6 x7 x8 x9 x10 x11 x12 x13 x14 x15 x16) (k0_pay310 x0 x1 x2 x3 x4 x5 x6 x7 x8 x9 x10 x11 x12 x13 x14 x15 x16) (k0_pay194 (k0_pay306 x0 x1 x2 x3 x4 x5 x6 x7 x8 x9 x10 x11 x12 x13 x14 x15 x16) (k0_pay307 x0 x1 x2 x3 x4 x5 x6 x7 x8 x9 x10 x11 x12 x13 x14 x15 x16) (View.ld x14 r0_10))) (k0_pay213 (k0_pay307 x0 x1 x2 x3 x4 x5 x6 x7 x8 x9 x10 x11 x12 x13 x14 x15 x16) (k0_pay310 x0 x1 x2 x3 x4 x5 x6 x7 x8 x9 x10 x11 x12 x13 x14 x15 x16) (k0_pay187 (k0_pay306 x0 x1 x2 x3 x4 x5 x6 x7 x8 x9 x10 x11 x12 x13 x14 x15 x16) (k0_pay307 x0 x1 x2 x3 x4 x5 x6 x7 x8 x9 x10 x11 x12 x13 x14 x15 x16) (View.ld x14 r0_10)) (k0_pay312 x0 x1 x2 x3 x4 x5 x6 x7 x8 x9 x10 x11 x12 x13 x14 x15 x16)) (k0_pay214 (k0_pay307 x0 x1 x2 x3 x4 x5 x6 x7 x8 x9 x10 x11 x12 x13 x14 x15 x16) (k0_pay308 x0 x1 x2 x3 x4 x5 x6 x7 x8 x9 x10 x11 x12 x13 x14 x15 x16) (k0_pay310 x0 x1 x2 x3 x4 x5 x6 x7 x8 x9 x10 x11 x12 x13 x14 x15 x16) (k0_pay188 (k0_pay306 x0 x1 x2 x3 x4 x5 x6 x7 x8 x9 x10 x11 x12 x13 x14 x15 x16) (k0_pay307 x0 x1 x2 x3 x4 x5 x6 x7 x8 x9 x10 x11 x12 x13 x14 x15 x16) (k0_pay308 x0 x1 x2 x3 x4 x5 x6 x7 x8 x9 x10 x11 x12 x13 x14 x15 x16) (View.ld x14 r0_10)) (k0_pay311 x0 x1 x2 x3 x4 x5 x6 x7 x8 x9 x10 x11 x12 x13 x14 x15 x16) (k0_pay192 (k0_pay306 x0 x1 x2 x3 x4 x5 x6 x7 x8 x9 x10 x11 x12 x13 x14 x15 x16) (k0_pay307 x0 x1 x2 x3 x4 x5 x6 x7 x8 x9 x10 x11 x12 x13 x14 x15 x16) (View.ld x14 r0_10))) (View.ld x8 r0_11) (View.ld x9 r0_12) (View.ld x15 r0_13) (View.ld x16 r0_13)) u i t).trans (congrArg₂ (· + ·) (congrArg₂ (· * ·) (h1124 h hT i t) (pay5_eq (View.ld x0 r0_0) p.X h.hX i)) (pay3_eq (View.ld x0 r0_0) p.X h.hX i))

end Cert.Proof
-- ==== Proof.HostA.lean ====
/- What the kernel's host code leaves in the arrays its windows read: the long transforms. -/
module
public import proofs.«01_k».proof.Proof.Gen.KernelIdeal.Frame
public import proofs.«01_k».proof.Proof.Tables2
@[expose] public section
noncomputable section
namespace Cert.Proof
open Idealize.ShloMosaic Idealize.ShloMosaic.TcCoe Idealize.SL.Sem Cert.KernelIdeal Cert.KernelIdeal.Gen Idealize.ShloMosaic.StableHlo
variable (m : (ℓ : Idealize.ShloMosaic.Loc nD τ sig) → Idealize.ShloMosaic.Buf (Elt Ideal) ℓ)

/-- Buffer v12 holds a forward transform table. -/
theorem V_v12 (c : Dev nD) (a : Fin 512) (b : Fin 256) : (V m c main_v12 : S512x256.Idx → EReal) (ix2 a b) = fre 512 a.val b.val := by
  dsimp only [V, hostOps0, hostOps0_1, hostOps0_2, hostOps0_3, hostOps0_4, List.flatten_cons, List.flatten_nil, List.append_nil, List.cons_append, List.nil_append]
  after_results_simp
  try simp only [id_eq]
  pointwise
  rw [tab_cos _ 512 (a.val * b.val) (by norm_num) (b512 _ _ (by omega) (by omega)) _ (by first | exact lit_512 | exact lit_96)]
  simp [fre]

/-- Buffer v14 holds a forward transform table. -/
theorem V_v14 (c : Dev nD) (a : Fin 512) (b : Fin 256) : (V m c main_v14 : S512x256.Idx → EReal) (ix2 a b) = fim 512 a.val b.val := by
  dsimp only [V, hostOps0, hostOps0_1, hostOps0_2, hostOps0_3, hostOps0_4, List.flatten_cons, List.flatten_nil, List.append_nil, List.cons_append, List.nil_append]
  after_results_simp
  try simp only [id_eq]
  pointwise
  rw [tab_sin _ 512 (a.val * b.val) (by norm_num) (b512 _ _ (by omega) (by omega)) _ (by first | exact lit_512 | exact lit_96)]
  simp [fim]

/-- Buffer v33 holds an inverse transform table. -/
theorem V_v33 (c : Dev nD) (a : Fin 256) (b : Fin 512) : (V m c main_v33 : S256x512.Idx → EReal) (ix2 a b) = gre 512 a.val b.val := by
  dsimp only [V, hostOps0, hostOps0_1, hostOps0_2, hostOps0_3, hostOps0_4, List.flatten_cons, List.flatten_nil, List.append_nil, List.cons_append, List.nil_append]
  after_results_simp
  try simp only [id_eq]
  pointwise
  simp only [TRef.ofBuf, TRef.toBuf, cast_eq]
  pointwise
  rw [tab_cos _ 512 (a.val * b.val) (by norm_num) (b512 _ _ (by omega) (by omega)) _ (by first | exact lit_512 | exact lit_96)]
  rw [sel_one _ (by omega), ← EReal.coe_mul, div_nat _ 512 (by norm_num) _ (by first | exact lit_512 | exact lit_96)]
  have e : mult 512 a.val = (if a.val = 0 then 1 else 2 : ℝ) := by
    unfold mult
    exact if_congr (by omega) rfl rfl
  unfold gre
  rw [e]

/-- Buffer v39 holds an inverse transform table. -/
theorem V_v39 (c : Dev nD) (a : Fin 256) (b : Fin 512) : (V m c main_v39 : S256x512.Idx → EReal) (ix2 a b) = gim 512 a.val b.val := by
  dsimp only [V, hostOps0, hostOps0_1, hostOps0_2, hostOps0_3, hostOps0_4, List.flatten_cons, List.flatten_nil, List.append_nil, List.cons_append, List.nil_append]
  after_results_simp
  try simp only [id_eq]
  pointwise
  simp only [TRef.ofBuf, TRef.toBuf, cast_eq]
  pointwise
  rw [tab_sin _ 512 (a.val * b.val) (by norm_num) (b512 _ _ (by omega) (by omega)) _ (by first | exact lit_512 | exact lit_96)]
  rw [sel_one _ (by omega), ← EReal.coe_neg, ← EReal.coe_mul, div_nat _ 512 (by norm_num) _ (by first | exact lit_512 | exact lit_96)]
  have e : mult 512 a.val = (if a.val = 0 then 1 else 2 : ℝ) := by
    unfold mult
    exact if_congr (by omega) rfl rfl
  unfold gim
  rw [e]

end Cert.Proof
-- ==== Proof.HostB.lean ====
/- What the kernel's host code leaves in the arrays its windows read: the short transforms. -/
module
public import proofs.«01_k».proof.Proof.Gen.KernelIdeal.Frame
public import proofs.«01_k».proof.Proof.Tables2
@[expose] public section
noncomputable section
namespace Cert.Proof
open Idealize.ShloMosaic Idealize.ShloMosaic.TcCoe Idealize.SL.Sem Cert.KernelIdeal Cert.KernelIdeal.Gen Idealize.ShloMosaic.StableHlo
variable (m : (ℓ : Idealize.ShloMosaic.Loc nD τ sig) → Idealize.ShloMosaic.Buf (Elt Ideal) ℓ)

/-- Buffer v74 holds an inverse transform table. -/
theorem V_v74 (c : Dev nD) (a : Fin 49) (b : Fin 96) : (V m c main_v74 : S49x96.Idx → EReal) (ix2 a b) = gre 96 a.val b.val := by
  dsimp only [V, hostOps0, hostOps0_1, hostOps0_2, hostOps0_3, hostOps0_4, List.flatten_cons, List.flatten_nil, List.append_nil, List.cons_append, List.nil_append]
  after_results_simp
  try simp only [id_eq]
  pointwise
  simp only [TRef.ofBuf, TRef.toBuf, cast_eq]
  pointwise
  rw [tab_cos _ 96 (a.val * b.val) (by norm_num) (b96 _ _ (by omega) (by omega)) _ (by first | exact lit_512 | exact lit_96)]
  rw [sel_two _ 48 (by omega) (by norm_num), ← EReal.coe_mul, div_nat _ 96 (by norm_num) _ (by first | exact lit_512 | exact lit_96)]
  rfl

/-- Buffer v80 holds an inverse transform table. -/
theorem V_v80 (c : Dev nD) (a : Fin 49) (b : Fin 96) : (V m c main_v80 : S49x96.Idx → EReal) (ix2 a b) = gim 96 a.val b.val := by
  dsimp only [V, hostOps0, hostOps0_1, hostOps0_2, hostOps0_3, hostOps0_4, List.flatten_cons, List.flatten_nil, List.append_nil, List.cons_append, List.nil_append]
  after_results_simp
  try simp only [id_eq]
  pointwise
  simp only [TRef.ofBuf, TRef.toBuf, cast_eq]
  pointwise
  rw [tab_sin _ 96 (a.val * b.val) (by norm_num) (b96 _ _ (by omega) (by omega)) _ (by first | exact lit_512 | exact lit_96)]
  rw [sel_two _ 48 (by omega) (by norm_num), ← EReal.coe_neg, ← EReal.coe_mul, div_nat _ 96 (by norm_num) _ (by first | exact lit_512 | exact lit_96)]
  rfl

/-- Buffer v81 holds the short forward tables side by side: the cosines first. -/
theorem V_v81_0 (c : Dev nD) (a : Fin 96) (b : Fin 49) : (V m c main_v81 : S96x98.Idx → EReal) (ix2 a ⟨b.val, by omega⟩) = fre 96 a.val b.val := by
  dsimp only [V, hostOps0, hostOps0_1, hostOps0_2, hostOps0_3, hostOps0_4, List.flatten_cons, List.flatten_nil, List.append_nil, List.cons_append, List.nil_append]
  after_results_simp
  try simp only [id_eq]
  pointwise
  rw [tab_cos _ 96 (a.val * b.val) (by norm_num) (b96 _ _ (by omega) (by omega)) _ (by first | exact lit_512 | exact lit_96)]
  simp [fre]

/-- Buffer v81 holds the short forward tables side by side: the sines second. -/
theorem V_v81_1 (c : Dev nD) (a : Fin 96) (b : Fin 49) : (V m c main_v81 : S96x98.Idx → EReal) (ix2 a ⟨49 + b.val, by omega⟩) = fim 96 a.val b.val := by
  dsimp only [V, hostOps0, hostOps0_1, hostOps0_2, hostOps0_3, hostOps0_4, List.flatten_cons, List.flatten_nil, List.append_nil, List.cons_append, List.nil_append]
  after_results_simp
  try simp only [id_eq]
  pointwise
  rw [tab_sin _ 96 (a.val * b.val) (by norm_num) (b96 _ _ (by omega) (by omega)) _ (by first | exact lit_512 | exact lit_96)]
  simp [fim]

end Cert.Proof
-- ==== Proof.HostC.lean ====
/- What the kernel's host code leaves in the arrays its windows read: the parameters. -/
module
public import proofs.«01_k».proof.Proof.Gen.KernelIdeal.Frame
public import proofs.«01_k».proof.Proof.Tables2
@[expose] public section
noncomputable section
namespace Cert.Proof
open Idealize.ShloMosaic Idealize.ShloMosaic.TcCoe Idealize.SL.Sem Cert.KernelIdeal Cert.KernelIdeal.Gen Idealize.ShloMosaic.StableHlo
variable (m : (ℓ : Idealize.ShloMosaic.Loc nD τ sig) → Idealize.ShloMosaic.Buf (Elt Ideal) ℓ)

/-- Buffer v91 holds the temperature. -/
theorem V_v91 (c : Dev nD) : (V m c main_v91 : S1x1.Idx → EReal) (ix2 0 0) = (m ((c : Thread nD τ).loc main_arg2) : S1.Idx → EReal) (ix1 0) := by
  dsimp only [V, hostOps0, hostOps0_1, hostOps0_2, hostOps0_3, hostOps0_4, List.flatten_cons, List.flatten_nil, List.append_nil, List.cons_append, List.nil_append]
  after_results_simp
  try simp only [id_eq]
  pointwise
  try rfl

/-- Buffer v92 holds the classifier's bias. -/
theorem V_v92 (c : Dev nD) (s : Fin 8) : (V m c main_v92 : S1x8.Idx → EReal) (ix2 0 s) = (m ((c : Thread nD τ).loc main_arg5) : S8.Idx → EReal) (ix1 s) := by
  dsimp only [V, hostOps0, hostOps0_1, hostOps0_2, hostOps0_3, hostOps0_4, List.flatten_cons, List.flatten_nil, List.append_nil, List.cons_append, List.nil_append]
  after_results_simp
  try simp only [id_eq]
  pointwise
  try rfl

/-- Buffer v93 holds the classifier's weights transposed. -/
theorem V_v93 (c : Dev nD) (t : Fin 512) (s : Fin 8) : (V m c main_v93 : S512x8.Idx → EReal) (ix2 t s) = (m ((c : Thread nD τ).loc main_arg3) : S8x512.Idx → EReal) (ix2 s t) := by
  dsimp only [V, hostOps0, hostOps0_1, hostOps0_2, hostOps0_3, hostOps0_4, List.flatten_cons, List.flatten_nil, List.append_nil, List.cons_append, List.nil_append]
  after_results_simp
  try simp only [id_eq]
  pointwise
  try rfl

/-- Buffer v82 holds the mixing weights, split by filter. -/
theorem V_v82 (c : Dev nD) (x : Fin 64) (o : Fin 833) : (V m c main_v82 : S64x833.Idx → EReal) (ix2 x o) = (m ((c : Thread nD τ).loc main_arg6) : S8x6664.Idx → EReal) (ix2 ⟨x.val / 8, by omega⟩ ⟨x.val % 8 * 833 + o.val, by omega⟩) := by
  dsimp only [V, hostOps0, hostOps0_1, hostOps0_2, hostOps0_3, hostOps0_4, List.flatten_cons, List.flatten_nil, List.append_nil, List.cons_append, List.nil_append]
  after_results_simp
  try simp only [id_eq]
  pointwise
  try rfl

/-- Buffer v88 as a whole: the complex output weights as a real block matrix. -/
theorem V_v88 (c : Dev nD) (s : Fin 294) (f : Fin 98) : (V m c main_v88 : S294x98.Idx → EReal) (ix2 s f) =
    if h : s.val < 147 then (if h2 : f.val < 49 then (m ((c : Thread nD τ).loc main_arg8) : S49x147.Idx → EReal) (ix2 ⟨f.val, h2⟩ ⟨s.val, h⟩) else (m ((c : Thread nD τ).loc main_arg9) : S49x147.Idx → EReal) (ix2 ⟨f.val - 49, by omega⟩ ⟨s.val, h⟩))
    else (if h2 : f.val < 49 then (-(show EReal from m ((c : Thread nD τ).loc main_arg9) (ix2 (⟨f.val, h2⟩ : Fin 49) (⟨s.val - 147, by omega⟩ : Fin 147))) : EReal) else (m ((c : Thread nD τ).loc main_arg8) : S49x147.Idx → EReal) (ix2 ⟨f.val - 49, by omega⟩ ⟨s.val - 147, by omega⟩)) := by
  dsimp only [V, hostOps0, hostOps0_1, hostOps0_2, hostOps0_3, hostOps0_4, List.flatten_cons, List.flatten_nil, List.append_nil, List.cons_append, List.nil_append]
  after_results_simp
  try simp only [id_eq]
  pointwise
  after_results_simp
  try simp only [id_eq]
  pointwise
  try rfl

/-- Buffer v90 holds the two biases side by side. -/
theorem V_v90 (c : Dev nD) (f : Fin 98) : (V m c main_v90 : S1x98.Idx → EReal) (ix2 0 f) =
    if h : f.val < 49 then (m ((c : Thread nD τ).loc main_arg10) : S49.Idx → EReal) (ix1 ⟨f.val, h⟩) else (m ((c : Thread nD τ).loc main_arg11) : S49.Idx → EReal) (ix1 ⟨f.val - 49, by omega⟩) := by
  dsimp only [V, hostOps0, hostOps0_1, hostOps0_2, hostOps0_3, hostOps0_4, List.flatten_cons, List.flatten_nil, List.append_nil, List.cons_append, List.nil_append]
  after_results_simp
  try simp only [id_eq]
  pointwise
  try rfl

end Cert.Proof
-- ==== Proof.Blocks.lean ====
/- The blocks the kernel's body loads, and the whole result array. -/
module
public import proofs.«01_k».proof.Proof.CompC
public import proofs.«01_k».proof.Proof.Inputs
public import proofs.«01_k».proof.Proof.HostA
public import proofs.«01_k».proof.Proof.HostB
public import proofs.«01_k».proof.Proof.HostC
public import proofs.«01_k».proof.Proof.Gen.KernelIdeal.Value
public import Idealize.ShloMosaic.Lib.Pipeline.Value
@[expose] public section
noncomputable section
namespace Cert.Proof
open Idealize.ShloMosaic Idealize.ShloMosaic.TcCoe Idealize.SL.Sem Cert.KernelIdeal Cert.KernelIdeal.Gen
variable (m : (ℓ : Idealize.ShloMosaic.Loc nD τ sig) → Idealize.ShloMosaic.Buf (Elt Ideal) ℓ)

/-- The batch a grid point works on. -/
def bat (t : Fin cfg0.N) : Fin 16 := ⟨t.val, lt_of_lt_of_eq t.isLt N_0⟩

/-- The inputs of batch `B`, as the kernel's arguments hold them. -/
def kin (c : Dev nD) (B : Fin 16) : Inp :=
  inp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) B

/-- Window 0 at a grid point is that batch's slice of argument 0. -/
theorem ib0 (c : Dev nD) (t : Fin cfg0.N) (i : Fin 64) (s : Fin 512) : (iblk m c 0 t : S1x64x512.Idx → EReal) (ix3 0 i s) = (m ((c : Thread nD τ).loc main_arg0) : S16x64x512.Idx → EReal) (ix3 (bat t) i s) := by
  have hi : win0_0.index t 0 = t.val ∧ win0_0.index t 1 = 0 ∧ win0_0.index t 2 = 0 :=
    (by decide +kernel : ∀ t : Fin grid0.N, win0_0.index t 0 = t.val ∧ win0_0.index t 1 = 0 ∧ win0_0.index t 2 = 0) t
  unfold iblk
  rw [View.read_apply]
  show V m c main_arg0 _ = _
  rw [V_main_arg0]
  congr 1
  funext a
  apply Fin.ext
  match a with
  | ⟨0, _⟩ => show win0_0.index t 0 * 1 + 1 * 0 = t.val; rw [hi.1]; omega
  | ⟨1, _⟩ => show win0_0.index t 1 * 64 + 1 * i.val = i.val; rw [hi.2.1]; omega
  | ⟨2, _⟩ => show win0_0.index t 2 * 512 + 1 * s.val = s.val; rw [hi.2.2]; omega

/-- Window 1 at a grid point is that batch's slice of argument 1. -/
theorem ib1 (c : Dev nD) (t : Fin cfg0.N) (i : Fin 64) (s : Fin 96) : (iblk m c 1 t : S1x64x96.Idx → EReal) (ix3 0 i s) = (m ((c : Thread nD τ).loc main_arg1) : S16x64x96.Idx → EReal) (ix3 (bat t) i s) := by
  have hi : win0_1.index t 0 = t.val ∧ win0_1.index t 1 = 0 ∧ win0_1.index t 2 = 0 :=
    (by decide +kernel : ∀ t : Fin grid0.N, win0_1.index t 0 = t.val ∧ win0_1.index t 1 = 0 ∧ win0_1.index t 2 = 0) t
  unfold iblk
  rw [View.read_apply]
  show V m c main_arg1 _ = _
  rw [V_main_arg1]
  congr 1
  funext a
  apply Fin.ext
  match a with
  | ⟨0, _⟩ => show win0_1.index t 0 * 1 + 1 * 0 = t.val; rw [hi.1]; omega
  | ⟨1, _⟩ => show win0_1.index t 1 * 64 + 1 * i.val = i.val; rw [hi.2.1]; omega
  | ⟨2, _⟩ => show win0_1.index t 2 * 96 + 1 * s.val = s.val; rw [hi.2.2]; omega

/-- Window 2 at every grid point is the whole of its array. -/
theorem ib2 (c : Dev nD) (t : Fin cfg0.N) : (iblk m c 2 t : S1x1.Idx → EReal) = V m c main_v91 := by
  have hi : win0_2.index t 0 = 0 ∧ win0_2.index t 1 = 0 :=
    (by decide +kernel : ∀ t : Fin grid0.N, win0_2.index t 0 = 0 ∧ win0_2.index t 1 = 0) t
  funext j
  unfold iblk
  rw [View.read_apply]
  show V m c main_v91 _ = V m c main_v91 j
  congr 1
  funext a
  apply Fin.ext
  match a with
  | ⟨0, _⟩ => show win0_2.index t 0 * 1 + 1 * (j 0).val = (j 0).val; rw [hi.1]; omega
  | ⟨1, _⟩ => show win0_2.index t 1 * 1 + 1 * (j 1).val = (j 1).val; rw [hi.2]; omega

/-- Window 3 at every grid point is the whole of its array. -/
theorem ib3 (c : Dev nD) (t : Fin cfg0.N) : (iblk m c 3 t : S512x8.Idx → EReal) = V m c main_v93 := by
  have hi : win0_3.index t 0 = 0 ∧ win0_3.index t 1 = 0 :=
    (by decide +kernel : ∀ t : Fin grid0.N, win0_3.index t 0 = 0 ∧ win0_3.index t 1 = 0) t
  funext j
  unfold iblk
  rw [View.read_apply]
  show V m c main_v93 _ = V m c main_v93 j
  congr 1
  funext a
  apply Fin.ext
  match a with
  | ⟨0, _⟩ => show win0_3.index t 0 * 512 + 1 * (j 0).val = (j 0).val; rw [hi.1]; omega
  | ⟨1, _⟩ => show win0_3.index t 1 * 8 + 1 * (j 1).val = (j 1).val; rw [hi.2]; omega

/-- Window 4 at every grid point is the whole of its array. -/
theorem ib4 (c : Dev nD) (t : Fin cfg0.N) : (iblk m c 4 t : S64x8.Idx → EReal) = V m c main_arg4 := by
  have hi : win0_4.index t 0 = 0 ∧ win0_4.index t 1 = 0 :=
    (by decide +kernel : ∀ t : Fin grid0.N, win0_4.index t 0 = 0 ∧ win0_4.index t 1 = 0) t
  funext j
  unfold iblk
  rw [View.read_apply]
  show V m c main_arg4 _ = V m c main_arg4 j
  congr 1
  funext a
  apply Fin.ext
  match a with
  | ⟨0, _⟩ => show win0_4.index t 0 * 64 + 1 * (j 0).val = (j 0).val; rw [hi.1]; omega
  | ⟨1, _⟩ => show win0_4.index t 1 * 8 + 1 * (j 1).val = (j 1).val; rw [hi.2]; omega

/-- Window 5 at every grid point is the whole of its array. -/
theorem ib5 (c : Dev nD) (t : Fin cfg0.N) : (iblk m c 5 t : S1x8.Idx → EReal) = V m c main_v92 := by
  have hi : win0_5.index t 0 = 0 ∧ win0_5.index t 1 = 0 :=
    (by decide +kernel : ∀ t : Fin grid0.N, win0_5.index t 0 = 0 ∧ win0_5.index t 1 = 0) t
  funext j
  unfold iblk
  rw [View.read_apply]
  show V m c main_v92 _ = V m c main_v92 j
  congr 1
  funext a
  apply Fin.ext
  match a with
  | ⟨0, _⟩ => show win0_5.index t 0 * 1 + 1 * (j 0).val = (j 0).val; rw [hi.1]; omega
  | ⟨1, _⟩ => show win0_5.index t 1 * 8 + 1 * (j 1).val = (j 1).val; rw [hi.2]; omega

/-- Window 6 at every grid point is the whole of its array. -/
theorem ib6 (c : Dev nD) (t : Fin cfg0.N) : (iblk m c 6 t : S64x833.Idx → EReal) = V m c main_v82 := by
  have hi : win0_6.index t 0 = 0 ∧ win0_6.index t 1 = 0 :=
    (by decide +kernel : ∀ t : Fin grid0.N, win0_6.index t 0 = 0 ∧ win0_6.index t 1 = 0) t
  funext j
  unfold iblk
  rw [View.read_apply]
  show V m c main_v82 _ = V m c main_v82 j
  congr 1
  funext a
  apply Fin.ext
  match a with
  | ⟨0, _⟩ => show win0_6.index t 0 * 64 + 1 * (j 0).val = (j 0).val; rw [hi.1]; omega
  | ⟨1, _⟩ => show win0_6.index t 1 * 833 + 1 * (j 1).val = (j 1).val; rw [hi.2]; omega

/-- Window 7 at every grid point is the whole of its array. -/
theorem ib7 (c : Dev nD) (t : Fin cfg0.N) : (iblk m c 7 t : S8x833.Idx → EReal) = V m c main_arg7 := by
  have hi : win0_7.index t 0 = 0 ∧ win0_7.index t 1 = 0 :=
    (by decide +kernel : ∀ t : Fin grid0.N, win0_7.index t 0 = 0 ∧ win0_7.index t 1 = 0) t
  funext j
  unfold iblk
  rw [View.read_apply]
  show V m c main_arg7 _ = V m c main_arg7 j
  congr 1
  funext a
  apply Fin.ext
  match a with
  | ⟨0, _⟩ => show win0_7.index t 0 * 8 + 1 * (j 0).val = (j 0).val; rw [hi.1]; omega
  | ⟨1, _⟩ => show win0_7.index t 1 * 833 + 1 * (j 1).val = (j 1).val; rw [hi.2]; omega

/-- Window 8 at every grid point is the whole of its array. -/
theorem ib8 (c : Dev nD) (t : Fin cfg0.N) : (iblk m c 8 t : S294x98.Idx → EReal) = V m c main_v88 := by
  have hi : win0_8.index t 0 = 0 ∧ win0_8.index t 1 = 0 :=
    (by decide +kernel : ∀ t : Fin grid0.N, win0_8.index t 0 = 0 ∧ win0_8.index t 1 = 0) t
  funext j
  unfold iblk
  rw [View.read_apply]
  show V m c main_v88 _ = V m c main_v88 j
  congr 1
  funext a
  apply Fin.ext
  match a with
  | ⟨0, _⟩ => show win0_8.index t 0 * 294 + 1 * (j 0).val = (j 0).val; rw [hi.1]; omega
  | ⟨1, _⟩ => show win0_8.index t 1 * 98 + 1 * (j 1).val = (j 1).val; rw [hi.2]; omega

/-- Window 9 at every grid point is the whole of its array. -/
theorem ib9 (c : Dev nD) (t : Fin cfg0.N) : (iblk m c 9 t : S1x98.Idx → EReal) = V m c main_v90 := by
  have hi : win0_9.index t 0 = 0 ∧ win0_9.index t 1 = 0 :=
    (by decide +kernel : ∀ t : Fin grid0.N, win0_9.index t 0 = 0 ∧ win0_9.index t 1 = 0) t
  funext j
  unfold iblk
  rw [View.read_apply]
  show V m c main_v90 _ = V m c main_v90 j
  congr 1
  funext a
  apply Fin.ext
  match a with
  | ⟨0, _⟩ => show win0_9.index t 0 * 1 + 1 * (j 0).val = (j 0).val; rw [hi.1]; omega
  | ⟨1, _⟩ => show win0_9.index t 1 * 98 + 1 * (j 1).val = (j 1).val; rw [hi.2]; omega

/-- Window 10 at every grid point is the whole of its array. -/
theorem ib10 (c : Dev nD) (t : Fin cfg0.N) : (iblk m c 10 t : S512x256.Idx → EReal) = V m c main_v12 := by
  have hi : win0_10.index t 0 = 0 ∧ win0_10.index t 1 = 0 :=
    (by decide +kernel : ∀ t : Fin grid0.N, win0_10.index t 0 = 0 ∧ win0_10.index t 1 = 0) t
  funext j
  unfold iblk
  rw [View.read_apply]
  show V m c main_v12 _ = V m c main_v12 j
  congr 1
  funext a
  apply Fin.ext
  match a with
  | ⟨0, _⟩ => show win0_10.index t 0 * 512 + 1 * (j 0).val = (j 0).val; rw [hi.1]; omega
  | ⟨1, _⟩ => show win0_10.index t 1 * 256 + 1 * (j 1).val = (j 1).val; rw [hi.2]; omega

/-- Window 11 at every grid point is the whole of its array. -/
theorem ib11 (c : Dev nD) (t : Fin cfg0.N) : (iblk m c 11 t : S512x256.Idx → EReal) = V m c main_v14 := by
  have hi : win0_11.index t 0 = 0 ∧ win0_11.index t 1 = 0 :=
    (by decide +kernel : ∀ t : Fin grid0.N, win0_11.index t 0 = 0 ∧ win0_11.index t 1 = 0) t
  funext j
  unfold iblk
  rw [View.read_apply]
  show V m c main_v14 _ = V m c main_v14 j
  congr 1
  funext a
  apply Fin.ext
  match a with
  | ⟨0, _⟩ => show win0_11.index t 0 * 512 + 1 * (j 0).val = (j 0).val; rw [hi.1]; omega
  | ⟨1, _⟩ => show win0_11.index t 1 * 256 + 1 * (j 1).val = (j 1).val; rw [hi.2]; omega

/-- Window 12 at every grid point is the whole of its array. -/
theorem ib12 (c : Dev nD) (t : Fin cfg0.N) : (iblk m c 12 t : S256x512.Idx → EReal) = V m c main_v33 := by
  have hi : win0_12.index t 0 = 0 ∧ win0_12.index t 1 = 0 :=
    (by decide +kernel : ∀ t : Fin grid0.N, win0_12.index t 0 = 0 ∧ win0_12.index t 1 = 0) t
  funext j
  unfold iblk
  rw [View.read_apply]
  show V m c main_v33 _ = V m c main_v33 j
  congr 1
  funext a
  apply Fin.ext
  match a with
  | ⟨0, _⟩ => show win0_12.index t 0 * 256 + 1 * (j 0).val = (j 0).val; rw [hi.1]; omega
  | ⟨1, _⟩ => show win0_12.index t 1 * 512 + 1 * (j 1).val = (j 1).val; rw [hi.2]; omega

/-- Window 13 at every grid point is the whole of its array. -/
theorem ib13 (c : Dev nD) (t : Fin cfg0.N) : (iblk m c 13 t : S256x512.Idx → EReal) = V m c main_v39 := by
  have hi : win0_13.index t 0 = 0 ∧ win0_13.index t 1 = 0 :=
    (by decide +kernel : ∀ t : Fin grid0.N, win0_13.index t 0 = 0 ∧ win0_13.index t 1 = 0) t
  funext j
  unfold iblk
  rw [View.read_apply]
  show V m c main_v39 _ = V m c main_v39 j
  congr 1
  funext a
  apply Fin.ext
  match a with
  | ⟨0, _⟩ => show win0_13.index t 0 * 256 + 1 * (j 0).val = (j 0).val; rw [hi.1]; omega
  | ⟨1, _⟩ => show win0_13.index t 1 * 512 + 1 * (j 1).val = (j 1).val; rw [hi.2]; omega

/-- Window 14 at every grid point is the whole of its array. -/
theorem ib14 (c : Dev nD) (t : Fin cfg0.N) : (iblk m c 14 t : S96x98.Idx → EReal) = V m c main_v81 := by
  have hi : win0_14.index t 0 = 0 ∧ win0_14.index t 1 = 0 :=
    (by decide +kernel : ∀ t : Fin grid0.N, win0_14.index t 0 = 0 ∧ win0_14.index t 1 = 0) t
  funext j
  unfold iblk
  rw [View.read_apply]
  show V m c main_v81 _ = V m c main_v81 j
  congr 1
  funext a
  apply Fin.ext
  match a with
  | ⟨0, _⟩ => show win0_14.index t 0 * 96 + 1 * (j 0).val = (j 0).val; rw [hi.1]; omega
  | ⟨1, _⟩ => show win0_14.index t 1 * 98 + 1 * (j 1).val = (j 1).val; rw [hi.2]; omega

/-- Window 15 at every grid point is the whole of its array. -/
theorem ib15 (c : Dev nD) (t : Fin cfg0.N) : (iblk m c 15 t : S49x96.Idx → EReal) = V m c main_v74 := by
  have hi : win0_15.index t 0 = 0 ∧ win0_15.index t 1 = 0 :=
    (by decide +kernel : ∀ t : Fin grid0.N, win0_15.index t 0 = 0 ∧ win0_15.index t 1 = 0) t
  funext j
  unfold iblk
  rw [View.read_apply]
  show V m c main_v74 _ = V m c main_v74 j
  congr 1
  funext a
  apply Fin.ext
  match a with
  | ⟨0, _⟩ => show win0_15.index t 0 * 49 + 1 * (j 0).val = (j 0).val; rw [hi.1]; omega
  | ⟨1, _⟩ => show win0_15.index t 1 * 96 + 1 * (j 1).val = (j 1).val; rw [hi.2]; omega

/-- Window 16 at every grid point is the whole of its array. -/
theorem ib16 (c : Dev nD) (t : Fin cfg0.N) : (iblk m c 16 t : S49x96.Idx → EReal) = V m c main_v80 := by
  have hi : win0_16.index t 0 = 0 ∧ win0_16.index t 1 = 0 :=
    (by decide +kernel : ∀ t : Fin grid0.N, win0_16.index t 0 = 0 ∧ win0_16.index t 1 = 0) t
  funext j
  unfold iblk
  rw [View.read_apply]
  show V m c main_v80 _ = V m c main_v80 j
  congr 1
  funext a
  apply Fin.ext
  match a with
  | ⟨0, _⟩ => show win0_16.index t 0 * 49 + 1 * (j 0).val = (j 0).val; rw [hi.1]; omega
  | ⟨1, _⟩ => show win0_16.index t 1 * 96 + 1 * (j 1).val = (j 1).val; rw [hi.2]; omega

/-- A quarter of the block matrix of output weights. -/
theorem k00 (c : Dev nD) (o : Fin 147) (f : Fin 49) : (V m c main_v88 : S294x98.Idx → EReal) (ix2 ⟨o.val, by omega⟩ ⟨f.val, by omega⟩) = (m ((c : Thread nD τ).loc main_arg8) : S49x147.Idx → EReal) (ix2 f o) := by
  rw [V_v88]
  rw [dif_pos o.isLt, dif_pos f.isLt]
  all_goals simp only [Nat.add_sub_cancel_left]

/-- A quarter of the block matrix of output weights. -/
theorem k01 (c : Dev nD) (o : Fin 147) (f : Fin 49) : (V m c main_v88 : S294x98.Idx → EReal) (ix2 ⟨o.val, by omega⟩ ⟨49 + f.val, by omega⟩) = (m ((c : Thread nD τ).loc main_arg9) : S49x147.Idx → EReal) (ix2 f o) := by
  rw [V_v88]
  rw [dif_pos o.isLt, dif_neg (by show ¬ 49 + f.val < 49; omega)]
  all_goals simp only [Nat.add_sub_cancel_left]

/-- A quarter of the block matrix of output weights. -/
theorem k10 (c : Dev nD) (o : Fin 147) (f : Fin 49) : (V m c main_v88 : S294x98.Idx → EReal) (ix2 ⟨147 + o.val, by omega⟩ ⟨f.val, by omega⟩) = (-(show EReal from m ((c : Thread nD τ).loc main_arg9) (ix2 f o : S49x147.Idx)) : EReal) := by
  rw [V_v88]
  rw [dif_neg (by show ¬ 147 + o.val < 147; omega), dif_pos f.isLt]
  all_goals simp only [Nat.add_sub_cancel_left]

/-- A quarter of the block matrix of output weights. -/
theorem k11 (c : Dev nD) (o : Fin 147) (f : Fin 49) : (V m c main_v88 : S294x98.Idx → EReal) (ix2 ⟨147 + o.val, by omega⟩ ⟨49 + f.val, by omega⟩) = (m ((c : Thread nD τ).loc main_arg8) : S49x147.Idx → EReal) (ix2 f o) := by
  rw [V_v88]
  rw [dif_neg (by show ¬ 147 + o.val < 147; omega), dif_neg (by show ¬ 49 + f.val < 49; omega)]
  all_goals simp only [Nat.add_sub_cancel_left]

/-- A half of the output biases. -/
theorem kb0 (c : Dev nD) (f : Fin 49) : (V m c main_v90 : S1x98.Idx → EReal) (ix2 0 ⟨f.val, by omega⟩) = (m ((c : Thread nD τ).loc main_arg10) : S49.Idx → EReal) (ix1 f) := by
  rw [V_v90]
  rw [dif_pos f.isLt]
  all_goals simp only [Nat.add_sub_cancel_left]

/-- A half of the output biases. -/
theorem kb1 (c : Dev nD) (f : Fin 49) : (V m c main_v90 : S1x98.Idx → EReal) (ix2 0 ⟨49 + f.val, by omega⟩) = (m ((c : Thread nD τ).loc main_arg11) : S49.Idx → EReal) (ix1 f) := by
  rw [V_v90]
  rw [dif_neg (by show ¬ 49 + f.val < 49; omega)]
  all_goals simp only [Nat.add_sub_cancel_left]

/-- At every grid point the body's loads read that batch's inputs and the tables. -/
theorem loads (c : Dev nD) (t : Fin cfg0.N) : Loads (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (kin m c (bat t)) where
  hX := fun i s => (congrFun (View.ld_unit_lit _ _ (by intro a; fin_cases a <;> rfl)) _).trans (ib0 m c t i s)
  hY := fun i s => (congrFun (View.ld_unit_lit _ _ (by intro a; fin_cases a <;> rfl)) _).trans (ib1 m c t i s)
  h929 := (congrFun (View.ld_unit_lit _ _ (by intro a; fin_cases a <;> rfl)) _).trans ((congrFun (ib2 m c t) _).trans (V_v91 m c))
  h953 := fun t0 s => (congrFun (View.ld_unit_lit _ _ (by intro a; fin_cases a <;> rfl)) _).trans ((congrFun (ib3 m c t) _).trans (V_v93 m c t0 s))
  h950 := fun i s => (congrFun (View.ld_unit_lit _ _ (by intro a; fin_cases a <;> rfl)) _).trans ((congrFun (ib4 m c t) _).trans (congrFun (V_main_arg4 m c) _))
  h948 := fun s => (congrFun (View.ld_unit_lit _ _ (by intro a; fin_cases a <;> rfl)) _).trans ((congrFun (ib5 m c t) _).trans (V_v92 m c s))
  h972 := fun x o => (congrFun (View.ld_unit_lit _ _ (by intro a; fin_cases a <;> rfl)) _).trans ((congrFun (ib6 m c t) _).trans (V_v82 m c x o))
  h975 := fun s o => (congrFun (View.ld_unit_lit _ _ (by intro a; fin_cases a <;> rfl)) _).trans ((congrFun (ib7 m c t) _).trans (congrFun (V_main_arg7 m c) _))
  m00 := fun o f => (congrFun (View.ld_unit_lit _ _ (by intro a; fin_cases a <;> rfl)) _).trans ((congrFun (ib8 m c t) _).trans (k00 m c o f))
  m01 := fun o f => (congrFun (View.ld_unit_lit _ _ (by intro a; fin_cases a <;> rfl)) _).trans ((congrFun (ib8 m c t) _).trans (k01 m c o f))
  m10 := fun o f => (congrFun (View.ld_unit_lit _ _ (by intro a; fin_cases a <;> rfl)) _).trans ((congrFun (ib8 m c t) _).trans (k10 m c o f))
  m11 := fun o f => (congrFun (View.ld_unit_lit _ _ (by intro a; fin_cases a <;> rfl)) _).trans ((congrFun (ib8 m c t) _).trans (k11 m c o f))
  b0 := fun f => (congrFun (View.ld_unit_lit _ _ (by intro a; fin_cases a <;> rfl)) _).trans ((congrFun (ib9 m c t) _).trans (kb0 m c f))
  b1 := fun f => (congrFun (View.ld_unit_lit _ _ (by intro a; fin_cases a <;> rfl)) _).trans ((congrFun (ib9 m c t) _).trans (kb1 m c f))
  h32 := fun a b => (congrFun (View.ld_unit_lit _ _ (by intro a; fin_cases a <;> rfl)) _).trans ((congrFun (ib10 m c t) _).trans (V_v12 m c a b))
  h35 := fun a b => (congrFun (View.ld_unit_lit _ _ (by intro a; fin_cases a <;> rfl)) _).trans ((congrFun (ib11 m c t) _).trans (V_v14 m c a b))
  h193 := fun a b => (congrFun (View.ld_unit_lit _ _ (by intro a; fin_cases a <;> rfl)) _).trans ((congrFun (ib12 m c t) _).trans (V_v33 m c a b))
  h196 := fun a b => (congrFun (View.ld_unit_lit _ _ (by intro a; fin_cases a <;> rfl)) _).trans ((congrFun (ib13 m c t) _).trans (V_v39 m c a b))
  f0 := fun a b => (congrFun (View.ld_unit_lit _ _ (by intro a; fin_cases a <;> rfl)) _).trans ((congrFun (ib14 m c t) _).trans (V_v81_0 m c a b))
  f1 := fun a b => (congrFun (View.ld_unit_lit _ _ (by intro a; fin_cases a <;> rfl)) _).trans ((congrFun (ib14 m c t) _).trans (V_v81_1 m c a b))
  h1116 := fun a b => (congrFun (View.ld_unit_lit _ _ (by intro a; fin_cases a <;> rfl)) _).trans ((congrFun (ib15 m c t) _).trans (V_v74 m c a b))
  h1120 := fun a b => (congrFun (View.ld_unit_lit _ _ (by intro a; fin_cases a <;> rfl)) _).trans ((congrFun (ib16 m c t) _).trans (V_v80 m c a b))

end Cert.Proof
-- ==== Proof.Final.lean ====
/- The whole result array of the kernel. -/
module
public import proofs.«01_k».proof.Proof.Blocks
public import proofs.«01_k».proof.Proof.Inputs
public import proofs.«01_k».proof.Proof.HostA
public import proofs.«01_k».proof.Proof.HostB
public import proofs.«01_k».proof.Proof.HostC
public import proofs.«01_k».proof.Proof.Gen.KernelIdeal.Value
public import Idealize.ShloMosaic.Lib.Pipeline.Value
@[expose] public section
noncomputable section
namespace Cert.Proof
open Idealize.ShloMosaic Idealize.ShloMosaic.TcCoe Idealize.SL.Sem Cert.KernelIdeal Cert.KernelIdeal.Gen
variable (m : (ℓ : Idealize.ShloMosaic.Loc nD τ sig) → Idealize.ShloMosaic.Buf (Elt Ideal) ℓ)

/-- The layer's result over all batches. -/
def res (c : Dev nD) : S16x64x96.Idx → EReal := fun j => result (kin m c (j 0)) (j 1) (j 2)

/-- A block known at every index, cut to the part the array holds, is any contents that agree with it there. -/
theorem flushed_aux (t : Fin cfg0.N) (Y : S1x64x96.Idx → EReal) (R : Fin 64 → Fin 96 → EReal)
    (hY : ∀ (u : Fin 1) (i : Fin 64) (s : Fin 96), Y (ix3 u i s) = R i s)
    (Z : ((cfg0.win 17).xblock (cfg0.grid.coords t)).Idx → EReal) (hZ : ∀ j : S1x64x96.Idx, R (j 1) (j 2) = Z j) :
    (cfg0.win 17).cut (grid0.coords t) Y = Z := by
  funext j
  refine Eq.trans ?_ (hZ j)
  refine Eq.trans ?_ (hY (j 0) (j 1) (j 2))
  exact congrArg Y (by funext a; fin_cases a <;> rfl)

/-- The block of the result at a grid point is that batch of it. -/
theorem read_res (c : Dev nD) (t : Fin cfg0.N) (j : S1x64x96.Idx) :
    result (kin m c (bat t)) (j 1) (j 2) = ((cfg0.win 17).blk t).view.read (Elt Ideal) (res m c) j := by
  have hi : win0_17.index t 0 = t.val ∧ win0_17.index t 1 = 0 ∧ win0_17.index t 2 = 0 :=
    (by decide +kernel : ∀ t : Fin grid0.N, win0_17.index t 0 = t.val ∧ win0_17.index t 1 = 0 ∧ win0_17.index t 2 = 0) t
  rw [View.read_apply]
  have h0 : (j 0).val < 1 := (j 0).isLt
  show res m c (ix3 (bat t) (j 1) (j 2)) = res m c _
  congr 1
  funext a
  apply Fin.ext
  match a with
  | ⟨0, _⟩ => show t.val = win0_17.index t 0 * 1 + 1 * (j 0).val; rw [hi.1]; omega
  | ⟨1, _⟩ => show (j 1).val = win0_17.index t 1 * 64 + 1 * (j 1).val; rw [hi.2.1]; omega
  | ⟨2, _⟩ => show (j 2).val = win0_17.index t 2 * 96 + 1 * (j 2).val; rw [hi.2.2]; omega

/-- The block the body leaves at a grid point is that batch of the result. -/
theorem block_res (hT : ∀ c : Dev nD, tmp (m ((c : Thread nD τ).loc main_arg2)) ≠ 0) (c : Dev nD) (t : Fin cfg0.N) :
    ∀ (u : Fin 1) (i : Fin 64) (s : Fin 96), out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 u i s) = result (kin m c (bat t)) i s :=
  block_eq (loads m c t) (hT c)

/-- What a grid point writes back is that batch of the result. -/
theorem flushed_eq (hT : ∀ c : Dev nD, tmp (m ((c : Thread nD τ).loc main_arg2)) ≠ 0) (c : Dev nD) (t : Fin cfg0.N) (_ : (cfg0.win 17).flush t = true) :
    (dats m 0 c).flushed 17 t = ((cfg0.win 17).blk t).view.read (Elt Ideal) (res m c) :=
  (Value.flushed17 m c t).trans (flushed_aux t _ _ (block_res m hT c t) _ (read_res m c t))

/-- The result array ends holding the layer's result. -/
theorem final (hT : ∀ c : Dev nD, tmp (m ((c : Thread nD τ).loc main_arg2)) ≠ 0) (c : Dev nD) : (dats m 0 c).arrAt 17 cfg0.N = res m c :=
  (dats m 0 c).arrAt_eq_of_cover 17 (res m c) (flushed_eq m hT c) fun i => by
    have hN : cfg0.N = 16 := N_0
    have h0 : (i 0 : Nat) < 16 := (i 0).isLt
    have h1 : (i 1 : Nat) < 64 := (i 1).isLt
    have h2 : (i 2 : Nat) < 96 := (i 2).isLt
    let t : Fin cfg0.N := ⟨(i 0 : Nat), by rw [hN]; exact h0⟩
    have hi : win0_17.index t 0 = t.val ∧ win0_17.index t 1 = 0 ∧ win0_17.index t 2 = 0 :=
      (by decide +kernel : ∀ t : Fin grid0.N, win0_17.index t 0 = t.val ∧ win0_17.index t 1 = 0 ∧ win0_17.index t 2 = 0) t
    refine ⟨t, flush0_17 t, ?_⟩
    show i ∈ ((View.whole main_v94).slice (win0_17.rect t)).set
    rw [View.set_slice_whole, Rect.mem_set_unit]
    intro a
    match a with
    | ⟨0, _⟩ => show win0_17.index t 0 * 1 ≤ (i 0 : Nat) ∧ (i 0 : Nat) < win0_17.index t 0 * 1 + 1
                rw [hi.1]; show (i 0 : Nat) * 1 ≤ (i 0 : Nat) ∧ (i 0 : Nat) < (i 0 : Nat) * 1 + 1; omega
    | ⟨1, _⟩ => show win0_17.index t 1 * 64 ≤ (i 1 : Nat) ∧ (i 1 : Nat) < win0_17.index t 1 * 64 + 64
                rw [hi.2.1]; omega
    | ⟨2, _⟩ => show win0_17.index t 2 * 96 ≤ (i 2 : Nat) ∧ (i 2 : Nat) < win0_17.index t 2 * 96 + 96
                rw [hi.2.2]; omega

end Cert.Proof
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.RefE
public import proofs.«01_k».proof.Proof.Final
public import Idealize.ShloMosaic.Adequacy
public import Idealize.ShloMosaic.Init
public import Idealize.ShloMosaic.Lib.Quiescent
public import Idealize.ShloMosaic.Lib.Claim

@[expose] public section

noncomputable section

namespace Cert.Proof

open Idealize.ShloMosaic Idealize.SL.Sem

/-- What the precondition states of its shapes: a scalar broadcasts to a vector of one. -/
theorem preFacts : Cert.Pre_temperature_nonzero.Facts := ⟨by decide⟩

/-- The kernel runs, keeps its arguments, and ends with every semaphore at zero. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- So does its idealization at a temperature other than zero. -/
theorem frame_pi_pre : Cert.quiescent_KernelIdeal_pre_temperature_nonzero (hPre_temperature_nonzero := preFacts) :=
  fun m ρ _ => Cert.KernelIdeal.Gen.frame m ρ

/-- The reference runs and keeps its arguments; it has no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- So it does at a temperature other than zero. -/
theorem frame_ri_pre : Cert.quiescent_ReferenceIdeal_pre_temperature_nonzero (hPre_temperature_nonzero := preFacts) :=
  fun m ρ _ => frame_ri m ρ trivial

/-- The idealization's rewrite is the rule it names. -/
theorem preserves : Cert.preserves_Kernel_KernelIdeal := IdealRules.sign_bit.statement _ _

/-- The precondition says that the temperature is not zero. -/
theorem temperature_ne (m : (ℓ : Loc Cert.KernelIdeal.nD Cert.KernelIdeal.τ Cert.KernelIdeal.sig) → Buf (Elt Ideal) ℓ)
    (h : Cert.Pre_KernelIdeal_temperature_nonzero (hPre_temperature_nonzero := preFacts) m) (c : Dev Cert.KernelIdeal.nD) :
    tmp (m ((c.tc : Thread Cert.KernelIdeal.nD Cert.KernelIdeal.τ).loc Cert.KernelIdeal.main_arg2)) ≠ 0 := by
  intro h0
  have h1 := congrFun (h c) (ix1 0)
  unfold Cert.Pre_temperature_nonzero.fn at h1
  have h2 : ∀ x z : FVec Ideal Cert.Pre_temperature_nonzero.S1 .f32, x (ix1 0) = 0 → z (ix1 0) = 0 → cmpf .une x z (ix1 0) = 0#1 := by
    intro x z hx hz
    show Ideal.cmp .une (x (ix1 0)) (z (ix1 0)) = 0#1
    rw [hx, hz]
    simp [Ideal.cmp]
  exact absurd (h1.symm.trans (h2 _ _ h0 (by pointwise))) (by decide)

/-- The reference's result array is the layer's result of its arguments. -/
theorem ref_value (m : (ℓ : Loc Cert.ReferenceIdeal.nD Cert.ReferenceIdeal.τ Cert.ReferenceIdeal.sig) → Buf (Elt Ideal) ℓ) (c : Dev Cert.ReferenceIdeal.nD) :
    Cert.ReferenceIdeal.Read.val_main_v278 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
      = fun j : Cert.ReferenceIdeal.S16x64x96.Idx => result (inp (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (j 0)) (j 1) (j 2) := by
  funext j
  refine Eq.trans (congrArg _ ?_) (r278 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (j 0) (j 1) (j 2))
  funext a; fin_cases a <;> rfl

/-- Over the extended reals, at a temperature other than zero, the kernel and the reference return the same array. -/
theorem algebraic : Cert.algebraic_KernelIdeal_ReferenceIdeal_pre_temperature_nonzero (hPre_temperature_nonzero := preFacts) := by
  intro m g m' g' hpre hag
  refine ⟨fun c => res m c, ?_, ?_⟩
  · exact (θ_run Cert.KernelIdeal.defs _ _).mono
      (fun r h c => ⟨(h c).1.trans (final m (temperature_ne m hpre) c), (h c).2⟩)
      (Cert.KernelIdeal.Value.run_blocks (F := Ideal) m g)
  · refine (θ_run Cert.ReferenceIdeal.defs _ _).mono
      (fun r h c => ⟨(h c).1.trans ?_, (h c).2⟩)
      (Cert.ReferenceIdeal.Value.run (F := Ideal) m' g')
    refine (Cert.ReferenceIdeal.Read.val_main_v278_eq (F := Ideal) (StableHlo.launchContents m' c)).trans ?_
    refine (ref_value m' c).trans ?_
    obtain ⟨h0, h1, h2, h3, h4, h5, h6, h7, h8, h9, h10, h11⟩ := hag c
    rw [h0, h1, h2, h3, h4, h5, h6, h7, h8, h9, h10, h11]
    rfl

/-- The certificate's claims. -/
theorem claim : Cert.Claim := ⟨Cert.Kernel.Gen.facts, Cert.KernelIdeal.Gen.facts, Cert.ReferenceIdeal.Gen.facts, preFacts,
  frame_p, frame_pi, frame_pi_pre, frame_ri, frame_ri_pre, preserves, algebraic⟩

end Cert.Proof

end
